-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S64x2048 : Shape := ⟨2, ![64, 2048]⟩
abbrev S2048x2048 : Shape := ⟨2, ![2048, 2048]⟩
abbrev S16x64x128 : Shape := ⟨3, ![16, 64, 128]⟩
abbrev S16 : Shape := ⟨1, ![16]⟩
abbrev S_ : Shape := ⟨0, ![]⟩
abbrev S1 : Shape := ⟨1, ![1]⟩
abbrev S1x64x128 : Shape := ⟨3, ![1, 64, 128]⟩
abbrev S64x128 : Shape := ⟨2, ![64, 128]⟩

abbrev nBuf : Space → Nat
  | .hbm => 3
  | .vmem => 5
  | .smem => 0
  | _ => 0

abbrev bufTy : (tb : Table) → Fin (tcTables nBuf tb) → BufTy
  | .hbm, ⟨0, _⟩ => ⟨S2048x64, .f32⟩
  | .hbm, ⟨1, _⟩ => ⟨S64x2048, .f32⟩
  | .hbm, ⟨2, _⟩ => ⟨S2048x2048, .f32⟩
  | .local _ .vmem, ⟨0, _⟩ => ⟨S2048x64, .f32⟩
  | .local _ .vmem, ⟨1, _⟩ => ⟨S64x2048, .f32⟩
  | .local _ .vmem, ⟨2, _⟩ => ⟨S2048x2048, .f32⟩
  | .local _ .vmem, ⟨3, _⟩ => ⟨S16x64x128, .f32⟩
  | .local _ .vmem, ⟨4, _⟩ => ⟨S16x64x128, .f32⟩
  | _, _ => ⟨S2048x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 131 → Bool
  | ⟨i, _⟩ => dmaSemScopedAt i

abbrev sig : RefSig :=
  (ofTc nBuf bufTy 5 131 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32_102 : BitVec 32 := 0#32
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c1_i32_3 : BitVec 32 := 1#32
  let v9 : BitVec 32 := Scalar.muli v4 c1_i32_3
  let v10 : BitVec 32 := Scalar.ori c0_i32_4 v9
  let c3_i32_5 : BitVec 32 := 3#32
  let v11 : BitVec 1 := Scalar.cmpi .eq v2 c3_i32_5
  let v12 : BitVec 32 := Scalar.extui v11
  let c0_i32_7 : BitVec 32 := 0#32
  let v17 : BitVec 32 := Scalar.muli v12 c0_i32_7
  let v18 : BitVec 32 := Scalar.ori v10 v17
  let c4_i32_8 : BitVec 32 := 4#32
  let v19 : BitVec 1 := Scalar.cmpi .eq v2 c4_i32_8
  let v20 : BitVec 32 := Scalar.extui v19
  let c3_i32_9 : BitVec 32 := 3#32
  let v25 : BitVec 32 := Scalar.muli v20 c3_i32_9
  let v26 : BitVec 32 := Scalar.ori v18 v25
  let c7_i32_10 : BitVec 32 := 7#32
  let v27 : BitVec 1 := Scalar.cmpi .eq v2 c7_i32_10
  let v28 : BitVec 32 := Scalar.extui v27
  let c4_i32_12 : BitVec 32 := 4#32
  let v33 : BitVec 32 := Scalar.muli v28 c4_i32_12
  let v34 : BitVec 32 := Scalar.ori v26 v33
  let c15_i32_13 : BitVec 32 := 15#32
  let v35 : BitVec 1 := Scalar.cmpi .eq v2 c15_i32_13
  let v36 : BitVec 32 := Scalar.extui v35
  let c7_i32_15 : BitVec 32 := 7#32
  let v41 : BitVec 32 := Scalar.muli v36 c7_i32_15
  let v42 : BitVec 32 := Scalar.ori v34 v41
  let c12_i32_16 : BitVec 32 := 12#32
  let v43 : BitVec 1 := Scalar.cmpi .eq v2 c12_i32_16
  let v44 : BitVec 32 := Scalar.extui v43
  let c15_i32_17 : BitVec 32 := 15#32
  let v49 : BitVec 32 := Scalar.muli v44 c15_i32_17
  let v50 : BitVec 32 := Scalar.ori v42 v49
  let c11_i32_18 : BitVec 32 := 11#32
  let v51 : BitVec 1 := Scalar.cmpi .eq v2 c11_i32_18
  let v52 : BitVec 32 := Scalar.extui v51
  let c12_i32_19 : BitVec 32 := 12#32
  let v57 : BitVec 32 := Scalar.muli v52 c12_i32_19
  let v58 : BitVec 32 := Scalar.ori v50 v57
  let c8_i32_20 : BitVec 32 := 8#32
  let v59 : BitVec 1 := Scalar.cmpi .eq v2 c8_i32_20
  let v60 : BitVec 32 := Scalar.extui v59
  let c11_i32_22 : BitVec 32 := 11#32
  let v65 : BitVec 32 := Scalar.muli v60 c11_i32_22
  let v66 : BitVec 32 := Scalar.ori v58 v65
  let c16_i32_23 : BitVec 32 := 16#32
  let v67 : BitVec 1 := Scalar.cmpi .eq v2 c16_i32_23
  let v68 : BitVec 32 := Scalar.extui v67
  let c8_i32_25 : BitVec 32 := 8#32
  let v73 : BitVec 32 := Scalar.muli v68 c8_i32_25
  let v74 : BitVec 32 := Scalar.ori v66 v73
  let c19_i32_26 : BitVec 32 := 19#32
  let v75 : BitVec 1 := Scalar.cmpi .eq v2 c19_i32_26
  let v76 : BitVec 32 := Scalar.extui v75
  let c16_i32_27 : BitVec 32 := 16#32
  let v81 : BitVec 32 := Scalar.muli v76 c16_i32_27
  let v82 : BitVec 32 := Scalar.ori v74 v81
  let c20_i32_28 : BitVec 32 := 20#32
  let v83 : BitVec 1 := Scalar.cmpi .eq v2 c20_i32_28
  let v84 : BitVec 32 := Scalar.extui v83
  let c19_i32_29 : BitVec 32 := 19#32
  let v89 : BitVec 32 := Scalar.muli v84 c19_i32_29
  let v90 : BitVec 32 := Scalar.ori v82 v89
  let c23_i32_30 : BitVec 32 := 23#32
  let v91 : BitVec 1 := Scalar.cmpi .eq v2 c23_i32_30
  let v92 : BitVec 32 := Scalar.extui v91
  let c20_i32_32 : BitVec 32 := 20#32
  let v97 : BitVec 32 := Scalar.muli v92 c20_i32_32
  let v98 : BitVec 32 := Scalar.ori v90 v97
  let c31_i32_33 : BitVec 32 := 31#32
  let v99 : BitVec 1 := Scalar.cmpi .eq v2 c31_i32_33
  let v100 : BitVec 32 := Scalar.extui v99
  let c23_i32_35 : BitVec 32 := 23#32
  let v105 : BitVec 32 := Scalar.muli v100 c23_i32_35
  let v106 : BitVec 32 := Scalar.ori v98 v105
  let c28_i32_36 : BitVec 32 := 28#32
  let v107 : BitVec 1 := Scalar.cmpi .eq v2 c28_i32_36
  let v108 : BitVec 32 := Scalar.extui v107
  let c31_i32_37 : BitVec 32 := 31#32
  let v113 : BitVec 32 := Scalar.muli v108 c31_i32_37
  let v114 : BitVec 32 := Scalar.ori v106 v113
  let c27_i32_38 : BitVec 32 := 27#32
  let v115 : BitVec 1 := Scalar.cmpi .eq v2 c27_i32_38
  let v116 : BitVec 32 := Scalar.extui v115
  let c28_i32_39 : BitVec 32 := 28#32
  let v121 : BitVec 32 := Scalar.muli v116 c28_i32_39
  let v122 : BitVec 32 := Scalar.ori v114 v121
  let c24_i32_40 : BitVec 32 := 24#32
  let v123 : BitVec 1 := Scalar.cmpi .eq v2 c24_i32_40
  let v124 : BitVec 32 := Scalar.extui v123
  let c27_i32_42 : BitVec 32 := 27#32
  let v129 : BitVec 32 := Scalar.muli v124 c27_i32_42
  let v130 : BitVec 32 := Scalar.ori v122 v129
  let c25_i32_43 : BitVec 32 := 25#32
  let v131 : BitVec 1 := Scalar.cmpi .eq v2 c25_i32_43
  let v132 : BitVec 32 := Scalar.extui v131
  let c24_i32_45 : BitVec 32 := 24#32
  let v137 : BitVec 32 := Scalar.muli v132 c24_i32_45
  let v138 : BitVec 32 := Scalar.ori v130 v137
  let c26_i32_46 : BitVec 32 := 26#32
  let v139 : BitVec 1 := Scalar.cmpi .eq v2 c26_i32_46
  let v140 : BitVec 32 := Scalar.extui v139
  let c25_i32_47 : BitVec 32 := 25#32
  let v145 : BitVec 32 := Scalar.muli v140 c25_i32_47
  let v146 : BitVec 32 := Scalar.ori v138 v145
  let c29_i32_48 : BitVec 32 := 29#32
  let v147 : BitVec 1 := Scalar.cmpi .eq v2 c29_i32_48
  let v148 : BitVec 32 := Scalar.extui v147
  let c26_i32_49 : BitVec 32 := 26#32
  let v153 : BitVec 32 := Scalar.muli v148 c26_i32_49
  let v154 : BitVec 32 := Scalar.ori v146 v153
  let c30_i32_50 : BitVec 32 := 30#32
  let v155 : BitVec 1 := Scalar.cmpi .eq v2 c30_i32_50
  let v156 : BitVec 32 := Scalar.extui v155
  let c29_i32_52 : BitVec 32 := 29#32
  let v161 : BitVec 32 := Scalar.muli v156 c29_i32_52
  let v162 : BitVec 32 := Scalar.ori v154 v161
  let c22_i32_53 : BitVec 32 := 22#32
  let v163 : BitVec 1 := Scalar.cmpi .eq v2 c22_i32_53
  let v164 : BitVec 32 := Scalar.extui v163
  let c30_i32_55 : BitVec 32 := 30#32
  let v169 : BitVec 32 := Scalar.muli v164 c30_i32_55
  let v170 : BitVec 32 := Scalar.ori v162 v169
  let c21_i32_56 : BitVec 32 := 21#32
  let v171 : BitVec 1 := Scalar.cmpi .eq v2 c21_i32_56
  let v172 : BitVec 32 := Scalar.extui v171
  let c22_i32_59 : BitVec 32 := 22#32
  let v177 : BitVec 32 := Scalar.muli v172 c22_i32_59
  let v178 : BitVec 32 := Scalar.ori v170 v177
  let c18_i32_60 : BitVec 32 := 18#32
  let v179 : BitVec 1 := Scalar.cmpi .eq v2 c18_i32_60
  let v180 : BitVec 32 := Scalar.extui v179
  let c21_i32_63 : BitVec 32 := 21#32
  let v185 : BitVec 32 := Scalar.muli v180 c21_i32_63
  let v186 : BitVec 32 := Scalar.ori v178 v185
  let c17_i32_64 : BitVec 32 := 17#32
  let v187 : BitVec 1 := Scalar.cmpi .eq v2 c17_i32_64
  let v188 : BitVec 32 := Scalar.extui v187
  let c18_i32_67 : BitVec 32 := 18#32
  let v193 : BitVec 32 := Scalar.muli v188 c18_i32_67
  let v194 : BitVec 32 := Scalar.ori v186 v193
  let c9_i32_68 : BitVec 32 := 9#32
  let v195 : BitVec 1 := Scalar.cmpi .eq v2 c9_i32_68
  let v196 : BitVec 32 := Scalar.extui v195
  let c17_i32_71 : BitVec 32 := 17#32
  let v201 : BitVec 32 := Scalar.muli v196 c17_i32_71
  let v202 : BitVec 32 := Scalar.ori v194 v201
  let c10_i32_72 : BitVec 32 := 10#32
  let v203 : BitVec 1 := Scalar.cmpi .eq v2 c10_i32_72
  let v204 : BitVec 32 := Scalar.extui v203
  let c9_i32_75 : BitVec 32 := 9#32
  let v209 : BitVec 32 := Scalar.muli v204 c9_i32_75
  let v210 : BitVec 32 := Scalar.ori v202 v209
  let c13_i32_76 : BitVec 32 := 13#32
  let v211 : BitVec 1 := Scalar.cmpi .eq v2 c13_i32_76
  let v212 : BitVec 32 := Scalar.extui v211
  let c10_i32_79 : BitVec 32 := 10#32
  let v217 : BitVec 32 := Scalar.muli v212 c10_i32_79
  let v218 : BitVec 32 := Scalar.ori v210 v217
  let c14_i32_80 : BitVec 32 := 14#32
  let v219 : BitVec 1 := Scalar.cmpi .eq v2 c14_i32_80
  let v220 : BitVec 32 := Scalar.extui v219
  let c13_i32_83 : BitVec 32 := 13#32
  let v225 : BitVec 32 := Scalar.muli v220 c13_i32_83
  let v226 : BitVec 32 := Scalar.ori v218 v225
  let c6_i32_84 : BitVec 32 := 6#32
  let v227 : BitVec 1 := Scalar.cmpi .eq v2 c6_i32_84
  let v228 : BitVec 32 := Scalar.extui v227
  let c14_i32_87 : BitVec 32 := 14#32
  let v233 : BitVec 32 := Scalar.muli v228 c14_i32_87
  let v234 : BitVec 32 := Scalar.ori v226 v233
  let c5_i32_88 : BitVec 32 := 5#32
  let v235 : BitVec 1 := Scalar.cmpi .eq v2 c5_i32_88
  let v236 : BitVec 32 := Scalar.extui v235
  let c6_i32_91 : BitVec 32 := 6#32
  let v241 : BitVec 32 := Scalar.muli v236 c6_i32_91
  let v242 : BitVec 32 := Scalar.ori v234 v241
  let c2_i32_92 : BitVec 32 := 2#32
  let v243 : BitVec 1 := Scalar.cmpi .eq v2 c2_i32_92
  let v244 : BitVec 32 := Scalar.extui v243
  let c5_i32_95 : BitVec 32 := 5#32
  let v249 : BitVec 32 := Scalar.muli v244 c5_i32_95
  let v250 : BitVec 32 := Scalar.ori v242 v249
  let c1_i32_96 : BitVec 32 := 1#32
  let v251 : BitVec 1 := Scalar.cmpi .eq v2 c1_i32_96
  let v252 : BitVec 32 := Scalar.extui v251
  let c2_i32_99 : BitVec 32 := 2#32
  let v257 : BitVec 32 := Scalar.muli v252 c2_i32_99
  let v258 : BitVec 32 := Scalar.ori v250 v257
  let c1_i32_101 : BitVec 32 := 1#32
  let v260 : BitVec 32 := Scalar.muli v258 c1_i32_101
  let v261 : BitVec 32 := Scalar.addi c0_i32_102 v260
  v261.toNat
def k0_dev2 (d0 : Dev nD) : Nat :=
  let c0_i32_105 : BitVec 32 := 0#32
  let c0_i32_2 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c3_i32 : BitVec 32 := 3#32
  let v7 : BitVec 32 := Scalar.muli v4 c3_i32
  let v8 : BitVec 32 := Scalar.ori c0_i32_2 v7
  let c3_i32_5 : BitVec 32 := 3#32
  let v11 : BitVec 1 := Scalar.cmpi .eq v2 c3_i32_5
  let v12 : BitVec 32 := Scalar.extui v11
  let c4_i32 : BitVec 32 := 4#32
  let v15 : BitVec 32 := Scalar.muli v12 c4_i32
  let v16 : BitVec 32 := Scalar.ori v8 v15
  let c4_i32_8 : BitVec 32 := 4#32
  let v19 : BitVec 1 := Scalar.cmpi .eq v2 c4_i32_8
  let v20 : BitVec 32 := Scalar.extui v19
  let c7_i32 : BitVec 32 := 7#32
  let v23 : BitVec 32 := Scalar.muli v20 c7_i32
  let v24 : BitVec 32 := Scalar.ori v16 v23
  let c7_i32_10 : BitVec 32 := 7#32
  let v27 : BitVec 1 := Scalar.cmpi .eq v2 c7_i32_10
  let v28 : BitVec 32 := Scalar.extui v27
  let c15_i32 : BitVec 32 := 15#32
  let v31 : BitVec 32 := Scalar.muli v28 c15_i32
  let v32 : BitVec 32 := Scalar.ori v24 v31
  let c15_i32_13 : BitVec 32 := 15#32
  let v35 : BitVec 1 := Scalar.cmpi .eq v2 c15_i32_13
  let v36 : BitVec 32 := Scalar.extui v35
  let c12_i32 : BitVec 32 := 12#32
  let v39 : BitVec 32 := Scalar.muli v36 c12_i32
  let v40 : BitVec 32 := Scalar.ori v32 v39
  let c12_i32_16 : BitVec 32 := 12#32
  let v43 : BitVec 1 := Scalar.cmpi .eq v2 c12_i32_16
  let v44 : BitVec 32 := Scalar.extui v43
  let c11_i32 : BitVec 32 := 11#32
  let v47 : BitVec 32 := Scalar.muli v44 c11_i32
  let v48 : BitVec 32 := Scalar.ori v40 v47
  let c11_i32_18 : BitVec 32 := 11#32
  let v51 : BitVec 1 := Scalar.cmpi .eq v2 c11_i32_18
  let v52 : BitVec 32 := Scalar.extui v51
  let c8_i32 : BitVec 32 := 8#32
  let v55 : BitVec 32 := Scalar.muli v52 c8_i32
  let v56 : BitVec 32 := Scalar.ori v48 v55
  let c8_i32_20 : BitVec 32 := 8#32
  let v59 : BitVec 1 := Scalar.cmpi .eq v2 c8_i32_20
  let v60 : BitVec 32 := Scalar.extui v59
  let c16_i32 : BitVec 32 := 16#32
  let v63 : BitVec 32 := Scalar.muli v60 c16_i32
  let v64 : BitVec 32 := Scalar.ori v56 v63
  let c16_i32_23 : BitVec 32 := 16#32
  let v67 : BitVec 1 := Scalar.cmpi .eq v2 c16_i32_23
  let v68 : BitVec 32 := Scalar.extui v67
  let c19_i32 : BitVec 32 := 19#32
  let v71 : BitVec 32 := Scalar.muli v68 c19_i32
  let v72 : BitVec 32 := Scalar.ori v64 v71
  let c19_i32_26 : BitVec 32 := 19#32
  let v75 : BitVec 1 := Scalar.cmpi .eq v2 c19_i32_26
  let v76 : BitVec 32 := Scalar.extui v75
  let c20_i32 : BitVec 32 := 20#32
  let v79 : BitVec 32 := Scalar.muli v76 c20_i32
  let v80 : BitVec 32 := Scalar.ori v72 v79
  let c20_i32_28 : BitVec 32 := 20#32
  let v83 : BitVec 1 := Scalar.cmpi .eq v2 c20_i32_28
  let v84 : BitVec 32 := Scalar.extui v83
  let c23_i32 : BitVec 32 := 23#32
  let v87 : BitVec 32 := Scalar.muli v84 c23_i32
  let v88 : BitVec 32 := Scalar.ori v80 v87
  let c23_i32_30 : BitVec 32 := 23#32
  let v91 : BitVec 1 := Scalar.cmpi .eq v2 c23_i32_30
  let v92 : BitVec 32 := Scalar.extui v91
  let c31_i32 : BitVec 32 := 31#32
  let v95 : BitVec 32 := Scalar.muli v92 c31_i32
  let v96 : BitVec 32 := Scalar.ori v88 v95
  let c31_i32_33 : BitVec 32 := 31#32
  let v99 : BitVec 1 := Scalar.cmpi .eq v2 c31_i32_33
  let v100 : BitVec 32 := Scalar.extui v99
  let c28_i32 : BitVec 32 := 28#32
  let v103 : BitVec 32 := Scalar.muli v100 c28_i32
  let v104 : BitVec 32 := Scalar.ori v96 v103
  let c28_i32_36 : BitVec 32 := 28#32
  let v107 : BitVec 1 := Scalar.cmpi .eq v2 c28_i32_36
  let v108 : BitVec 32 := Scalar.extui v107
  let c27_i32 : BitVec 32 := 27#32
  let v111 : BitVec 32 := Scalar.muli v108 c27_i32
  let v112 : BitVec 32 := Scalar.ori v104 v111
  let c27_i32_38 : BitVec 32 := 27#32
  let v115 : BitVec 1 := Scalar.cmpi .eq v2 c27_i32_38
  let v116 : BitVec 32 := Scalar.extui v115
  let c24_i32 : BitVec 32 := 24#32
  let v119 : BitVec 32 := Scalar.muli v116 c24_i32
  let v120 : BitVec 32 := Scalar.ori v112 v119
  let c24_i32_40 : BitVec 32 := 24#32
  let v123 : BitVec 1 := Scalar.cmpi .eq v2 c24_i32_40
  let v124 : BitVec 32 := Scalar.extui v123
  let c25_i32 : BitVec 32 := 25#32
  let v127 : BitVec 32 := Scalar.muli v124 c25_i32
  let v128 : BitVec 32 := Scalar.ori v120 v127
  let c25_i32_43 : BitVec 32 := 25#32
  let v131 : BitVec 1 := Scalar.cmpi .eq v2 c25_i32_43
  let v132 : BitVec 32 := Scalar.extui v131
  let c26_i32 : BitVec 32 := 26#32
  let v135 : BitVec 32 := Scalar.muli v132 c26_i32
  let v136 : BitVec 32 := Scalar.ori v128 v135
  let c26_i32_46 : BitVec 32 := 26#32
  let v139 : BitVec 1 := Scalar.cmpi .eq v2 c26_i32_46
  let v140 : BitVec 32 := Scalar.extui v139
  let c29_i32 : BitVec 32 := 29#32
  let v143 : BitVec 32 := Scalar.muli v140 c29_i32
  let v144 : BitVec 32 := Scalar.ori v136 v143
  let c29_i32_48 : BitVec 32 := 29#32
  let v147 : BitVec 1 := Scalar.cmpi .eq v2 c29_i32_48
  let v148 : BitVec 32 := Scalar.extui v147
  let c30_i32 : BitVec 32 := 30#32
  let v151 : BitVec 32 := Scalar.muli v148 c30_i32
  let v152 : BitVec 32 := Scalar.ori v144 v151
  let c30_i32_50 : BitVec 32 := 30#32
  let v155 : BitVec 1 := Scalar.cmpi .eq v2 c30_i32_50
  let v156 : BitVec 32 := Scalar.extui v155
  let c22_i32 : BitVec 32 := 22#32
  let v159 : BitVec 32 := Scalar.muli v156 c22_i32
  let v160 : BitVec 32 := Scalar.ori v152 v159
  let c22_i32_53 : BitVec 32 := 22#32
  let v163 : BitVec 1 := Scalar.cmpi .eq v2 c22_i32_53
  let v164 : BitVec 32 := Scalar.extui v163
  let c21_i32 : BitVec 32 := 21#32
  let v167 : BitVec 32 := Scalar.muli v164 c21_i32
  let v168 : BitVec 32 := Scalar.ori v160 v167
  let c21_i32_56 : BitVec 32 := 21#32
  let v171 : BitVec 1 := Scalar.cmpi .eq v2 c21_i32_56
  let v172 : BitVec 32 := Scalar.extui v171
  let c18_i32_58 : BitVec 32 := 18#32
  let v175 : BitVec 32 := Scalar.muli v172 c18_i32_58
  let v176 : BitVec 32 := Scalar.ori v168 v175
  let c18_i32_60 : BitVec 32 := 18#32
  let v179 : BitVec 1 := Scalar.cmpi .eq v2 c18_i32_60
  let v180 : BitVec 32 := Scalar.extui v179
  let c17_i32_62 : BitVec 32 := 17#32
  let v183 : BitVec 32 := Scalar.muli v180 c17_i32_62
  let v184 : BitVec 32 := Scalar.ori v176 v183
  let c17_i32_64 : BitVec 32 := 17#32
  let v187 : BitVec 1 := Scalar.cmpi .eq v2 c17_i32_64
  let v188 : BitVec 32 := Scalar.extui v187
  let c9_i32_66 : BitVec 32 := 9#32
  let v191 : BitVec 32 := Scalar.muli v188 c9_i32_66
  let v192 : BitVec 32 := Scalar.ori v184 v191
  let c9_i32_68 : BitVec 32 := 9#32
  let v195 : BitVec 1 := Scalar.cmpi .eq v2 c9_i32_68
  let v196 : BitVec 32 := Scalar.extui v195
  let c10_i32_70 : BitVec 32 := 10#32
  let v199 : BitVec 32 := Scalar.muli v196 c10_i32_70
  let v200 : BitVec 32 := Scalar.ori v192 v199
  let c10_i32_72 : BitVec 32 := 10#32
  let v203 : BitVec 1 := Scalar.cmpi .eq v2 c10_i32_72
  let v204 : BitVec 32 := Scalar.extui v203
  let c13_i32_74 : BitVec 32 := 13#32
  let v207 : BitVec 32 := Scalar.muli v204 c13_i32_74
  let v208 : BitVec 32 := Scalar.ori v200 v207
  let c13_i32_76 : BitVec 32 := 13#32
  let v211 : BitVec 1 := Scalar.cmpi .eq v2 c13_i32_76
  let v212 : BitVec 32 := Scalar.extui v211
  let c14_i32_78 : BitVec 32 := 14#32
  let v215 : BitVec 32 := Scalar.muli v212 c14_i32_78
  let v216 : BitVec 32 := Scalar.ori v208 v215
  let c14_i32_80 : BitVec 32 := 14#32
  let v219 : BitVec 1 := Scalar.cmpi .eq v2 c14_i32_80
  let v220 : BitVec 32 := Scalar.extui v219
  let c6_i32_82 : BitVec 32 := 6#32
  let v223 : BitVec 32 := Scalar.muli v220 c6_i32_82
  let v224 : BitVec 32 := Scalar.ori v216 v223
  let c6_i32_84 : BitVec 32 := 6#32
  let v227 : BitVec 1 := Scalar.cmpi .eq v2 c6_i32_84
  let v228 : BitVec 32 := Scalar.extui v227
  let c5_i32_86 : BitVec 32 := 5#32
  let v231 : BitVec 32 := Scalar.muli v228 c5_i32_86
  let v232 : BitVec 32 := Scalar.ori v224 v231
  let c5_i32_88 : BitVec 32 := 5#32
  let v235 : BitVec 1 := Scalar.cmpi .eq v2 c5_i32_88
  let v236 : BitVec 32 := Scalar.extui v235
  let c2_i32_90 : BitVec 32 := 2#32
  let v239 : BitVec 32 := Scalar.muli v236 c2_i32_90
  let v240 : BitVec 32 := Scalar.ori v232 v239
  let c2_i32_92 : BitVec 32 := 2#32
  let v243 : BitVec 1 := Scalar.cmpi .eq v2 c2_i32_92
  let v244 : BitVec 32 := Scalar.extui v243
  let c1_i32_94 : BitVec 32 := 1#32
  let v247 : BitVec 32 := Scalar.muli v244 c1_i32_94
  let v248 : BitVec 32 := Scalar.ori v240 v247
  let c1_i32_96 : BitVec 32 := 1#32
  let v251 : BitVec 1 := Scalar.cmpi .eq v2 c1_i32_96
  let v252 : BitVec 32 := Scalar.extui v251
  let c0_i32_98 : BitVec 32 := 0#32
  let v255 : BitVec 32 := Scalar.muli v252 c0_i32_98
  let v256 : BitVec 32 := Scalar.ori v248 v255
  let c1_i32_104 : BitVec 32 := 1#32
  let v262 : BitVec 32 := Scalar.muli v256 c1_i32_104
  let v263 : BitVec 32 := Scalar.addi c0_i32_105 v262
  v263.toNat
@[reducible] def k0_t1_loop : Scf.Loop 32 :=
  let c0_i32_112 : BitVec 32 := 0#32
  let c8_i32_113 : BitVec 32 := 8#32
  let v270 : BitVec 32 := Scalar.addi c0_i32_112 c8_i32_113
  let c1_i32_114 : BitVec 32 := 1#32
  ⟨c0_i32_112, v270, c1_i32_114⟩
def k0_off1 (k0_t1 : Fin k0_t1_loop.trips) : Fin 1 → Nat :=
  let c0_i32_132 : BitVec 32 := 0#32
  let c0_i32_112 : BitVec 32 := 0#32
  let c1_i32_114 : BitVec 32 := 1#32
  let arg17 : BitVec 32 := Scf.iv c0_i32_112 c1_i32_114 k0_t1
  let v275 : BitVec 32 := Scalar.addi c0_i32_132 arg17
  let c16_i32_133 : BitVec 32 := 16#32
  let c0_i32_134 : BitVec 32 := 0#32
  let v276 : BitVec 1 := Scalar.cmpi .eq c16_i32_133 c0_i32_134
  let c1_i32_135 : BitVec 32 := 1#32
  let v277 : BitVec 32 := Scalar.select v276 c1_i32_135 c16_i32_133
  let v278 : BitVec 32 := Scalar.remsi v275 v277
  let c0_i32_137 : BitVec 32 := 0#32
  let v280 : BitVec 1 := Scalar.cmpi .slt v278 c0_i32_137
  let c0_i32_138 : BitVec 32 := 0#32
  let v281 : BitVec 1 := Scalar.cmpi .slt v277 c0_i32_138
  let v282 : BitVec 1 := Scalar.xori v280 v281
  let c0_i32_136 : BitVec 32 := 0#32
  let v279 : BitVec 1 := Scalar.cmpi .ne v278 c0_i32_136
  let v283 : BitVec 1 := Scalar.andi v282 v279
  let v284 : BitVec 32 := Scalar.addi v278 v277
  let v285 : BitVec 32 := Scalar.select v283 v284 v278
  ![v285.toNat]
def k0_off2 (k0_t1 : Fin k0_t1_loop.trips) : Fin 3 → Nat :=
  let c0_i32_132 : BitVec 32 := 0#32
  let c0_i32_112 : BitVec 32 := 0#32
  let c1_i32_114 : BitVec 32 := 1#32
  let arg17 : BitVec 32 := Scf.iv c0_i32_112 c1_i32_114 k0_t1
  let v275 : BitVec 32 := Scalar.addi c0_i32_132 arg17
  let c16_i32_133 : BitVec 32 := 16#32
  let c0_i32_134 : BitVec 32 := 0#32
  let v276 : BitVec 1 := Scalar.cmpi .eq c16_i32_133 c0_i32_134
  let c1_i32_135 : BitVec 32 := 1#32
  let v277 : BitVec 32 := Scalar.select v276 c1_i32_135 c16_i32_133
  let v278 : BitVec 32 := Scalar.remsi v275 v277
  let c0_i32_137 : BitVec 32 := 0#32
  let v280 : BitVec 1 := Scalar.cmpi .slt v278 c0_i32_137
  let c0_i32_138 : BitVec 32 := 0#32
  let v281 : BitVec 1 := Scalar.cmpi .slt v277 c0_i32_138
  let v282 : BitVec 1 := Scalar.xori v280 v281
  let c0_i32_136 : BitVec 32 := 0#32
  let v279 : BitVec 1 := Scalar.cmpi .ne v278 c0_i32_136
  let v283 : BitVec 1 := Scalar.andi v282 v279
  let v284 : BitVec 32 := Scalar.addi v278 v277
  let v285 : BitVec 32 := Scalar.select v283 v284 v278
  let c0_i32_149 : BitVec 32 := 0#32
  let c0_i32_150 : BitVec 32 := 0#32
  ![v285.toNat, 0, 0]
def k0_off3 (d0 : Dev nD) (k0_t1 : Fin k0_t1_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c0_i32_139 : BitVec 32 := 0#32
  let v286 : BitVec 32 := Scalar.subi v254 c0_i32_139
  let c32_i32_140 : BitVec 32 := 32#32
  let c0_i32_141 : BitVec 32 := 0#32
  let v287 : BitVec 1 := Scalar.cmpi .eq c32_i32_140 c0_i32_141
  let c1_i32_142 : BitVec 32 := 1#32
  let v288 : BitVec 32 := Scalar.select v287 c1_i32_142 c32_i32_140
  let v289 : BitVec 32 := Scalar.remsi v286 v288
  let c0_i32_144 : BitVec 32 := 0#32
  let v291 : BitVec 1 := Scalar.cmpi .slt v289 c0_i32_144
  let c0_i32_145 : BitVec 32 := 0#32
  let v292 : BitVec 1 := Scalar.cmpi .slt v288 c0_i32_145
  let v293 : BitVec 1 := Scalar.xori v291 v292
  let c0_i32_143 : BitVec 32 := 0#32
  let v290 : BitVec 1 := Scalar.cmpi .ne v289 c0_i32_143
  let v294 : BitVec 1 := Scalar.andi v293 v290
  let v295 : BitVec 32 := Scalar.addi v289 v288
  let v296 : BitVec 32 := Scalar.select v294 v295 v289
  let c64_i32 : BitVec 32 := 64#32
  let v297 : BitVec 32 := Scalar.muli v296 c64_i32
  let c0_i32_146 : BitVec 32 := 0#32
  let c0_i32_112 : BitVec 32 := 0#32
  let c1_i32_114 : BitVec 32 := 1#32
  let arg17 : BitVec 32 := Scf.iv c0_i32_112 c1_i32_114 k0_t1
  let c128_i32 : BitVec 32 := 128#32
  let v298 : BitVec 32 := Scalar.muli arg17 c128_i32
  let v299 : BitVec 32 := Scalar.addi c0_i32_146 v298
  ![v297.toNat, v299.toNat]
def k0_dev3 (d0 : Dev nD) : Nat :=
  let c0_i32_148 : BitVec 32 := 0#32
  let c0_i32_2 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c3_i32 : BitVec 32 := 3#32
  let v7 : BitVec 32 := Scalar.muli v4 c3_i32
  let v8 : BitVec 32 := Scalar.ori c0_i32_2 v7
  let c3_i32_5 : BitVec 32 := 3#32
  let v11 : BitVec 1 := Scalar.cmpi .eq v2 c3_i32_5
  let v12 : BitVec 32 := Scalar.extui v11
  let c4_i32 : BitVec 32 := 4#32
  let v15 : BitVec 32 := Scalar.muli v12 c4_i32
  let v16 : BitVec 32 := Scalar.ori v8 v15
  let c4_i32_8 : BitVec 32 := 4#32
  let v19 : BitVec 1 := Scalar.cmpi .eq v2 c4_i32_8
  let v20 : BitVec 32 := Scalar.extui v19
  let c7_i32 : BitVec 32 := 7#32
  let v23 : BitVec 32 := Scalar.muli v20 c7_i32
  let v24 : BitVec 32 := Scalar.ori v16 v23
  let c7_i32_10 : BitVec 32 := 7#32
  let v27 : BitVec 1 := Scalar.cmpi .eq v2 c7_i32_10
  let v28 : BitVec 32 := Scalar.extui v27
  let c15_i32 : BitVec 32 := 15#32
  let v31 : BitVec 32 := Scalar.muli v28 c15_i32
  let v32 : BitVec 32 := Scalar.ori v24 v31
  let c15_i32_13 : BitVec 32 := 15#32
  let v35 : BitVec 1 := Scalar.cmpi .eq v2 c15_i32_13
  let v36 : BitVec 32 := Scalar.extui v35
  let c12_i32 : BitVec 32 := 12#32
  let v39 : BitVec 32 := Scalar.muli v36 c12_i32
  let v40 : BitVec 32 := Scalar.ori v32 v39
  let c12_i32_16 : BitVec 32 := 12#32
  let v43 : BitVec 1 := Scalar.cmpi .eq v2 c12_i32_16
  let v44 : BitVec 32 := Scalar.extui v43
  let c11_i32 : BitVec 32 := 11#32
  let v47 : BitVec 32 := Scalar.muli v44 c11_i32
  let v48 : BitVec 32 := Scalar.ori v40 v47
  let c11_i32_18 : BitVec 32 := 11#32
  let v51 : BitVec 1 := Scalar.cmpi .eq v2 c11_i32_18
  let v52 : BitVec 32 := Scalar.extui v51
  let c8_i32 : BitVec 32 := 8#32
  let v55 : BitVec 32 := Scalar.muli v52 c8_i32
  let v56 : BitVec 32 := Scalar.ori v48 v55
  let c8_i32_20 : BitVec 32 := 8#32
  let v59 : BitVec 1 := Scalar.cmpi .eq v2 c8_i32_20
  let v60 : BitVec 32 := Scalar.extui v59
  let c16_i32 : BitVec 32 := 16#32
  let v63 : BitVec 32 := Scalar.muli v60 c16_i32
  let v64 : BitVec 32 := Scalar.ori v56 v63
  let c16_i32_23 : BitVec 32 := 16#32
  let v67 : BitVec 1 := Scalar.cmpi .eq v2 c16_i32_23
  let v68 : BitVec 32 := Scalar.extui v67
  let c19_i32 : BitVec 32 := 19#32
  let v71 : BitVec 32 := Scalar.muli v68 c19_i32
  let v72 : BitVec 32 := Scalar.ori v64 v71
  let c19_i32_26 : BitVec 32 := 19#32
  let v75 : BitVec 1 := Scalar.cmpi .eq v2 c19_i32_26
  let v76 : BitVec 32 := Scalar.extui v75
  let c20_i32 : BitVec 32 := 20#32
  let v79 : BitVec 32 := Scalar.muli v76 c20_i32
  let v80 : BitVec 32 := Scalar.ori v72 v79
  let c20_i32_28 : BitVec 32 := 20#32
  let v83 : BitVec 1 := Scalar.cmpi .eq v2 c20_i32_28
  let v84 : BitVec 32 := Scalar.extui v83
  let c23_i32 : BitVec 32 := 23#32
  let v87 : BitVec 32 := Scalar.muli v84 c23_i32
  let v88 : BitVec 32 := Scalar.ori v80 v87
  let c23_i32_30 : BitVec 32 := 23#32
  let v91 : BitVec 1 := Scalar.cmpi .eq v2 c23_i32_30
  let v92 : BitVec 32 := Scalar.extui v91
  let c31_i32 : BitVec 32 := 31#32
  let v95 : BitVec 32 := Scalar.muli v92 c31_i32
  let v96 : BitVec 32 := Scalar.ori v88 v95
  let c31_i32_33 : BitVec 32 := 31#32
  let v99 : BitVec 1 := Scalar.cmpi .eq v2 c31_i32_33
  let v100 : BitVec 32 := Scalar.extui v99
  let c28_i32 : BitVec 32 := 28#32
  let v103 : BitVec 32 := Scalar.muli v100 c28_i32
  let v104 : BitVec 32 := Scalar.ori v96 v103
  let c28_i32_36 : BitVec 32 := 28#32
  let v107 : BitVec 1 := Scalar.cmpi .eq v2 c28_i32_36
  let v108 : BitVec 32 := Scalar.extui v107
  let c27_i32 : BitVec 32 := 27#32
  let v111 : BitVec 32 := Scalar.muli v108 c27_i32
  let v112 : BitVec 32 := Scalar.ori v104 v111
  let c27_i32_38 : BitVec 32 := 27#32
  let v115 : BitVec 1 := Scalar.cmpi .eq v2 c27_i32_38
  let v116 : BitVec 32 := Scalar.extui v115
  let c24_i32 : BitVec 32 := 24#32
  let v119 : BitVec 32 := Scalar.muli v116 c24_i32
  let v120 : BitVec 32 := Scalar.ori v112 v119
  let c24_i32_40 : BitVec 32 := 24#32
  let v123 : BitVec 1 := Scalar.cmpi .eq v2 c24_i32_40
  let v124 : BitVec 32 := Scalar.extui v123
  let c25_i32 : BitVec 32 := 25#32
  let v127 : BitVec 32 := Scalar.muli v124 c25_i32
  let v128 : BitVec 32 := Scalar.ori v120 v127
  let c25_i32_43 : BitVec 32 := 25#32
  let v131 : BitVec 1 := Scalar.cmpi .eq v2 c25_i32_43
  let v132 : BitVec 32 := Scalar.extui v131
  let c26_i32 : BitVec 32 := 26#32
  let v135 : BitVec 32 := Scalar.muli v132 c26_i32
  let v136 : BitVec 32 := Scalar.ori v128 v135
  let c26_i32_46 : BitVec 32 := 26#32
  let v139 : BitVec 1 := Scalar.cmpi .eq v2 c26_i32_46
  let v140 : BitVec 32 := Scalar.extui v139
  let c29_i32 : BitVec 32 := 29#32
  let v143 : BitVec 32 := Scalar.muli v140 c29_i32
  let v144 : BitVec 32 := Scalar.ori v136 v143
  let c29_i32_48 : BitVec 32 := 29#32
  let v147 : BitVec 1 := Scalar.cmpi .eq v2 c29_i32_48
  let v148 : BitVec 32 := Scalar.extui v147
  let c30_i32 : BitVec 32 := 30#32
  let v151 : BitVec 32 := Scalar.muli v148 c30_i32
  let v152 : BitVec 32 := Scalar.ori v144 v151
  let c30_i32_50 : BitVec 32 := 30#32
  let v155 : BitVec 1 := Scalar.cmpi .eq v2 c30_i32_50
  let v156 : BitVec 32 := Scalar.extui v155
  let c22_i32 : BitVec 32 := 22#32
  let v159 : BitVec 32 := Scalar.muli v156 c22_i32
  let v160 : BitVec 32 := Scalar.ori v152 v159
  let c22_i32_53 : BitVec 32 := 22#32
  let v163 : BitVec 1 := Scalar.cmpi .eq v2 c22_i32_53
  let v164 : BitVec 32 := Scalar.extui v163
  let c21_i32 : BitVec 32 := 21#32
  let v167 : BitVec 32 := Scalar.muli v164 c21_i32
  let v168 : BitVec 32 := Scalar.ori v160 v167
  let c21_i32_56 : BitVec 32 := 21#32
  let v171 : BitVec 1 := Scalar.cmpi .eq v2 c21_i32_56
  let v172 : BitVec 32 := Scalar.extui v171
  let c18_i32_58 : BitVec 32 := 18#32
  let v175 : BitVec 32 := Scalar.muli v172 c18_i32_58
  let v176 : BitVec 32 := Scalar.ori v168 v175
  let c18_i32_60 : BitVec 32 := 18#32
  let v179 : BitVec 1 := Scalar.cmpi .eq v2 c18_i32_60
  let v180 : BitVec 32 := Scalar.extui v179
  let c17_i32_62 : BitVec 32 := 17#32
  let v183 : BitVec 32 := Scalar.muli v180 c17_i32_62
  let v184 : BitVec 32 := Scalar.ori v176 v183
  let c17_i32_64 : BitVec 32 := 17#32
  let v187 : BitVec 1 := Scalar.cmpi .eq v2 c17_i32_64
  let v188 : BitVec 32 := Scalar.extui v187
  let c9_i32_66 : BitVec 32 := 9#32
  let v191 : BitVec 32 := Scalar.muli v188 c9_i32_66
  let v192 : BitVec 32 := Scalar.ori v184 v191
  let c9_i32_68 : BitVec 32 := 9#32
  let v195 : BitVec 1 := Scalar.cmpi .eq v2 c9_i32_68
  let v196 : BitVec 32 := Scalar.extui v195
  let c10_i32_70 : BitVec 32 := 10#32
  let v199 : BitVec 32 := Scalar.muli v196 c10_i32_70
  let v200 : BitVec 32 := Scalar.ori v192 v199
  let c10_i32_72 : BitVec 32 := 10#32
  let v203 : BitVec 1 := Scalar.cmpi .eq v2 c10_i32_72
  let v204 : BitVec 32 := Scalar.extui v203
  let c13_i32_74 : BitVec 32 := 13#32
  let v207 : BitVec 32 := Scalar.muli v204 c13_i32_74
  let v208 : BitVec 32 := Scalar.ori v200 v207
  let c13_i32_76 : BitVec 32 := 13#32
  let v211 : BitVec 1 := Scalar.cmpi .eq v2 c13_i32_76
  let v212 : BitVec 32 := Scalar.extui v211
  let c14_i32_78 : BitVec 32 := 14#32
  let v215 : BitVec 32 := Scalar.muli v212 c14_i32_78
  let v216 : BitVec 32 := Scalar.ori v208 v215
  let c14_i32_80 : BitVec 32 := 14#32
  let v219 : BitVec 1 := Scalar.cmpi .eq v2 c14_i32_80
  let v220 : BitVec 32 := Scalar.extui v219
  let c6_i32_82 : BitVec 32 := 6#32
  let v223 : BitVec 32 := Scalar.muli v220 c6_i32_82
  let v224 : BitVec 32 := Scalar.ori v216 v223
  let c6_i32_84 : BitVec 32 := 6#32
  let v227 : BitVec 1 := Scalar.cmpi .eq v2 c6_i32_84
  let v228 : BitVec 32 := Scalar.extui v227
  let c5_i32_86 : BitVec 32 := 5#32
  let v231 : BitVec 32 := Scalar.muli v228 c5_i32_86
  let v232 : BitVec 32 := Scalar.ori v224 v231
  let c5_i32_88 : BitVec 32 := 5#32
  let v235 : BitVec 1 := Scalar.cmpi .eq v2 c5_i32_88
  let v236 : BitVec 32 := Scalar.extui v235
  let c2_i32_90 : BitVec 32 := 2#32
  let v239 : BitVec 32 := Scalar.muli v236 c2_i32_90
  let v240 : BitVec 32 := Scalar.ori v232 v239
  let c2_i32_92 : BitVec 32 := 2#32
  let v243 : BitVec 1 := Scalar.cmpi .eq v2 c2_i32_92
  let v244 : BitVec 32 := Scalar.extui v243
  let c1_i32_94 : BitVec 32 := 1#32
  let v247 : BitVec 32 := Scalar.muli v244 c1_i32_94
  let v248 : BitVec 32 := Scalar.ori v240 v247
  let c1_i32_96 : BitVec 32 := 1#32
  let v251 : BitVec 1 := Scalar.cmpi .eq v2 c1_i32_96
  let v252 : BitVec 32 := Scalar.extui v251
  let c0_i32_98 : BitVec 32 := 0#32
  let v255 : BitVec 32 := Scalar.muli v252 c0_i32_98
  let v256 : BitVec 32 := Scalar.ori v248 v255
  let c1_i32_147 : BitVec 32 := 1#32
  let v300 : BitVec 32 := Scalar.muli v256 c1_i32_147
  let v301 : BitVec 32 := Scalar.addi c0_i32_148 v300
  v301.toNat
def k0_off4 (d0 : Dev nD) (k0_t1 : Fin k0_t1_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c0_i32_158 : BitVec 32 := 0#32
  let v320 : BitVec 32 := Scalar.addi v254 c0_i32_158
  let c32_i32_159 : BitVec 32 := 32#32
  let c0_i32_160 : BitVec 32 := 0#32
  let v321 : BitVec 1 := Scalar.cmpi .eq c32_i32_159 c0_i32_160
  let c1_i32_161 : BitVec 32 := 1#32
  let v322 : BitVec 32 := Scalar.select v321 c1_i32_161 c32_i32_159
  let v323 : BitVec 32 := Scalar.remsi v320 v322
  let c0_i32_163 : BitVec 32 := 0#32
  let v325 : BitVec 1 := Scalar.cmpi .slt v323 c0_i32_163
  let c0_i32_164 : BitVec 32 := 0#32
  let v326 : BitVec 1 := Scalar.cmpi .slt v322 c0_i32_164
  let v327 : BitVec 1 := Scalar.xori v325 v326
  let c0_i32_162 : BitVec 32 := 0#32
  let v324 : BitVec 1 := Scalar.cmpi .ne v323 c0_i32_162
  let v328 : BitVec 1 := Scalar.andi v327 v324
  let v329 : BitVec 32 := Scalar.addi v323 v322
  let v330 : BitVec 32 := Scalar.select v328 v329 v323
  let c64_i32_165 : BitVec 32 := 64#32
  let v331 : BitVec 32 := Scalar.muli v330 c64_i32_165
  let c1024_i32 : BitVec 32 := 1024#32
  let c0_i32_112 : BitVec 32 := 0#32
  let c1_i32_114 : BitVec 32 := 1#32
  let arg17 : BitVec 32 := Scf.iv c0_i32_112 c1_i32_114 k0_t1
  let c128_i32_166 : BitVec 32 := 128#32
  let v332 : BitVec 32 := Scalar.muli arg17 c128_i32_166
  let v333 : BitVec 32 := Scalar.addi c1024_i32 v332
  ![v331.toNat, v333.toNat]
def k0_dev4 (d0 : Dev nD) : Nat :=
  let c0_i32_168 : BitVec 32 := 0#32
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c1_i32_3 : BitVec 32 := 1#32
  let v9 : BitVec 32 := Scalar.muli v4 c1_i32_3
  let v10 : BitVec 32 := Scalar.ori c0_i32_4 v9
  let c3_i32_5 : BitVec 32 := 3#32
  let v11 : BitVec 1 := Scalar.cmpi .eq v2 c3_i32_5
  let v12 : BitVec 32 := Scalar.extui v11
  let c0_i32_7 : BitVec 32 := 0#32
  let v17 : BitVec 32 := Scalar.muli v12 c0_i32_7
  let v18 : BitVec 32 := Scalar.ori v10 v17
  let c4_i32_8 : BitVec 32 := 4#32
  let v19 : BitVec 1 := Scalar.cmpi .eq v2 c4_i32_8
  let v20 : BitVec 32 := Scalar.extui v19
  let c3_i32_9 : BitVec 32 := 3#32
  let v25 : BitVec 32 := Scalar.muli v20 c3_i32_9
  let v26 : BitVec 32 := Scalar.ori v18 v25
  let c7_i32_10 : BitVec 32 := 7#32
  let v27 : BitVec 1 := Scalar.cmpi .eq v2 c7_i32_10
  let v28 : BitVec 32 := Scalar.extui v27
  let c4_i32_12 : BitVec 32 := 4#32
  let v33 : BitVec 32 := Scalar.muli v28 c4_i32_12
  let v34 : BitVec 32 := Scalar.ori v26 v33
  let c15_i32_13 : BitVec 32 := 15#32
  let v35 : BitVec 1 := Scalar.cmpi .eq v2 c15_i32_13
  let v36 : BitVec 32 := Scalar.extui v35
  let c7_i32_15 : BitVec 32 := 7#32
  let v41 : BitVec 32 := Scalar.muli v36 c7_i32_15
  let v42 : BitVec 32 := Scalar.ori v34 v41
  let c12_i32_16 : BitVec 32 := 12#32
  let v43 : BitVec 1 := Scalar.cmpi .eq v2 c12_i32_16
  let v44 : BitVec 32 := Scalar.extui v43
  let c15_i32_17 : BitVec 32 := 15#32
  let v49 : BitVec 32 := Scalar.muli v44 c15_i32_17
  let v50 : BitVec 32 := Scalar.ori v42 v49
  let c11_i32_18 : BitVec 32 := 11#32
  let v51 : BitVec 1 := Scalar.cmpi .eq v2 c11_i32_18
  let v52 : BitVec 32 := Scalar.extui v51
  let c12_i32_19 : BitVec 32 := 12#32
  let v57 : BitVec 32 := Scalar.muli v52 c12_i32_19
  let v58 : BitVec 32 := Scalar.ori v50 v57
  let c8_i32_20 : BitVec 32 := 8#32
  let v59 : BitVec 1 := Scalar.cmpi .eq v2 c8_i32_20
  let v60 : BitVec 32 := Scalar.extui v59
  let c11_i32_22 : BitVec 32 := 11#32
  let v65 : BitVec 32 := Scalar.muli v60 c11_i32_22
  let v66 : BitVec 32 := Scalar.ori v58 v65
  let c16_i32_23 : BitVec 32 := 16#32
  let v67 : BitVec 1 := Scalar.cmpi .eq v2 c16_i32_23
  let v68 : BitVec 32 := Scalar.extui v67
  let c8_i32_25 : BitVec 32 := 8#32
  let v73 : BitVec 32 := Scalar.muli v68 c8_i32_25
  let v74 : BitVec 32 := Scalar.ori v66 v73
  let c19_i32_26 : BitVec 32 := 19#32
  let v75 : BitVec 1 := Scalar.cmpi .eq v2 c19_i32_26
  let v76 : BitVec 32 := Scalar.extui v75
  let c16_i32_27 : BitVec 32 := 16#32
  let v81 : BitVec 32 := Scalar.muli v76 c16_i32_27
  let v82 : BitVec 32 := Scalar.ori v74 v81
  let c20_i32_28 : BitVec 32 := 20#32
  let v83 : BitVec 1 := Scalar.cmpi .eq v2 c20_i32_28
  let v84 : BitVec 32 := Scalar.extui v83
  let c19_i32_29 : BitVec 32 := 19#32
  let v89 : BitVec 32 := Scalar.muli v84 c19_i32_29
  let v90 : BitVec 32 := Scalar.ori v82 v89
  let c23_i32_30 : BitVec 32 := 23#32
  let v91 : BitVec 1 := Scalar.cmpi .eq v2 c23_i32_30
  let v92 : BitVec 32 := Scalar.extui v91
  let c20_i32_32 : BitVec 32 := 20#32
  let v97 : BitVec 32 := Scalar.muli v92 c20_i32_32
  let v98 : BitVec 32 := Scalar.ori v90 v97
  let c31_i32_33 : BitVec 32 := 31#32
  let v99 : BitVec 1 := Scalar.cmpi .eq v2 c31_i32_33
  let v100 : BitVec 32 := Scalar.extui v99
  let c23_i32_35 : BitVec 32 := 23#32
  let v105 : BitVec 32 := Scalar.muli v100 c23_i32_35
  let v106 : BitVec 32 := Scalar.ori v98 v105
  let c28_i32_36 : BitVec 32 := 28#32
  let v107 : BitVec 1 := Scalar.cmpi .eq v2 c28_i32_36
  let v108 : BitVec 32 := Scalar.extui v107
  let c31_i32_37 : BitVec 32 := 31#32
  let v113 : BitVec 32 := Scalar.muli v108 c31_i32_37
  let v114 : BitVec 32 := Scalar.ori v106 v113
  let c27_i32_38 : BitVec 32 := 27#32
  let v115 : BitVec 1 := Scalar.cmpi .eq v2 c27_i32_38
  let v116 : BitVec 32 := Scalar.extui v115
  let c28_i32_39 : BitVec 32 := 28#32
  let v121 : BitVec 32 := Scalar.muli v116 c28_i32_39
  let v122 : BitVec 32 := Scalar.ori v114 v121
  let c24_i32_40 : BitVec 32 := 24#32
  let v123 : BitVec 1 := Scalar.cmpi .eq v2 c24_i32_40
  let v124 : BitVec 32 := Scalar.extui v123
  let c27_i32_42 : BitVec 32 := 27#32
  let v129 : BitVec 32 := Scalar.muli v124 c27_i32_42
  let v130 : BitVec 32 := Scalar.ori v122 v129
  let c25_i32_43 : BitVec 32 := 25#32
  let v131 : BitVec 1 := Scalar.cmpi .eq v2 c25_i32_43
  let v132 : BitVec 32 := Scalar.extui v131
  let c24_i32_45 : BitVec 32 := 24#32
  let v137 : BitVec 32 := Scalar.muli v132 c24_i32_45
  let v138 : BitVec 32 := Scalar.ori v130 v137
  let c26_i32_46 : BitVec 32 := 26#32
  let v139 : BitVec 1 := Scalar.cmpi .eq v2 c26_i32_46
  let v140 : BitVec 32 := Scalar.extui v139
  let c25_i32_47 : BitVec 32 := 25#32
  let v145 : BitVec 32 := Scalar.muli v140 c25_i32_47
  let v146 : BitVec 32 := Scalar.ori v138 v145
  let c29_i32_48 : BitVec 32 := 29#32
  let v147 : BitVec 1 := Scalar.cmpi .eq v2 c29_i32_48
  let v148 : BitVec 32 := Scalar.extui v147
  let c26_i32_49 : BitVec 32 := 26#32
  let v153 : BitVec 32 := Scalar.muli v148 c26_i32_49
  let v154 : BitVec 32 := Scalar.ori v146 v153
  let c30_i32_50 : BitVec 32 := 30#32
  let v155 : BitVec 1 := Scalar.cmpi .eq v2 c30_i32_50
  let v156 : BitVec 32 := Scalar.extui v155
  let c29_i32_52 : BitVec 32 := 29#32
  let v161 : BitVec 32 := Scalar.muli v156 c29_i32_52
  let v162 : BitVec 32 := Scalar.ori v154 v161
  let c22_i32_53 : BitVec 32 := 22#32
  let v163 : BitVec 1 := Scalar.cmpi .eq v2 c22_i32_53
  let v164 : BitVec 32 := Scalar.extui v163
  let c30_i32_55 : BitVec 32 := 30#32
  let v169 : BitVec 32 := Scalar.muli v164 c30_i32_55
  let v170 : BitVec 32 := Scalar.ori v162 v169
  let c21_i32_56 : BitVec 32 := 21#32
  let v171 : BitVec 1 := Scalar.cmpi .eq v2 c21_i32_56
  let v172 : BitVec 32 := Scalar.extui v171
  let c22_i32_59 : BitVec 32 := 22#32
  let v177 : BitVec 32 := Scalar.muli v172 c22_i32_59
  let v178 : BitVec 32 := Scalar.ori v170 v177
  let c18_i32_60 : BitVec 32 := 18#32
  let v179 : BitVec 1 := Scalar.cmpi .eq v2 c18_i32_60
  let v180 : BitVec 32 := Scalar.extui v179
  let c21_i32_63 : BitVec 32 := 21#32
  let v185 : BitVec 32 := Scalar.muli v180 c21_i32_63
  let v186 : BitVec 32 := Scalar.ori v178 v185
  let c17_i32_64 : BitVec 32 := 17#32
  let v187 : BitVec 1 := Scalar.cmpi .eq v2 c17_i32_64
  let v188 : BitVec 32 := Scalar.extui v187
  let c18_i32_67 : BitVec 32 := 18#32
  let v193 : BitVec 32 := Scalar.muli v188 c18_i32_67
  let v194 : BitVec 32 := Scalar.ori v186 v193
  let c9_i32_68 : BitVec 32 := 9#32
  let v195 : BitVec 1 := Scalar.cmpi .eq v2 c9_i32_68
  let v196 : BitVec 32 := Scalar.extui v195
  let c17_i32_71 : BitVec 32 := 17#32
  let v201 : BitVec 32 := Scalar.muli v196 c17_i32_71
  let v202 : BitVec 32 := Scalar.ori v194 v201
  let c10_i32_72 : BitVec 32 := 10#32
  let v203 : BitVec 1 := Scalar.cmpi .eq v2 c10_i32_72
  let v204 : BitVec 32 := Scalar.extui v203
  let c9_i32_75 : BitVec 32 := 9#32
  let v209 : BitVec 32 := Scalar.muli v204 c9_i32_75
  let v210 : BitVec 32 := Scalar.ori v202 v209
  let c13_i32_76 : BitVec 32 := 13#32
  let v211 : BitVec 1 := Scalar.cmpi .eq v2 c13_i32_76
  let v212 : BitVec 32 := Scalar.extui v211
  let c10_i32_79 : BitVec 32 := 10#32
  let v217 : BitVec 32 := Scalar.muli v212 c10_i32_79
  let v218 : BitVec 32 := Scalar.ori v210 v217
  let c14_i32_80 : BitVec 32 := 14#32
  let v219 : BitVec 1 := Scalar.cmpi .eq v2 c14_i32_80
  let v220 : BitVec 32 := Scalar.extui v219
  let c13_i32_83 : BitVec 32 := 13#32
  let v225 : BitVec 32 := Scalar.muli v220 c13_i32_83
  let v226 : BitVec 32 := Scalar.ori v218 v225
  let c6_i32_84 : BitVec 32 := 6#32
  let v227 : BitVec 1 := Scalar.cmpi .eq v2 c6_i32_84
  let v228 : BitVec 32 := Scalar.extui v227
  let c14_i32_87 : BitVec 32 := 14#32
  let v233 : BitVec 32 := Scalar.muli v228 c14_i32_87
  let v234 : BitVec 32 := Scalar.ori v226 v233
  let c5_i32_88 : BitVec 32 := 5#32
  let v235 : BitVec 1 := Scalar.cmpi .eq v2 c5_i32_88
  let v236 : BitVec 32 := Scalar.extui v235
  let c6_i32_91 : BitVec 32 := 6#32
  let v241 : BitVec 32 := Scalar.muli v236 c6_i32_91
  let v242 : BitVec 32 := Scalar.ori v234 v241
  let c2_i32_92 : BitVec 32 := 2#32
  let v243 : BitVec 1 := Scalar.cmpi .eq v2 c2_i32_92
  let v244 : BitVec 32 := Scalar.extui v243
  let c5_i32_95 : BitVec 32 := 5#32
  let v249 : BitVec 32 := Scalar.muli v244 c5_i32_95
  let v250 : BitVec 32 := Scalar.ori v242 v249
  let c1_i32_96 : BitVec 32 := 1#32
  let v251 : BitVec 1 := Scalar.cmpi .eq v2 c1_i32_96
  let v252 : BitVec 32 := Scalar.extui v251
  let c2_i32_99 : BitVec 32 := 2#32
  let v257 : BitVec 32 := Scalar.muli v252 c2_i32_99
  let v258 : BitVec 32 := Scalar.ori v250 v257
  let c1_i32_167 : BitVec 32 := 1#32
  let v334 : BitVec 32 := Scalar.muli v258 c1_i32_167
  let v335 : BitVec 32 := Scalar.addi c0_i32_168 v334
  v335.toNat
@[reducible] def k0_t2_loop : Scf.Loop 32 :=
  let c0_i32_116 : BitVec 32 := 0#32
  let c31_i32_117 : BitVec 32 := 31#32
  let v271 : BitVec 32 := Scalar.addi c0_i32_116 c31_i32_117
  let c1_i32_118 : BitVec 32 := 1#32
  ⟨c0_i32_116, v271, c1_i32_118⟩
@[reducible] def k0_t3_loop : Scf.Loop 32 :=
  let c0_i32_132 : BitVec 32 := 0#32
  let c8_i32_133 : BitVec 32 := 8#32
  let v275 : BitVec 32 := Scalar.addi c0_i32_132 c8_i32_133
  let c1_i32_134 : BitVec 32 := 1#32
  ⟨c0_i32_132, v275, c1_i32_134⟩
def k0_off5 (k0_t2 : Fin k0_t2_loop.trips) (k0_t3 : Fin k0_t3_loop.trips) : Fin 1 → Nat :=
  let c8_i32_137 : BitVec 32 := 8#32
  let c0_i32_116 : BitVec 32 := 0#32
  let c1_i32_118 : BitVec 32 := 1#32
  let arg17 : BitVec 32 := Scf.iv c0_i32_116 c1_i32_118 k0_t2
  let v278 : BitVec 32 := Scalar.muli c8_i32_137 arg17
  let c0_i32_132 : BitVec 32 := 0#32
  let c1_i32_134 : BitVec 32 := 1#32
  let arg18 : BitVec 32 := Scf.iv c0_i32_132 c1_i32_134 k0_t3
  let v279 : BitVec 32 := Scalar.addi v278 arg18
  let c16_i32_138 : BitVec 32 := 16#32
  let c0_i32_139 : BitVec 32 := 0#32
  let v280 : BitVec 1 := Scalar.cmpi .eq c16_i32_138 c0_i32_139
  let c1_i32_140 : BitVec 32 := 1#32
  let v281 : BitVec 32 := Scalar.select v280 c1_i32_140 c16_i32_138
  let v282 : BitVec 32 := Scalar.remsi v279 v281
  let c0_i32_142 : BitVec 32 := 0#32
  let v284 : BitVec 1 := Scalar.cmpi .slt v282 c0_i32_142
  let c0_i32_143 : BitVec 32 := 0#32
  let v285 : BitVec 1 := Scalar.cmpi .slt v281 c0_i32_143
  let v286 : BitVec 1 := Scalar.xori v284 v285
  let c0_i32_141 : BitVec 32 := 0#32
  let v283 : BitVec 1 := Scalar.cmpi .ne v282 c0_i32_141
  let v287 : BitVec 1 := Scalar.andi v286 v283
  let v288 : BitVec 32 := Scalar.addi v282 v281
  let v289 : BitVec 32 := Scalar.select v287 v288 v282
  ![v289.toNat]
def k0_off6 (k0_t2 : Fin k0_t2_loop.trips) (k0_t3 : Fin k0_t3_loop.trips) : Fin 3 → Nat :=
  let c8_i32_137 : BitVec 32 := 8#32
  let c0_i32_116 : BitVec 32 := 0#32
  let c1_i32_118 : BitVec 32 := 1#32
  let arg17 : BitVec 32 := Scf.iv c0_i32_116 c1_i32_118 k0_t2
  let v278 : BitVec 32 := Scalar.muli c8_i32_137 arg17
  let c0_i32_132 : BitVec 32 := 0#32
  let c1_i32_134 : BitVec 32 := 1#32
  let arg18 : BitVec 32 := Scf.iv c0_i32_132 c1_i32_134 k0_t3
  let v279 : BitVec 32 := Scalar.addi v278 arg18
  let c16_i32_138 : BitVec 32 := 16#32
  let c0_i32_139 : BitVec 32 := 0#32
  let v280 : BitVec 1 := Scalar.cmpi .eq c16_i32_138 c0_i32_139
  let c1_i32_140 : BitVec 32 := 1#32
  let v281 : BitVec 32 := Scalar.select v280 c1_i32_140 c16_i32_138
  let v282 : BitVec 32 := Scalar.remsi v279 v281
  let c0_i32_142 : BitVec 32 := 0#32
  let v284 : BitVec 1 := Scalar.cmpi .slt v282 c0_i32_142
  let c0_i32_143 : BitVec 32 := 0#32
  let v285 : BitVec 1 := Scalar.cmpi .slt v281 c0_i32_143
  let v286 : BitVec 1 := Scalar.xori v284 v285
  let c0_i32_141 : BitVec 32 := 0#32
  let v283 : BitVec 1 := Scalar.cmpi .ne v282 c0_i32_141
  let v287 : BitVec 1 := Scalar.andi v286 v283
  let v288 : BitVec 32 := Scalar.addi v282 v281
  let v289 : BitVec 32 := Scalar.select v287 v288 v282
  let c0_i32_153 : BitVec 32 := 0#32
  let c0_i32_154 : BitVec 32 := 0#32
  ![v289.toNat, 0, 0]
def k0_off7 (d0 : Dev nD) (k0_t2 : Fin k0_t2_loop.trips) (k0_t3 : Fin k0_t3_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c0_i32_116 : BitVec 32 := 0#32
  let c1_i32_118 : BitVec 32 := 1#32
  let arg17 : BitVec 32 := Scf.iv c0_i32_116 c1_i32_118 k0_t2
  let v290 : BitVec 32 := Scalar.subi v254 arg17
  let c32_i32_144 : BitVec 32 := 32#32
  let c0_i32_145 : BitVec 32 := 0#32
  let v291 : BitVec 1 := Scalar.cmpi .eq c32_i32_144 c0_i32_145
  let c1_i32_146 : BitVec 32 := 1#32
  let v292 : BitVec 32 := Scalar.select v291 c1_i32_146 c32_i32_144
  let v293 : BitVec 32 := Scalar.remsi v290 v292
  let c0_i32_148 : BitVec 32 := 0#32
  let v295 : BitVec 1 := Scalar.cmpi .slt v293 c0_i32_148
  let c0_i32_149 : BitVec 32 := 0#32
  let v296 : BitVec 1 := Scalar.cmpi .slt v292 c0_i32_149
  let v297 : BitVec 1 := Scalar.xori v295 v296
  let c0_i32_147 : BitVec 32 := 0#32
  let v294 : BitVec 1 := Scalar.cmpi .ne v293 c0_i32_147
  let v298 : BitVec 1 := Scalar.andi v297 v294
  let v299 : BitVec 32 := Scalar.addi v293 v292
  let v300 : BitVec 32 := Scalar.select v298 v299 v293
  let c64_i32 : BitVec 32 := 64#32
  let v301 : BitVec 32 := Scalar.muli v300 c64_i32
  let c0_i32_150 : BitVec 32 := 0#32
  let c0_i32_132 : BitVec 32 := 0#32
  let c1_i32_134 : BitVec 32 := 1#32
  let arg18 : BitVec 32 := Scf.iv c0_i32_132 c1_i32_134 k0_t3
  let c128_i32 : BitVec 32 := 128#32
  let v302 : BitVec 32 := Scalar.muli arg18 c128_i32
  let v303 : BitVec 32 := Scalar.addi c0_i32_150 v302
  ![v301.toNat, v303.toNat]
def k0_off8 (d0 : Dev nD) (k0_t2 : Fin k0_t2_loop.trips) (k0_t3 : Fin k0_t3_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c0_i32_116 : BitVec 32 := 0#32
  let c1_i32_118 : BitVec 32 := 1#32
  let arg17 : BitVec 32 := Scf.iv c0_i32_116 c1_i32_118 k0_t2
  let v311 : BitVec 32 := Scalar.subi v254 arg17
  let c1_i32_155 : BitVec 32 := 1#32
  let v312 : BitVec 32 := Scalar.subi v311 c1_i32_155
  let c32_i32_156 : BitVec 32 := 32#32
  let c0_i32_157 : BitVec 32 := 0#32
  let v313 : BitVec 1 := Scalar.cmpi .eq c32_i32_156 c0_i32_157
  let c1_i32_158 : BitVec 32 := 1#32
  let v314 : BitVec 32 := Scalar.select v313 c1_i32_158 c32_i32_156
  let v315 : BitVec 32 := Scalar.remsi v312 v314
  let c0_i32_160 : BitVec 32 := 0#32
  let v317 : BitVec 1 := Scalar.cmpi .slt v315 c0_i32_160
  let c0_i32_161 : BitVec 32 := 0#32
  let v318 : BitVec 1 := Scalar.cmpi .slt v314 c0_i32_161
  let v319 : BitVec 1 := Scalar.xori v317 v318
  let c0_i32_159 : BitVec 32 := 0#32
  let v316 : BitVec 1 := Scalar.cmpi .ne v315 c0_i32_159
  let v320 : BitVec 1 := Scalar.andi v319 v316
  let v321 : BitVec 32 := Scalar.addi v315 v314
  let v322 : BitVec 32 := Scalar.select v320 v321 v315
  let c64_i32_162 : BitVec 32 := 64#32
  let v323 : BitVec 32 := Scalar.muli v322 c64_i32_162
  let v326 : Index := Scalar.indexCast v323
  let c0_i32_164 : BitVec 32 := 0#32
  let c0_i32_132 : BitVec 32 := 0#32
  let c1_i32_134 : BitVec 32 := 1#32
  let arg18 : BitVec 32 := Scf.iv c0_i32_132 c1_i32_134 k0_t3
  let c128_i32_163 : BitVec 32 := 128#32
  let v324 : BitVec 32 := Scalar.muli arg18 c128_i32_163
  let v325 : BitVec 32 := Scalar.addi c0_i32_164 v324
  let v327 : Index := Scalar.indexCast v325
  ![v326.toNat, v327.toNat]
def k0_off9 (k0_t2 : Fin k0_t2_loop.trips) (k0_t3 : Fin k0_t3_loop.trips) : Fin 3 → Nat :=
  let c8_i32_136 : BitVec 32 := 8#32
  let c0_i32_116 : BitVec 32 := 0#32
  let c1_i32_118 : BitVec 32 := 1#32
  let arg17 : BitVec 32 := Scf.iv c0_i32_116 c1_i32_118 k0_t2
  let v276 : BitVec 32 := Scalar.muli c8_i32_136 arg17
  let c0_i32_132 : BitVec 32 := 0#32
  let c1_i32_134 : BitVec 32 := 1#32
  let arg18 : BitVec 32 := Scf.iv c0_i32_132 c1_i32_134 k0_t3
  let v277 : BitVec 32 := Scalar.addi v276 arg18
  let c16_i32_165 : BitVec 32 := 16#32
  let c0_i32_166 : BitVec 32 := 0#32
  let v330 : BitVec 1 := Scalar.cmpi .eq c16_i32_165 c0_i32_166
  let c1_i32_167 : BitVec 32 := 1#32
  let v331 : BitVec 32 := Scalar.select v330 c1_i32_167 c16_i32_165
  let v332 : BitVec 32 := Scalar.remsi v277 v331
  let c0_i32_169 : BitVec 32 := 0#32
  let v334 : BitVec 1 := Scalar.cmpi .slt v332 c0_i32_169
  let c0_i32_170 : BitVec 32 := 0#32
  let v335 : BitVec 1 := Scalar.cmpi .slt v331 c0_i32_170
  let v336 : BitVec 1 := Scalar.xori v334 v335
  let c0_i32_168 : BitVec 32 := 0#32
  let v333 : BitVec 1 := Scalar.cmpi .ne v332 c0_i32_168
  let v337 : BitVec 1 := Scalar.andi v336 v333
  let v338 : BitVec 32 := Scalar.addi v332 v331
  let v339 : BitVec 32 := Scalar.select v337 v338 v332
  let v340 : Index := Scalar.indexCast v339
  let c0_171 : Index := 0#32
  let c0_172 : Index := 0#32
  ![v340.toNat, 0, 0]
def k0_cond1 (k0_t2 : Fin k0_t2_loop.trips) (k0_t3 : Fin k0_t3_loop.trips) : BitVec 1 :=
  let c8_i32_136 : BitVec 32 := 8#32
  let c0_i32_116 : BitVec 32 := 0#32
  let c1_i32_118 : BitVec 32 := 1#32
  let arg17 : BitVec 32 := Scf.iv c0_i32_116 c1_i32_118 k0_t2
  let v276 : BitVec 32 := Scalar.muli c8_i32_136 arg17
  let c0_i32_132 : BitVec 32 := 0#32
  let c1_i32_134 : BitVec 32 := 1#32
  let arg18 : BitVec 32 := Scf.iv c0_i32_132 c1_i32_134 k0_t3
  let v277 : BitVec 32 := Scalar.addi v276 arg18
  let c232_i32 : BitVec 32 := 232#32
  let v347 : BitVec 1 := Scalar.cmpi .slt v277 c232_i32
  let v348 : BitVec 32 := Scalar.extui v347
  let c0_i32_173 : BitVec 32 := 0#32
  let v349 : BitVec 1 := Scalar.cmpi .ne v348 c0_i32_173
  v349

def k0_dev5 (d0 : Dev nD) : Nat :=
  let c0_i32_228 : BitVec 32 := 0#32
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c1_i32_3 : BitVec 32 := 1#32
  let v9 : BitVec 32 := Scalar.muli v4 c1_i32_3
  let v10 : BitVec 32 := Scalar.ori c0_i32_4 v9
  let c3_i32_5 : BitVec 32 := 3#32
  let v11 : BitVec 1 := Scalar.cmpi .eq v2 c3_i32_5
  let v12 : BitVec 32 := Scalar.extui v11
  let c0_i32_7 : BitVec 32 := 0#32
  let v17 : BitVec 32 := Scalar.muli v12 c0_i32_7
  let v18 : BitVec 32 := Scalar.ori v10 v17
  let c4_i32_8 : BitVec 32 := 4#32
  let v19 : BitVec 1 := Scalar.cmpi .eq v2 c4_i32_8
  let v20 : BitVec 32 := Scalar.extui v19
  let c3_i32_9 : BitVec 32 := 3#32
  let v25 : BitVec 32 := Scalar.muli v20 c3_i32_9
  let v26 : BitVec 32 := Scalar.ori v18 v25
  let c7_i32_10 : BitVec 32 := 7#32
  let v27 : BitVec 1 := Scalar.cmpi .eq v2 c7_i32_10
  let v28 : BitVec 32 := Scalar.extui v27
  let c4_i32_12 : BitVec 32 := 4#32
  let v33 : BitVec 32 := Scalar.muli v28 c4_i32_12
  let v34 : BitVec 32 := Scalar.ori v26 v33
  let c15_i32_13 : BitVec 32 := 15#32
  let v35 : BitVec 1 := Scalar.cmpi .eq v2 c15_i32_13
  let v36 : BitVec 32 := Scalar.extui v35
  let c7_i32_15 : BitVec 32 := 7#32
  let v41 : BitVec 32 := Scalar.muli v36 c7_i32_15
  let v42 : BitVec 32 := Scalar.ori v34 v41
  let c12_i32_16 : BitVec 32 := 12#32
  let v43 : BitVec 1 := Scalar.cmpi .eq v2 c12_i32_16
  let v44 : BitVec 32 := Scalar.extui v43
  let c15_i32_17 : BitVec 32 := 15#32
  let v49 : BitVec 32 := Scalar.muli v44 c15_i32_17
  let v50 : BitVec 32 := Scalar.ori v42 v49
  let c11_i32_18 : BitVec 32 := 11#32
  let v51 : BitVec 1 := Scalar.cmpi .eq v2 c11_i32_18
  let v52 : BitVec 32 := Scalar.extui v51
  let c12_i32_19 : BitVec 32 := 12#32
  let v57 : BitVec 32 := Scalar.muli v52 c12_i32_19
  let v58 : BitVec 32 := Scalar.ori v50 v57
  let c8_i32_20 : BitVec 32 := 8#32
  let v59 : BitVec 1 := Scalar.cmpi .eq v2 c8_i32_20
  let v60 : BitVec 32 := Scalar.extui v59
  let c11_i32_22 : BitVec 32 := 11#32
  let v65 : BitVec 32 := Scalar.muli v60 c11_i32_22
  let v66 : BitVec 32 := Scalar.ori v58 v65
  let c16_i32_23 : BitVec 32 := 16#32
  let v67 : BitVec 1 := Scalar.cmpi .eq v2 c16_i32_23
  let v68 : BitVec 32 := Scalar.extui v67
  let c8_i32_25 : BitVec 32 := 8#32
  let v73 : BitVec 32 := Scalar.muli v68 c8_i32_25
  let v74 : BitVec 32 := Scalar.ori v66 v73
  let c19_i32_26 : BitVec 32 := 19#32
  let v75 : BitVec 1 := Scalar.cmpi .eq v2 c19_i32_26
  let v76 : BitVec 32 := Scalar.extui v75
  let c16_i32_27 : BitVec 32 := 16#32
  let v81 : BitVec 32 := Scalar.muli v76 c16_i32_27
  let v82 : BitVec 32 := Scalar.ori v74 v81
  let c20_i32_28 : BitVec 32 := 20#32
  let v83 : BitVec 1 := Scalar.cmpi .eq v2 c20_i32_28
  let v84 : BitVec 32 := Scalar.extui v83
  let c19_i32_29 : BitVec 32 := 19#32
  let v89 : BitVec 32 := Scalar.muli v84 c19_i32_29
  let v90 : BitVec 32 := Scalar.ori v82 v89
  let c23_i32_30 : BitVec 32 := 23#32
  let v91 : BitVec 1 := Scalar.cmpi .eq v2 c23_i32_30
  let v92 : BitVec 32 := Scalar.extui v91
  let c20_i32_32 : BitVec 32 := 20#32
  let v97 : BitVec 32 := Scalar.muli v92 c20_i32_32
  let v98 : BitVec 32 := Scalar.ori v90 v97
  let c31_i32_33 : BitVec 32 := 31#32
  let v99 : BitVec 1 := Scalar.cmpi .eq v2 c31_i32_33
  let v100 : BitVec 32 := Scalar.extui v99
  let c23_i32_35 : BitVec 32 := 23#32
  let v105 : BitVec 32 := Scalar.muli v100 c23_i32_35
  let v106 : BitVec 32 := Scalar.ori v98 v105
  let c28_i32_36 : BitVec 32 := 28#32
  let v107 : BitVec 1 := Scalar.cmpi .eq v2 c28_i32_36
  let v108 : BitVec 32 := Scalar.extui v107
  let c31_i32_37 : BitVec 32 := 31#32
  let v113 : BitVec 32 := Scalar.muli v108 c31_i32_37
  let v114 : BitVec 32 := Scalar.ori v106 v113
  let c27_i32_38 : BitVec 32 := 27#32
  let v115 : BitVec 1 := Scalar.cmpi .eq v2 c27_i32_38
  let v116 : BitVec 32 := Scalar.extui v115
  let c28_i32_39 : BitVec 32 := 28#32
  let v121 : BitVec 32 := Scalar.muli v116 c28_i32_39
  let v122 : BitVec 32 := Scalar.ori v114 v121
  let c24_i32_40 : BitVec 32 := 24#32
  let v123 : BitVec 1 := Scalar.cmpi .eq v2 c24_i32_40
  let v124 : BitVec 32 := Scalar.extui v123
  let c27_i32_42 : BitVec 32 := 27#32
  let v129 : BitVec 32 := Scalar.muli v124 c27_i32_42
  let v130 : BitVec 32 := Scalar.ori v122 v129
  let c25_i32_43 : BitVec 32 := 25#32
  let v131 : BitVec 1 := Scalar.cmpi .eq v2 c25_i32_43
  let v132 : BitVec 32 := Scalar.extui v131
  let c24_i32_45 : BitVec 32 := 24#32
  let v137 : BitVec 32 := Scalar.muli v132 c24_i32_45
  let v138 : BitVec 32 := Scalar.ori v130 v137
  let c26_i32_46 : BitVec 32 := 26#32
  let v139 : BitVec 1 := Scalar.cmpi .eq v2 c26_i32_46
  let v140 : BitVec 32 := Scalar.extui v139
  let c25_i32_47 : BitVec 32 := 25#32
  let v145 : BitVec 32 := Scalar.muli v140 c25_i32_47
  let v146 : BitVec 32 := Scalar.ori v138 v145
  let c29_i32_48 : BitVec 32 := 29#32
  let v147 : BitVec 1 := Scalar.cmpi .eq v2 c29_i32_48
  let v148 : BitVec 32 := Scalar.extui v147
  let c26_i32_49 : BitVec 32 := 26#32
  let v153 : BitVec 32 := Scalar.muli v148 c26_i32_49
  let v154 : BitVec 32 := Scalar.ori v146 v153
  let c30_i32_50 : BitVec 32 := 30#32
  let v155 : BitVec 1 := Scalar.cmpi .eq v2 c30_i32_50
  let v156 : BitVec 32 := Scalar.extui v155
  let c29_i32_52 : BitVec 32 := 29#32
  let v161 : BitVec 32 := Scalar.muli v156 c29_i32_52
  let v162 : BitVec 32 := Scalar.ori v154 v161
  let c22_i32_53 : BitVec 32 := 22#32
  let v163 : BitVec 1 := Scalar.cmpi .eq v2 c22_i32_53
  let v164 : BitVec 32 := Scalar.extui v163
  let c30_i32_55 : BitVec 32 := 30#32
  let v169 : BitVec 32 := Scalar.muli v164 c30_i32_55
  let v170 : BitVec 32 := Scalar.ori v162 v169
  let c21_i32_56 : BitVec 32 := 21#32
  let v171 : BitVec 1 := Scalar.cmpi .eq v2 c21_i32_56
  let v172 : BitVec 32 := Scalar.extui v171
  let c22_i32_59 : BitVec 32 := 22#32
  let v177 : BitVec 32 := Scalar.muli v172 c22_i32_59
  let v178 : BitVec 32 := Scalar.ori v170 v177
  let c18_i32_60 : BitVec 32 := 18#32
  let v179 : BitVec 1 := Scalar.cmpi .eq v2 c18_i32_60
  let v180 : BitVec 32 := Scalar.extui v179
  let c21_i32_63 : BitVec 32 := 21#32
  let v185 : BitVec 32 := Scalar.muli v180 c21_i32_63
  let v186 : BitVec 32 := Scalar.ori v178 v185
  let c17_i32_64 : BitVec 32 := 17#32
  let v187 : BitVec 1 := Scalar.cmpi .eq v2 c17_i32_64
  let v188 : BitVec 32 := Scalar.extui v187
  let c18_i32_67 : BitVec 32 := 18#32
  let v193 : BitVec 32 := Scalar.muli v188 c18_i32_67
  let v194 : BitVec 32 := Scalar.ori v186 v193
  let c9_i32_68 : BitVec 32 := 9#32
  let v195 : BitVec 1 := Scalar.cmpi .eq v2 c9_i32_68
  let v196 : BitVec 32 := Scalar.extui v195
  let c17_i32_71 : BitVec 32 := 17#32
  let v201 : BitVec 32 := Scalar.muli v196 c17_i32_71
  let v202 : BitVec 32 := Scalar.ori v194 v201
  let c10_i32_72 : BitVec 32 := 10#32
  let v203 : BitVec 1 := Scalar.cmpi .eq v2 c10_i32_72
  let v204 : BitVec 32 := Scalar.extui v203
  let c9_i32_75 : BitVec 32 := 9#32
  let v209 : BitVec 32 := Scalar.muli v204 c9_i32_75
  let v210 : BitVec 32 := Scalar.ori v202 v209
  let c13_i32_76 : BitVec 32 := 13#32
  let v211 : BitVec 1 := Scalar.cmpi .eq v2 c13_i32_76
  let v212 : BitVec 32 := Scalar.extui v211
  let c10_i32_79 : BitVec 32 := 10#32
  let v217 : BitVec 32 := Scalar.muli v212 c10_i32_79
  let v218 : BitVec 32 := Scalar.ori v210 v217
  let c14_i32_80 : BitVec 32 := 14#32
  let v219 : BitVec 1 := Scalar.cmpi .eq v2 c14_i32_80
  let v220 : BitVec 32 := Scalar.extui v219
  let c13_i32_83 : BitVec 32 := 13#32
  let v225 : BitVec 32 := Scalar.muli v220 c13_i32_83
  let v226 : BitVec 32 := Scalar.ori v218 v225
  let c6_i32_84 : BitVec 32 := 6#32
  let v227 : BitVec 1 := Scalar.cmpi .eq v2 c6_i32_84
  let v228 : BitVec 32 := Scalar.extui v227
  let c14_i32_87 : BitVec 32 := 14#32
  let v233 : BitVec 32 := Scalar.muli v228 c14_i32_87
  let v234 : BitVec 32 := Scalar.ori v226 v233
  let c5_i32_88 : BitVec 32 := 5#32
  let v235 : BitVec 1 := Scalar.cmpi .eq v2 c5_i32_88
  let v236 : BitVec 32 := Scalar.extui v235
  let c6_i32_91 : BitVec 32 := 6#32
  let v241 : BitVec 32 := Scalar.muli v236 c6_i32_91
  let v242 : BitVec 32 := Scalar.ori v234 v241
  let c2_i32_92 : BitVec 32 := 2#32
  let v243 : BitVec 1 := Scalar.cmpi .eq v2 c2_i32_92
  let v244 : BitVec 32 := Scalar.extui v243
  let c5_i32_95 : BitVec 32 := 5#32
  let v249 : BitVec 32 := Scalar.muli v244 c5_i32_95
  let v250 : BitVec 32 := Scalar.ori v242 v249
  let c1_i32_96 : BitVec 32 := 1#32
  let v251 : BitVec 1 := Scalar.cmpi .eq v2 c1_i32_96
  let v252 : BitVec 32 := Scalar.extui v251
  let c2_i32_99 : BitVec 32 := 2#32
  let v257 : BitVec 32 := Scalar.muli v252 c2_i32_99
  let v258 : BitVec 32 := Scalar.ori v250 v257
  let c1_i32_227 : BitVec 32 := 1#32
  let v440 : BitVec 32 := Scalar.muli v258 c1_i32_227
  let v441 : BitVec 32 := Scalar.addi c0_i32_228 v440
  v441.toNat
def k0_cond2 (k0_t2 : Fin k0_t2_loop.trips) : BitVec 1 :=
  let c0_i32_116 : BitVec 32 := 0#32
  let c1_i32_118 : BitVec 32 := 1#32
  let arg17 : BitVec 32 := Scf.iv c0_i32_116 c1_i32_118 k0_t2
  let c1_i32_174 : BitVec 32 := 1#32
  let v350 : BitVec 32 := Scalar.addi arg17 c1_i32_174
  let c31_i32_175 : BitVec 32 := 31#32
  let v351 : BitVec 1 := Scalar.cmpi .slt v350 c31_i32_175
  let v352 : BitVec 32 := Scalar.extui v351
  let c0_i32_176 : BitVec 32 := 0#32
  let v353 : BitVec 1 := Scalar.cmpi .ne v352 c0_i32_176
  v353

def k0_cond3 (k0_t2 : Fin k0_t2_loop.trips) (k0_t3 : Fin k0_t3_loop.trips) : BitVec 1 :=
  let c8_i32_227 : BitVec 32 := 8#32
  let c0_i32_116 : BitVec 32 := 0#32
  let c1_i32_118 : BitVec 32 := 1#32
  let arg17 : BitVec 32 := Scf.iv c0_i32_116 c1_i32_118 k0_t2
  let c1_i32_226 : BitVec 32 := 1#32
  let v440 : BitVec 32 := Scalar.addi arg17 c1_i32_226
  let v441 : BitVec 32 := Scalar.muli c8_i32_227 v440
  let c0_i32_132 : BitVec 32 := 0#32
  let c1_i32_134 : BitVec 32 := 1#32
  let arg18 : BitVec 32 := Scf.iv c0_i32_132 c1_i32_134 k0_t3
  let v442 : BitVec 32 := Scalar.addi v441 arg18
  let c16_i32_228 : BitVec 32 := 16#32
  let v443 : BitVec 1 := Scalar.cmpi .sge v442 c16_i32_228
  let v444 : BitVec 32 := Scalar.extui v443
  let c0_i32_229 : BitVec 32 := 0#32
  let v445 : BitVec 1 := Scalar.cmpi .ne v444 c0_i32_229
  v445

def k0_off10 (k0_t2 : Fin k0_t2_loop.trips) (k0_t3 : Fin k0_t3_loop.trips) : Fin 1 → Nat :=
  let c8_i32_253 : BitVec 32 := 8#32
  let c0_i32_116 : BitVec 32 := 0#32
  let c1_i32_118 : BitVec 32 := 1#32
  let arg17 : BitVec 32 := Scf.iv c0_i32_116 c1_i32_118 k0_t2
  let c1_i32_226 : BitVec 32 := 1#32
  let v440 : BitVec 32 := Scalar.addi arg17 c1_i32_226
  let c2_i32_252 : BitVec 32 := 2#32
  let v481 : BitVec 32 := Scalar.subi v440 c2_i32_252
  let v482 : BitVec 32 := Scalar.muli c8_i32_253 v481
  let c0_i32_132 : BitVec 32 := 0#32
  let c1_i32_134 : BitVec 32 := 1#32
  let arg18 : BitVec 32 := Scf.iv c0_i32_132 c1_i32_134 k0_t3
  let v483 : BitVec 32 := Scalar.addi v482 arg18
  let c16_i32_254 : BitVec 32 := 16#32
  let c0_i32_255 : BitVec 32 := 0#32
  let v484 : BitVec 1 := Scalar.cmpi .eq c16_i32_254 c0_i32_255
  let c1_i32_256 : BitVec 32 := 1#32
  let v485 : BitVec 32 := Scalar.select v484 c1_i32_256 c16_i32_254
  let v486 : BitVec 32 := Scalar.remsi v483 v485
  let c0_i32_258 : BitVec 32 := 0#32
  let v488 : BitVec 1 := Scalar.cmpi .slt v486 c0_i32_258
  let c0_i32_259 : BitVec 32 := 0#32
  let v489 : BitVec 1 := Scalar.cmpi .slt v485 c0_i32_259
  let v490 : BitVec 1 := Scalar.xori v488 v489
  let c0_i32_257 : BitVec 32 := 0#32
  let v487 : BitVec 1 := Scalar.cmpi .ne v486 c0_i32_257
  let v491 : BitVec 1 := Scalar.andi v490 v487
  let v492 : BitVec 32 := Scalar.addi v486 v485
  let v493 : BitVec 32 := Scalar.select v491 v492 v486
  ![v493.toNat]
def k0_off11 (d0 : Dev nD) (k0_t2 : Fin k0_t2_loop.trips) (k0_t3 : Fin k0_t3_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c0_i32_116 : BitVec 32 := 0#32
  let c1_i32_118 : BitVec 32 := 1#32
  let arg17 : BitVec 32 := Scf.iv c0_i32_116 c1_i32_118 k0_t2
  let c1_i32_226 : BitVec 32 := 1#32
  let v440 : BitVec 32 := Scalar.addi arg17 c1_i32_226
  let c2_i32_252 : BitVec 32 := 2#32
  let v481 : BitVec 32 := Scalar.subi v440 c2_i32_252
  let v494 : BitVec 32 := Scalar.subi v254 v481
  let c32_i32_260 : BitVec 32 := 32#32
  let c0_i32_261 : BitVec 32 := 0#32
  let v495 : BitVec 1 := Scalar.cmpi .eq c32_i32_260 c0_i32_261
  let c1_i32_262 : BitVec 32 := 1#32
  let v496 : BitVec 32 := Scalar.select v495 c1_i32_262 c32_i32_260
  let v497 : BitVec 32 := Scalar.remsi v494 v496
  let c0_i32_264 : BitVec 32 := 0#32
  let v499 : BitVec 1 := Scalar.cmpi .slt v497 c0_i32_264
  let c0_i32_265 : BitVec 32 := 0#32
  let v500 : BitVec 1 := Scalar.cmpi .slt v496 c0_i32_265
  let v501 : BitVec 1 := Scalar.xori v499 v500
  let c0_i32_263 : BitVec 32 := 0#32
  let v498 : BitVec 1 := Scalar.cmpi .ne v497 c0_i32_263
  let v502 : BitVec 1 := Scalar.andi v501 v498
  let v503 : BitVec 32 := Scalar.addi v497 v496
  let v504 : BitVec 32 := Scalar.select v502 v503 v497
  let c64_i32_266 : BitVec 32 := 64#32
  let v505 : BitVec 32 := Scalar.muli v504 c64_i32_266
  let c0_i32_268 : BitVec 32 := 0#32
  let c0_i32_132 : BitVec 32 := 0#32
  let c1_i32_134 : BitVec 32 := 1#32
  let arg18 : BitVec 32 := Scf.iv c0_i32_132 c1_i32_134 k0_t3
  let c128_i32_267 : BitVec 32 := 128#32
  let v506 : BitVec 32 := Scalar.muli arg18 c128_i32_267
  let v507 : BitVec 32 := Scalar.addi c0_i32_268 v506
  ![v505.toNat, v507.toNat]
def k0_off12 (k0_t2 : Fin k0_t2_loop.trips) (k0_t3 : Fin k0_t3_loop.trips) : Fin 3 → Nat :=
  let c8_i32_253 : BitVec 32 := 8#32
  let c0_i32_116 : BitVec 32 := 0#32
  let c1_i32_118 : BitVec 32 := 1#32
  let arg17 : BitVec 32 := Scf.iv c0_i32_116 c1_i32_118 k0_t2
  let c1_i32_226 : BitVec 32 := 1#32
  let v440 : BitVec 32 := Scalar.addi arg17 c1_i32_226
  let c2_i32_252 : BitVec 32 := 2#32
  let v481 : BitVec 32 := Scalar.subi v440 c2_i32_252
  let v482 : BitVec 32 := Scalar.muli c8_i32_253 v481
  let c0_i32_132 : BitVec 32 := 0#32
  let c1_i32_134 : BitVec 32 := 1#32
  let arg18 : BitVec 32 := Scf.iv c0_i32_132 c1_i32_134 k0_t3
  let v483 : BitVec 32 := Scalar.addi v482 arg18
  let c16_i32_254 : BitVec 32 := 16#32
  let c0_i32_255 : BitVec 32 := 0#32
  let v484 : BitVec 1 := Scalar.cmpi .eq c16_i32_254 c0_i32_255
  let c1_i32_256 : BitVec 32 := 1#32
  let v485 : BitVec 32 := Scalar.select v484 c1_i32_256 c16_i32_254
  let v486 : BitVec 32 := Scalar.remsi v483 v485
  let c0_i32_258 : BitVec 32 := 0#32
  let v488 : BitVec 1 := Scalar.cmpi .slt v486 c0_i32_258
  let c0_i32_259 : BitVec 32 := 0#32
  let v489 : BitVec 1 := Scalar.cmpi .slt v485 c0_i32_259
  let v490 : BitVec 1 := Scalar.xori v488 v489
  let c0_i32_257 : BitVec 32 := 0#32
  let v487 : BitVec 1 := Scalar.cmpi .ne v486 c0_i32_257
  let v491 : BitVec 1 := Scalar.andi v490 v487
  let v492 : BitVec 32 := Scalar.addi v486 v485
  let v493 : BitVec 32 := Scalar.select v491 v492 v486
  let c0_i32_270 : BitVec 32 := 0#32
  let c0_i32_271 : BitVec 32 := 0#32
  ![v493.toNat, 0, 0]
def k0_off13 (k0_t2 : Fin k0_t2_loop.trips) (k0_t3 : Fin k0_t3_loop.trips) : Fin 1 → Nat :=
  let c8_i32_230 : BitVec 32 := 8#32
  let c0_i32_116 : BitVec 32 := 0#32
  let c1_i32_118 : BitVec 32 := 1#32
  let arg17 : BitVec 32 := Scf.iv c0_i32_116 c1_i32_118 k0_t2
  let c1_i32_226 : BitVec 32 := 1#32
  let v440 : BitVec 32 := Scalar.addi arg17 c1_i32_226
  let v446 : BitVec 32 := Scalar.muli c8_i32_230 v440
  let c0_i32_132 : BitVec 32 := 0#32
  let c1_i32_134 : BitVec 32 := 1#32
  let arg18 : BitVec 32 := Scf.iv c0_i32_132 c1_i32_134 k0_t3
  let v447 : BitVec 32 := Scalar.addi v446 arg18
  let c16_i32_231 : BitVec 32 := 16#32
  let c0_i32_232 : BitVec 32 := 0#32
  let v448 : BitVec 1 := Scalar.cmpi .eq c16_i32_231 c0_i32_232
  let c1_i32_233 : BitVec 32 := 1#32
  let v449 : BitVec 32 := Scalar.select v448 c1_i32_233 c16_i32_231
  let v450 : BitVec 32 := Scalar.remsi v447 v449
  let c0_i32_235 : BitVec 32 := 0#32
  let v452 : BitVec 1 := Scalar.cmpi .slt v450 c0_i32_235
  let c0_i32_236 : BitVec 32 := 0#32
  let v453 : BitVec 1 := Scalar.cmpi .slt v449 c0_i32_236
  let v454 : BitVec 1 := Scalar.xori v452 v453
  let c0_i32_234 : BitVec 32 := 0#32
  let v451 : BitVec 1 := Scalar.cmpi .ne v450 c0_i32_234
  let v455 : BitVec 1 := Scalar.andi v454 v451
  let v456 : BitVec 32 := Scalar.addi v450 v449
  let v457 : BitVec 32 := Scalar.select v455 v456 v450
  ![v457.toNat]
def k0_off14 (k0_t2 : Fin k0_t2_loop.trips) (k0_t3 : Fin k0_t3_loop.trips) : Fin 3 → Nat :=
  let c8_i32_230 : BitVec 32 := 8#32
  let c0_i32_116 : BitVec 32 := 0#32
  let c1_i32_118 : BitVec 32 := 1#32
  let arg17 : BitVec 32 := Scf.iv c0_i32_116 c1_i32_118 k0_t2
  let c1_i32_226 : BitVec 32 := 1#32
  let v440 : BitVec 32 := Scalar.addi arg17 c1_i32_226
  let v446 : BitVec 32 := Scalar.muli c8_i32_230 v440
  let c0_i32_132 : BitVec 32 := 0#32
  let c1_i32_134 : BitVec 32 := 1#32
  let arg18 : BitVec 32 := Scf.iv c0_i32_132 c1_i32_134 k0_t3
  let v447 : BitVec 32 := Scalar.addi v446 arg18
  let c16_i32_231 : BitVec 32 := 16#32
  let c0_i32_232 : BitVec 32 := 0#32
  let v448 : BitVec 1 := Scalar.cmpi .eq c16_i32_231 c0_i32_232
  let c1_i32_233 : BitVec 32 := 1#32
  let v449 : BitVec 32 := Scalar.select v448 c1_i32_233 c16_i32_231
  let v450 : BitVec 32 := Scalar.remsi v447 v449
  let c0_i32_235 : BitVec 32 := 0#32
  let v452 : BitVec 1 := Scalar.cmpi .slt v450 c0_i32_235
  let c0_i32_236 : BitVec 32 := 0#32
  let v453 : BitVec 1 := Scalar.cmpi .slt v449 c0_i32_236
  let v454 : BitVec 1 := Scalar.xori v452 v453
  let c0_i32_234 : BitVec 32 := 0#32
  let v451 : BitVec 1 := Scalar.cmpi .ne v450 c0_i32_234
  let v455 : BitVec 1 := Scalar.andi v454 v451
  let v456 : BitVec 32 := Scalar.addi v450 v449
  let v457 : BitVec 32 := Scalar.select v455 v456 v450
  let c0_i32_248 : BitVec 32 := 0#32
  let c0_i32_249 : BitVec 32 := 0#32
  ![v457.toNat, 0, 0]
def k0_off15 (d0 : Dev nD) (k0_t2 : Fin k0_t2_loop.trips) (k0_t3 : Fin k0_t3_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c0_i32_116 : BitVec 32 := 0#32
  let c1_i32_118 : BitVec 32 := 1#32
  let arg17 : BitVec 32 := Scf.iv c0_i32_116 c1_i32_118 k0_t2
  let c1_i32_226 : BitVec 32 := 1#32
  let v440 : BitVec 32 := Scalar.addi arg17 c1_i32_226
  let v458 : BitVec 32 := Scalar.subi v254 v440
  let c32_i32_237 : BitVec 32 := 32#32
  let c0_i32_238 : BitVec 32 := 0#32
  let v459 : BitVec 1 := Scalar.cmpi .eq c32_i32_237 c0_i32_238
  let c1_i32_239 : BitVec 32 := 1#32
  let v460 : BitVec 32 := Scalar.select v459 c1_i32_239 c32_i32_237
  let v461 : BitVec 32 := Scalar.remsi v458 v460
  let c0_i32_241 : BitVec 32 := 0#32
  let v463 : BitVec 1 := Scalar.cmpi .slt v461 c0_i32_241
  let c0_i32_242 : BitVec 32 := 0#32
  let v464 : BitVec 1 := Scalar.cmpi .slt v460 c0_i32_242
  let v465 : BitVec 1 := Scalar.xori v463 v464
  let c0_i32_240 : BitVec 32 := 0#32
  let v462 : BitVec 1 := Scalar.cmpi .ne v461 c0_i32_240
  let v466 : BitVec 1 := Scalar.andi v465 v462
  let v467 : BitVec 32 := Scalar.addi v461 v460
  let v468 : BitVec 32 := Scalar.select v466 v467 v461
  let c64_i32_243 : BitVec 32 := 64#32
  let v469 : BitVec 32 := Scalar.muli v468 c64_i32_243
  let c0_i32_245 : BitVec 32 := 0#32
  let c0_i32_132 : BitVec 32 := 0#32
  let c1_i32_134 : BitVec 32 := 1#32
  let arg18 : BitVec 32 := Scf.iv c0_i32_132 c1_i32_134 k0_t3
  let c128_i32_244 : BitVec 32 := 128#32
  let v470 : BitVec 32 := Scalar.muli arg18 c128_i32_244
  let v471 : BitVec 32 := Scalar.addi c0_i32_245 v470
  ![v469.toNat, v471.toNat]
def k0_dev6 (d0 : Dev nD) : Nat :=
  let c0_i32_247 : BitVec 32 := 0#32
  let c0_i32_2 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c3_i32 : BitVec 32 := 3#32
  let v7 : BitVec 32 := Scalar.muli v4 c3_i32
  let v8 : BitVec 32 := Scalar.ori c0_i32_2 v7
  let c3_i32_5 : BitVec 32 := 3#32
  let v11 : BitVec 1 := Scalar.cmpi .eq v2 c3_i32_5
  let v12 : BitVec 32 := Scalar.extui v11
  let c4_i32 : BitVec 32 := 4#32
  let v15 : BitVec 32 := Scalar.muli v12 c4_i32
  let v16 : BitVec 32 := Scalar.ori v8 v15
  let c4_i32_8 : BitVec 32 := 4#32
  let v19 : BitVec 1 := Scalar.cmpi .eq v2 c4_i32_8
  let v20 : BitVec 32 := Scalar.extui v19
  let c7_i32 : BitVec 32 := 7#32
  let v23 : BitVec 32 := Scalar.muli v20 c7_i32
  let v24 : BitVec 32 := Scalar.ori v16 v23
  let c7_i32_10 : BitVec 32 := 7#32
  let v27 : BitVec 1 := Scalar.cmpi .eq v2 c7_i32_10
  let v28 : BitVec 32 := Scalar.extui v27
  let c15_i32 : BitVec 32 := 15#32
  let v31 : BitVec 32 := Scalar.muli v28 c15_i32
  let v32 : BitVec 32 := Scalar.ori v24 v31
  let c15_i32_13 : BitVec 32 := 15#32
  let v35 : BitVec 1 := Scalar.cmpi .eq v2 c15_i32_13
  let v36 : BitVec 32 := Scalar.extui v35
  let c12_i32 : BitVec 32 := 12#32
  let v39 : BitVec 32 := Scalar.muli v36 c12_i32
  let v40 : BitVec 32 := Scalar.ori v32 v39
  let c12_i32_16 : BitVec 32 := 12#32
  let v43 : BitVec 1 := Scalar.cmpi .eq v2 c12_i32_16
  let v44 : BitVec 32 := Scalar.extui v43
  let c11_i32 : BitVec 32 := 11#32
  let v47 : BitVec 32 := Scalar.muli v44 c11_i32
  let v48 : BitVec 32 := Scalar.ori v40 v47
  let c11_i32_18 : BitVec 32 := 11#32
  let v51 : BitVec 1 := Scalar.cmpi .eq v2 c11_i32_18
  let v52 : BitVec 32 := Scalar.extui v51
  let c8_i32 : BitVec 32 := 8#32
  let v55 : BitVec 32 := Scalar.muli v52 c8_i32
  let v56 : BitVec 32 := Scalar.ori v48 v55
  let c8_i32_20 : BitVec 32 := 8#32
  let v59 : BitVec 1 := Scalar.cmpi .eq v2 c8_i32_20
  let v60 : BitVec 32 := Scalar.extui v59
  let c16_i32 : BitVec 32 := 16#32
  let v63 : BitVec 32 := Scalar.muli v60 c16_i32
  let v64 : BitVec 32 := Scalar.ori v56 v63
  let c16_i32_23 : BitVec 32 := 16#32
  let v67 : BitVec 1 := Scalar.cmpi .eq v2 c16_i32_23
  let v68 : BitVec 32 := Scalar.extui v67
  let c19_i32 : BitVec 32 := 19#32
  let v71 : BitVec 32 := Scalar.muli v68 c19_i32
  let v72 : BitVec 32 := Scalar.ori v64 v71
  let c19_i32_26 : BitVec 32 := 19#32
  let v75 : BitVec 1 := Scalar.cmpi .eq v2 c19_i32_26
  let v76 : BitVec 32 := Scalar.extui v75
  let c20_i32 : BitVec 32 := 20#32
  let v79 : BitVec 32 := Scalar.muli v76 c20_i32
  let v80 : BitVec 32 := Scalar.ori v72 v79
  let c20_i32_28 : BitVec 32 := 20#32
  let v83 : BitVec 1 := Scalar.cmpi .eq v2 c20_i32_28
  let v84 : BitVec 32 := Scalar.extui v83
  let c23_i32 : BitVec 32 := 23#32
  let v87 : BitVec 32 := Scalar.muli v84 c23_i32
  let v88 : BitVec 32 := Scalar.ori v80 v87
  let c23_i32_30 : BitVec 32 := 23#32
  let v91 : BitVec 1 := Scalar.cmpi .eq v2 c23_i32_30
  let v92 : BitVec 32 := Scalar.extui v91
  let c31_i32 : BitVec 32 := 31#32
  let v95 : BitVec 32 := Scalar.muli v92 c31_i32
  let v96 : BitVec 32 := Scalar.ori v88 v95
  let c31_i32_33 : BitVec 32 := 31#32
  let v99 : BitVec 1 := Scalar.cmpi .eq v2 c31_i32_33
  let v100 : BitVec 32 := Scalar.extui v99
  let c28_i32 : BitVec 32 := 28#32
  let v103 : BitVec 32 := Scalar.muli v100 c28_i32
  let v104 : BitVec 32 := Scalar.ori v96 v103
  let c28_i32_36 : BitVec 32 := 28#32
  let v107 : BitVec 1 := Scalar.cmpi .eq v2 c28_i32_36
  let v108 : BitVec 32 := Scalar.extui v107
  let c27_i32 : BitVec 32 := 27#32
  let v111 : BitVec 32 := Scalar.muli v108 c27_i32
  let v112 : BitVec 32 := Scalar.ori v104 v111
  let c27_i32_38 : BitVec 32 := 27#32
  let v115 : BitVec 1 := Scalar.cmpi .eq v2 c27_i32_38
  let v116 : BitVec 32 := Scalar.extui v115
  let c24_i32 : BitVec 32 := 24#32
  let v119 : BitVec 32 := Scalar.muli v116 c24_i32
  let v120 : BitVec 32 := Scalar.ori v112 v119
  let c24_i32_40 : BitVec 32 := 24#32
  let v123 : BitVec 1 := Scalar.cmpi .eq v2 c24_i32_40
  let v124 : BitVec 32 := Scalar.extui v123
  let c25_i32 : BitVec 32 := 25#32
  let v127 : BitVec 32 := Scalar.muli v124 c25_i32
  let v128 : BitVec 32 := Scalar.ori v120 v127
  let c25_i32_43 : BitVec 32 := 25#32
  let v131 : BitVec 1 := Scalar.cmpi .eq v2 c25_i32_43
  let v132 : BitVec 32 := Scalar.extui v131
  let c26_i32 : BitVec 32 := 26#32
  let v135 : BitVec 32 := Scalar.muli v132 c26_i32
  let v136 : BitVec 32 := Scalar.ori v128 v135
  let c26_i32_46 : BitVec 32 := 26#32
  let v139 : BitVec 1 := Scalar.cmpi .eq v2 c26_i32_46
  let v140 : BitVec 32 := Scalar.extui v139
  let c29_i32 : BitVec 32 := 29#32
  let v143 : BitVec 32 := Scalar.muli v140 c29_i32
  let v144 : BitVec 32 := Scalar.ori v136 v143
  let c29_i32_48 : BitVec 32 := 29#32
  let v147 : BitVec 1 := Scalar.cmpi .eq v2 c29_i32_48
  let v148 : BitVec 32 := Scalar.extui v147
  let c30_i32 : BitVec 32 := 30#32
  let v151 : BitVec 32 := Scalar.muli v148 c30_i32
  let v152 : BitVec 32 := Scalar.ori v144 v151
  let c30_i32_50 : BitVec 32 := 30#32
  let v155 : BitVec 1 := Scalar.cmpi .eq v2 c30_i32_50
  let v156 : BitVec 32 := Scalar.extui v155
  let c22_i32 : BitVec 32 := 22#32
  let v159 : BitVec 32 := Scalar.muli v156 c22_i32
  let v160 : BitVec 32 := Scalar.ori v152 v159
  let c22_i32_53 : BitVec 32 := 22#32
  let v163 : BitVec 1 := Scalar.cmpi .eq v2 c22_i32_53
  let v164 : BitVec 32 := Scalar.extui v163
  let c21_i32 : BitVec 32 := 21#32
  let v167 : BitVec 32 := Scalar.muli v164 c21_i32
  let v168 : BitVec 32 := Scalar.ori v160 v167
  let c21_i32_56 : BitVec 32 := 21#32
  let v171 : BitVec 1 := Scalar.cmpi .eq v2 c21_i32_56
  let v172 : BitVec 32 := Scalar.extui v171
  let c18_i32_58 : BitVec 32 := 18#32
  let v175 : BitVec 32 := Scalar.muli v172 c18_i32_58
  let v176 : BitVec 32 := Scalar.ori v168 v175
  let c18_i32_60 : BitVec 32 := 18#32
  let v179 : BitVec 1 := Scalar.cmpi .eq v2 c18_i32_60
  let v180 : BitVec 32 := Scalar.extui v179
  let c17_i32_62 : BitVec 32 := 17#32
  let v183 : BitVec 32 := Scalar.muli v180 c17_i32_62
  let v184 : BitVec 32 := Scalar.ori v176 v183
  let c17_i32_64 : BitVec 32 := 17#32
  let v187 : BitVec 1 := Scalar.cmpi .eq v2 c17_i32_64
  let v188 : BitVec 32 := Scalar.extui v187
  let c9_i32_66 : BitVec 32 := 9#32
  let v191 : BitVec 32 := Scalar.muli v188 c9_i32_66
  let v192 : BitVec 32 := Scalar.ori v184 v191
  let c9_i32_68 : BitVec 32 := 9#32
  let v195 : BitVec 1 := Scalar.cmpi .eq v2 c9_i32_68
  let v196 : BitVec 32 := Scalar.extui v195
  let c10_i32_70 : BitVec 32 := 10#32
  let v199 : BitVec 32 := Scalar.muli v196 c10_i32_70
  let v200 : BitVec 32 := Scalar.ori v192 v199
  let c10_i32_72 : BitVec 32 := 10#32
  let v203 : BitVec 1 := Scalar.cmpi .eq v2 c10_i32_72
  let v204 : BitVec 32 := Scalar.extui v203
  let c13_i32_74 : BitVec 32 := 13#32
  let v207 : BitVec 32 := Scalar.muli v204 c13_i32_74
  let v208 : BitVec 32 := Scalar.ori v200 v207
  let c13_i32_76 : BitVec 32 := 13#32
  let v211 : BitVec 1 := Scalar.cmpi .eq v2 c13_i32_76
  let v212 : BitVec 32 := Scalar.extui v211
  let c14_i32_78 : BitVec 32 := 14#32
  let v215 : BitVec 32 := Scalar.muli v212 c14_i32_78
  let v216 : BitVec 32 := Scalar.ori v208 v215
  let c14_i32_80 : BitVec 32 := 14#32
  let v219 : BitVec 1 := Scalar.cmpi .eq v2 c14_i32_80
  let v220 : BitVec 32 := Scalar.extui v219
  let c6_i32_82 : BitVec 32 := 6#32
  let v223 : BitVec 32 := Scalar.muli v220 c6_i32_82
  let v224 : BitVec 32 := Scalar.ori v216 v223
  let c6_i32_84 : BitVec 32 := 6#32
  let v227 : BitVec 1 := Scalar.cmpi .eq v2 c6_i32_84
  let v228 : BitVec 32 := Scalar.extui v227
  let c5_i32_86 : BitVec 32 := 5#32
  let v231 : BitVec 32 := Scalar.muli v228 c5_i32_86
  let v232 : BitVec 32 := Scalar.ori v224 v231
  let c5_i32_88 : BitVec 32 := 5#32
  let v235 : BitVec 1 := Scalar.cmpi .eq v2 c5_i32_88
  let v236 : BitVec 32 := Scalar.extui v235
  let c2_i32_90 : BitVec 32 := 2#32
  let v239 : BitVec 32 := Scalar.muli v236 c2_i32_90
  let v240 : BitVec 32 := Scalar.ori v232 v239
  let c2_i32_92 : BitVec 32 := 2#32
  let v243 : BitVec 1 := Scalar.cmpi .eq v2 c2_i32_92
  let v244 : BitVec 32 := Scalar.extui v243
  let c1_i32_94 : BitVec 32 := 1#32
  let v247 : BitVec 32 := Scalar.muli v244 c1_i32_94
  let v248 : BitVec 32 := Scalar.ori v240 v247
  let c1_i32_96 : BitVec 32 := 1#32
  let v251 : BitVec 1 := Scalar.cmpi .eq v2 c1_i32_96
  let v252 : BitVec 32 := Scalar.extui v251
  let c0_i32_98 : BitVec 32 := 0#32
  let v255 : BitVec 32 := Scalar.muli v252 c0_i32_98
  let v256 : BitVec 32 := Scalar.ori v248 v255
  let c1_i32_246 : BitVec 32 := 1#32
  let v472 : BitVec 32 := Scalar.muli v256 c1_i32_246
  let v473 : BitVec 32 := Scalar.addi c0_i32_247 v472
  v473.toNat
def k0_cond4 (k0_t2 : Fin k0_t2_loop.trips) : BitVec 1 :=
  let c0_i32_116 : BitVec 32 := 0#32
  let c1_i32_118 : BitVec 32 := 1#32
  let arg17 : BitVec 32 := Scf.iv c0_i32_116 c1_i32_118 k0_t2
  let c1_i32_177 : BitVec 32 := 1#32
  let v354 : BitVec 32 := Scalar.addi arg17 c1_i32_177
  let c31_i32_178 : BitVec 32 := 31#32
  let v355 : BitVec 1 := Scalar.cmpi .sge v354 c31_i32_178
  let v356 : BitVec 32 := Scalar.extui v355
  let c0_i32_179 : BitVec 32 := 0#32
  let v357 : BitVec 1 := Scalar.cmpi .ne v356 c0_i32_179
  v357

def k0_off16 (k0_t3 : Fin k0_t3_loop.trips) : Fin 1 → Nat :=
  let c0_i32_226 : BitVec 32 := 0#32
  let c0_i32_132 : BitVec 32 := 0#32
  let c1_i32_134 : BitVec 32 := 1#32
  let arg18 : BitVec 32 := Scf.iv c0_i32_132 c1_i32_134 k0_t3
  let v440 : BitVec 32 := Scalar.addi c0_i32_226 arg18
  let c16_i32_227 : BitVec 32 := 16#32
  let c0_i32_228 : BitVec 32 := 0#32
  let v441 : BitVec 1 := Scalar.cmpi .eq c16_i32_227 c0_i32_228
  let c1_i32_229 : BitVec 32 := 1#32
  let v442 : BitVec 32 := Scalar.select v441 c1_i32_229 c16_i32_227
  let v443 : BitVec 32 := Scalar.remsi v440 v442
  let c0_i32_231 : BitVec 32 := 0#32
  let v445 : BitVec 1 := Scalar.cmpi .slt v443 c0_i32_231
  let c0_i32_232 : BitVec 32 := 0#32
  let v446 : BitVec 1 := Scalar.cmpi .slt v442 c0_i32_232
  let v447 : BitVec 1 := Scalar.xori v445 v446
  let c0_i32_230 : BitVec 32 := 0#32
  let v444 : BitVec 1 := Scalar.cmpi .ne v443 c0_i32_230
  let v448 : BitVec 1 := Scalar.andi v447 v444
  let v449 : BitVec 32 := Scalar.addi v443 v442
  let v450 : BitVec 32 := Scalar.select v448 v449 v443
  ![v450.toNat]
def k0_off17 (d0 : Dev nD) (k0_t3 : Fin k0_t3_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c1_i32_233 : BitVec 32 := 1#32
  let v451 : BitVec 32 := Scalar.addi v254 c1_i32_233
  let c0_i32_234 : BitVec 32 := 0#32
  let v452 : BitVec 32 := Scalar.subi v451 c0_i32_234
  let c32_i32_235 : BitVec 32 := 32#32
  let c0_i32_236 : BitVec 32 := 0#32
  let v453 : BitVec 1 := Scalar.cmpi .eq c32_i32_235 c0_i32_236
  let c1_i32_237 : BitVec 32 := 1#32
  let v454 : BitVec 32 := Scalar.select v453 c1_i32_237 c32_i32_235
  let v455 : BitVec 32 := Scalar.remsi v452 v454
  let c0_i32_239 : BitVec 32 := 0#32
  let v457 : BitVec 1 := Scalar.cmpi .slt v455 c0_i32_239
  let c0_i32_240 : BitVec 32 := 0#32
  let v458 : BitVec 1 := Scalar.cmpi .slt v454 c0_i32_240
  let v459 : BitVec 1 := Scalar.xori v457 v458
  let c0_i32_238 : BitVec 32 := 0#32
  let v456 : BitVec 1 := Scalar.cmpi .ne v455 c0_i32_238
  let v460 : BitVec 1 := Scalar.andi v459 v456
  let v461 : BitVec 32 := Scalar.addi v455 v454
  let v462 : BitVec 32 := Scalar.select v460 v461 v455
  let c64_i32_241 : BitVec 32 := 64#32
  let v463 : BitVec 32 := Scalar.muli v462 c64_i32_241
  let c0_i32_243 : BitVec 32 := 0#32
  let c0_i32_132 : BitVec 32 := 0#32
  let c1_i32_134 : BitVec 32 := 1#32
  let arg18 : BitVec 32 := Scf.iv c0_i32_132 c1_i32_134 k0_t3
  let c128_i32_242 : BitVec 32 := 128#32
  let v464 : BitVec 32 := Scalar.muli arg18 c128_i32_242
  let v465 : BitVec 32 := Scalar.addi c0_i32_243 v464
  ![v463.toNat, v465.toNat]
def k0_dev7 (d0 : Dev nD) : Nat :=
  let c0_i32_245 : BitVec 32 := 0#32
  let c0_i32_2 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c3_i32 : BitVec 32 := 3#32
  let v7 : BitVec 32 := Scalar.muli v4 c3_i32
  let v8 : BitVec 32 := Scalar.ori c0_i32_2 v7
  let c3_i32_5 : BitVec 32 := 3#32
  let v11 : BitVec 1 := Scalar.cmpi .eq v2 c3_i32_5
  let v12 : BitVec 32 := Scalar.extui v11
  let c4_i32 : BitVec 32 := 4#32
  let v15 : BitVec 32 := Scalar.muli v12 c4_i32
  let v16 : BitVec 32 := Scalar.ori v8 v15
  let c4_i32_8 : BitVec 32 := 4#32
  let v19 : BitVec 1 := Scalar.cmpi .eq v2 c4_i32_8
  let v20 : BitVec 32 := Scalar.extui v19
  let c7_i32 : BitVec 32 := 7#32
  let v23 : BitVec 32 := Scalar.muli v20 c7_i32
  let v24 : BitVec 32 := Scalar.ori v16 v23
  let c7_i32_10 : BitVec 32 := 7#32
  let v27 : BitVec 1 := Scalar.cmpi .eq v2 c7_i32_10
  let v28 : BitVec 32 := Scalar.extui v27
  let c15_i32 : BitVec 32 := 15#32
  let v31 : BitVec 32 := Scalar.muli v28 c15_i32
  let v32 : BitVec 32 := Scalar.ori v24 v31
  let c15_i32_13 : BitVec 32 := 15#32
  let v35 : BitVec 1 := Scalar.cmpi .eq v2 c15_i32_13
  let v36 : BitVec 32 := Scalar.extui v35
  let c12_i32 : BitVec 32 := 12#32
  let v39 : BitVec 32 := Scalar.muli v36 c12_i32
  let v40 : BitVec 32 := Scalar.ori v32 v39
  let c12_i32_16 : BitVec 32 := 12#32
  let v43 : BitVec 1 := Scalar.cmpi .eq v2 c12_i32_16
  let v44 : BitVec 32 := Scalar.extui v43
  let c11_i32 : BitVec 32 := 11#32
  let v47 : BitVec 32 := Scalar.muli v44 c11_i32
  let v48 : BitVec 32 := Scalar.ori v40 v47
  let c11_i32_18 : BitVec 32 := 11#32
  let v51 : BitVec 1 := Scalar.cmpi .eq v2 c11_i32_18
  let v52 : BitVec 32 := Scalar.extui v51
  let c8_i32 : BitVec 32 := 8#32
  let v55 : BitVec 32 := Scalar.muli v52 c8_i32
  let v56 : BitVec 32 := Scalar.ori v48 v55
  let c8_i32_20 : BitVec 32 := 8#32
  let v59 : BitVec 1 := Scalar.cmpi .eq v2 c8_i32_20
  let v60 : BitVec 32 := Scalar.extui v59
  let c16_i32 : BitVec 32 := 16#32
  let v63 : BitVec 32 := Scalar.muli v60 c16_i32
  let v64 : BitVec 32 := Scalar.ori v56 v63
  let c16_i32_23 : BitVec 32 := 16#32
  let v67 : BitVec 1 := Scalar.cmpi .eq v2 c16_i32_23
  let v68 : BitVec 32 := Scalar.extui v67
  let c19_i32 : BitVec 32 := 19#32
  let v71 : BitVec 32 := Scalar.muli v68 c19_i32
  let v72 : BitVec 32 := Scalar.ori v64 v71
  let c19_i32_26 : BitVec 32 := 19#32
  let v75 : BitVec 1 := Scalar.cmpi .eq v2 c19_i32_26
  let v76 : BitVec 32 := Scalar.extui v75
  let c20_i32 : BitVec 32 := 20#32
  let v79 : BitVec 32 := Scalar.muli v76 c20_i32
  let v80 : BitVec 32 := Scalar.ori v72 v79
  let c20_i32_28 : BitVec 32 := 20#32
  let v83 : BitVec 1 := Scalar.cmpi .eq v2 c20_i32_28
  let v84 : BitVec 32 := Scalar.extui v83
  let c23_i32 : BitVec 32 := 23#32
  let v87 : BitVec 32 := Scalar.muli v84 c23_i32
  let v88 : BitVec 32 := Scalar.ori v80 v87
  let c23_i32_30 : BitVec 32 := 23#32
  let v91 : BitVec 1 := Scalar.cmpi .eq v2 c23_i32_30
  let v92 : BitVec 32 := Scalar.extui v91
  let c31_i32 : BitVec 32 := 31#32
  let v95 : BitVec 32 := Scalar.muli v92 c31_i32
  let v96 : BitVec 32 := Scalar.ori v88 v95
  let c31_i32_33 : BitVec 32 := 31#32
  let v99 : BitVec 1 := Scalar.cmpi .eq v2 c31_i32_33
  let v100 : BitVec 32 := Scalar.extui v99
  let c28_i32 : BitVec 32 := 28#32
  let v103 : BitVec 32 := Scalar.muli v100 c28_i32
  let v104 : BitVec 32 := Scalar.ori v96 v103
  let c28_i32_36 : BitVec 32 := 28#32
  let v107 : BitVec 1 := Scalar.cmpi .eq v2 c28_i32_36
  let v108 : BitVec 32 := Scalar.extui v107
  let c27_i32 : BitVec 32 := 27#32
  let v111 : BitVec 32 := Scalar.muli v108 c27_i32
  let v112 : BitVec 32 := Scalar.ori v104 v111
  let c27_i32_38 : BitVec 32 := 27#32
  let v115 : BitVec 1 := Scalar.cmpi .eq v2 c27_i32_38
  let v116 : BitVec 32 := Scalar.extui v115
  let c24_i32 : BitVec 32 := 24#32
  let v119 : BitVec 32 := Scalar.muli v116 c24_i32
  let v120 : BitVec 32 := Scalar.ori v112 v119
  let c24_i32_40 : BitVec 32 := 24#32
  let v123 : BitVec 1 := Scalar.cmpi .eq v2 c24_i32_40
  let v124 : BitVec 32 := Scalar.extui v123
  let c25_i32 : BitVec 32 := 25#32
  let v127 : BitVec 32 := Scalar.muli v124 c25_i32
  let v128 : BitVec 32 := Scalar.ori v120 v127
  let c25_i32_43 : BitVec 32 := 25#32
  let v131 : BitVec 1 := Scalar.cmpi .eq v2 c25_i32_43
  let v132 : BitVec 32 := Scalar.extui v131
  let c26_i32 : BitVec 32 := 26#32
  let v135 : BitVec 32 := Scalar.muli v132 c26_i32
  let v136 : BitVec 32 := Scalar.ori v128 v135
  let c26_i32_46 : BitVec 32 := 26#32
  let v139 : BitVec 1 := Scalar.cmpi .eq v2 c26_i32_46
  let v140 : BitVec 32 := Scalar.extui v139
  let c29_i32 : BitVec 32 := 29#32
  let v143 : BitVec 32 := Scalar.muli v140 c29_i32
  let v144 : BitVec 32 := Scalar.ori v136 v143
  let c29_i32_48 : BitVec 32 := 29#32
  let v147 : BitVec 1 := Scalar.cmpi .eq v2 c29_i32_48
  let v148 : BitVec 32 := Scalar.extui v147
  let c30_i32 : BitVec 32 := 30#32
  let v151 : BitVec 32 := Scalar.muli v148 c30_i32
  let v152 : BitVec 32 := Scalar.ori v144 v151
  let c30_i32_50 : BitVec 32 := 30#32
  let v155 : BitVec 1 := Scalar.cmpi .eq v2 c30_i32_50
  let v156 : BitVec 32 := Scalar.extui v155
  let c22_i32 : BitVec 32 := 22#32
  let v159 : BitVec 32 := Scalar.muli v156 c22_i32
  let v160 : BitVec 32 := Scalar.ori v152 v159
  let c22_i32_53 : BitVec 32 := 22#32
  let v163 : BitVec 1 := Scalar.cmpi .eq v2 c22_i32_53
  let v164 : BitVec 32 := Scalar.extui v163
  let c21_i32 : BitVec 32 := 21#32
  let v167 : BitVec 32 := Scalar.muli v164 c21_i32
  let v168 : BitVec 32 := Scalar.ori v160 v167
  let c21_i32_56 : BitVec 32 := 21#32
  let v171 : BitVec 1 := Scalar.cmpi .eq v2 c21_i32_56
  let v172 : BitVec 32 := Scalar.extui v171
  let c18_i32_58 : BitVec 32 := 18#32
  let v175 : BitVec 32 := Scalar.muli v172 c18_i32_58
  let v176 : BitVec 32 := Scalar.ori v168 v175
  let c18_i32_60 : BitVec 32 := 18#32
  let v179 : BitVec 1 := Scalar.cmpi .eq v2 c18_i32_60
  let v180 : BitVec 32 := Scalar.extui v179
  let c17_i32_62 : BitVec 32 := 17#32
  let v183 : BitVec 32 := Scalar.muli v180 c17_i32_62
  let v184 : BitVec 32 := Scalar.ori v176 v183
  let c17_i32_64 : BitVec 32 := 17#32
  let v187 : BitVec 1 := Scalar.cmpi .eq v2 c17_i32_64
  let v188 : BitVec 32 := Scalar.extui v187
  let c9_i32_66 : BitVec 32 := 9#32
  let v191 : BitVec 32 := Scalar.muli v188 c9_i32_66
  let v192 : BitVec 32 := Scalar.ori v184 v191
  let c9_i32_68 : BitVec 32 := 9#32
  let v195 : BitVec 1 := Scalar.cmpi .eq v2 c9_i32_68
  let v196 : BitVec 32 := Scalar.extui v195
  let c10_i32_70 : BitVec 32 := 10#32
  let v199 : BitVec 32 := Scalar.muli v196 c10_i32_70
  let v200 : BitVec 32 := Scalar.ori v192 v199
  let c10_i32_72 : BitVec 32 := 10#32
  let v203 : BitVec 1 := Scalar.cmpi .eq v2 c10_i32_72
  let v204 : BitVec 32 := Scalar.extui v203
  let c13_i32_74 : BitVec 32 := 13#32
  let v207 : BitVec 32 := Scalar.muli v204 c13_i32_74
  let v208 : BitVec 32 := Scalar.ori v200 v207
  let c13_i32_76 : BitVec 32 := 13#32
  let v211 : BitVec 1 := Scalar.cmpi .eq v2 c13_i32_76
  let v212 : BitVec 32 := Scalar.extui v211
  let c14_i32_78 : BitVec 32 := 14#32
  let v215 : BitVec 32 := Scalar.muli v212 c14_i32_78
  let v216 : BitVec 32 := Scalar.ori v208 v215
  let c14_i32_80 : BitVec 32 := 14#32
  let v219 : BitVec 1 := Scalar.cmpi .eq v2 c14_i32_80
  let v220 : BitVec 32 := Scalar.extui v219
  let c6_i32_82 : BitVec 32 := 6#32
  let v223 : BitVec 32 := Scalar.muli v220 c6_i32_82
  let v224 : BitVec 32 := Scalar.ori v216 v223
  let c6_i32_84 : BitVec 32 := 6#32
  let v227 : BitVec 1 := Scalar.cmpi .eq v2 c6_i32_84
  let v228 : BitVec 32 := Scalar.extui v227
  let c5_i32_86 : BitVec 32 := 5#32
  let v231 : BitVec 32 := Scalar.muli v228 c5_i32_86
  let v232 : BitVec 32 := Scalar.ori v224 v231
  let c5_i32_88 : BitVec 32 := 5#32
  let v235 : BitVec 1 := Scalar.cmpi .eq v2 c5_i32_88
  let v236 : BitVec 32 := Scalar.extui v235
  let c2_i32_90 : BitVec 32 := 2#32
  let v239 : BitVec 32 := Scalar.muli v236 c2_i32_90
  let v240 : BitVec 32 := Scalar.ori v232 v239
  let c2_i32_92 : BitVec 32 := 2#32
  let v243 : BitVec 1 := Scalar.cmpi .eq v2 c2_i32_92
  let v244 : BitVec 32 := Scalar.extui v243
  let c1_i32_94 : BitVec 32 := 1#32
  let v247 : BitVec 32 := Scalar.muli v244 c1_i32_94
  let v248 : BitVec 32 := Scalar.ori v240 v247
  let c1_i32_96 : BitVec 32 := 1#32
  let v251 : BitVec 1 := Scalar.cmpi .eq v2 c1_i32_96
  let v252 : BitVec 32 := Scalar.extui v251
  let c0_i32_98 : BitVec 32 := 0#32
  let v255 : BitVec 32 := Scalar.muli v252 c0_i32_98
  let v256 : BitVec 32 := Scalar.ori v248 v255
  let c1_i32_244 : BitVec 32 := 1#32
  let v466 : BitVec 32 := Scalar.muli v256 c1_i32_244
  let v467 : BitVec 32 := Scalar.addi c0_i32_245 v466
  v467.toNat
def k0_off18 (d0 : Dev nD) (k0_t2 : Fin k0_t2_loop.trips) (k0_t3 : Fin k0_t3_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c0_i32_116 : BitVec 32 := 0#32
  let c1_i32_118 : BitVec 32 := 1#32
  let arg17 : BitVec 32 := Scf.iv c0_i32_116 c1_i32_118 k0_t2
  let v372 : BitVec 32 := Scalar.addi v254 arg17
  let c32_i32_188 : BitVec 32 := 32#32
  let c0_i32_189 : BitVec 32 := 0#32
  let v373 : BitVec 1 := Scalar.cmpi .eq c32_i32_188 c0_i32_189
  let c1_i32_190 : BitVec 32 := 1#32
  let v374 : BitVec 32 := Scalar.select v373 c1_i32_190 c32_i32_188
  let v375 : BitVec 32 := Scalar.remsi v372 v374
  let c0_i32_192 : BitVec 32 := 0#32
  let v377 : BitVec 1 := Scalar.cmpi .slt v375 c0_i32_192
  let c0_i32_193 : BitVec 32 := 0#32
  let v378 : BitVec 1 := Scalar.cmpi .slt v374 c0_i32_193
  let v379 : BitVec 1 := Scalar.xori v377 v378
  let c0_i32_191 : BitVec 32 := 0#32
  let v376 : BitVec 1 := Scalar.cmpi .ne v375 c0_i32_191
  let v380 : BitVec 1 := Scalar.andi v379 v376
  let v381 : BitVec 32 := Scalar.addi v375 v374
  let v382 : BitVec 32 := Scalar.select v380 v381 v375
  let c64_i32_194 : BitVec 32 := 64#32
  let v383 : BitVec 32 := Scalar.muli v382 c64_i32_194
  let c1024_i32 : BitVec 32 := 1024#32
  let c0_i32_132 : BitVec 32 := 0#32
  let c1_i32_134 : BitVec 32 := 1#32
  let arg18 : BitVec 32 := Scf.iv c0_i32_132 c1_i32_134 k0_t3
  let c128_i32_195 : BitVec 32 := 128#32
  let v384 : BitVec 32 := Scalar.muli arg18 c128_i32_195
  let v385 : BitVec 32 := Scalar.addi c1024_i32 v384
  ![v383.toNat, v385.toNat]
def k0_off19 (d0 : Dev nD) (k0_t2 : Fin k0_t2_loop.trips) (k0_t3 : Fin k0_t3_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c0_i32_116 : BitVec 32 := 0#32
  let c1_i32_118 : BitVec 32 := 1#32
  let arg17 : BitVec 32 := Scf.iv c0_i32_116 c1_i32_118 k0_t2
  let v393 : BitVec 32 := Scalar.addi v254 arg17
  let c1_i32_200 : BitVec 32 := 1#32
  let v394 : BitVec 32 := Scalar.addi v393 c1_i32_200
  let c32_i32_201 : BitVec 32 := 32#32
  let c0_i32_202 : BitVec 32 := 0#32
  let v395 : BitVec 1 := Scalar.cmpi .eq c32_i32_201 c0_i32_202
  let c1_i32_203 : BitVec 32 := 1#32
  let v396 : BitVec 32 := Scalar.select v395 c1_i32_203 c32_i32_201
  let v397 : BitVec 32 := Scalar.remsi v394 v396
  let c0_i32_205 : BitVec 32 := 0#32
  let v399 : BitVec 1 := Scalar.cmpi .slt v397 c0_i32_205
  let c0_i32_206 : BitVec 32 := 0#32
  let v400 : BitVec 1 := Scalar.cmpi .slt v396 c0_i32_206
  let v401 : BitVec 1 := Scalar.xori v399 v400
  let c0_i32_204 : BitVec 32 := 0#32
  let v398 : BitVec 1 := Scalar.cmpi .ne v397 c0_i32_204
  let v402 : BitVec 1 := Scalar.andi v401 v398
  let v403 : BitVec 32 := Scalar.addi v397 v396
  let v404 : BitVec 32 := Scalar.select v402 v403 v397
  let c64_i32_207 : BitVec 32 := 64#32
  let v405 : BitVec 32 := Scalar.muli v404 c64_i32_207
  let v408 : Index := Scalar.indexCast v405
  let c1024_i32_209 : BitVec 32 := 1024#32
  let c0_i32_132 : BitVec 32 := 0#32
  let c1_i32_134 : BitVec 32 := 1#32
  let arg18 : BitVec 32 := Scf.iv c0_i32_132 c1_i32_134 k0_t3
  let c128_i32_208 : BitVec 32 := 128#32
  let v406 : BitVec 32 := Scalar.muli arg18 c128_i32_208
  let v407 : BitVec 32 := Scalar.addi c1024_i32_209 v406
  let v409 : Index := Scalar.indexCast v407
  ![v408.toNat, v409.toNat]
def k0_cond5 (k0_t2 : Fin k0_t2_loop.trips) (k0_t3 : Fin k0_t3_loop.trips) : BitVec 1 :=
  let c8_i32_180 : BitVec 32 := 8#32
  let c0_i32_116 : BitVec 32 := 0#32
  let c1_i32_118 : BitVec 32 := 1#32
  let arg17 : BitVec 32 := Scf.iv c0_i32_116 c1_i32_118 k0_t2
  let v358 : BitVec 32 := Scalar.muli c8_i32_180 arg17
  let c0_i32_132 : BitVec 32 := 0#32
  let c1_i32_134 : BitVec 32 := 1#32
  let arg18 : BitVec 32 := Scf.iv c0_i32_132 c1_i32_134 k0_t3
  let v359 : BitVec 32 := Scalar.addi v358 arg18
  let c232_i32_218 : BitVec 32 := 232#32
  let v429 : BitVec 1 := Scalar.cmpi .slt v359 c232_i32_218
  let v430 : BitVec 32 := Scalar.extui v429
  let c0_i32_219 : BitVec 32 := 0#32
  let v431 : BitVec 1 := Scalar.cmpi .ne v430 c0_i32_219
  v431

def k0_dev8 (d0 : Dev nD) : Nat :=
  let c0_i32_228 : BitVec 32 := 0#32
  let c0_i32_2 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c3_i32 : BitVec 32 := 3#32
  let v7 : BitVec 32 := Scalar.muli v4 c3_i32
  let v8 : BitVec 32 := Scalar.ori c0_i32_2 v7
  let c3_i32_5 : BitVec 32 := 3#32
  let v11 : BitVec 1 := Scalar.cmpi .eq v2 c3_i32_5
  let v12 : BitVec 32 := Scalar.extui v11
  let c4_i32 : BitVec 32 := 4#32
  let v15 : BitVec 32 := Scalar.muli v12 c4_i32
  let v16 : BitVec 32 := Scalar.ori v8 v15
  let c4_i32_8 : BitVec 32 := 4#32
  let v19 : BitVec 1 := Scalar.cmpi .eq v2 c4_i32_8
  let v20 : BitVec 32 := Scalar.extui v19
  let c7_i32 : BitVec 32 := 7#32
  let v23 : BitVec 32 := Scalar.muli v20 c7_i32
  let v24 : BitVec 32 := Scalar.ori v16 v23
  let c7_i32_10 : BitVec 32 := 7#32
  let v27 : BitVec 1 := Scalar.cmpi .eq v2 c7_i32_10
  let v28 : BitVec 32 := Scalar.extui v27
  let c15_i32 : BitVec 32 := 15#32
  let v31 : BitVec 32 := Scalar.muli v28 c15_i32
  let v32 : BitVec 32 := Scalar.ori v24 v31
  let c15_i32_13 : BitVec 32 := 15#32
  let v35 : BitVec 1 := Scalar.cmpi .eq v2 c15_i32_13
  let v36 : BitVec 32 := Scalar.extui v35
  let c12_i32 : BitVec 32 := 12#32
  let v39 : BitVec 32 := Scalar.muli v36 c12_i32
  let v40 : BitVec 32 := Scalar.ori v32 v39
  let c12_i32_16 : BitVec 32 := 12#32
  let v43 : BitVec 1 := Scalar.cmpi .eq v2 c12_i32_16
  let v44 : BitVec 32 := Scalar.extui v43
  let c11_i32 : BitVec 32 := 11#32
  let v47 : BitVec 32 := Scalar.muli v44 c11_i32
  let v48 : BitVec 32 := Scalar.ori v40 v47
  let c11_i32_18 : BitVec 32 := 11#32
  let v51 : BitVec 1 := Scalar.cmpi .eq v2 c11_i32_18
  let v52 : BitVec 32 := Scalar.extui v51
  let c8_i32 : BitVec 32 := 8#32
  let v55 : BitVec 32 := Scalar.muli v52 c8_i32
  let v56 : BitVec 32 := Scalar.ori v48 v55
  let c8_i32_20 : BitVec 32 := 8#32
  let v59 : BitVec 1 := Scalar.cmpi .eq v2 c8_i32_20
  let v60 : BitVec 32 := Scalar.extui v59
  let c16_i32 : BitVec 32 := 16#32
  let v63 : BitVec 32 := Scalar.muli v60 c16_i32
  let v64 : BitVec 32 := Scalar.ori v56 v63
  let c16_i32_23 : BitVec 32 := 16#32
  let v67 : BitVec 1 := Scalar.cmpi .eq v2 c16_i32_23
  let v68 : BitVec 32 := Scalar.extui v67
  let c19_i32 : BitVec 32 := 19#32
  let v71 : BitVec 32 := Scalar.muli v68 c19_i32
  let v72 : BitVec 32 := Scalar.ori v64 v71
  let c19_i32_26 : BitVec 32 := 19#32
  let v75 : BitVec 1 := Scalar.cmpi .eq v2 c19_i32_26
  let v76 : BitVec 32 := Scalar.extui v75
  let c20_i32 : BitVec 32 := 20#32
  let v79 : BitVec 32 := Scalar.muli v76 c20_i32
  let v80 : BitVec 32 := Scalar.ori v72 v79
  let c20_i32_28 : BitVec 32 := 20#32
  let v83 : BitVec 1 := Scalar.cmpi .eq v2 c20_i32_28
  let v84 : BitVec 32 := Scalar.extui v83
  let c23_i32 : BitVec 32 := 23#32
  let v87 : BitVec 32 := Scalar.muli v84 c23_i32
  let v88 : BitVec 32 := Scalar.ori v80 v87
  let c23_i32_30 : BitVec 32 := 23#32
  let v91 : BitVec 1 := Scalar.cmpi .eq v2 c23_i32_30
  let v92 : BitVec 32 := Scalar.extui v91
  let c31_i32 : BitVec 32 := 31#32
  let v95 : BitVec 32 := Scalar.muli v92 c31_i32
  let v96 : BitVec 32 := Scalar.ori v88 v95
  let c31_i32_33 : BitVec 32 := 31#32
  let v99 : BitVec 1 := Scalar.cmpi .eq v2 c31_i32_33
  let v100 : BitVec 32 := Scalar.extui v99
  let c28_i32 : BitVec 32 := 28#32
  let v103 : BitVec 32 := Scalar.muli v100 c28_i32
  let v104 : BitVec 32 := Scalar.ori v96 v103
  let c28_i32_36 : BitVec 32 := 28#32
  let v107 : BitVec 1 := Scalar.cmpi .eq v2 c28_i32_36
  let v108 : BitVec 32 := Scalar.extui v107
  let c27_i32 : BitVec 32 := 27#32
  let v111 : BitVec 32 := Scalar.muli v108 c27_i32
  let v112 : BitVec 32 := Scalar.ori v104 v111
  let c27_i32_38 : BitVec 32 := 27#32
  let v115 : BitVec 1 := Scalar.cmpi .eq v2 c27_i32_38
  let v116 : BitVec 32 := Scalar.extui v115
  let c24_i32 : BitVec 32 := 24#32
  let v119 : BitVec 32 := Scalar.muli v116 c24_i32
  let v120 : BitVec 32 := Scalar.ori v112 v119
  let c24_i32_40 : BitVec 32 := 24#32
  let v123 : BitVec 1 := Scalar.cmpi .eq v2 c24_i32_40
  let v124 : BitVec 32 := Scalar.extui v123
  let c25_i32 : BitVec 32 := 25#32
  let v127 : BitVec 32 := Scalar.muli v124 c25_i32
  let v128 : BitVec 32 := Scalar.ori v120 v127
  let c25_i32_43 : BitVec 32 := 25#32
  let v131 : BitVec 1 := Scalar.cmpi .eq v2 c25_i32_43
  let v132 : BitVec 32 := Scalar.extui v131
  let c26_i32 : BitVec 32 := 26#32
  let v135 : BitVec 32 := Scalar.muli v132 c26_i32
  let v136 : BitVec 32 := Scalar.ori v128 v135
  let c26_i32_46 : BitVec 32 := 26#32
  let v139 : BitVec 1 := Scalar.cmpi .eq v2 c26_i32_46
  let v140 : BitVec 32 := Scalar.extui v139
  let c29_i32 : BitVec 32 := 29#32
  let v143 : BitVec 32 := Scalar.muli v140 c29_i32
  let v144 : BitVec 32 := Scalar.ori v136 v143
  let c29_i32_48 : BitVec 32 := 29#32
  let v147 : BitVec 1 := Scalar.cmpi .eq v2 c29_i32_48
  let v148 : BitVec 32 := Scalar.extui v147
  let c30_i32 : BitVec 32 := 30#32
  let v151 : BitVec 32 := Scalar.muli v148 c30_i32
  let v152 : BitVec 32 := Scalar.ori v144 v151
  let c30_i32_50 : BitVec 32 := 30#32
  let v155 : BitVec 1 := Scalar.cmpi .eq v2 c30_i32_50
  let v156 : BitVec 32 := Scalar.extui v155
  let c22_i32 : BitVec 32 := 22#32
  let v159 : BitVec 32 := Scalar.muli v156 c22_i32
  let v160 : BitVec 32 := Scalar.ori v152 v159
  let c22_i32_53 : BitVec 32 := 22#32
  let v163 : BitVec 1 := Scalar.cmpi .eq v2 c22_i32_53
  let v164 : BitVec 32 := Scalar.extui v163
  let c21_i32 : BitVec 32 := 21#32
  let v167 : BitVec 32 := Scalar.muli v164 c21_i32
  let v168 : BitVec 32 := Scalar.ori v160 v167
  let c21_i32_56 : BitVec 32 := 21#32
  let v171 : BitVec 1 := Scalar.cmpi .eq v2 c21_i32_56
  let v172 : BitVec 32 := Scalar.extui v171
  let c18_i32_58 : BitVec 32 := 18#32
  let v175 : BitVec 32 := Scalar.muli v172 c18_i32_58
  let v176 : BitVec 32 := Scalar.ori v168 v175
  let c18_i32_60 : BitVec 32 := 18#32
  let v179 : BitVec 1 := Scalar.cmpi .eq v2 c18_i32_60
  let v180 : BitVec 32 := Scalar.extui v179
  let c17_i32_62 : BitVec 32 := 17#32
  let v183 : BitVec 32 := Scalar.muli v180 c17_i32_62
  let v184 : BitVec 32 := Scalar.ori v176 v183
  let c17_i32_64 : BitVec 32 := 17#32
  let v187 : BitVec 1 := Scalar.cmpi .eq v2 c17_i32_64
  let v188 : BitVec 32 := Scalar.extui v187
  let c9_i32_66 : BitVec 32 := 9#32
  let v191 : BitVec 32 := Scalar.muli v188 c9_i32_66
  let v192 : BitVec 32 := Scalar.ori v184 v191
  let c9_i32_68 : BitVec 32 := 9#32
  let v195 : BitVec 1 := Scalar.cmpi .eq v2 c9_i32_68
  let v196 : BitVec 32 := Scalar.extui v195
  let c10_i32_70 : BitVec 32 := 10#32
  let v199 : BitVec 32 := Scalar.muli v196 c10_i32_70
  let v200 : BitVec 32 := Scalar.ori v192 v199
  let c10_i32_72 : BitVec 32 := 10#32
  let v203 : BitVec 1 := Scalar.cmpi .eq v2 c10_i32_72
  let v204 : BitVec 32 := Scalar.extui v203
  let c13_i32_74 : BitVec 32 := 13#32
  let v207 : BitVec 32 := Scalar.muli v204 c13_i32_74
  let v208 : BitVec 32 := Scalar.ori v200 v207
  let c13_i32_76 : BitVec 32 := 13#32
  let v211 : BitVec 1 := Scalar.cmpi .eq v2 c13_i32_76
  let v212 : BitVec 32 := Scalar.extui v211
  let c14_i32_78 : BitVec 32 := 14#32
  let v215 : BitVec 32 := Scalar.muli v212 c14_i32_78
  let v216 : BitVec 32 := Scalar.ori v208 v215
  let c14_i32_80 : BitVec 32 := 14#32
  let v219 : BitVec 1 := Scalar.cmpi .eq v2 c14_i32_80
  let v220 : BitVec 32 := Scalar.extui v219
  let c6_i32_82 : BitVec 32 := 6#32
  let v223 : BitVec 32 := Scalar.muli v220 c6_i32_82
  let v224 : BitVec 32 := Scalar.ori v216 v223
  let c6_i32_84 : BitVec 32 := 6#32
  let v227 : BitVec 1 := Scalar.cmpi .eq v2 c6_i32_84
  let v228 : BitVec 32 := Scalar.extui v227
  let c5_i32_86 : BitVec 32 := 5#32
  let v231 : BitVec 32 := Scalar.muli v228 c5_i32_86
  let v232 : BitVec 32 := Scalar.ori v224 v231
  let c5_i32_88 : BitVec 32 := 5#32
  let v235 : BitVec 1 := Scalar.cmpi .eq v2 c5_i32_88
  let v236 : BitVec 32 := Scalar.extui v235
  let c2_i32_90 : BitVec 32 := 2#32
  let v239 : BitVec 32 := Scalar.muli v236 c2_i32_90
  let v240 : BitVec 32 := Scalar.ori v232 v239
  let c2_i32_92 : BitVec 32 := 2#32
  let v243 : BitVec 1 := Scalar.cmpi .eq v2 c2_i32_92
  let v244 : BitVec 32 := Scalar.extui v243
  let c1_i32_94 : BitVec 32 := 1#32
  let v247 : BitVec 32 := Scalar.muli v244 c1_i32_94
  let v248 : BitVec 32 := Scalar.ori v240 v247
  let c1_i32_96 : BitVec 32 := 1#32
  let v251 : BitVec 1 := Scalar.cmpi .eq v2 c1_i32_96
  let v252 : BitVec 32 := Scalar.extui v251
  let c0_i32_98 : BitVec 32 := 0#32
  let v255 : BitVec 32 := Scalar.muli v252 c0_i32_98
  let v256 : BitVec 32 := Scalar.ori v248 v255
  let c1_i32_227 : BitVec 32 := 1#32
  let v440 : BitVec 32 := Scalar.muli v256 c1_i32_227
  let v441 : BitVec 32 := Scalar.addi c0_i32_228 v440
  v441.toNat
def k0_cond6 (k0_t2 : Fin k0_t2_loop.trips) : BitVec 1 :=
  let c0_i32_116 : BitVec 32 := 0#32
  let c1_i32_118 : BitVec 32 := 1#32
  let arg17 : BitVec 32 := Scf.iv c0_i32_116 c1_i32_118 k0_t2
  let c1_i32_220 : BitVec 32 := 1#32
  let v432 : BitVec 32 := Scalar.addi arg17 c1_i32_220
  let c31_i32_221 : BitVec 32 := 31#32
  let v433 : BitVec 1 := Scalar.cmpi .slt v432 c31_i32_221
  let v434 : BitVec 32 := Scalar.extui v433
  let c0_i32_222 : BitVec 32 := 0#32
  let v435 : BitVec 1 := Scalar.cmpi .ne v434 c0_i32_222
  v435

def k0_cond7 (k0_t2 : Fin k0_t2_loop.trips) (k0_t3 : Fin k0_t3_loop.trips) : BitVec 1 :=
  let c8_i32_227 : BitVec 32 := 8#32
  let c0_i32_116 : BitVec 32 := 0#32
  let c1_i32_118 : BitVec 32 := 1#32
  let arg17 : BitVec 32 := Scf.iv c0_i32_116 c1_i32_118 k0_t2
  let c1_i32_226 : BitVec 32 := 1#32
  let v440 : BitVec 32 := Scalar.addi arg17 c1_i32_226
  let v441 : BitVec 32 := Scalar.muli c8_i32_227 v440
  let c0_i32_132 : BitVec 32 := 0#32
  let c1_i32_134 : BitVec 32 := 1#32
  let arg18 : BitVec 32 := Scf.iv c0_i32_132 c1_i32_134 k0_t3
  let v442 : BitVec 32 := Scalar.addi v441 arg18
  let c16_i32_228 : BitVec 32 := 16#32
  let v443 : BitVec 1 := Scalar.cmpi .sge v442 c16_i32_228
  let v444 : BitVec 32 := Scalar.extui v443
  let c0_i32_229 : BitVec 32 := 0#32
  let v445 : BitVec 1 := Scalar.cmpi .ne v444 c0_i32_229
  v445

def k0_off20 (k0_t2 : Fin k0_t2_loop.trips) (k0_t3 : Fin k0_t3_loop.trips) : Fin 1 → Nat :=
  let c8_i32_253 : BitVec 32 := 8#32
  let c0_i32_116 : BitVec 32 := 0#32
  let c1_i32_118 : BitVec 32 := 1#32
  let arg17 : BitVec 32 := Scf.iv c0_i32_116 c1_i32_118 k0_t2
  let c1_i32_226 : BitVec 32 := 1#32
  let v440 : BitVec 32 := Scalar.addi arg17 c1_i32_226
  let c2_i32_252 : BitVec 32 := 2#32
  let v481 : BitVec 32 := Scalar.subi v440 c2_i32_252
  let v482 : BitVec 32 := Scalar.muli c8_i32_253 v481
  let c0_i32_132 : BitVec 32 := 0#32
  let c1_i32_134 : BitVec 32 := 1#32
  let arg18 : BitVec 32 := Scf.iv c0_i32_132 c1_i32_134 k0_t3
  let v483 : BitVec 32 := Scalar.addi v482 arg18
  let c16_i32_254 : BitVec 32 := 16#32
  let c0_i32_255 : BitVec 32 := 0#32
  let v484 : BitVec 1 := Scalar.cmpi .eq c16_i32_254 c0_i32_255
  let c1_i32_256 : BitVec 32 := 1#32
  let v485 : BitVec 32 := Scalar.select v484 c1_i32_256 c16_i32_254
  let v486 : BitVec 32 := Scalar.remsi v483 v485
  let c0_i32_258 : BitVec 32 := 0#32
  let v488 : BitVec 1 := Scalar.cmpi .slt v486 c0_i32_258
  let c0_i32_259 : BitVec 32 := 0#32
  let v489 : BitVec 1 := Scalar.cmpi .slt v485 c0_i32_259
  let v490 : BitVec 1 := Scalar.xori v488 v489
  let c0_i32_257 : BitVec 32 := 0#32
  let v487 : BitVec 1 := Scalar.cmpi .ne v486 c0_i32_257
  let v491 : BitVec 1 := Scalar.andi v490 v487
  let v492 : BitVec 32 := Scalar.addi v486 v485
  let v493 : BitVec 32 := Scalar.select v491 v492 v486
  ![v493.toNat]
def k0_off21 (d0 : Dev nD) (k0_t2 : Fin k0_t2_loop.trips) (k0_t3 : Fin k0_t3_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c0_i32_116 : BitVec 32 := 0#32
  let c1_i32_118 : BitVec 32 := 1#32
  let arg17 : BitVec 32 := Scf.iv c0_i32_116 c1_i32_118 k0_t2
  let c1_i32_226 : BitVec 32 := 1#32
  let v440 : BitVec 32 := Scalar.addi arg17 c1_i32_226
  let c2_i32_252 : BitVec 32 := 2#32
  let v481 : BitVec 32 := Scalar.subi v440 c2_i32_252
  let v494 : BitVec 32 := Scalar.addi v254 v481
  let c32_i32_260 : BitVec 32 := 32#32
  let c0_i32_261 : BitVec 32 := 0#32
  let v495 : BitVec 1 := Scalar.cmpi .eq c32_i32_260 c0_i32_261
  let c1_i32_262 : BitVec 32 := 1#32
  let v496 : BitVec 32 := Scalar.select v495 c1_i32_262 c32_i32_260
  let v497 : BitVec 32 := Scalar.remsi v494 v496
  let c0_i32_264 : BitVec 32 := 0#32
  let v499 : BitVec 1 := Scalar.cmpi .slt v497 c0_i32_264
  let c0_i32_265 : BitVec 32 := 0#32
  let v500 : BitVec 1 := Scalar.cmpi .slt v496 c0_i32_265
  let v501 : BitVec 1 := Scalar.xori v499 v500
  let c0_i32_263 : BitVec 32 := 0#32
  let v498 : BitVec 1 := Scalar.cmpi .ne v497 c0_i32_263
  let v502 : BitVec 1 := Scalar.andi v501 v498
  let v503 : BitVec 32 := Scalar.addi v497 v496
  let v504 : BitVec 32 := Scalar.select v502 v503 v497
  let c64_i32_266 : BitVec 32 := 64#32
  let v505 : BitVec 32 := Scalar.muli v504 c64_i32_266
  let c1024_i32_268 : BitVec 32 := 1024#32
  let c0_i32_132 : BitVec 32 := 0#32
  let c1_i32_134 : BitVec 32 := 1#32
  let arg18 : BitVec 32 := Scf.iv c0_i32_132 c1_i32_134 k0_t3
  let c128_i32_267 : BitVec 32 := 128#32
  let v506 : BitVec 32 := Scalar.muli arg18 c128_i32_267
  let v507 : BitVec 32 := Scalar.addi c1024_i32_268 v506
  ![v505.toNat, v507.toNat]
def k0_off22 (k0_t2 : Fin k0_t2_loop.trips) (k0_t3 : Fin k0_t3_loop.trips) : Fin 3 → Nat :=
  let c8_i32_253 : BitVec 32 := 8#32
  let c0_i32_116 : BitVec 32 := 0#32
  let c1_i32_118 : BitVec 32 := 1#32
  let arg17 : BitVec 32 := Scf.iv c0_i32_116 c1_i32_118 k0_t2
  let c1_i32_226 : BitVec 32 := 1#32
  let v440 : BitVec 32 := Scalar.addi arg17 c1_i32_226
  let c2_i32_252 : BitVec 32 := 2#32
  let v481 : BitVec 32 := Scalar.subi v440 c2_i32_252
  let v482 : BitVec 32 := Scalar.muli c8_i32_253 v481
  let c0_i32_132 : BitVec 32 := 0#32
  let c1_i32_134 : BitVec 32 := 1#32
  let arg18 : BitVec 32 := Scf.iv c0_i32_132 c1_i32_134 k0_t3
  let v483 : BitVec 32 := Scalar.addi v482 arg18
  let c16_i32_254 : BitVec 32 := 16#32
  let c0_i32_255 : BitVec 32 := 0#32
  let v484 : BitVec 1 := Scalar.cmpi .eq c16_i32_254 c0_i32_255
  let c1_i32_256 : BitVec 32 := 1#32
  let v485 : BitVec 32 := Scalar.select v484 c1_i32_256 c16_i32_254
  let v486 : BitVec 32 := Scalar.remsi v483 v485
  let c0_i32_258 : BitVec 32 := 0#32
  let v488 : BitVec 1 := Scalar.cmpi .slt v486 c0_i32_258
  let c0_i32_259 : BitVec 32 := 0#32
  let v489 : BitVec 1 := Scalar.cmpi .slt v485 c0_i32_259
  let v490 : BitVec 1 := Scalar.xori v488 v489
  let c0_i32_257 : BitVec 32 := 0#32
  let v487 : BitVec 1 := Scalar.cmpi .ne v486 c0_i32_257
  let v491 : BitVec 1 := Scalar.andi v490 v487
  let v492 : BitVec 32 := Scalar.addi v486 v485
  let v493 : BitVec 32 := Scalar.select v491 v492 v486
  let c0_i32_270 : BitVec 32 := 0#32
  let c0_i32_271 : BitVec 32 := 0#32
  ![v493.toNat, 0, 0]
def k0_off23 (k0_t2 : Fin k0_t2_loop.trips) (k0_t3 : Fin k0_t3_loop.trips) : Fin 1 → Nat :=
  let c8_i32_230 : BitVec 32 := 8#32
  let c0_i32_116 : BitVec 32 := 0#32
  let c1_i32_118 : BitVec 32 := 1#32
  let arg17 : BitVec 32 := Scf.iv c0_i32_116 c1_i32_118 k0_t2
  let c1_i32_226 : BitVec 32 := 1#32
  let v440 : BitVec 32 := Scalar.addi arg17 c1_i32_226
  let v446 : BitVec 32 := Scalar.muli c8_i32_230 v440
  let c0_i32_132 : BitVec 32 := 0#32
  let c1_i32_134 : BitVec 32 := 1#32
  let arg18 : BitVec 32 := Scf.iv c0_i32_132 c1_i32_134 k0_t3
  let v447 : BitVec 32 := Scalar.addi v446 arg18
  let c16_i32_231 : BitVec 32 := 16#32
  let c0_i32_232 : BitVec 32 := 0#32
  let v448 : BitVec 1 := Scalar.cmpi .eq c16_i32_231 c0_i32_232
  let c1_i32_233 : BitVec 32 := 1#32
  let v449 : BitVec 32 := Scalar.select v448 c1_i32_233 c16_i32_231
  let v450 : BitVec 32 := Scalar.remsi v447 v449
  let c0_i32_235 : BitVec 32 := 0#32
  let v452 : BitVec 1 := Scalar.cmpi .slt v450 c0_i32_235
  let c0_i32_236 : BitVec 32 := 0#32
  let v453 : BitVec 1 := Scalar.cmpi .slt v449 c0_i32_236
  let v454 : BitVec 1 := Scalar.xori v452 v453
  let c0_i32_234 : BitVec 32 := 0#32
  let v451 : BitVec 1 := Scalar.cmpi .ne v450 c0_i32_234
  let v455 : BitVec 1 := Scalar.andi v454 v451
  let v456 : BitVec 32 := Scalar.addi v450 v449
  let v457 : BitVec 32 := Scalar.select v455 v456 v450
  ![v457.toNat]
def k0_off24 (k0_t2 : Fin k0_t2_loop.trips) (k0_t3 : Fin k0_t3_loop.trips) : Fin 3 → Nat :=
  let c8_i32_230 : BitVec 32 := 8#32
  let c0_i32_116 : BitVec 32 := 0#32
  let c1_i32_118 : BitVec 32 := 1#32
  let arg17 : BitVec 32 := Scf.iv c0_i32_116 c1_i32_118 k0_t2
  let c1_i32_226 : BitVec 32 := 1#32
  let v440 : BitVec 32 := Scalar.addi arg17 c1_i32_226
  let v446 : BitVec 32 := Scalar.muli c8_i32_230 v440
  let c0_i32_132 : BitVec 32 := 0#32
  let c1_i32_134 : BitVec 32 := 1#32
  let arg18 : BitVec 32 := Scf.iv c0_i32_132 c1_i32_134 k0_t3
  let v447 : BitVec 32 := Scalar.addi v446 arg18
  let c16_i32_231 : BitVec 32 := 16#32
  let c0_i32_232 : BitVec 32 := 0#32
  let v448 : BitVec 1 := Scalar.cmpi .eq c16_i32_231 c0_i32_232
  let c1_i32_233 : BitVec 32 := 1#32
  let v449 : BitVec 32 := Scalar.select v448 c1_i32_233 c16_i32_231
  let v450 : BitVec 32 := Scalar.remsi v447 v449
  let c0_i32_235 : BitVec 32 := 0#32
  let v452 : BitVec 1 := Scalar.cmpi .slt v450 c0_i32_235
  let c0_i32_236 : BitVec 32 := 0#32
  let v453 : BitVec 1 := Scalar.cmpi .slt v449 c0_i32_236
  let v454 : BitVec 1 := Scalar.xori v452 v453
  let c0_i32_234 : BitVec 32 := 0#32
  let v451 : BitVec 1 := Scalar.cmpi .ne v450 c0_i32_234
  let v455 : BitVec 1 := Scalar.andi v454 v451
  let v456 : BitVec 32 := Scalar.addi v450 v449
  let v457 : BitVec 32 := Scalar.select v455 v456 v450
  let c0_i32_248 : BitVec 32 := 0#32
  let c0_i32_249 : BitVec 32 := 0#32
  ![v457.toNat, 0, 0]
def k0_off25 (d0 : Dev nD) (k0_t2 : Fin k0_t2_loop.trips) (k0_t3 : Fin k0_t3_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c0_i32_116 : BitVec 32 := 0#32
  let c1_i32_118 : BitVec 32 := 1#32
  let arg17 : BitVec 32 := Scf.iv c0_i32_116 c1_i32_118 k0_t2
  let c1_i32_226 : BitVec 32 := 1#32
  let v440 : BitVec 32 := Scalar.addi arg17 c1_i32_226
  let v458 : BitVec 32 := Scalar.addi v254 v440
  let c32_i32_237 : BitVec 32 := 32#32
  let c0_i32_238 : BitVec 32 := 0#32
  let v459 : BitVec 1 := Scalar.cmpi .eq c32_i32_237 c0_i32_238
  let c1_i32_239 : BitVec 32 := 1#32
  let v460 : BitVec 32 := Scalar.select v459 c1_i32_239 c32_i32_237
  let v461 : BitVec 32 := Scalar.remsi v458 v460
  let c0_i32_241 : BitVec 32 := 0#32
  let v463 : BitVec 1 := Scalar.cmpi .slt v461 c0_i32_241
  let c0_i32_242 : BitVec 32 := 0#32
  let v464 : BitVec 1 := Scalar.cmpi .slt v460 c0_i32_242
  let v465 : BitVec 1 := Scalar.xori v463 v464
  let c0_i32_240 : BitVec 32 := 0#32
  let v462 : BitVec 1 := Scalar.cmpi .ne v461 c0_i32_240
  let v466 : BitVec 1 := Scalar.andi v465 v462
  let v467 : BitVec 32 := Scalar.addi v461 v460
  let v468 : BitVec 32 := Scalar.select v466 v467 v461
  let c64_i32_243 : BitVec 32 := 64#32
  let v469 : BitVec 32 := Scalar.muli v468 c64_i32_243
  let c1024_i32_245 : BitVec 32 := 1024#32
  let c0_i32_132 : BitVec 32 := 0#32
  let c1_i32_134 : BitVec 32 := 1#32
  let arg18 : BitVec 32 := Scf.iv c0_i32_132 c1_i32_134 k0_t3
  let c128_i32_244 : BitVec 32 := 128#32
  let v470 : BitVec 32 := Scalar.muli arg18 c128_i32_244
  let v471 : BitVec 32 := Scalar.addi c1024_i32_245 v470
  ![v469.toNat, v471.toNat]
def k0_dev9 (d0 : Dev nD) : Nat :=
  let c0_i32_247 : BitVec 32 := 0#32
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c1_i32_3 : BitVec 32 := 1#32
  let v9 : BitVec 32 := Scalar.muli v4 c1_i32_3
  let v10 : BitVec 32 := Scalar.ori c0_i32_4 v9
  let c3_i32_5 : BitVec 32 := 3#32
  let v11 : BitVec 1 := Scalar.cmpi .eq v2 c3_i32_5
  let v12 : BitVec 32 := Scalar.extui v11
  let c0_i32_7 : BitVec 32 := 0#32
  let v17 : BitVec 32 := Scalar.muli v12 c0_i32_7
  let v18 : BitVec 32 := Scalar.ori v10 v17
  let c4_i32_8 : BitVec 32 := 4#32
  let v19 : BitVec 1 := Scalar.cmpi .eq v2 c4_i32_8
  let v20 : BitVec 32 := Scalar.extui v19
  let c3_i32_9 : BitVec 32 := 3#32
  let v25 : BitVec 32 := Scalar.muli v20 c3_i32_9
  let v26 : BitVec 32 := Scalar.ori v18 v25
  let c7_i32_10 : BitVec 32 := 7#32
  let v27 : BitVec 1 := Scalar.cmpi .eq v2 c7_i32_10
  let v28 : BitVec 32 := Scalar.extui v27
  let c4_i32_12 : BitVec 32 := 4#32
  let v33 : BitVec 32 := Scalar.muli v28 c4_i32_12
  let v34 : BitVec 32 := Scalar.ori v26 v33
  let c15_i32_13 : BitVec 32 := 15#32
  let v35 : BitVec 1 := Scalar.cmpi .eq v2 c15_i32_13
  let v36 : BitVec 32 := Scalar.extui v35
  let c7_i32_15 : BitVec 32 := 7#32
  let v41 : BitVec 32 := Scalar.muli v36 c7_i32_15
  let v42 : BitVec 32 := Scalar.ori v34 v41
  let c12_i32_16 : BitVec 32 := 12#32
  let v43 : BitVec 1 := Scalar.cmpi .eq v2 c12_i32_16
  let v44 : BitVec 32 := Scalar.extui v43
  let c15_i32_17 : BitVec 32 := 15#32
  let v49 : BitVec 32 := Scalar.muli v44 c15_i32_17
  let v50 : BitVec 32 := Scalar.ori v42 v49
  let c11_i32_18 : BitVec 32 := 11#32
  let v51 : BitVec 1 := Scalar.cmpi .eq v2 c11_i32_18
  let v52 : BitVec 32 := Scalar.extui v51
  let c12_i32_19 : BitVec 32 := 12#32
  let v57 : BitVec 32 := Scalar.muli v52 c12_i32_19
  let v58 : BitVec 32 := Scalar.ori v50 v57
  let c8_i32_20 : BitVec 32 := 8#32
  let v59 : BitVec 1 := Scalar.cmpi .eq v2 c8_i32_20
  let v60 : BitVec 32 := Scalar.extui v59
  let c11_i32_22 : BitVec 32 := 11#32
  let v65 : BitVec 32 := Scalar.muli v60 c11_i32_22
  let v66 : BitVec 32 := Scalar.ori v58 v65
  let c16_i32_23 : BitVec 32 := 16#32
  let v67 : BitVec 1 := Scalar.cmpi .eq v2 c16_i32_23
  let v68 : BitVec 32 := Scalar.extui v67
  let c8_i32_25 : BitVec 32 := 8#32
  let v73 : BitVec 32 := Scalar.muli v68 c8_i32_25
  let v74 : BitVec 32 := Scalar.ori v66 v73
  let c19_i32_26 : BitVec 32 := 19#32
  let v75 : BitVec 1 := Scalar.cmpi .eq v2 c19_i32_26
  let v76 : BitVec 32 := Scalar.extui v75
  let c16_i32_27 : BitVec 32 := 16#32
  let v81 : BitVec 32 := Scalar.muli v76 c16_i32_27
  let v82 : BitVec 32 := Scalar.ori v74 v81
  let c20_i32_28 : BitVec 32 := 20#32
  let v83 : BitVec 1 := Scalar.cmpi .eq v2 c20_i32_28
  let v84 : BitVec 32 := Scalar.extui v83
  let c19_i32_29 : BitVec 32 := 19#32
  let v89 : BitVec 32 := Scalar.muli v84 c19_i32_29
  let v90 : BitVec 32 := Scalar.ori v82 v89
  let c23_i32_30 : BitVec 32 := 23#32
  let v91 : BitVec 1 := Scalar.cmpi .eq v2 c23_i32_30
  let v92 : BitVec 32 := Scalar.extui v91
  let c20_i32_32 : BitVec 32 := 20#32
  let v97 : BitVec 32 := Scalar.muli v92 c20_i32_32
  let v98 : BitVec 32 := Scalar.ori v90 v97
  let c31_i32_33 : BitVec 32 := 31#32
  let v99 : BitVec 1 := Scalar.cmpi .eq v2 c31_i32_33
  let v100 : BitVec 32 := Scalar.extui v99
  let c23_i32_35 : BitVec 32 := 23#32
  let v105 : BitVec 32 := Scalar.muli v100 c23_i32_35
  let v106 : BitVec 32 := Scalar.ori v98 v105
  let c28_i32_36 : BitVec 32 := 28#32
  let v107 : BitVec 1 := Scalar.cmpi .eq v2 c28_i32_36
  let v108 : BitVec 32 := Scalar.extui v107
  let c31_i32_37 : BitVec 32 := 31#32
  let v113 : BitVec 32 := Scalar.muli v108 c31_i32_37
  let v114 : BitVec 32 := Scalar.ori v106 v113
  let c27_i32_38 : BitVec 32 := 27#32
  let v115 : BitVec 1 := Scalar.cmpi .eq v2 c27_i32_38
  let v116 : BitVec 32 := Scalar.extui v115
  let c28_i32_39 : BitVec 32 := 28#32
  let v121 : BitVec 32 := Scalar.muli v116 c28_i32_39
  let v122 : BitVec 32 := Scalar.ori v114 v121
  let c24_i32_40 : BitVec 32 := 24#32
  let v123 : BitVec 1 := Scalar.cmpi .eq v2 c24_i32_40
  let v124 : BitVec 32 := Scalar.extui v123
  let c27_i32_42 : BitVec 32 := 27#32
  let v129 : BitVec 32 := Scalar.muli v124 c27_i32_42
  let v130 : BitVec 32 := Scalar.ori v122 v129
  let c25_i32_43 : BitVec 32 := 25#32
  let v131 : BitVec 1 := Scalar.cmpi .eq v2 c25_i32_43
  let v132 : BitVec 32 := Scalar.extui v131
  let c24_i32_45 : BitVec 32 := 24#32
  let v137 : BitVec 32 := Scalar.muli v132 c24_i32_45
  let v138 : BitVec 32 := Scalar.ori v130 v137
  let c26_i32_46 : BitVec 32 := 26#32
  let v139 : BitVec 1 := Scalar.cmpi .eq v2 c26_i32_46
  let v140 : BitVec 32 := Scalar.extui v139
  let c25_i32_47 : BitVec 32 := 25#32
  let v145 : BitVec 32 := Scalar.muli v140 c25_i32_47
  let v146 : BitVec 32 := Scalar.ori v138 v145
  let c29_i32_48 : BitVec 32 := 29#32
  let v147 : BitVec 1 := Scalar.cmpi .eq v2 c29_i32_48
  let v148 : BitVec 32 := Scalar.extui v147
  let c26_i32_49 : BitVec 32 := 26#32
  let v153 : BitVec 32 := Scalar.muli v148 c26_i32_49
  let v154 : BitVec 32 := Scalar.ori v146 v153
  let c30_i32_50 : BitVec 32 := 30#32
  let v155 : BitVec 1 := Scalar.cmpi .eq v2 c30_i32_50
  let v156 : BitVec 32 := Scalar.extui v155
  let c29_i32_52 : BitVec 32 := 29#32
  let v161 : BitVec 32 := Scalar.muli v156 c29_i32_52
  let v162 : BitVec 32 := Scalar.ori v154 v161
  let c22_i32_53 : BitVec 32 := 22#32
  let v163 : BitVec 1 := Scalar.cmpi .eq v2 c22_i32_53
  let v164 : BitVec 32 := Scalar.extui v163
  let c30_i32_55 : BitVec 32 := 30#32
  let v169 : BitVec 32 := Scalar.muli v164 c30_i32_55
  let v170 : BitVec 32 := Scalar.ori v162 v169
  let c21_i32_56 : BitVec 32 := 21#32
  let v171 : BitVec 1 := Scalar.cmpi .eq v2 c21_i32_56
  let v172 : BitVec 32 := Scalar.extui v171
  let c22_i32_59 : BitVec 32 := 22#32
  let v177 : BitVec 32 := Scalar.muli v172 c22_i32_59
  let v178 : BitVec 32 := Scalar.ori v170 v177
  let c18_i32_60 : BitVec 32 := 18#32
  let v179 : BitVec 1 := Scalar.cmpi .eq v2 c18_i32_60
  let v180 : BitVec 32 := Scalar.extui v179
  let c21_i32_63 : BitVec 32 := 21#32
  let v185 : BitVec 32 := Scalar.muli v180 c21_i32_63
  let v186 : BitVec 32 := Scalar.ori v178 v185
  let c17_i32_64 : BitVec 32 := 17#32
  let v187 : BitVec 1 := Scalar.cmpi .eq v2 c17_i32_64
  let v188 : BitVec 32 := Scalar.extui v187
  let c18_i32_67 : BitVec 32 := 18#32
  let v193 : BitVec 32 := Scalar.muli v188 c18_i32_67
  let v194 : BitVec 32 := Scalar.ori v186 v193
  let c9_i32_68 : BitVec 32 := 9#32
  let v195 : BitVec 1 := Scalar.cmpi .eq v2 c9_i32_68
  let v196 : BitVec 32 := Scalar.extui v195
  let c17_i32_71 : BitVec 32 := 17#32
  let v201 : BitVec 32 := Scalar.muli v196 c17_i32_71
  let v202 : BitVec 32 := Scalar.ori v194 v201
  let c10_i32_72 : BitVec 32 := 10#32
  let v203 : BitVec 1 := Scalar.cmpi .eq v2 c10_i32_72
  let v204 : BitVec 32 := Scalar.extui v203
  let c9_i32_75 : BitVec 32 := 9#32
  let v209 : BitVec 32 := Scalar.muli v204 c9_i32_75
  let v210 : BitVec 32 := Scalar.ori v202 v209
  let c13_i32_76 : BitVec 32 := 13#32
  let v211 : BitVec 1 := Scalar.cmpi .eq v2 c13_i32_76
  let v212 : BitVec 32 := Scalar.extui v211
  let c10_i32_79 : BitVec 32 := 10#32
  let v217 : BitVec 32 := Scalar.muli v212 c10_i32_79
  let v218 : BitVec 32 := Scalar.ori v210 v217
  let c14_i32_80 : BitVec 32 := 14#32
  let v219 : BitVec 1 := Scalar.cmpi .eq v2 c14_i32_80
  let v220 : BitVec 32 := Scalar.extui v219
  let c13_i32_83 : BitVec 32 := 13#32
  let v225 : BitVec 32 := Scalar.muli v220 c13_i32_83
  let v226 : BitVec 32 := Scalar.ori v218 v225
  let c6_i32_84 : BitVec 32 := 6#32
  let v227 : BitVec 1 := Scalar.cmpi .eq v2 c6_i32_84
  let v228 : BitVec 32 := Scalar.extui v227
  let c14_i32_87 : BitVec 32 := 14#32
  let v233 : BitVec 32 := Scalar.muli v228 c14_i32_87
  let v234 : BitVec 32 := Scalar.ori v226 v233
  let c5_i32_88 : BitVec 32 := 5#32
  let v235 : BitVec 1 := Scalar.cmpi .eq v2 c5_i32_88
  let v236 : BitVec 32 := Scalar.extui v235
  let c6_i32_91 : BitVec 32 := 6#32
  let v241 : BitVec 32 := Scalar.muli v236 c6_i32_91
  let v242 : BitVec 32 := Scalar.ori v234 v241
  let c2_i32_92 : BitVec 32 := 2#32
  let v243 : BitVec 1 := Scalar.cmpi .eq v2 c2_i32_92
  let v244 : BitVec 32 := Scalar.extui v243
  let c5_i32_95 : BitVec 32 := 5#32
  let v249 : BitVec 32 := Scalar.muli v244 c5_i32_95
  let v250 : BitVec 32 := Scalar.ori v242 v249
  let c1_i32_96 : BitVec 32 := 1#32
  let v251 : BitVec 1 := Scalar.cmpi .eq v2 c1_i32_96
  let v252 : BitVec 32 := Scalar.extui v251
  let c2_i32_99 : BitVec 32 := 2#32
  let v257 : BitVec 32 := Scalar.muli v252 c2_i32_99
  let v258 : BitVec 32 := Scalar.ori v250 v257
  let c1_i32_246 : BitVec 32 := 1#32
  let v472 : BitVec 32 := Scalar.muli v258 c1_i32_246
  let v473 : BitVec 32 := Scalar.addi c0_i32_247 v472
  v473.toNat
def k0_cond8 (k0_t2 : Fin k0_t2_loop.trips) : BitVec 1 :=
  let c0_i32_116 : BitVec 32 := 0#32
  let c1_i32_118 : BitVec 32 := 1#32
  let arg17 : BitVec 32 := Scf.iv c0_i32_116 c1_i32_118 k0_t2
  let c1_i32_223 : BitVec 32 := 1#32
  let v436 : BitVec 32 := Scalar.addi arg17 c1_i32_223
  let c31_i32_224 : BitVec 32 := 31#32
  let v437 : BitVec 1 := Scalar.cmpi .sge v436 c31_i32_224
  let v438 : BitVec 32 := Scalar.extui v437
  let c0_i32_225 : BitVec 32 := 0#32
  let v439 : BitVec 1 := Scalar.cmpi .ne v438 c0_i32_225
  v439

def k0_off26 (k0_t3 : Fin k0_t3_loop.trips) : Fin 1 → Nat :=
  let c0_i32_226 : BitVec 32 := 0#32
  let c0_i32_132 : BitVec 32 := 0#32
  let c1_i32_134 : BitVec 32 := 1#32
  let arg18 : BitVec 32 := Scf.iv c0_i32_132 c1_i32_134 k0_t3
  let v440 : BitVec 32 := Scalar.addi c0_i32_226 arg18
  let c16_i32_227 : BitVec 32 := 16#32
  let c0_i32_228 : BitVec 32 := 0#32
  let v441 : BitVec 1 := Scalar.cmpi .eq c16_i32_227 c0_i32_228
  let c1_i32_229 : BitVec 32 := 1#32
  let v442 : BitVec 32 := Scalar.select v441 c1_i32_229 c16_i32_227
  let v443 : BitVec 32 := Scalar.remsi v440 v442
  let c0_i32_231 : BitVec 32 := 0#32
  let v445 : BitVec 1 := Scalar.cmpi .slt v443 c0_i32_231
  let c0_i32_232 : BitVec 32 := 0#32
  let v446 : BitVec 1 := Scalar.cmpi .slt v442 c0_i32_232
  let v447 : BitVec 1 := Scalar.xori v445 v446
  let c0_i32_230 : BitVec 32 := 0#32
  let v444 : BitVec 1 := Scalar.cmpi .ne v443 c0_i32_230
  let v448 : BitVec 1 := Scalar.andi v447 v444
  let v449 : BitVec 32 := Scalar.addi v443 v442
  let v450 : BitVec 32 := Scalar.select v448 v449 v443
  ![v450.toNat]
def k0_off27 (d0 : Dev nD) (k0_t3 : Fin k0_t3_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c1_i32_233 : BitVec 32 := 1#32
  let v451 : BitVec 32 := Scalar.subi v254 c1_i32_233
  let c0_i32_234 : BitVec 32 := 0#32
  let v452 : BitVec 32 := Scalar.addi v451 c0_i32_234
  let c32_i32_235 : BitVec 32 := 32#32
  let c0_i32_236 : BitVec 32 := 0#32
  let v453 : BitVec 1 := Scalar.cmpi .eq c32_i32_235 c0_i32_236
  let c1_i32_237 : BitVec 32 := 1#32
  let v454 : BitVec 32 := Scalar.select v453 c1_i32_237 c32_i32_235
  let v455 : BitVec 32 := Scalar.remsi v452 v454
  let c0_i32_239 : BitVec 32 := 0#32
  let v457 : BitVec 1 := Scalar.cmpi .slt v455 c0_i32_239
  let c0_i32_240 : BitVec 32 := 0#32
  let v458 : BitVec 1 := Scalar.cmpi .slt v454 c0_i32_240
  let v459 : BitVec 1 := Scalar.xori v457 v458
  let c0_i32_238 : BitVec 32 := 0#32
  let v456 : BitVec 1 := Scalar.cmpi .ne v455 c0_i32_238
  let v460 : BitVec 1 := Scalar.andi v459 v456
  let v461 : BitVec 32 := Scalar.addi v455 v454
  let v462 : BitVec 32 := Scalar.select v460 v461 v455
  let c64_i32_241 : BitVec 32 := 64#32
  let v463 : BitVec 32 := Scalar.muli v462 c64_i32_241
  let c1024_i32_243 : BitVec 32 := 1024#32
  let c0_i32_132 : BitVec 32 := 0#32
  let c1_i32_134 : BitVec 32 := 1#32
  let arg18 : BitVec 32 := Scf.iv c0_i32_132 c1_i32_134 k0_t3
  let c128_i32_242 : BitVec 32 := 128#32
  let v464 : BitVec 32 := Scalar.muli arg18 c128_i32_242
  let v465 : BitVec 32 := Scalar.addi c1024_i32_243 v464
  ![v463.toNat, v465.toNat]
def k0_dev10 (d0 : Dev nD) : Nat :=
  let c0_i32_245 : BitVec 32 := 0#32
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c1_i32_3 : BitVec 32 := 1#32
  let v9 : BitVec 32 := Scalar.muli v4 c1_i32_3
  let v10 : BitVec 32 := Scalar.ori c0_i32_4 v9
  let c3_i32_5 : BitVec 32 := 3#32
  let v11 : BitVec 1 := Scalar.cmpi .eq v2 c3_i32_5
  let v12 : BitVec 32 := Scalar.extui v11
  let c0_i32_7 : BitVec 32 := 0#32
  let v17 : BitVec 32 := Scalar.muli v12 c0_i32_7
  let v18 : BitVec 32 := Scalar.ori v10 v17
  let c4_i32_8 : BitVec 32 := 4#32
  let v19 : BitVec 1 := Scalar.cmpi .eq v2 c4_i32_8
  let v20 : BitVec 32 := Scalar.extui v19
  let c3_i32_9 : BitVec 32 := 3#32
  let v25 : BitVec 32 := Scalar.muli v20 c3_i32_9
  let v26 : BitVec 32 := Scalar.ori v18 v25
  let c7_i32_10 : BitVec 32 := 7#32
  let v27 : BitVec 1 := Scalar.cmpi .eq v2 c7_i32_10
  let v28 : BitVec 32 := Scalar.extui v27
  let c4_i32_12 : BitVec 32 := 4#32
  let v33 : BitVec 32 := Scalar.muli v28 c4_i32_12
  let v34 : BitVec 32 := Scalar.ori v26 v33
  let c15_i32_13 : BitVec 32 := 15#32
  let v35 : BitVec 1 := Scalar.cmpi .eq v2 c15_i32_13
  let v36 : BitVec 32 := Scalar.extui v35
  let c7_i32_15 : BitVec 32 := 7#32
  let v41 : BitVec 32 := Scalar.muli v36 c7_i32_15
  let v42 : BitVec 32 := Scalar.ori v34 v41
  let c12_i32_16 : BitVec 32 := 12#32
  let v43 : BitVec 1 := Scalar.cmpi .eq v2 c12_i32_16
  let v44 : BitVec 32 := Scalar.extui v43
  let c15_i32_17 : BitVec 32 := 15#32
  let v49 : BitVec 32 := Scalar.muli v44 c15_i32_17
  let v50 : BitVec 32 := Scalar.ori v42 v49
  let c11_i32_18 : BitVec 32 := 11#32
  let v51 : BitVec 1 := Scalar.cmpi .eq v2 c11_i32_18
  let v52 : BitVec 32 := Scalar.extui v51
  let c12_i32_19 : BitVec 32 := 12#32
  let v57 : BitVec 32 := Scalar.muli v52 c12_i32_19
  let v58 : BitVec 32 := Scalar.ori v50 v57
  let c8_i32_20 : BitVec 32 := 8#32
  let v59 : BitVec 1 := Scalar.cmpi .eq v2 c8_i32_20
  let v60 : BitVec 32 := Scalar.extui v59
  let c11_i32_22 : BitVec 32 := 11#32
  let v65 : BitVec 32 := Scalar.muli v60 c11_i32_22
  let v66 : BitVec 32 := Scalar.ori v58 v65
  let c16_i32_23 : BitVec 32 := 16#32
  let v67 : BitVec 1 := Scalar.cmpi .eq v2 c16_i32_23
  let v68 : BitVec 32 := Scalar.extui v67
  let c8_i32_25 : BitVec 32 := 8#32
  let v73 : BitVec 32 := Scalar.muli v68 c8_i32_25
  let v74 : BitVec 32 := Scalar.ori v66 v73
  let c19_i32_26 : BitVec 32 := 19#32
  let v75 : BitVec 1 := Scalar.cmpi .eq v2 c19_i32_26
  let v76 : BitVec 32 := Scalar.extui v75
  let c16_i32_27 : BitVec 32 := 16#32
  let v81 : BitVec 32 := Scalar.muli v76 c16_i32_27
  let v82 : BitVec 32 := Scalar.ori v74 v81
  let c20_i32_28 : BitVec 32 := 20#32
  let v83 : BitVec 1 := Scalar.cmpi .eq v2 c20_i32_28
  let v84 : BitVec 32 := Scalar.extui v83
  let c19_i32_29 : BitVec 32 := 19#32
  let v89 : BitVec 32 := Scalar.muli v84 c19_i32_29
  let v90 : BitVec 32 := Scalar.ori v82 v89
  let c23_i32_30 : BitVec 32 := 23#32
  let v91 : BitVec 1 := Scalar.cmpi .eq v2 c23_i32_30
  let v92 : BitVec 32 := Scalar.extui v91
  let c20_i32_32 : BitVec 32 := 20#32
  let v97 : BitVec 32 := Scalar.muli v92 c20_i32_32
  let v98 : BitVec 32 := Scalar.ori v90 v97
  let c31_i32_33 : BitVec 32 := 31#32
  let v99 : BitVec 1 := Scalar.cmpi .eq v2 c31_i32_33
  let v100 : BitVec 32 := Scalar.extui v99
  let c23_i32_35 : BitVec 32 := 23#32
  let v105 : BitVec 32 := Scalar.muli v100 c23_i32_35
  let v106 : BitVec 32 := Scalar.ori v98 v105
  let c28_i32_36 : BitVec 32 := 28#32
  let v107 : BitVec 1 := Scalar.cmpi .eq v2 c28_i32_36
  let v108 : BitVec 32 := Scalar.extui v107
  let c31_i32_37 : BitVec 32 := 31#32
  let v113 : BitVec 32 := Scalar.muli v108 c31_i32_37
  let v114 : BitVec 32 := Scalar.ori v106 v113
  let c27_i32_38 : BitVec 32 := 27#32
  let v115 : BitVec 1 := Scalar.cmpi .eq v2 c27_i32_38
  let v116 : BitVec 32 := Scalar.extui v115
  let c28_i32_39 : BitVec 32 := 28#32
  let v121 : BitVec 32 := Scalar.muli v116 c28_i32_39
  let v122 : BitVec 32 := Scalar.ori v114 v121
  let c24_i32_40 : BitVec 32 := 24#32
  let v123 : BitVec 1 := Scalar.cmpi .eq v2 c24_i32_40
  let v124 : BitVec 32 := Scalar.extui v123
  let c27_i32_42 : BitVec 32 := 27#32
  let v129 : BitVec 32 := Scalar.muli v124 c27_i32_42
  let v130 : BitVec 32 := Scalar.ori v122 v129
  let c25_i32_43 : BitVec 32 := 25#32
  let v131 : BitVec 1 := Scalar.cmpi .eq v2 c25_i32_43
  let v132 : BitVec 32 := Scalar.extui v131
  let c24_i32_45 : BitVec 32 := 24#32
  let v137 : BitVec 32 := Scalar.muli v132 c24_i32_45
  let v138 : BitVec 32 := Scalar.ori v130 v137
  let c26_i32_46 : BitVec 32 := 26#32
  let v139 : BitVec 1 := Scalar.cmpi .eq v2 c26_i32_46
  let v140 : BitVec 32 := Scalar.extui v139
  let c25_i32_47 : BitVec 32 := 25#32
  let v145 : BitVec 32 := Scalar.muli v140 c25_i32_47
  let v146 : BitVec 32 := Scalar.ori v138 v145
  let c29_i32_48 : BitVec 32 := 29#32
  let v147 : BitVec 1 := Scalar.cmpi .eq v2 c29_i32_48
  let v148 : BitVec 32 := Scalar.extui v147
  let c26_i32_49 : BitVec 32 := 26#32
  let v153 : BitVec 32 := Scalar.muli v148 c26_i32_49
  let v154 : BitVec 32 := Scalar.ori v146 v153
  let c30_i32_50 : BitVec 32 := 30#32
  let v155 : BitVec 1 := Scalar.cmpi .eq v2 c30_i32_50
  let v156 : BitVec 32 := Scalar.extui v155
  let c29_i32_52 : BitVec 32 := 29#32
  let v161 : BitVec 32 := Scalar.muli v156 c29_i32_52
  let v162 : BitVec 32 := Scalar.ori v154 v161
  let c22_i32_53 : BitVec 32 := 22#32
  let v163 : BitVec 1 := Scalar.cmpi .eq v2 c22_i32_53
  let v164 : BitVec 32 := Scalar.extui v163
  let c30_i32_55 : BitVec 32 := 30#32
  let v169 : BitVec 32 := Scalar.muli v164 c30_i32_55
  let v170 : BitVec 32 := Scalar.ori v162 v169
  let c21_i32_56 : BitVec 32 := 21#32
  let v171 : BitVec 1 := Scalar.cmpi .eq v2 c21_i32_56
  let v172 : BitVec 32 := Scalar.extui v171
  let c22_i32_59 : BitVec 32 := 22#32
  let v177 : BitVec 32 := Scalar.muli v172 c22_i32_59
  let v178 : BitVec 32 := Scalar.ori v170 v177
  let c18_i32_60 : BitVec 32 := 18#32
  let v179 : BitVec 1 := Scalar.cmpi .eq v2 c18_i32_60
  let v180 : BitVec 32 := Scalar.extui v179
  let c21_i32_63 : BitVec 32 := 21#32
  let v185 : BitVec 32 := Scalar.muli v180 c21_i32_63
  let v186 : BitVec 32 := Scalar.ori v178 v185
  let c17_i32_64 : BitVec 32 := 17#32
  let v187 : BitVec 1 := Scalar.cmpi .eq v2 c17_i32_64
  let v188 : BitVec 32 := Scalar.extui v187
  let c18_i32_67 : BitVec 32 := 18#32
  let v193 : BitVec 32 := Scalar.muli v188 c18_i32_67
  let v194 : BitVec 32 := Scalar.ori v186 v193
  let c9_i32_68 : BitVec 32 := 9#32
  let v195 : BitVec 1 := Scalar.cmpi .eq v2 c9_i32_68
  let v196 : BitVec 32 := Scalar.extui v195
  let c17_i32_71 : BitVec 32 := 17#32
  let v201 : BitVec 32 := Scalar.muli v196 c17_i32_71
  let v202 : BitVec 32 := Scalar.ori v194 v201
  let c10_i32_72 : BitVec 32 := 10#32
  let v203 : BitVec 1 := Scalar.cmpi .eq v2 c10_i32_72
  let v204 : BitVec 32 := Scalar.extui v203
  let c9_i32_75 : BitVec 32 := 9#32
  let v209 : BitVec 32 := Scalar.muli v204 c9_i32_75
  let v210 : BitVec 32 := Scalar.ori v202 v209
  let c13_i32_76 : BitVec 32 := 13#32
  let v211 : BitVec 1 := Scalar.cmpi .eq v2 c13_i32_76
  let v212 : BitVec 32 := Scalar.extui v211
  let c10_i32_79 : BitVec 32 := 10#32
  let v217 : BitVec 32 := Scalar.muli v212 c10_i32_79
  let v218 : BitVec 32 := Scalar.ori v210 v217
  let c14_i32_80 : BitVec 32 := 14#32
  let v219 : BitVec 1 := Scalar.cmpi .eq v2 c14_i32_80
  let v220 : BitVec 32 := Scalar.extui v219
  let c13_i32_83 : BitVec 32 := 13#32
  let v225 : BitVec 32 := Scalar.muli v220 c13_i32_83
  let v226 : BitVec 32 := Scalar.ori v218 v225
  let c6_i32_84 : BitVec 32 := 6#32
  let v227 : BitVec 1 := Scalar.cmpi .eq v2 c6_i32_84
  let v228 : BitVec 32 := Scalar.extui v227
  let c14_i32_87 : BitVec 32 := 14#32
  let v233 : BitVec 32 := Scalar.muli v228 c14_i32_87
  let v234 : BitVec 32 := Scalar.ori v226 v233
  let c5_i32_88 : BitVec 32 := 5#32
  let v235 : BitVec 1 := Scalar.cmpi .eq v2 c5_i32_88
  let v236 : BitVec 32 := Scalar.extui v235
  let c6_i32_91 : BitVec 32 := 6#32
  let v241 : BitVec 32 := Scalar.muli v236 c6_i32_91
  let v242 : BitVec 32 := Scalar.ori v234 v241
  let c2_i32_92 : BitVec 32 := 2#32
  let v243 : BitVec 1 := Scalar.cmpi .eq v2 c2_i32_92
  let v244 : BitVec 32 := Scalar.extui v243
  let c5_i32_95 : BitVec 32 := 5#32
  let v249 : BitVec 32 := Scalar.muli v244 c5_i32_95
  let v250 : BitVec 32 := Scalar.ori v242 v249
  let c1_i32_96 : BitVec 32 := 1#32
  let v251 : BitVec 1 := Scalar.cmpi .eq v2 c1_i32_96
  let v252 : BitVec 32 := Scalar.extui v251
  let c2_i32_99 : BitVec 32 := 2#32
  let v257 : BitVec 32 := Scalar.muli v252 c2_i32_99
  let v258 : BitVec 32 := Scalar.ori v250 v257
  let c1_i32_244 : BitVec 32 := 1#32
  let v466 : BitVec 32 := Scalar.muli v258 c1_i32_244
  let v467 : BitVec 32 := Scalar.addi c0_i32_245 v466
  v467.toNat
@[reducible] def k0_t4_loop : Scf.Loop 32 :=
  let c0_i32_120 : BitVec 32 := 0#32
  let c31_i32_121 : BitVec 32 := 31#32
  let v272 : BitVec 32 := Scalar.addi c0_i32_120 c31_i32_121
  let c1_i32_122 : BitVec 32 := 1#32
  ⟨c0_i32_120, v272, c1_i32_122⟩
@[reducible] def k0_t5_loop : Scf.Loop 32 :=
  let c0_i32_132 : BitVec 32 := 0#32
  let c8_i32_133 : BitVec 32 := 8#32
  let v275 : BitVec 32 := Scalar.addi c0_i32_132 c8_i32_133
  let c1_i32_134 : BitVec 32 := 1#32
  ⟨c0_i32_132, v275, c1_i32_134⟩
def k0_off28 (k0_t4 : Fin k0_t4_loop.trips) (k0_t5 : Fin k0_t5_loop.trips) : Fin 1 → Nat :=
  let c8_i32_137 : BitVec 32 := 8#32
  let c0_i32_120 : BitVec 32 := 0#32
  let c1_i32_122 : BitVec 32 := 1#32
  let arg17 : BitVec 32 := Scf.iv c0_i32_120 c1_i32_122 k0_t4
  let v278 : BitVec 32 := Scalar.muli c8_i32_137 arg17
  let c0_i32_132 : BitVec 32 := 0#32
  let c1_i32_134 : BitVec 32 := 1#32
  let arg18 : BitVec 32 := Scf.iv c0_i32_132 c1_i32_134 k0_t5
  let v279 : BitVec 32 := Scalar.addi v278 arg18
  let c16_i32_138 : BitVec 32 := 16#32
  let c0_i32_139 : BitVec 32 := 0#32
  let v280 : BitVec 1 := Scalar.cmpi .eq c16_i32_138 c0_i32_139
  let c1_i32_140 : BitVec 32 := 1#32
  let v281 : BitVec 32 := Scalar.select v280 c1_i32_140 c16_i32_138
  let v282 : BitVec 32 := Scalar.remsi v279 v281
  let c0_i32_142 : BitVec 32 := 0#32
  let v284 : BitVec 1 := Scalar.cmpi .slt v282 c0_i32_142
  let c0_i32_143 : BitVec 32 := 0#32
  let v285 : BitVec 1 := Scalar.cmpi .slt v281 c0_i32_143
  let v286 : BitVec 1 := Scalar.xori v284 v285
  let c0_i32_141 : BitVec 32 := 0#32
  let v283 : BitVec 1 := Scalar.cmpi .ne v282 c0_i32_141
  let v287 : BitVec 1 := Scalar.andi v286 v283
  let v288 : BitVec 32 := Scalar.addi v282 v281
  let v289 : BitVec 32 := Scalar.select v287 v288 v282
  ![v289.toNat]
def k0_off29 (d0 : Dev nD) (k0_t4 : Fin k0_t4_loop.trips) (k0_t5 : Fin k0_t5_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c1_i32_144 : BitVec 32 := 1#32
  let v290 : BitVec 32 := Scalar.addi v254 c1_i32_144
  let c0_i32_120 : BitVec 32 := 0#32
  let c1_i32_122 : BitVec 32 := 1#32
  let arg17 : BitVec 32 := Scf.iv c0_i32_120 c1_i32_122 k0_t4
  let v291 : BitVec 32 := Scalar.subi v290 arg17
  let c32_i32_145 : BitVec 32 := 32#32
  let c0_i32_146 : BitVec 32 := 0#32
  let v292 : BitVec 1 := Scalar.cmpi .eq c32_i32_145 c0_i32_146
  let c1_i32_147 : BitVec 32 := 1#32
  let v293 : BitVec 32 := Scalar.select v292 c1_i32_147 c32_i32_145
  let v294 : BitVec 32 := Scalar.remsi v291 v293
  let c0_i32_149 : BitVec 32 := 0#32
  let v296 : BitVec 1 := Scalar.cmpi .slt v294 c0_i32_149
  let c0_i32_150 : BitVec 32 := 0#32
  let v297 : BitVec 1 := Scalar.cmpi .slt v293 c0_i32_150
  let v298 : BitVec 1 := Scalar.xori v296 v297
  let c0_i32_148 : BitVec 32 := 0#32
  let v295 : BitVec 1 := Scalar.cmpi .ne v294 c0_i32_148
  let v299 : BitVec 1 := Scalar.andi v298 v295
  let v300 : BitVec 32 := Scalar.addi v294 v293
  let v301 : BitVec 32 := Scalar.select v299 v300 v294
  let c64_i32 : BitVec 32 := 64#32
  let v302 : BitVec 32 := Scalar.muli v301 c64_i32
  let c0_i32_151 : BitVec 32 := 0#32
  let c0_i32_132 : BitVec 32 := 0#32
  let c1_i32_134 : BitVec 32 := 1#32
  let arg18 : BitVec 32 := Scf.iv c0_i32_132 c1_i32_134 k0_t5
  let c128_i32 : BitVec 32 := 128#32
  let v303 : BitVec 32 := Scalar.muli arg18 c128_i32
  let v304 : BitVec 32 := Scalar.addi c0_i32_151 v303
  ![v302.toNat, v304.toNat]
def k0_cond9 (k0_t4 : Fin k0_t4_loop.trips) (k0_t5 : Fin k0_t5_loop.trips) : BitVec 1 :=
  let c8_i32_136 : BitVec 32 := 8#32
  let c0_i32_120 : BitVec 32 := 0#32
  let c1_i32_122 : BitVec 32 := 1#32
  let arg17 : BitVec 32 := Scf.iv c0_i32_120 c1_i32_122 k0_t4
  let v276 : BitVec 32 := Scalar.muli c8_i32_136 arg17
  let c0_i32_132 : BitVec 32 := 0#32
  let c1_i32_134 : BitVec 32 := 1#32
  let arg18 : BitVec 32 := Scf.iv c0_i32_132 c1_i32_134 k0_t5
  let v277 : BitVec 32 := Scalar.addi v276 arg18
  let c232_i32 : BitVec 32 := 232#32
  let v311 : BitVec 1 := Scalar.cmpi .slt v277 c232_i32
  let v312 : BitVec 32 := Scalar.extui v311
  let c0_i32_154 : BitVec 32 := 0#32
  let v313 : BitVec 1 := Scalar.cmpi .ne v312 c0_i32_154
  v313

def k0_dev11 (d0 : Dev nD) : Nat :=
  let c0_i32_184 : BitVec 32 := 0#32
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c1_i32_3 : BitVec 32 := 1#32
  let v9 : BitVec 32 := Scalar.muli v4 c1_i32_3
  let v10 : BitVec 32 := Scalar.ori c0_i32_4 v9
  let c3_i32_5 : BitVec 32 := 3#32
  let v11 : BitVec 1 := Scalar.cmpi .eq v2 c3_i32_5
  let v12 : BitVec 32 := Scalar.extui v11
  let c0_i32_7 : BitVec 32 := 0#32
  let v17 : BitVec 32 := Scalar.muli v12 c0_i32_7
  let v18 : BitVec 32 := Scalar.ori v10 v17
  let c4_i32_8 : BitVec 32 := 4#32
  let v19 : BitVec 1 := Scalar.cmpi .eq v2 c4_i32_8
  let v20 : BitVec 32 := Scalar.extui v19
  let c3_i32_9 : BitVec 32 := 3#32
  let v25 : BitVec 32 := Scalar.muli v20 c3_i32_9
  let v26 : BitVec 32 := Scalar.ori v18 v25
  let c7_i32_10 : BitVec 32 := 7#32
  let v27 : BitVec 1 := Scalar.cmpi .eq v2 c7_i32_10
  let v28 : BitVec 32 := Scalar.extui v27
  let c4_i32_12 : BitVec 32 := 4#32
  let v33 : BitVec 32 := Scalar.muli v28 c4_i32_12
  let v34 : BitVec 32 := Scalar.ori v26 v33
  let c15_i32_13 : BitVec 32 := 15#32
  let v35 : BitVec 1 := Scalar.cmpi .eq v2 c15_i32_13
  let v36 : BitVec 32 := Scalar.extui v35
  let c7_i32_15 : BitVec 32 := 7#32
  let v41 : BitVec 32 := Scalar.muli v36 c7_i32_15
  let v42 : BitVec 32 := Scalar.ori v34 v41
  let c12_i32_16 : BitVec 32 := 12#32
  let v43 : BitVec 1 := Scalar.cmpi .eq v2 c12_i32_16
  let v44 : BitVec 32 := Scalar.extui v43
  let c15_i32_17 : BitVec 32 := 15#32
  let v49 : BitVec 32 := Scalar.muli v44 c15_i32_17
  let v50 : BitVec 32 := Scalar.ori v42 v49
  let c11_i32_18 : BitVec 32 := 11#32
  let v51 : BitVec 1 := Scalar.cmpi .eq v2 c11_i32_18
  let v52 : BitVec 32 := Scalar.extui v51
  let c12_i32_19 : BitVec 32 := 12#32
  let v57 : BitVec 32 := Scalar.muli v52 c12_i32_19
  let v58 : BitVec 32 := Scalar.ori v50 v57
  let c8_i32_20 : BitVec 32 := 8#32
  let v59 : BitVec 1 := Scalar.cmpi .eq v2 c8_i32_20
  let v60 : BitVec 32 := Scalar.extui v59
  let c11_i32_22 : BitVec 32 := 11#32
  let v65 : BitVec 32 := Scalar.muli v60 c11_i32_22
  let v66 : BitVec 32 := Scalar.ori v58 v65
  let c16_i32_23 : BitVec 32 := 16#32
  let v67 : BitVec 1 := Scalar.cmpi .eq v2 c16_i32_23
  let v68 : BitVec 32 := Scalar.extui v67
  let c8_i32_25 : BitVec 32 := 8#32
  let v73 : BitVec 32 := Scalar.muli v68 c8_i32_25
  let v74 : BitVec 32 := Scalar.ori v66 v73
  let c19_i32_26 : BitVec 32 := 19#32
  let v75 : BitVec 1 := Scalar.cmpi .eq v2 c19_i32_26
  let v76 : BitVec 32 := Scalar.extui v75
  let c16_i32_27 : BitVec 32 := 16#32
  let v81 : BitVec 32 := Scalar.muli v76 c16_i32_27
  let v82 : BitVec 32 := Scalar.ori v74 v81
  let c20_i32_28 : BitVec 32 := 20#32
  let v83 : BitVec 1 := Scalar.cmpi .eq v2 c20_i32_28
  let v84 : BitVec 32 := Scalar.extui v83
  let c19_i32_29 : BitVec 32 := 19#32
  let v89 : BitVec 32 := Scalar.muli v84 c19_i32_29
  let v90 : BitVec 32 := Scalar.ori v82 v89
  let c23_i32_30 : BitVec 32 := 23#32
  let v91 : BitVec 1 := Scalar.cmpi .eq v2 c23_i32_30
  let v92 : BitVec 32 := Scalar.extui v91
  let c20_i32_32 : BitVec 32 := 20#32
  let v97 : BitVec 32 := Scalar.muli v92 c20_i32_32
  let v98 : BitVec 32 := Scalar.ori v90 v97
  let c31_i32_33 : BitVec 32 := 31#32
  let v99 : BitVec 1 := Scalar.cmpi .eq v2 c31_i32_33
  let v100 : BitVec 32 := Scalar.extui v99
  let c23_i32_35 : BitVec 32 := 23#32
  let v105 : BitVec 32 := Scalar.muli v100 c23_i32_35
  let v106 : BitVec 32 := Scalar.ori v98 v105
  let c28_i32_36 : BitVec 32 := 28#32
  let v107 : BitVec 1 := Scalar.cmpi .eq v2 c28_i32_36
  let v108 : BitVec 32 := Scalar.extui v107
  let c31_i32_37 : BitVec 32 := 31#32
  let v113 : BitVec 32 := Scalar.muli v108 c31_i32_37
  let v114 : BitVec 32 := Scalar.ori v106 v113
  let c27_i32_38 : BitVec 32 := 27#32
  let v115 : BitVec 1 := Scalar.cmpi .eq v2 c27_i32_38
  let v116 : BitVec 32 := Scalar.extui v115
  let c28_i32_39 : BitVec 32 := 28#32
  let v121 : BitVec 32 := Scalar.muli v116 c28_i32_39
  let v122 : BitVec 32 := Scalar.ori v114 v121
  let c24_i32_40 : BitVec 32 := 24#32
  let v123 : BitVec 1 := Scalar.cmpi .eq v2 c24_i32_40
  let v124 : BitVec 32 := Scalar.extui v123
  let c27_i32_42 : BitVec 32 := 27#32
  let v129 : BitVec 32 := Scalar.muli v124 c27_i32_42
  let v130 : BitVec 32 := Scalar.ori v122 v129
  let c25_i32_43 : BitVec 32 := 25#32
  let v131 : BitVec 1 := Scalar.cmpi .eq v2 c25_i32_43
  let v132 : BitVec 32 := Scalar.extui v131
  let c24_i32_45 : BitVec 32 := 24#32
  let v137 : BitVec 32 := Scalar.muli v132 c24_i32_45
  let v138 : BitVec 32 := Scalar.ori v130 v137
  let c26_i32_46 : BitVec 32 := 26#32
  let v139 : BitVec 1 := Scalar.cmpi .eq v2 c26_i32_46
  let v140 : BitVec 32 := Scalar.extui v139
  let c25_i32_47 : BitVec 32 := 25#32
  let v145 : BitVec 32 := Scalar.muli v140 c25_i32_47
  let v146 : BitVec 32 := Scalar.ori v138 v145
  let c29_i32_48 : BitVec 32 := 29#32
  let v147 : BitVec 1 := Scalar.cmpi .eq v2 c29_i32_48
  let v148 : BitVec 32 := Scalar.extui v147
  let c26_i32_49 : BitVec 32 := 26#32
  let v153 : BitVec 32 := Scalar.muli v148 c26_i32_49
  let v154 : BitVec 32 := Scalar.ori v146 v153
  let c30_i32_50 : BitVec 32 := 30#32
  let v155 : BitVec 1 := Scalar.cmpi .eq v2 c30_i32_50
  let v156 : BitVec 32 := Scalar.extui v155
  let c29_i32_52 : BitVec 32 := 29#32
  let v161 : BitVec 32 := Scalar.muli v156 c29_i32_52
  let v162 : BitVec 32 := Scalar.ori v154 v161
  let c22_i32_53 : BitVec 32 := 22#32
  let v163 : BitVec 1 := Scalar.cmpi .eq v2 c22_i32_53
  let v164 : BitVec 32 := Scalar.extui v163
  let c30_i32_55 : BitVec 32 := 30#32
  let v169 : BitVec 32 := Scalar.muli v164 c30_i32_55
  let v170 : BitVec 32 := Scalar.ori v162 v169
  let c21_i32_56 : BitVec 32 := 21#32
  let v171 : BitVec 1 := Scalar.cmpi .eq v2 c21_i32_56
  let v172 : BitVec 32 := Scalar.extui v171
  let c22_i32_59 : BitVec 32 := 22#32
  let v177 : BitVec 32 := Scalar.muli v172 c22_i32_59
  let v178 : BitVec 32 := Scalar.ori v170 v177
  let c18_i32_60 : BitVec 32 := 18#32
  let v179 : BitVec 1 := Scalar.cmpi .eq v2 c18_i32_60
  let v180 : BitVec 32 := Scalar.extui v179
  let c21_i32_63 : BitVec 32 := 21#32
  let v185 : BitVec 32 := Scalar.muli v180 c21_i32_63
  let v186 : BitVec 32 := Scalar.ori v178 v185
  let c17_i32_64 : BitVec 32 := 17#32
  let v187 : BitVec 1 := Scalar.cmpi .eq v2 c17_i32_64
  let v188 : BitVec 32 := Scalar.extui v187
  let c18_i32_67 : BitVec 32 := 18#32
  let v193 : BitVec 32 := Scalar.muli v188 c18_i32_67
  let v194 : BitVec 32 := Scalar.ori v186 v193
  let c9_i32_68 : BitVec 32 := 9#32
  let v195 : BitVec 1 := Scalar.cmpi .eq v2 c9_i32_68
  let v196 : BitVec 32 := Scalar.extui v195
  let c17_i32_71 : BitVec 32 := 17#32
  let v201 : BitVec 32 := Scalar.muli v196 c17_i32_71
  let v202 : BitVec 32 := Scalar.ori v194 v201
  let c10_i32_72 : BitVec 32 := 10#32
  let v203 : BitVec 1 := Scalar.cmpi .eq v2 c10_i32_72
  let v204 : BitVec 32 := Scalar.extui v203
  let c9_i32_75 : BitVec 32 := 9#32
  let v209 : BitVec 32 := Scalar.muli v204 c9_i32_75
  let v210 : BitVec 32 := Scalar.ori v202 v209
  let c13_i32_76 : BitVec 32 := 13#32
  let v211 : BitVec 1 := Scalar.cmpi .eq v2 c13_i32_76
  let v212 : BitVec 32 := Scalar.extui v211
  let c10_i32_79 : BitVec 32 := 10#32
  let v217 : BitVec 32 := Scalar.muli v212 c10_i32_79
  let v218 : BitVec 32 := Scalar.ori v210 v217
  let c14_i32_80 : BitVec 32 := 14#32
  let v219 : BitVec 1 := Scalar.cmpi .eq v2 c14_i32_80
  let v220 : BitVec 32 := Scalar.extui v219
  let c13_i32_83 : BitVec 32 := 13#32
  let v225 : BitVec 32 := Scalar.muli v220 c13_i32_83
  let v226 : BitVec 32 := Scalar.ori v218 v225
  let c6_i32_84 : BitVec 32 := 6#32
  let v227 : BitVec 1 := Scalar.cmpi .eq v2 c6_i32_84
  let v228 : BitVec 32 := Scalar.extui v227
  let c14_i32_87 : BitVec 32 := 14#32
  let v233 : BitVec 32 := Scalar.muli v228 c14_i32_87
  let v234 : BitVec 32 := Scalar.ori v226 v233
  let c5_i32_88 : BitVec 32 := 5#32
  let v235 : BitVec 1 := Scalar.cmpi .eq v2 c5_i32_88
  let v236 : BitVec 32 := Scalar.extui v235
  let c6_i32_91 : BitVec 32 := 6#32
  let v241 : BitVec 32 := Scalar.muli v236 c6_i32_91
  let v242 : BitVec 32 := Scalar.ori v234 v241
  let c2_i32_92 : BitVec 32 := 2#32
  let v243 : BitVec 1 := Scalar.cmpi .eq v2 c2_i32_92
  let v244 : BitVec 32 := Scalar.extui v243
  let c5_i32_95 : BitVec 32 := 5#32
  let v249 : BitVec 32 := Scalar.muli v244 c5_i32_95
  let v250 : BitVec 32 := Scalar.ori v242 v249
  let c1_i32_96 : BitVec 32 := 1#32
  let v251 : BitVec 1 := Scalar.cmpi .eq v2 c1_i32_96
  let v252 : BitVec 32 := Scalar.extui v251
  let c2_i32_99 : BitVec 32 := 2#32
  let v257 : BitVec 32 := Scalar.muli v252 c2_i32_99
  let v258 : BitVec 32 := Scalar.ori v250 v257
  let c1_i32_183 : BitVec 32 := 1#32
  let v360 : BitVec 32 := Scalar.muli v258 c1_i32_183
  let v361 : BitVec 32 := Scalar.addi c0_i32_184 v360
  v361.toNat
def k0_cond10 (k0_t4 : Fin k0_t4_loop.trips) : BitVec 1 :=
  let c0_i32_120 : BitVec 32 := 0#32
  let c1_i32_122 : BitVec 32 := 1#32
  let arg17 : BitVec 32 := Scf.iv c0_i32_120 c1_i32_122 k0_t4
  let c1_i32_155 : BitVec 32 := 1#32
  let v314 : BitVec 32 := Scalar.addi arg17 c1_i32_155
  let c31_i32_156 : BitVec 32 := 31#32
  let v315 : BitVec 1 := Scalar.cmpi .slt v314 c31_i32_156
  let v316 : BitVec 32 := Scalar.extui v315
  let c0_i32_157 : BitVec 32 := 0#32
  let v317 : BitVec 1 := Scalar.cmpi .ne v316 c0_i32_157
  v317

def k0_cond11 (k0_t4 : Fin k0_t4_loop.trips) (k0_t5 : Fin k0_t5_loop.trips) : BitVec 1 :=
  let c8_i32_183 : BitVec 32 := 8#32
  let c0_i32_120 : BitVec 32 := 0#32
  let c1_i32_122 : BitVec 32 := 1#32
  let arg17 : BitVec 32 := Scf.iv c0_i32_120 c1_i32_122 k0_t4
  let c1_i32_182 : BitVec 32 := 1#32
  let v360 : BitVec 32 := Scalar.addi arg17 c1_i32_182
  let v361 : BitVec 32 := Scalar.muli c8_i32_183 v360
  let c0_i32_132 : BitVec 32 := 0#32
  let c1_i32_134 : BitVec 32 := 1#32
  let arg18 : BitVec 32 := Scf.iv c0_i32_132 c1_i32_134 k0_t5
  let v362 : BitVec 32 := Scalar.addi v361 arg18
  let c16_i32_184 : BitVec 32 := 16#32
  let v363 : BitVec 1 := Scalar.cmpi .sge v362 c16_i32_184
  let v364 : BitVec 32 := Scalar.extui v363
  let c0_i32_185 : BitVec 32 := 0#32
  let v365 : BitVec 1 := Scalar.cmpi .ne v364 c0_i32_185
  v365

def k0_off30 (k0_t4 : Fin k0_t4_loop.trips) (k0_t5 : Fin k0_t5_loop.trips) : Fin 1 → Nat :=
  let c8_i32_208 : BitVec 32 := 8#32
  let c0_i32_120 : BitVec 32 := 0#32
  let c1_i32_122 : BitVec 32 := 1#32
  let arg17 : BitVec 32 := Scf.iv c0_i32_120 c1_i32_122 k0_t4
  let c1_i32_182 : BitVec 32 := 1#32
  let v360 : BitVec 32 := Scalar.addi arg17 c1_i32_182
  let c2_i32_207 : BitVec 32 := 2#32
  let v401 : BitVec 32 := Scalar.subi v360 c2_i32_207
  let v402 : BitVec 32 := Scalar.muli c8_i32_208 v401
  let c0_i32_132 : BitVec 32 := 0#32
  let c1_i32_134 : BitVec 32 := 1#32
  let arg18 : BitVec 32 := Scf.iv c0_i32_132 c1_i32_134 k0_t5
  let v403 : BitVec 32 := Scalar.addi v402 arg18
  let c16_i32_209 : BitVec 32 := 16#32
  let c0_i32_210 : BitVec 32 := 0#32
  let v404 : BitVec 1 := Scalar.cmpi .eq c16_i32_209 c0_i32_210
  let c1_i32_211 : BitVec 32 := 1#32
  let v405 : BitVec 32 := Scalar.select v404 c1_i32_211 c16_i32_209
  let v406 : BitVec 32 := Scalar.remsi v403 v405
  let c0_i32_213 : BitVec 32 := 0#32
  let v408 : BitVec 1 := Scalar.cmpi .slt v406 c0_i32_213
  let c0_i32_214 : BitVec 32 := 0#32
  let v409 : BitVec 1 := Scalar.cmpi .slt v405 c0_i32_214
  let v410 : BitVec 1 := Scalar.xori v408 v409
  let c0_i32_212 : BitVec 32 := 0#32
  let v407 : BitVec 1 := Scalar.cmpi .ne v406 c0_i32_212
  let v411 : BitVec 1 := Scalar.andi v410 v407
  let v412 : BitVec 32 := Scalar.addi v406 v405
  let v413 : BitVec 32 := Scalar.select v411 v412 v406
  ![v413.toNat]
def k0_off31 (d0 : Dev nD) (k0_t4 : Fin k0_t4_loop.trips) (k0_t5 : Fin k0_t5_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c1_i32_215 : BitVec 32 := 1#32
  let v414 : BitVec 32 := Scalar.addi v254 c1_i32_215
  let c0_i32_120 : BitVec 32 := 0#32
  let c1_i32_122 : BitVec 32 := 1#32
  let arg17 : BitVec 32 := Scf.iv c0_i32_120 c1_i32_122 k0_t4
  let c1_i32_182 : BitVec 32 := 1#32
  let v360 : BitVec 32 := Scalar.addi arg17 c1_i32_182
  let c2_i32_207 : BitVec 32 := 2#32
  let v401 : BitVec 32 := Scalar.subi v360 c2_i32_207
  let v415 : BitVec 32 := Scalar.subi v414 v401
  let c32_i32_216 : BitVec 32 := 32#32
  let c0_i32_217 : BitVec 32 := 0#32
  let v416 : BitVec 1 := Scalar.cmpi .eq c32_i32_216 c0_i32_217
  let c1_i32_218 : BitVec 32 := 1#32
  let v417 : BitVec 32 := Scalar.select v416 c1_i32_218 c32_i32_216
  let v418 : BitVec 32 := Scalar.remsi v415 v417
  let c0_i32_220 : BitVec 32 := 0#32
  let v420 : BitVec 1 := Scalar.cmpi .slt v418 c0_i32_220
  let c0_i32_221 : BitVec 32 := 0#32
  let v421 : BitVec 1 := Scalar.cmpi .slt v417 c0_i32_221
  let v422 : BitVec 1 := Scalar.xori v420 v421
  let c0_i32_219 : BitVec 32 := 0#32
  let v419 : BitVec 1 := Scalar.cmpi .ne v418 c0_i32_219
  let v423 : BitVec 1 := Scalar.andi v422 v419
  let v424 : BitVec 32 := Scalar.addi v418 v417
  let v425 : BitVec 32 := Scalar.select v423 v424 v418
  let c64_i32_222 : BitVec 32 := 64#32
  let v426 : BitVec 32 := Scalar.muli v425 c64_i32_222
  let c0_i32_224 : BitVec 32 := 0#32
  let c0_i32_132 : BitVec 32 := 0#32
  let c1_i32_134 : BitVec 32 := 1#32
  let arg18 : BitVec 32 := Scf.iv c0_i32_132 c1_i32_134 k0_t5
  let c128_i32_223 : BitVec 32 := 128#32
  let v427 : BitVec 32 := Scalar.muli arg18 c128_i32_223
  let v428 : BitVec 32 := Scalar.addi c0_i32_224 v427
  ![v426.toNat, v428.toNat]
def k0_off32 (k0_t4 : Fin k0_t4_loop.trips) (k0_t5 : Fin k0_t5_loop.trips) : Fin 1 → Nat :=
  let c8_i32_186 : BitVec 32 := 8#32
  let c0_i32_120 : BitVec 32 := 0#32
  let c1_i32_122 : BitVec 32 := 1#32
  let arg17 : BitVec 32 := Scf.iv c0_i32_120 c1_i32_122 k0_t4
  let c1_i32_182 : BitVec 32 := 1#32
  let v360 : BitVec 32 := Scalar.addi arg17 c1_i32_182
  let v366 : BitVec 32 := Scalar.muli c8_i32_186 v360
  let c0_i32_132 : BitVec 32 := 0#32
  let c1_i32_134 : BitVec 32 := 1#32
  let arg18 : BitVec 32 := Scf.iv c0_i32_132 c1_i32_134 k0_t5
  let v367 : BitVec 32 := Scalar.addi v366 arg18
  let c16_i32_187 : BitVec 32 := 16#32
  let c0_i32_188 : BitVec 32 := 0#32
  let v368 : BitVec 1 := Scalar.cmpi .eq c16_i32_187 c0_i32_188
  let c1_i32_189 : BitVec 32 := 1#32
  let v369 : BitVec 32 := Scalar.select v368 c1_i32_189 c16_i32_187
  let v370 : BitVec 32 := Scalar.remsi v367 v369
  let c0_i32_191 : BitVec 32 := 0#32
  let v372 : BitVec 1 := Scalar.cmpi .slt v370 c0_i32_191
  let c0_i32_192 : BitVec 32 := 0#32
  let v373 : BitVec 1 := Scalar.cmpi .slt v369 c0_i32_192
  let v374 : BitVec 1 := Scalar.xori v372 v373
  let c0_i32_190 : BitVec 32 := 0#32
  let v371 : BitVec 1 := Scalar.cmpi .ne v370 c0_i32_190
  let v375 : BitVec 1 := Scalar.andi v374 v371
  let v376 : BitVec 32 := Scalar.addi v370 v369
  let v377 : BitVec 32 := Scalar.select v375 v376 v370
  ![v377.toNat]
def k0_off33 (d0 : Dev nD) (k0_t4 : Fin k0_t4_loop.trips) (k0_t5 : Fin k0_t5_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c1_i32_193 : BitVec 32 := 1#32
  let v378 : BitVec 32 := Scalar.addi v254 c1_i32_193
  let c0_i32_120 : BitVec 32 := 0#32
  let c1_i32_122 : BitVec 32 := 1#32
  let arg17 : BitVec 32 := Scf.iv c0_i32_120 c1_i32_122 k0_t4
  let c1_i32_182 : BitVec 32 := 1#32
  let v360 : BitVec 32 := Scalar.addi arg17 c1_i32_182
  let v379 : BitVec 32 := Scalar.subi v378 v360
  let c32_i32_194 : BitVec 32 := 32#32
  let c0_i32_195 : BitVec 32 := 0#32
  let v380 : BitVec 1 := Scalar.cmpi .eq c32_i32_194 c0_i32_195
  let c1_i32_196 : BitVec 32 := 1#32
  let v381 : BitVec 32 := Scalar.select v380 c1_i32_196 c32_i32_194
  let v382 : BitVec 32 := Scalar.remsi v379 v381
  let c0_i32_198 : BitVec 32 := 0#32
  let v384 : BitVec 1 := Scalar.cmpi .slt v382 c0_i32_198
  let c0_i32_199 : BitVec 32 := 0#32
  let v385 : BitVec 1 := Scalar.cmpi .slt v381 c0_i32_199
  let v386 : BitVec 1 := Scalar.xori v384 v385
  let c0_i32_197 : BitVec 32 := 0#32
  let v383 : BitVec 1 := Scalar.cmpi .ne v382 c0_i32_197
  let v387 : BitVec 1 := Scalar.andi v386 v383
  let v388 : BitVec 32 := Scalar.addi v382 v381
  let v389 : BitVec 32 := Scalar.select v387 v388 v382
  let c64_i32_200 : BitVec 32 := 64#32
  let v390 : BitVec 32 := Scalar.muli v389 c64_i32_200
  let c0_i32_202 : BitVec 32 := 0#32
  let c0_i32_132 : BitVec 32 := 0#32
  let c1_i32_134 : BitVec 32 := 1#32
  let arg18 : BitVec 32 := Scf.iv c0_i32_132 c1_i32_134 k0_t5
  let c128_i32_201 : BitVec 32 := 128#32
  let v391 : BitVec 32 := Scalar.muli arg18 c128_i32_201
  let v392 : BitVec 32 := Scalar.addi c0_i32_202 v391
  ![v390.toNat, v392.toNat]
def k0_dev12 (d0 : Dev nD) : Nat :=
  let c0_i32_204 : BitVec 32 := 0#32
  let c0_i32_2 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c3_i32 : BitVec 32 := 3#32
  let v7 : BitVec 32 := Scalar.muli v4 c3_i32
  let v8 : BitVec 32 := Scalar.ori c0_i32_2 v7
  let c3_i32_5 : BitVec 32 := 3#32
  let v11 : BitVec 1 := Scalar.cmpi .eq v2 c3_i32_5
  let v12 : BitVec 32 := Scalar.extui v11
  let c4_i32 : BitVec 32 := 4#32
  let v15 : BitVec 32 := Scalar.muli v12 c4_i32
  let v16 : BitVec 32 := Scalar.ori v8 v15
  let c4_i32_8 : BitVec 32 := 4#32
  let v19 : BitVec 1 := Scalar.cmpi .eq v2 c4_i32_8
  let v20 : BitVec 32 := Scalar.extui v19
  let c7_i32 : BitVec 32 := 7#32
  let v23 : BitVec 32 := Scalar.muli v20 c7_i32
  let v24 : BitVec 32 := Scalar.ori v16 v23
  let c7_i32_10 : BitVec 32 := 7#32
  let v27 : BitVec 1 := Scalar.cmpi .eq v2 c7_i32_10
  let v28 : BitVec 32 := Scalar.extui v27
  let c15_i32 : BitVec 32 := 15#32
  let v31 : BitVec 32 := Scalar.muli v28 c15_i32
  let v32 : BitVec 32 := Scalar.ori v24 v31
  let c15_i32_13 : BitVec 32 := 15#32
  let v35 : BitVec 1 := Scalar.cmpi .eq v2 c15_i32_13
  let v36 : BitVec 32 := Scalar.extui v35
  let c12_i32 : BitVec 32 := 12#32
  let v39 : BitVec 32 := Scalar.muli v36 c12_i32
  let v40 : BitVec 32 := Scalar.ori v32 v39
  let c12_i32_16 : BitVec 32 := 12#32
  let v43 : BitVec 1 := Scalar.cmpi .eq v2 c12_i32_16
  let v44 : BitVec 32 := Scalar.extui v43
  let c11_i32 : BitVec 32 := 11#32
  let v47 : BitVec 32 := Scalar.muli v44 c11_i32
  let v48 : BitVec 32 := Scalar.ori v40 v47
  let c11_i32_18 : BitVec 32 := 11#32
  let v51 : BitVec 1 := Scalar.cmpi .eq v2 c11_i32_18
  let v52 : BitVec 32 := Scalar.extui v51
  let c8_i32 : BitVec 32 := 8#32
  let v55 : BitVec 32 := Scalar.muli v52 c8_i32
  let v56 : BitVec 32 := Scalar.ori v48 v55
  let c8_i32_20 : BitVec 32 := 8#32
  let v59 : BitVec 1 := Scalar.cmpi .eq v2 c8_i32_20
  let v60 : BitVec 32 := Scalar.extui v59
  let c16_i32 : BitVec 32 := 16#32
  let v63 : BitVec 32 := Scalar.muli v60 c16_i32
  let v64 : BitVec 32 := Scalar.ori v56 v63
  let c16_i32_23 : BitVec 32 := 16#32
  let v67 : BitVec 1 := Scalar.cmpi .eq v2 c16_i32_23
  let v68 : BitVec 32 := Scalar.extui v67
  let c19_i32 : BitVec 32 := 19#32
  let v71 : BitVec 32 := Scalar.muli v68 c19_i32
  let v72 : BitVec 32 := Scalar.ori v64 v71
  let c19_i32_26 : BitVec 32 := 19#32
  let v75 : BitVec 1 := Scalar.cmpi .eq v2 c19_i32_26
  let v76 : BitVec 32 := Scalar.extui v75
  let c20_i32 : BitVec 32 := 20#32
  let v79 : BitVec 32 := Scalar.muli v76 c20_i32
  let v80 : BitVec 32 := Scalar.ori v72 v79
  let c20_i32_28 : BitVec 32 := 20#32
  let v83 : BitVec 1 := Scalar.cmpi .eq v2 c20_i32_28
  let v84 : BitVec 32 := Scalar.extui v83
  let c23_i32 : BitVec 32 := 23#32
  let v87 : BitVec 32 := Scalar.muli v84 c23_i32
  let v88 : BitVec 32 := Scalar.ori v80 v87
  let c23_i32_30 : BitVec 32 := 23#32
  let v91 : BitVec 1 := Scalar.cmpi .eq v2 c23_i32_30
  let v92 : BitVec 32 := Scalar.extui v91
  let c31_i32 : BitVec 32 := 31#32
  let v95 : BitVec 32 := Scalar.muli v92 c31_i32
  let v96 : BitVec 32 := Scalar.ori v88 v95
  let c31_i32_33 : BitVec 32 := 31#32
  let v99 : BitVec 1 := Scalar.cmpi .eq v2 c31_i32_33
  let v100 : BitVec 32 := Scalar.extui v99
  let c28_i32 : BitVec 32 := 28#32
  let v103 : BitVec 32 := Scalar.muli v100 c28_i32
  let v104 : BitVec 32 := Scalar.ori v96 v103
  let c28_i32_36 : BitVec 32 := 28#32
  let v107 : BitVec 1 := Scalar.cmpi .eq v2 c28_i32_36
  let v108 : BitVec 32 := Scalar.extui v107
  let c27_i32 : BitVec 32 := 27#32
  let v111 : BitVec 32 := Scalar.muli v108 c27_i32
  let v112 : BitVec 32 := Scalar.ori v104 v111
  let c27_i32_38 : BitVec 32 := 27#32
  let v115 : BitVec 1 := Scalar.cmpi .eq v2 c27_i32_38
  let v116 : BitVec 32 := Scalar.extui v115
  let c24_i32 : BitVec 32 := 24#32
  let v119 : BitVec 32 := Scalar.muli v116 c24_i32
  let v120 : BitVec 32 := Scalar.ori v112 v119
  let c24_i32_40 : BitVec 32 := 24#32
  let v123 : BitVec 1 := Scalar.cmpi .eq v2 c24_i32_40
  let v124 : BitVec 32 := Scalar.extui v123
  let c25_i32 : BitVec 32 := 25#32
  let v127 : BitVec 32 := Scalar.muli v124 c25_i32
  let v128 : BitVec 32 := Scalar.ori v120 v127
  let c25_i32_43 : BitVec 32 := 25#32
  let v131 : BitVec 1 := Scalar.cmpi .eq v2 c25_i32_43
  let v132 : BitVec 32 := Scalar.extui v131
  let c26_i32 : BitVec 32 := 26#32
  let v135 : BitVec 32 := Scalar.muli v132 c26_i32
  let v136 : BitVec 32 := Scalar.ori v128 v135
  let c26_i32_46 : BitVec 32 := 26#32
  let v139 : BitVec 1 := Scalar.cmpi .eq v2 c26_i32_46
  let v140 : BitVec 32 := Scalar.extui v139
  let c29_i32 : BitVec 32 := 29#32
  let v143 : BitVec 32 := Scalar.muli v140 c29_i32
  let v144 : BitVec 32 := Scalar.ori v136 v143
  let c29_i32_48 : BitVec 32 := 29#32
  let v147 : BitVec 1 := Scalar.cmpi .eq v2 c29_i32_48
  let v148 : BitVec 32 := Scalar.extui v147
  let c30_i32 : BitVec 32 := 30#32
  let v151 : BitVec 32 := Scalar.muli v148 c30_i32
  let v152 : BitVec 32 := Scalar.ori v144 v151
  let c30_i32_50 : BitVec 32 := 30#32
  let v155 : BitVec 1 := Scalar.cmpi .eq v2 c30_i32_50
  let v156 : BitVec 32 := Scalar.extui v155
  let c22_i32 : BitVec 32 := 22#32
  let v159 : BitVec 32 := Scalar.muli v156 c22_i32
  let v160 : BitVec 32 := Scalar.ori v152 v159
  let c22_i32_53 : BitVec 32 := 22#32
  let v163 : BitVec 1 := Scalar.cmpi .eq v2 c22_i32_53
  let v164 : BitVec 32 := Scalar.extui v163
  let c21_i32 : BitVec 32 := 21#32
  let v167 : BitVec 32 := Scalar.muli v164 c21_i32
  let v168 : BitVec 32 := Scalar.ori v160 v167
  let c21_i32_56 : BitVec 32 := 21#32
  let v171 : BitVec 1 := Scalar.cmpi .eq v2 c21_i32_56
  let v172 : BitVec 32 := Scalar.extui v171
  let c18_i32_58 : BitVec 32 := 18#32
  let v175 : BitVec 32 := Scalar.muli v172 c18_i32_58
  let v176 : BitVec 32 := Scalar.ori v168 v175
  let c18_i32_60 : BitVec 32 := 18#32
  let v179 : BitVec 1 := Scalar.cmpi .eq v2 c18_i32_60
  let v180 : BitVec 32 := Scalar.extui v179
  let c17_i32_62 : BitVec 32 := 17#32
  let v183 : BitVec 32 := Scalar.muli v180 c17_i32_62
  let v184 : BitVec 32 := Scalar.ori v176 v183
  let c17_i32_64 : BitVec 32 := 17#32
  let v187 : BitVec 1 := Scalar.cmpi .eq v2 c17_i32_64
  let v188 : BitVec 32 := Scalar.extui v187
  let c9_i32_66 : BitVec 32 := 9#32
  let v191 : BitVec 32 := Scalar.muli v188 c9_i32_66
  let v192 : BitVec 32 := Scalar.ori v184 v191
  let c9_i32_68 : BitVec 32 := 9#32
  let v195 : BitVec 1 := Scalar.cmpi .eq v2 c9_i32_68
  let v196 : BitVec 32 := Scalar.extui v195
  let c10_i32_70 : BitVec 32 := 10#32
  let v199 : BitVec 32 := Scalar.muli v196 c10_i32_70
  let v200 : BitVec 32 := Scalar.ori v192 v199
  let c10_i32_72 : BitVec 32 := 10#32
  let v203 : BitVec 1 := Scalar.cmpi .eq v2 c10_i32_72
  let v204 : BitVec 32 := Scalar.extui v203
  let c13_i32_74 : BitVec 32 := 13#32
  let v207 : BitVec 32 := Scalar.muli v204 c13_i32_74
  let v208 : BitVec 32 := Scalar.ori v200 v207
  let c13_i32_76 : BitVec 32 := 13#32
  let v211 : BitVec 1 := Scalar.cmpi .eq v2 c13_i32_76
  let v212 : BitVec 32 := Scalar.extui v211
  let c14_i32_78 : BitVec 32 := 14#32
  let v215 : BitVec 32 := Scalar.muli v212 c14_i32_78
  let v216 : BitVec 32 := Scalar.ori v208 v215
  let c14_i32_80 : BitVec 32 := 14#32
  let v219 : BitVec 1 := Scalar.cmpi .eq v2 c14_i32_80
  let v220 : BitVec 32 := Scalar.extui v219
  let c6_i32_82 : BitVec 32 := 6#32
  let v223 : BitVec 32 := Scalar.muli v220 c6_i32_82
  let v224 : BitVec 32 := Scalar.ori v216 v223
  let c6_i32_84 : BitVec 32 := 6#32
  let v227 : BitVec 1 := Scalar.cmpi .eq v2 c6_i32_84
  let v228 : BitVec 32 := Scalar.extui v227
  let c5_i32_86 : BitVec 32 := 5#32
  let v231 : BitVec 32 := Scalar.muli v228 c5_i32_86
  let v232 : BitVec 32 := Scalar.ori v224 v231
  let c5_i32_88 : BitVec 32 := 5#32
  let v235 : BitVec 1 := Scalar.cmpi .eq v2 c5_i32_88
  let v236 : BitVec 32 := Scalar.extui v235
  let c2_i32_90 : BitVec 32 := 2#32
  let v239 : BitVec 32 := Scalar.muli v236 c2_i32_90
  let v240 : BitVec 32 := Scalar.ori v232 v239
  let c2_i32_92 : BitVec 32 := 2#32
  let v243 : BitVec 1 := Scalar.cmpi .eq v2 c2_i32_92
  let v244 : BitVec 32 := Scalar.extui v243
  let c1_i32_94 : BitVec 32 := 1#32
  let v247 : BitVec 32 := Scalar.muli v244 c1_i32_94
  let v248 : BitVec 32 := Scalar.ori v240 v247
  let c1_i32_96 : BitVec 32 := 1#32
  let v251 : BitVec 1 := Scalar.cmpi .eq v2 c1_i32_96
  let v252 : BitVec 32 := Scalar.extui v251
  let c0_i32_98 : BitVec 32 := 0#32
  let v255 : BitVec 32 := Scalar.muli v252 c0_i32_98
  let v256 : BitVec 32 := Scalar.ori v248 v255
  let c1_i32_203 : BitVec 32 := 1#32
  let v393 : BitVec 32 := Scalar.muli v256 c1_i32_203
  let v394 : BitVec 32 := Scalar.addi c0_i32_204 v393
  v394.toNat
def k0_off34 (d0 : Dev nD) (k0_t4 : Fin k0_t4_loop.trips) (k0_t5 : Fin k0_t5_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c1_i32_166 : BitVec 32 := 1#32
  let v332 : BitVec 32 := Scalar.subi v254 c1_i32_166
  let c0_i32_120 : BitVec 32 := 0#32
  let c1_i32_122 : BitVec 32 := 1#32
  let arg17 : BitVec 32 := Scf.iv c0_i32_120 c1_i32_122 k0_t4
  let v333 : BitVec 32 := Scalar.addi v332 arg17
  let c32_i32_167 : BitVec 32 := 32#32
  let c0_i32_168 : BitVec 32 := 0#32
  let v334 : BitVec 1 := Scalar.cmpi .eq c32_i32_167 c0_i32_168
  let c1_i32_169 : BitVec 32 := 1#32
  let v335 : BitVec 32 := Scalar.select v334 c1_i32_169 c32_i32_167
  let v336 : BitVec 32 := Scalar.remsi v333 v335
  let c0_i32_171 : BitVec 32 := 0#32
  let v338 : BitVec 1 := Scalar.cmpi .slt v336 c0_i32_171
  let c0_i32_172 : BitVec 32 := 0#32
  let v339 : BitVec 1 := Scalar.cmpi .slt v335 c0_i32_172
  let v340 : BitVec 1 := Scalar.xori v338 v339
  let c0_i32_170 : BitVec 32 := 0#32
  let v337 : BitVec 1 := Scalar.cmpi .ne v336 c0_i32_170
  let v341 : BitVec 1 := Scalar.andi v340 v337
  let v342 : BitVec 32 := Scalar.addi v336 v335
  let v343 : BitVec 32 := Scalar.select v341 v342 v336
  let c64_i32_173 : BitVec 32 := 64#32
  let v344 : BitVec 32 := Scalar.muli v343 c64_i32_173
  let c1024_i32 : BitVec 32 := 1024#32
  let c0_i32_132 : BitVec 32 := 0#32
  let c1_i32_134 : BitVec 32 := 1#32
  let arg18 : BitVec 32 := Scf.iv c0_i32_132 c1_i32_134 k0_t5
  let c128_i32_174 : BitVec 32 := 128#32
  let v345 : BitVec 32 := Scalar.muli arg18 c128_i32_174
  let v346 : BitVec 32 := Scalar.addi c1024_i32 v345
  ![v344.toNat, v346.toNat]
def k0_cond12 (k0_t4 : Fin k0_t4_loop.trips) (k0_t5 : Fin k0_t5_loop.trips) : BitVec 1 :=
  let c8_i32_158 : BitVec 32 := 8#32
  let c0_i32_120 : BitVec 32 := 0#32
  let c1_i32_122 : BitVec 32 := 1#32
  let arg17 : BitVec 32 := Scf.iv c0_i32_120 c1_i32_122 k0_t4
  let v318 : BitVec 32 := Scalar.muli c8_i32_158 arg17
  let c0_i32_132 : BitVec 32 := 0#32
  let c1_i32_134 : BitVec 32 := 1#32
  let arg18 : BitVec 32 := Scf.iv c0_i32_132 c1_i32_134 k0_t5
  let v319 : BitVec 32 := Scalar.addi v318 arg18
  let c232_i32_177 : BitVec 32 := 232#32
  let v353 : BitVec 1 := Scalar.cmpi .slt v319 c232_i32_177
  let v354 : BitVec 32 := Scalar.extui v353
  let c0_i32_178 : BitVec 32 := 0#32
  let v355 : BitVec 1 := Scalar.cmpi .ne v354 c0_i32_178
  v355

def k0_dev13 (d0 : Dev nD) : Nat :=
  let c0_i32_184 : BitVec 32 := 0#32
  let c0_i32_2 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c3_i32 : BitVec 32 := 3#32
  let v7 : BitVec 32 := Scalar.muli v4 c3_i32
  let v8 : BitVec 32 := Scalar.ori c0_i32_2 v7
  let c3_i32_5 : BitVec 32 := 3#32
  let v11 : BitVec 1 := Scalar.cmpi .eq v2 c3_i32_5
  let v12 : BitVec 32 := Scalar.extui v11
  let c4_i32 : BitVec 32 := 4#32
  let v15 : BitVec 32 := Scalar.muli v12 c4_i32
  let v16 : BitVec 32 := Scalar.ori v8 v15
  let c4_i32_8 : BitVec 32 := 4#32
  let v19 : BitVec 1 := Scalar.cmpi .eq v2 c4_i32_8
  let v20 : BitVec 32 := Scalar.extui v19
  let c7_i32 : BitVec 32 := 7#32
  let v23 : BitVec 32 := Scalar.muli v20 c7_i32
  let v24 : BitVec 32 := Scalar.ori v16 v23
  let c7_i32_10 : BitVec 32 := 7#32
  let v27 : BitVec 1 := Scalar.cmpi .eq v2 c7_i32_10
  let v28 : BitVec 32 := Scalar.extui v27
  let c15_i32 : BitVec 32 := 15#32
  let v31 : BitVec 32 := Scalar.muli v28 c15_i32
  let v32 : BitVec 32 := Scalar.ori v24 v31
  let c15_i32_13 : BitVec 32 := 15#32
  let v35 : BitVec 1 := Scalar.cmpi .eq v2 c15_i32_13
  let v36 : BitVec 32 := Scalar.extui v35
  let c12_i32 : BitVec 32 := 12#32
  let v39 : BitVec 32 := Scalar.muli v36 c12_i32
  let v40 : BitVec 32 := Scalar.ori v32 v39
  let c12_i32_16 : BitVec 32 := 12#32
  let v43 : BitVec 1 := Scalar.cmpi .eq v2 c12_i32_16
  let v44 : BitVec 32 := Scalar.extui v43
  let c11_i32 : BitVec 32 := 11#32
  let v47 : BitVec 32 := Scalar.muli v44 c11_i32
  let v48 : BitVec 32 := Scalar.ori v40 v47
  let c11_i32_18 : BitVec 32 := 11#32
  let v51 : BitVec 1 := Scalar.cmpi .eq v2 c11_i32_18
  let v52 : BitVec 32 := Scalar.extui v51
  let c8_i32 : BitVec 32 := 8#32
  let v55 : BitVec 32 := Scalar.muli v52 c8_i32
  let v56 : BitVec 32 := Scalar.ori v48 v55
  let c8_i32_20 : BitVec 32 := 8#32
  let v59 : BitVec 1 := Scalar.cmpi .eq v2 c8_i32_20
  let v60 : BitVec 32 := Scalar.extui v59
  let c16_i32 : BitVec 32 := 16#32
  let v63 : BitVec 32 := Scalar.muli v60 c16_i32
  let v64 : BitVec 32 := Scalar.ori v56 v63
  let c16_i32_23 : BitVec 32 := 16#32
  let v67 : BitVec 1 := Scalar.cmpi .eq v2 c16_i32_23
  let v68 : BitVec 32 := Scalar.extui v67
  let c19_i32 : BitVec 32 := 19#32
  let v71 : BitVec 32 := Scalar.muli v68 c19_i32
  let v72 : BitVec 32 := Scalar.ori v64 v71
  let c19_i32_26 : BitVec 32 := 19#32
  let v75 : BitVec 1 := Scalar.cmpi .eq v2 c19_i32_26
  let v76 : BitVec 32 := Scalar.extui v75
  let c20_i32 : BitVec 32 := 20#32
  let v79 : BitVec 32 := Scalar.muli v76 c20_i32
  let v80 : BitVec 32 := Scalar.ori v72 v79
  let c20_i32_28 : BitVec 32 := 20#32
  let v83 : BitVec 1 := Scalar.cmpi .eq v2 c20_i32_28
  let v84 : BitVec 32 := Scalar.extui v83
  let c23_i32 : BitVec 32 := 23#32
  let v87 : BitVec 32 := Scalar.muli v84 c23_i32
  let v88 : BitVec 32 := Scalar.ori v80 v87
  let c23_i32_30 : BitVec 32 := 23#32
  let v91 : BitVec 1 := Scalar.cmpi .eq v2 c23_i32_30
  let v92 : BitVec 32 := Scalar.extui v91
  let c31_i32 : BitVec 32 := 31#32
  let v95 : BitVec 32 := Scalar.muli v92 c31_i32
  let v96 : BitVec 32 := Scalar.ori v88 v95
  let c31_i32_33 : BitVec 32 := 31#32
  let v99 : BitVec 1 := Scalar.cmpi .eq v2 c31_i32_33
  let v100 : BitVec 32 := Scalar.extui v99
  let c28_i32 : BitVec 32 := 28#32
  let v103 : BitVec 32 := Scalar.muli v100 c28_i32
  let v104 : BitVec 32 := Scalar.ori v96 v103
  let c28_i32_36 : BitVec 32 := 28#32
  let v107 : BitVec 1 := Scalar.cmpi .eq v2 c28_i32_36
  let v108 : BitVec 32 := Scalar.extui v107
  let c27_i32 : BitVec 32 := 27#32
  let v111 : BitVec 32 := Scalar.muli v108 c27_i32
  let v112 : BitVec 32 := Scalar.ori v104 v111
  let c27_i32_38 : BitVec 32 := 27#32
  let v115 : BitVec 1 := Scalar.cmpi .eq v2 c27_i32_38
  let v116 : BitVec 32 := Scalar.extui v115
  let c24_i32 : BitVec 32 := 24#32
  let v119 : BitVec 32 := Scalar.muli v116 c24_i32
  let v120 : BitVec 32 := Scalar.ori v112 v119
  let c24_i32_40 : BitVec 32 := 24#32
  let v123 : BitVec 1 := Scalar.cmpi .eq v2 c24_i32_40
  let v124 : BitVec 32 := Scalar.extui v123
  let c25_i32 : BitVec 32 := 25#32
  let v127 : BitVec 32 := Scalar.muli v124 c25_i32
  let v128 : BitVec 32 := Scalar.ori v120 v127
  let c25_i32_43 : BitVec 32 := 25#32
  let v131 : BitVec 1 := Scalar.cmpi .eq v2 c25_i32_43
  let v132 : BitVec 32 := Scalar.extui v131
  let c26_i32 : BitVec 32 := 26#32
  let v135 : BitVec 32 := Scalar.muli v132 c26_i32
  let v136 : BitVec 32 := Scalar.ori v128 v135
  let c26_i32_46 : BitVec 32 := 26#32
  let v139 : BitVec 1 := Scalar.cmpi .eq v2 c26_i32_46
  let v140 : BitVec 32 := Scalar.extui v139
  let c29_i32 : BitVec 32 := 29#32
  let v143 : BitVec 32 := Scalar.muli v140 c29_i32
  let v144 : BitVec 32 := Scalar.ori v136 v143
  let c29_i32_48 : BitVec 32 := 29#32
  let v147 : BitVec 1 := Scalar.cmpi .eq v2 c29_i32_48
  let v148 : BitVec 32 := Scalar.extui v147
  let c30_i32 : BitVec 32 := 30#32
  let v151 : BitVec 32 := Scalar.muli v148 c30_i32
  let v152 : BitVec 32 := Scalar.ori v144 v151
  let c30_i32_50 : BitVec 32 := 30#32
  let v155 : BitVec 1 := Scalar.cmpi .eq v2 c30_i32_50
  let v156 : BitVec 32 := Scalar.extui v155
  let c22_i32 : BitVec 32 := 22#32
  let v159 : BitVec 32 := Scalar.muli v156 c22_i32
  let v160 : BitVec 32 := Scalar.ori v152 v159
  let c22_i32_53 : BitVec 32 := 22#32
  let v163 : BitVec 1 := Scalar.cmpi .eq v2 c22_i32_53
  let v164 : BitVec 32 := Scalar.extui v163
  let c21_i32 : BitVec 32 := 21#32
  let v167 : BitVec 32 := Scalar.muli v164 c21_i32
  let v168 : BitVec 32 := Scalar.ori v160 v167
  let c21_i32_56 : BitVec 32 := 21#32
  let v171 : BitVec 1 := Scalar.cmpi .eq v2 c21_i32_56
  let v172 : BitVec 32 := Scalar.extui v171
  let c18_i32_58 : BitVec 32 := 18#32
  let v175 : BitVec 32 := Scalar.muli v172 c18_i32_58
  let v176 : BitVec 32 := Scalar.ori v168 v175
  let c18_i32_60 : BitVec 32 := 18#32
  let v179 : BitVec 1 := Scalar.cmpi .eq v2 c18_i32_60
  let v180 : BitVec 32 := Scalar.extui v179
  let c17_i32_62 : BitVec 32 := 17#32
  let v183 : BitVec 32 := Scalar.muli v180 c17_i32_62
  let v184 : BitVec 32 := Scalar.ori v176 v183
  let c17_i32_64 : BitVec 32 := 17#32
  let v187 : BitVec 1 := Scalar.cmpi .eq v2 c17_i32_64
  let v188 : BitVec 32 := Scalar.extui v187
  let c9_i32_66 : BitVec 32 := 9#32
  let v191 : BitVec 32 := Scalar.muli v188 c9_i32_66
  let v192 : BitVec 32 := Scalar.ori v184 v191
  let c9_i32_68 : BitVec 32 := 9#32
  let v195 : BitVec 1 := Scalar.cmpi .eq v2 c9_i32_68
  let v196 : BitVec 32 := Scalar.extui v195
  let c10_i32_70 : BitVec 32 := 10#32
  let v199 : BitVec 32 := Scalar.muli v196 c10_i32_70
  let v200 : BitVec 32 := Scalar.ori v192 v199
  let c10_i32_72 : BitVec 32 := 10#32
  let v203 : BitVec 1 := Scalar.cmpi .eq v2 c10_i32_72
  let v204 : BitVec 32 := Scalar.extui v203
  let c13_i32_74 : BitVec 32 := 13#32
  let v207 : BitVec 32 := Scalar.muli v204 c13_i32_74
  let v208 : BitVec 32 := Scalar.ori v200 v207
  let c13_i32_76 : BitVec 32 := 13#32
  let v211 : BitVec 1 := Scalar.cmpi .eq v2 c13_i32_76
  let v212 : BitVec 32 := Scalar.extui v211
  let c14_i32_78 : BitVec 32 := 14#32
  let v215 : BitVec 32 := Scalar.muli v212 c14_i32_78
  let v216 : BitVec 32 := Scalar.ori v208 v215
  let c14_i32_80 : BitVec 32 := 14#32
  let v219 : BitVec 1 := Scalar.cmpi .eq v2 c14_i32_80
  let v220 : BitVec 32 := Scalar.extui v219
  let c6_i32_82 : BitVec 32 := 6#32
  let v223 : BitVec 32 := Scalar.muli v220 c6_i32_82
  let v224 : BitVec 32 := Scalar.ori v216 v223
  let c6_i32_84 : BitVec 32 := 6#32
  let v227 : BitVec 1 := Scalar.cmpi .eq v2 c6_i32_84
  let v228 : BitVec 32 := Scalar.extui v227
  let c5_i32_86 : BitVec 32 := 5#32
  let v231 : BitVec 32 := Scalar.muli v228 c5_i32_86
  let v232 : BitVec 32 := Scalar.ori v224 v231
  let c5_i32_88 : BitVec 32 := 5#32
  let v235 : BitVec 1 := Scalar.cmpi .eq v2 c5_i32_88
  let v236 : BitVec 32 := Scalar.extui v235
  let c2_i32_90 : BitVec 32 := 2#32
  let v239 : BitVec 32 := Scalar.muli v236 c2_i32_90
  let v240 : BitVec 32 := Scalar.ori v232 v239
  let c2_i32_92 : BitVec 32 := 2#32
  let v243 : BitVec 1 := Scalar.cmpi .eq v2 c2_i32_92
  let v244 : BitVec 32 := Scalar.extui v243
  let c1_i32_94 : BitVec 32 := 1#32
  let v247 : BitVec 32 := Scalar.muli v244 c1_i32_94
  let v248 : BitVec 32 := Scalar.ori v240 v247
  let c1_i32_96 : BitVec 32 := 1#32
  let v251 : BitVec 1 := Scalar.cmpi .eq v2 c1_i32_96
  let v252 : BitVec 32 := Scalar.extui v251
  let c0_i32_98 : BitVec 32 := 0#32
  let v255 : BitVec 32 := Scalar.muli v252 c0_i32_98
  let v256 : BitVec 32 := Scalar.ori v248 v255
  let c1_i32_183 : BitVec 32 := 1#32
  let v360 : BitVec 32 := Scalar.muli v256 c1_i32_183
  let v361 : BitVec 32 := Scalar.addi c0_i32_184 v360
  v361.toNat
def k0_cond13 (k0_t4 : Fin k0_t4_loop.trips) : BitVec 1 :=
  let c0_i32_120 : BitVec 32 := 0#32
  let c1_i32_122 : BitVec 32 := 1#32
  let arg17 : BitVec 32 := Scf.iv c0_i32_120 c1_i32_122 k0_t4
  let c1_i32_179 : BitVec 32 := 1#32
  let v356 : BitVec 32 := Scalar.addi arg17 c1_i32_179
  let c31_i32_180 : BitVec 32 := 31#32
  let v357 : BitVec 1 := Scalar.cmpi .slt v356 c31_i32_180
  let v358 : BitVec 32 := Scalar.extui v357
  let c0_i32_181 : BitVec 32 := 0#32
  let v359 : BitVec 1 := Scalar.cmpi .ne v358 c0_i32_181
  v359

def k0_cond14 (k0_t4 : Fin k0_t4_loop.trips) (k0_t5 : Fin k0_t5_loop.trips) : BitVec 1 :=
  let c8_i32_183 : BitVec 32 := 8#32
  let c0_i32_120 : BitVec 32 := 0#32
  let c1_i32_122 : BitVec 32 := 1#32
  let arg17 : BitVec 32 := Scf.iv c0_i32_120 c1_i32_122 k0_t4
  let c1_i32_182 : BitVec 32 := 1#32
  let v360 : BitVec 32 := Scalar.addi arg17 c1_i32_182
  let v361 : BitVec 32 := Scalar.muli c8_i32_183 v360
  let c0_i32_132 : BitVec 32 := 0#32
  let c1_i32_134 : BitVec 32 := 1#32
  let arg18 : BitVec 32 := Scf.iv c0_i32_132 c1_i32_134 k0_t5
  let v362 : BitVec 32 := Scalar.addi v361 arg18
  let c16_i32_184 : BitVec 32 := 16#32
  let v363 : BitVec 1 := Scalar.cmpi .sge v362 c16_i32_184
  let v364 : BitVec 32 := Scalar.extui v363
  let c0_i32_185 : BitVec 32 := 0#32
  let v365 : BitVec 1 := Scalar.cmpi .ne v364 c0_i32_185
  v365

def k0_off35 (k0_t4 : Fin k0_t4_loop.trips) (k0_t5 : Fin k0_t5_loop.trips) : Fin 1 → Nat :=
  let c8_i32_208 : BitVec 32 := 8#32
  let c0_i32_120 : BitVec 32 := 0#32
  let c1_i32_122 : BitVec 32 := 1#32
  let arg17 : BitVec 32 := Scf.iv c0_i32_120 c1_i32_122 k0_t4
  let c1_i32_182 : BitVec 32 := 1#32
  let v360 : BitVec 32 := Scalar.addi arg17 c1_i32_182
  let c2_i32_207 : BitVec 32 := 2#32
  let v401 : BitVec 32 := Scalar.subi v360 c2_i32_207
  let v402 : BitVec 32 := Scalar.muli c8_i32_208 v401
  let c0_i32_132 : BitVec 32 := 0#32
  let c1_i32_134 : BitVec 32 := 1#32
  let arg18 : BitVec 32 := Scf.iv c0_i32_132 c1_i32_134 k0_t5
  let v403 : BitVec 32 := Scalar.addi v402 arg18
  let c16_i32_209 : BitVec 32 := 16#32
  let c0_i32_210 : BitVec 32 := 0#32
  let v404 : BitVec 1 := Scalar.cmpi .eq c16_i32_209 c0_i32_210
  let c1_i32_211 : BitVec 32 := 1#32
  let v405 : BitVec 32 := Scalar.select v404 c1_i32_211 c16_i32_209
  let v406 : BitVec 32 := Scalar.remsi v403 v405
  let c0_i32_213 : BitVec 32 := 0#32
  let v408 : BitVec 1 := Scalar.cmpi .slt v406 c0_i32_213
  let c0_i32_214 : BitVec 32 := 0#32
  let v409 : BitVec 1 := Scalar.cmpi .slt v405 c0_i32_214
  let v410 : BitVec 1 := Scalar.xori v408 v409
  let c0_i32_212 : BitVec 32 := 0#32
  let v407 : BitVec 1 := Scalar.cmpi .ne v406 c0_i32_212
  let v411 : BitVec 1 := Scalar.andi v410 v407
  let v412 : BitVec 32 := Scalar.addi v406 v405
  let v413 : BitVec 32 := Scalar.select v411 v412 v406
  ![v413.toNat]
def k0_off36 (d0 : Dev nD) (k0_t4 : Fin k0_t4_loop.trips) (k0_t5 : Fin k0_t5_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c1_i32_215 : BitVec 32 := 1#32
  let v414 : BitVec 32 := Scalar.subi v254 c1_i32_215
  let c0_i32_120 : BitVec 32 := 0#32
  let c1_i32_122 : BitVec 32 := 1#32
  let arg17 : BitVec 32 := Scf.iv c0_i32_120 c1_i32_122 k0_t4
  let c1_i32_182 : BitVec 32 := 1#32
  let v360 : BitVec 32 := Scalar.addi arg17 c1_i32_182
  let c2_i32_207 : BitVec 32 := 2#32
  let v401 : BitVec 32 := Scalar.subi v360 c2_i32_207
  let v415 : BitVec 32 := Scalar.addi v414 v401
  let c32_i32_216 : BitVec 32 := 32#32
  let c0_i32_217 : BitVec 32 := 0#32
  let v416 : BitVec 1 := Scalar.cmpi .eq c32_i32_216 c0_i32_217
  let c1_i32_218 : BitVec 32 := 1#32
  let v417 : BitVec 32 := Scalar.select v416 c1_i32_218 c32_i32_216
  let v418 : BitVec 32 := Scalar.remsi v415 v417
  let c0_i32_220 : BitVec 32 := 0#32
  let v420 : BitVec 1 := Scalar.cmpi .slt v418 c0_i32_220
  let c0_i32_221 : BitVec 32 := 0#32
  let v421 : BitVec 1 := Scalar.cmpi .slt v417 c0_i32_221
  let v422 : BitVec 1 := Scalar.xori v420 v421
  let c0_i32_219 : BitVec 32 := 0#32
  let v419 : BitVec 1 := Scalar.cmpi .ne v418 c0_i32_219
  let v423 : BitVec 1 := Scalar.andi v422 v419
  let v424 : BitVec 32 := Scalar.addi v418 v417
  let v425 : BitVec 32 := Scalar.select v423 v424 v418
  let c64_i32_222 : BitVec 32 := 64#32
  let v426 : BitVec 32 := Scalar.muli v425 c64_i32_222
  let c1024_i32_224 : BitVec 32 := 1024#32
  let c0_i32_132 : BitVec 32 := 0#32
  let c1_i32_134 : BitVec 32 := 1#32
  let arg18 : BitVec 32 := Scf.iv c0_i32_132 c1_i32_134 k0_t5
  let c128_i32_223 : BitVec 32 := 128#32
  let v427 : BitVec 32 := Scalar.muli arg18 c128_i32_223
  let v428 : BitVec 32 := Scalar.addi c1024_i32_224 v427
  ![v426.toNat, v428.toNat]
def k0_off37 (k0_t4 : Fin k0_t4_loop.trips) (k0_t5 : Fin k0_t5_loop.trips) : Fin 1 → Nat :=
  let c8_i32_186 : BitVec 32 := 8#32
  let c0_i32_120 : BitVec 32 := 0#32
  let c1_i32_122 : BitVec 32 := 1#32
  let arg17 : BitVec 32 := Scf.iv c0_i32_120 c1_i32_122 k0_t4
  let c1_i32_182 : BitVec 32 := 1#32
  let v360 : BitVec 32 := Scalar.addi arg17 c1_i32_182
  let v366 : BitVec 32 := Scalar.muli c8_i32_186 v360
  let c0_i32_132 : BitVec 32 := 0#32
  let c1_i32_134 : BitVec 32 := 1#32
  let arg18 : BitVec 32 := Scf.iv c0_i32_132 c1_i32_134 k0_t5
  let v367 : BitVec 32 := Scalar.addi v366 arg18
  let c16_i32_187 : BitVec 32 := 16#32
  let c0_i32_188 : BitVec 32 := 0#32
  let v368 : BitVec 1 := Scalar.cmpi .eq c16_i32_187 c0_i32_188
  let c1_i32_189 : BitVec 32 := 1#32
  let v369 : BitVec 32 := Scalar.select v368 c1_i32_189 c16_i32_187
  let v370 : BitVec 32 := Scalar.remsi v367 v369
  let c0_i32_191 : BitVec 32 := 0#32
  let v372 : BitVec 1 := Scalar.cmpi .slt v370 c0_i32_191
  let c0_i32_192 : BitVec 32 := 0#32
  let v373 : BitVec 1 := Scalar.cmpi .slt v369 c0_i32_192
  let v374 : BitVec 1 := Scalar.xori v372 v373
  let c0_i32_190 : BitVec 32 := 0#32
  let v371 : BitVec 1 := Scalar.cmpi .ne v370 c0_i32_190
  let v375 : BitVec 1 := Scalar.andi v374 v371
  let v376 : BitVec 32 := Scalar.addi v370 v369
  let v377 : BitVec 32 := Scalar.select v375 v376 v370
  ![v377.toNat]
def k0_off38 (d0 : Dev nD) (k0_t4 : Fin k0_t4_loop.trips) (k0_t5 : Fin k0_t5_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c1_i32_193 : BitVec 32 := 1#32
  let v378 : BitVec 32 := Scalar.subi v254 c1_i32_193
  let c0_i32_120 : BitVec 32 := 0#32
  let c1_i32_122 : BitVec 32 := 1#32
  let arg17 : BitVec 32 := Scf.iv c0_i32_120 c1_i32_122 k0_t4
  let c1_i32_182 : BitVec 32 := 1#32
  let v360 : BitVec 32 := Scalar.addi arg17 c1_i32_182
  let v379 : BitVec 32 := Scalar.addi v378 v360
  let c32_i32_194 : BitVec 32 := 32#32
  let c0_i32_195 : BitVec 32 := 0#32
  let v380 : BitVec 1 := Scalar.cmpi .eq c32_i32_194 c0_i32_195
  let c1_i32_196 : BitVec 32 := 1#32
  let v381 : BitVec 32 := Scalar.select v380 c1_i32_196 c32_i32_194
  let v382 : BitVec 32 := Scalar.remsi v379 v381
  let c0_i32_198 : BitVec 32 := 0#32
  let v384 : BitVec 1 := Scalar.cmpi .slt v382 c0_i32_198
  let c0_i32_199 : BitVec 32 := 0#32
  let v385 : BitVec 1 := Scalar.cmpi .slt v381 c0_i32_199
  let v386 : BitVec 1 := Scalar.xori v384 v385
  let c0_i32_197 : BitVec 32 := 0#32
  let v383 : BitVec 1 := Scalar.cmpi .ne v382 c0_i32_197
  let v387 : BitVec 1 := Scalar.andi v386 v383
  let v388 : BitVec 32 := Scalar.addi v382 v381
  let v389 : BitVec 32 := Scalar.select v387 v388 v382
  let c64_i32_200 : BitVec 32 := 64#32
  let v390 : BitVec 32 := Scalar.muli v389 c64_i32_200
  let c1024_i32_202 : BitVec 32 := 1024#32
  let c0_i32_132 : BitVec 32 := 0#32
  let c1_i32_134 : BitVec 32 := 1#32
  let arg18 : BitVec 32 := Scf.iv c0_i32_132 c1_i32_134 k0_t5
  let c128_i32_201 : BitVec 32 := 128#32
  let v391 : BitVec 32 := Scalar.muli arg18 c128_i32_201
  let v392 : BitVec 32 := Scalar.addi c1024_i32_202 v391
  ![v390.toNat, v392.toNat]
def k0_dev14 (d0 : Dev nD) : Nat :=
  let c0_i32_204 : BitVec 32 := 0#32
  let c0_i32_4 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c1_i32_3 : BitVec 32 := 1#32
  let v9 : BitVec 32 := Scalar.muli v4 c1_i32_3
  let v10 : BitVec 32 := Scalar.ori c0_i32_4 v9
  let c3_i32_5 : BitVec 32 := 3#32
  let v11 : BitVec 1 := Scalar.cmpi .eq v2 c3_i32_5
  let v12 : BitVec 32 := Scalar.extui v11
  let c0_i32_7 : BitVec 32 := 0#32
  let v17 : BitVec 32 := Scalar.muli v12 c0_i32_7
  let v18 : BitVec 32 := Scalar.ori v10 v17
  let c4_i32_8 : BitVec 32 := 4#32
  let v19 : BitVec 1 := Scalar.cmpi .eq v2 c4_i32_8
  let v20 : BitVec 32 := Scalar.extui v19
  let c3_i32_9 : BitVec 32 := 3#32
  let v25 : BitVec 32 := Scalar.muli v20 c3_i32_9
  let v26 : BitVec 32 := Scalar.ori v18 v25
  let c7_i32_10 : BitVec 32 := 7#32
  let v27 : BitVec 1 := Scalar.cmpi .eq v2 c7_i32_10
  let v28 : BitVec 32 := Scalar.extui v27
  let c4_i32_12 : BitVec 32 := 4#32
  let v33 : BitVec 32 := Scalar.muli v28 c4_i32_12
  let v34 : BitVec 32 := Scalar.ori v26 v33
  let c15_i32_13 : BitVec 32 := 15#32
  let v35 : BitVec 1 := Scalar.cmpi .eq v2 c15_i32_13
  let v36 : BitVec 32 := Scalar.extui v35
  let c7_i32_15 : BitVec 32 := 7#32
  let v41 : BitVec 32 := Scalar.muli v36 c7_i32_15
  let v42 : BitVec 32 := Scalar.ori v34 v41
  let c12_i32_16 : BitVec 32 := 12#32
  let v43 : BitVec 1 := Scalar.cmpi .eq v2 c12_i32_16
  let v44 : BitVec 32 := Scalar.extui v43
  let c15_i32_17 : BitVec 32 := 15#32
  let v49 : BitVec 32 := Scalar.muli v44 c15_i32_17
  let v50 : BitVec 32 := Scalar.ori v42 v49
  let c11_i32_18 : BitVec 32 := 11#32
  let v51 : BitVec 1 := Scalar.cmpi .eq v2 c11_i32_18
  let v52 : BitVec 32 := Scalar.extui v51
  let c12_i32_19 : BitVec 32 := 12#32
  let v57 : BitVec 32 := Scalar.muli v52 c12_i32_19
  let v58 : BitVec 32 := Scalar.ori v50 v57
  let c8_i32_20 : BitVec 32 := 8#32
  let v59 : BitVec 1 := Scalar.cmpi .eq v2 c8_i32_20
  let v60 : BitVec 32 := Scalar.extui v59
  let c11_i32_22 : BitVec 32 := 11#32
  let v65 : BitVec 32 := Scalar.muli v60 c11_i32_22
  let v66 : BitVec 32 := Scalar.ori v58 v65
  let c16_i32_23 : BitVec 32 := 16#32
  let v67 : BitVec 1 := Scalar.cmpi .eq v2 c16_i32_23
  let v68 : BitVec 32 := Scalar.extui v67
  let c8_i32_25 : BitVec 32 := 8#32
  let v73 : BitVec 32 := Scalar.muli v68 c8_i32_25
  let v74 : BitVec 32 := Scalar.ori v66 v73
  let c19_i32_26 : BitVec 32 := 19#32
  let v75 : BitVec 1 := Scalar.cmpi .eq v2 c19_i32_26
  let v76 : BitVec 32 := Scalar.extui v75
  let c16_i32_27 : BitVec 32 := 16#32
  let v81 : BitVec 32 := Scalar.muli v76 c16_i32_27
  let v82 : BitVec 32 := Scalar.ori v74 v81
  let c20_i32_28 : BitVec 32 := 20#32
  let v83 : BitVec 1 := Scalar.cmpi .eq v2 c20_i32_28
  let v84 : BitVec 32 := Scalar.extui v83
  let c19_i32_29 : BitVec 32 := 19#32
  let v89 : BitVec 32 := Scalar.muli v84 c19_i32_29
  let v90 : BitVec 32 := Scalar.ori v82 v89
  let c23_i32_30 : BitVec 32 := 23#32
  let v91 : BitVec 1 := Scalar.cmpi .eq v2 c23_i32_30
  let v92 : BitVec 32 := Scalar.extui v91
  let c20_i32_32 : BitVec 32 := 20#32
  let v97 : BitVec 32 := Scalar.muli v92 c20_i32_32
  let v98 : BitVec 32 := Scalar.ori v90 v97
  let c31_i32_33 : BitVec 32 := 31#32
  let v99 : BitVec 1 := Scalar.cmpi .eq v2 c31_i32_33
  let v100 : BitVec 32 := Scalar.extui v99
  let c23_i32_35 : BitVec 32 := 23#32
  let v105 : BitVec 32 := Scalar.muli v100 c23_i32_35
  let v106 : BitVec 32 := Scalar.ori v98 v105
  let c28_i32_36 : BitVec 32 := 28#32
  let v107 : BitVec 1 := Scalar.cmpi .eq v2 c28_i32_36
  let v108 : BitVec 32 := Scalar.extui v107
  let c31_i32_37 : BitVec 32 := 31#32
  let v113 : BitVec 32 := Scalar.muli v108 c31_i32_37
  let v114 : BitVec 32 := Scalar.ori v106 v113
  let c27_i32_38 : BitVec 32 := 27#32
  let v115 : BitVec 1 := Scalar.cmpi .eq v2 c27_i32_38
  let v116 : BitVec 32 := Scalar.extui v115
  let c28_i32_39 : BitVec 32 := 28#32
  let v121 : BitVec 32 := Scalar.muli v116 c28_i32_39
  let v122 : BitVec 32 := Scalar.ori v114 v121
  let c24_i32_40 : BitVec 32 := 24#32
  let v123 : BitVec 1 := Scalar.cmpi .eq v2 c24_i32_40
  let v124 : BitVec 32 := Scalar.extui v123
  let c27_i32_42 : BitVec 32 := 27#32
  let v129 : BitVec 32 := Scalar.muli v124 c27_i32_42
  let v130 : BitVec 32 := Scalar.ori v122 v129
  let c25_i32_43 : BitVec 32 := 25#32
  let v131 : BitVec 1 := Scalar.cmpi .eq v2 c25_i32_43
  let v132 : BitVec 32 := Scalar.extui v131
  let c24_i32_45 : BitVec 32 := 24#32
  let v137 : BitVec 32 := Scalar.muli v132 c24_i32_45
  let v138 : BitVec 32 := Scalar.ori v130 v137
  let c26_i32_46 : BitVec 32 := 26#32
  let v139 : BitVec 1 := Scalar.cmpi .eq v2 c26_i32_46
  let v140 : BitVec 32 := Scalar.extui v139
  let c25_i32_47 : BitVec 32 := 25#32
  let v145 : BitVec 32 := Scalar.muli v140 c25_i32_47
  let v146 : BitVec 32 := Scalar.ori v138 v145
  let c29_i32_48 : BitVec 32 := 29#32
  let v147 : BitVec 1 := Scalar.cmpi .eq v2 c29_i32_48
  let v148 : BitVec 32 := Scalar.extui v147
  let c26_i32_49 : BitVec 32 := 26#32
  let v153 : BitVec 32 := Scalar.muli v148 c26_i32_49
  let v154 : BitVec 32 := Scalar.ori v146 v153
  let c30_i32_50 : BitVec 32 := 30#32
  let v155 : BitVec 1 := Scalar.cmpi .eq v2 c30_i32_50
  let v156 : BitVec 32 := Scalar.extui v155
  let c29_i32_52 : BitVec 32 := 29#32
  let v161 : BitVec 32 := Scalar.muli v156 c29_i32_52
  let v162 : BitVec 32 := Scalar.ori v154 v161
  let c22_i32_53 : BitVec 32 := 22#32
  let v163 : BitVec 1 := Scalar.cmpi .eq v2 c22_i32_53
  let v164 : BitVec 32 := Scalar.extui v163
  let c30_i32_55 : BitVec 32 := 30#32
  let v169 : BitVec 32 := Scalar.muli v164 c30_i32_55
  let v170 : BitVec 32 := Scalar.ori v162 v169
  let c21_i32_56 : BitVec 32 := 21#32
  let v171 : BitVec 1 := Scalar.cmpi .eq v2 c21_i32_56
  let v172 : BitVec 32 := Scalar.extui v171
  let c22_i32_59 : BitVec 32 := 22#32
  let v177 : BitVec 32 := Scalar.muli v172 c22_i32_59
  let v178 : BitVec 32 := Scalar.ori v170 v177
  let c18_i32_60 : BitVec 32 := 18#32
  let v179 : BitVec 1 := Scalar.cmpi .eq v2 c18_i32_60
  let v180 : BitVec 32 := Scalar.extui v179
  let c21_i32_63 : BitVec 32 := 21#32
  let v185 : BitVec 32 := Scalar.muli v180 c21_i32_63
  let v186 : BitVec 32 := Scalar.ori v178 v185
  let c17_i32_64 : BitVec 32 := 17#32
  let v187 : BitVec 1 := Scalar.cmpi .eq v2 c17_i32_64
  let v188 : BitVec 32 := Scalar.extui v187
  let c18_i32_67 : BitVec 32 := 18#32
  let v193 : BitVec 32 := Scalar.muli v188 c18_i32_67
  let v194 : BitVec 32 := Scalar.ori v186 v193
  let c9_i32_68 : BitVec 32 := 9#32
  let v195 : BitVec 1 := Scalar.cmpi .eq v2 c9_i32_68
  let v196 : BitVec 32 := Scalar.extui v195
  let c17_i32_71 : BitVec 32 := 17#32
  let v201 : BitVec 32 := Scalar.muli v196 c17_i32_71
  let v202 : BitVec 32 := Scalar.ori v194 v201
  let c10_i32_72 : BitVec 32 := 10#32
  let v203 : BitVec 1 := Scalar.cmpi .eq v2 c10_i32_72
  let v204 : BitVec 32 := Scalar.extui v203
  let c9_i32_75 : BitVec 32 := 9#32
  let v209 : BitVec 32 := Scalar.muli v204 c9_i32_75
  let v210 : BitVec 32 := Scalar.ori v202 v209
  let c13_i32_76 : BitVec 32 := 13#32
  let v211 : BitVec 1 := Scalar.cmpi .eq v2 c13_i32_76
  let v212 : BitVec 32 := Scalar.extui v211
  let c10_i32_79 : BitVec 32 := 10#32
  let v217 : BitVec 32 := Scalar.muli v212 c10_i32_79
  let v218 : BitVec 32 := Scalar.ori v210 v217
  let c14_i32_80 : BitVec 32 := 14#32
  let v219 : BitVec 1 := Scalar.cmpi .eq v2 c14_i32_80
  let v220 : BitVec 32 := Scalar.extui v219
  let c13_i32_83 : BitVec 32 := 13#32
  let v225 : BitVec 32 := Scalar.muli v220 c13_i32_83
  let v226 : BitVec 32 := Scalar.ori v218 v225
  let c6_i32_84 : BitVec 32 := 6#32
  let v227 : BitVec 1 := Scalar.cmpi .eq v2 c6_i32_84
  let v228 : BitVec 32 := Scalar.extui v227
  let c14_i32_87 : BitVec 32 := 14#32
  let v233 : BitVec 32 := Scalar.muli v228 c14_i32_87
  let v234 : BitVec 32 := Scalar.ori v226 v233
  let c5_i32_88 : BitVec 32 := 5#32
  let v235 : BitVec 1 := Scalar.cmpi .eq v2 c5_i32_88
  let v236 : BitVec 32 := Scalar.extui v235
  let c6_i32_91 : BitVec 32 := 6#32
  let v241 : BitVec 32 := Scalar.muli v236 c6_i32_91
  let v242 : BitVec 32 := Scalar.ori v234 v241
  let c2_i32_92 : BitVec 32 := 2#32
  let v243 : BitVec 1 := Scalar.cmpi .eq v2 c2_i32_92
  let v244 : BitVec 32 := Scalar.extui v243
  let c5_i32_95 : BitVec 32 := 5#32
  let v249 : BitVec 32 := Scalar.muli v244 c5_i32_95
  let v250 : BitVec 32 := Scalar.ori v242 v249
  let c1_i32_96 : BitVec 32 := 1#32
  let v251 : BitVec 1 := Scalar.cmpi .eq v2 c1_i32_96
  let v252 : BitVec 32 := Scalar.extui v251
  let c2_i32_99 : BitVec 32 := 2#32
  let v257 : BitVec 32 := Scalar.muli v252 c2_i32_99
  let v258 : BitVec 32 := Scalar.ori v250 v257
  let c1_i32_203 : BitVec 32 := 1#32
  let v393 : BitVec 32 := Scalar.muli v258 c1_i32_203
  let v394 : BitVec 32 := Scalar.addi c0_i32_204 v393
  v394.toNat
@[reducible] def k0_t6_loop : Scf.Loop 32 :=
  let c0_i32_124 : BitVec 32 := 0#32
  let c16_i32_125 : BitVec 32 := 16#32
  let v273 : BitVec 32 := Scalar.addi c0_i32_124 c16_i32_125
  let c1_i32_126 : BitVec 32 := 1#32
  ⟨c0_i32_124, v273, c1_i32_126⟩
def k0_off39 (k0_t6 : Fin k0_t6_loop.trips) : Fin 1 → Nat :=
  let c8_i32_146 : BitVec 32 := 8#32
  let c0_i32_124 : BitVec 32 := 0#32
  let c1_i32_126 : BitVec 32 := 1#32
  let arg17 : BitVec 32 := Scf.iv c0_i32_124 c1_i32_126 k0_t6
  let c0_i32_133 : BitVec 32 := 0#32
  let v276 : BitVec 1 := Scalar.cmpi .sgt arg17 c0_i32_133
  let v277 : BitVec 32 := Scalar.extui v276
  let c0_i32_134 : BitVec 32 := 0#32
  let v278 : BitVec 1 := Scalar.cmpi .slt arg17 c0_i32_134
  let v279 : BitVec 32 := Scalar.extui v278
  let v280 : BitVec 32 := Scalar.subi v277 v279
  let c8_i32_132 : BitVec 32 := 8#32
  let c0_i32_135 : BitVec 32 := 0#32
  let v281 : BitVec 1 := Scalar.cmpi .sgt c8_i32_132 c0_i32_135
  let v282 : BitVec 32 := Scalar.extui v281
  let c0_i32_136 : BitVec 32 := 0#32
  let v283 : BitVec 1 := Scalar.cmpi .slt c8_i32_132 c0_i32_136
  let v284 : BitVec 32 := Scalar.extui v283
  let v285 : BitVec 32 := Scalar.subi v282 v284
  let v286 : BitVec 1 := Scalar.cmpi .ne v280 v285
  let v287 : BitVec 32 := Scalar.remsi arg17 c8_i32_132
  let c0_i32_137 : BitVec 32 := 0#32
  let v288 : BitVec 1 := Scalar.cmpi .ne v287 c0_i32_137
  let v289 : BitVec 1 := Scalar.andi v286 v288
  let v275 : BitVec 32 := Scalar.divsi arg17 c8_i32_132
  let c1_i32_138 : BitVec 32 := 1#32
  let v290 : BitVec 32 := Scalar.subi v275 c1_i32_138
  let v291 : BitVec 32 := Scalar.select v289 v290 v275
  let c29_i32_139 : BitVec 32 := 29#32
  let v292 : BitVec 32 := Scalar.addi v291 c29_i32_139
  let v303 : BitVec 32 := Scalar.muli c8_i32_146 v292
  let c8_i32_140 : BitVec 32 := 8#32
  let c0_i32_141 : BitVec 32 := 0#32
  let v293 : BitVec 1 := Scalar.cmpi .eq c8_i32_140 c0_i32_141
  let c1_i32_142 : BitVec 32 := 1#32
  let v294 : BitVec 32 := Scalar.select v293 c1_i32_142 c8_i32_140
  let v295 : BitVec 32 := Scalar.remsi arg17 v294
  let c0_i32_144 : BitVec 32 := 0#32
  let v297 : BitVec 1 := Scalar.cmpi .slt v295 c0_i32_144
  let c0_i32_145 : BitVec 32 := 0#32
  let v298 : BitVec 1 := Scalar.cmpi .slt v294 c0_i32_145
  let v299 : BitVec 1 := Scalar.xori v297 v298
  let c0_i32_143 : BitVec 32 := 0#32
  let v296 : BitVec 1 := Scalar.cmpi .ne v295 c0_i32_143
  let v300 : BitVec 1 := Scalar.andi v299 v296
  let v301 : BitVec 32 := Scalar.addi v295 v294
  let v302 : BitVec 32 := Scalar.select v300 v301 v295
  let v304 : BitVec 32 := Scalar.addi v303 v302
  let c16_i32_147 : BitVec 32 := 16#32
  let c0_i32_148 : BitVec 32 := 0#32
  let v305 : BitVec 1 := Scalar.cmpi .eq c16_i32_147 c0_i32_148
  let c1_i32_149 : BitVec 32 := 1#32
  let v306 : BitVec 32 := Scalar.select v305 c1_i32_149 c16_i32_147
  let v307 : BitVec 32 := Scalar.remsi v304 v306
  let c0_i32_151 : BitVec 32 := 0#32
  let v309 : BitVec 1 := Scalar.cmpi .slt v307 c0_i32_151
  let c0_i32_152 : BitVec 32 := 0#32
  let v310 : BitVec 1 := Scalar.cmpi .slt v306 c0_i32_152
  let v311 : BitVec 1 := Scalar.xori v309 v310
  let c0_i32_150 : BitVec 32 := 0#32
  let v308 : BitVec 1 := Scalar.cmpi .ne v307 c0_i32_150
  let v312 : BitVec 1 := Scalar.andi v311 v308
  let v313 : BitVec 32 := Scalar.addi v307 v306
  let v314 : BitVec 32 := Scalar.select v312 v313 v307
  ![v314.toNat]
def k0_off40 (d0 : Dev nD) (k0_t6 : Fin k0_t6_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c0_i32_124 : BitVec 32 := 0#32
  let c1_i32_126 : BitVec 32 := 1#32
  let arg17 : BitVec 32 := Scf.iv c0_i32_124 c1_i32_126 k0_t6
  let c0_i32_133 : BitVec 32 := 0#32
  let v276 : BitVec 1 := Scalar.cmpi .sgt arg17 c0_i32_133
  let v277 : BitVec 32 := Scalar.extui v276
  let c0_i32_134 : BitVec 32 := 0#32
  let v278 : BitVec 1 := Scalar.cmpi .slt arg17 c0_i32_134
  let v279 : BitVec 32 := Scalar.extui v278
  let v280 : BitVec 32 := Scalar.subi v277 v279
  let c8_i32_132 : BitVec 32 := 8#32
  let c0_i32_135 : BitVec 32 := 0#32
  let v281 : BitVec 1 := Scalar.cmpi .sgt c8_i32_132 c0_i32_135
  let v282 : BitVec 32 := Scalar.extui v281
  let c0_i32_136 : BitVec 32 := 0#32
  let v283 : BitVec 1 := Scalar.cmpi .slt c8_i32_132 c0_i32_136
  let v284 : BitVec 32 := Scalar.extui v283
  let v285 : BitVec 32 := Scalar.subi v282 v284
  let v286 : BitVec 1 := Scalar.cmpi .ne v280 v285
  let v287 : BitVec 32 := Scalar.remsi arg17 c8_i32_132
  let c0_i32_137 : BitVec 32 := 0#32
  let v288 : BitVec 1 := Scalar.cmpi .ne v287 c0_i32_137
  let v289 : BitVec 1 := Scalar.andi v286 v288
  let v275 : BitVec 32 := Scalar.divsi arg17 c8_i32_132
  let c1_i32_138 : BitVec 32 := 1#32
  let v290 : BitVec 32 := Scalar.subi v275 c1_i32_138
  let v291 : BitVec 32 := Scalar.select v289 v290 v275
  let c29_i32_139 : BitVec 32 := 29#32
  let v292 : BitVec 32 := Scalar.addi v291 c29_i32_139
  let v315 : BitVec 32 := Scalar.subi v254 v292
  let c32_i32_153 : BitVec 32 := 32#32
  let c0_i32_154 : BitVec 32 := 0#32
  let v316 : BitVec 1 := Scalar.cmpi .eq c32_i32_153 c0_i32_154
  let c1_i32_155 : BitVec 32 := 1#32
  let v317 : BitVec 32 := Scalar.select v316 c1_i32_155 c32_i32_153
  let v318 : BitVec 32 := Scalar.remsi v315 v317
  let c0_i32_157 : BitVec 32 := 0#32
  let v320 : BitVec 1 := Scalar.cmpi .slt v318 c0_i32_157
  let c0_i32_158 : BitVec 32 := 0#32
  let v321 : BitVec 1 := Scalar.cmpi .slt v317 c0_i32_158
  let v322 : BitVec 1 := Scalar.xori v320 v321
  let c0_i32_156 : BitVec 32 := 0#32
  let v319 : BitVec 1 := Scalar.cmpi .ne v318 c0_i32_156
  let v323 : BitVec 1 := Scalar.andi v322 v319
  let v324 : BitVec 32 := Scalar.addi v318 v317
  let v325 : BitVec 32 := Scalar.select v323 v324 v318
  let c64_i32 : BitVec 32 := 64#32
  let v326 : BitVec 32 := Scalar.muli v325 c64_i32
  let c0_i32_159 : BitVec 32 := 0#32
  let c8_i32_140 : BitVec 32 := 8#32
  let c0_i32_141 : BitVec 32 := 0#32
  let v293 : BitVec 1 := Scalar.cmpi .eq c8_i32_140 c0_i32_141
  let c1_i32_142 : BitVec 32 := 1#32
  let v294 : BitVec 32 := Scalar.select v293 c1_i32_142 c8_i32_140
  let v295 : BitVec 32 := Scalar.remsi arg17 v294
  let c0_i32_144 : BitVec 32 := 0#32
  let v297 : BitVec 1 := Scalar.cmpi .slt v295 c0_i32_144
  let c0_i32_145 : BitVec 32 := 0#32
  let v298 : BitVec 1 := Scalar.cmpi .slt v294 c0_i32_145
  let v299 : BitVec 1 := Scalar.xori v297 v298
  let c0_i32_143 : BitVec 32 := 0#32
  let v296 : BitVec 1 := Scalar.cmpi .ne v295 c0_i32_143
  let v300 : BitVec 1 := Scalar.andi v299 v296
  let v301 : BitVec 32 := Scalar.addi v295 v294
  let v302 : BitVec 32 := Scalar.select v300 v301 v295
  let c128_i32 : BitVec 32 := 128#32
  let v327 : BitVec 32 := Scalar.muli v302 c128_i32
  let v328 : BitVec 32 := Scalar.addi c0_i32_159 v327
  ![v326.toNat, v328.toNat]
def k0_off41 (k0_t6 : Fin k0_t6_loop.trips) : Fin 3 → Nat :=
  let c8_i32_146 : BitVec 32 := 8#32
  let c0_i32_124 : BitVec 32 := 0#32
  let c1_i32_126 : BitVec 32 := 1#32
  let arg17 : BitVec 32 := Scf.iv c0_i32_124 c1_i32_126 k0_t6
  let c0_i32_133 : BitVec 32 := 0#32
  let v276 : BitVec 1 := Scalar.cmpi .sgt arg17 c0_i32_133
  let v277 : BitVec 32 := Scalar.extui v276
  let c0_i32_134 : BitVec 32 := 0#32
  let v278 : BitVec 1 := Scalar.cmpi .slt arg17 c0_i32_134
  let v279 : BitVec 32 := Scalar.extui v278
  let v280 : BitVec 32 := Scalar.subi v277 v279
  let c8_i32_132 : BitVec 32 := 8#32
  let c0_i32_135 : BitVec 32 := 0#32
  let v281 : BitVec 1 := Scalar.cmpi .sgt c8_i32_132 c0_i32_135
  let v282 : BitVec 32 := Scalar.extui v281
  let c0_i32_136 : BitVec 32 := 0#32
  let v283 : BitVec 1 := Scalar.cmpi .slt c8_i32_132 c0_i32_136
  let v284 : BitVec 32 := Scalar.extui v283
  let v285 : BitVec 32 := Scalar.subi v282 v284
  let v286 : BitVec 1 := Scalar.cmpi .ne v280 v285
  let v287 : BitVec 32 := Scalar.remsi arg17 c8_i32_132
  let c0_i32_137 : BitVec 32 := 0#32
  let v288 : BitVec 1 := Scalar.cmpi .ne v287 c0_i32_137
  let v289 : BitVec 1 := Scalar.andi v286 v288
  let v275 : BitVec 32 := Scalar.divsi arg17 c8_i32_132
  let c1_i32_138 : BitVec 32 := 1#32
  let v290 : BitVec 32 := Scalar.subi v275 c1_i32_138
  let v291 : BitVec 32 := Scalar.select v289 v290 v275
  let c29_i32_139 : BitVec 32 := 29#32
  let v292 : BitVec 32 := Scalar.addi v291 c29_i32_139
  let v303 : BitVec 32 := Scalar.muli c8_i32_146 v292
  let c8_i32_140 : BitVec 32 := 8#32
  let c0_i32_141 : BitVec 32 := 0#32
  let v293 : BitVec 1 := Scalar.cmpi .eq c8_i32_140 c0_i32_141
  let c1_i32_142 : BitVec 32 := 1#32
  let v294 : BitVec 32 := Scalar.select v293 c1_i32_142 c8_i32_140
  let v295 : BitVec 32 := Scalar.remsi arg17 v294
  let c0_i32_144 : BitVec 32 := 0#32
  let v297 : BitVec 1 := Scalar.cmpi .slt v295 c0_i32_144
  let c0_i32_145 : BitVec 32 := 0#32
  let v298 : BitVec 1 := Scalar.cmpi .slt v294 c0_i32_145
  let v299 : BitVec 1 := Scalar.xori v297 v298
  let c0_i32_143 : BitVec 32 := 0#32
  let v296 : BitVec 1 := Scalar.cmpi .ne v295 c0_i32_143
  let v300 : BitVec 1 := Scalar.andi v299 v296
  let v301 : BitVec 32 := Scalar.addi v295 v294
  let v302 : BitVec 32 := Scalar.select v300 v301 v295
  let v304 : BitVec 32 := Scalar.addi v303 v302
  let c16_i32_147 : BitVec 32 := 16#32
  let c0_i32_148 : BitVec 32 := 0#32
  let v305 : BitVec 1 := Scalar.cmpi .eq c16_i32_147 c0_i32_148
  let c1_i32_149 : BitVec 32 := 1#32
  let v306 : BitVec 32 := Scalar.select v305 c1_i32_149 c16_i32_147
  let v307 : BitVec 32 := Scalar.remsi v304 v306
  let c0_i32_151 : BitVec 32 := 0#32
  let v309 : BitVec 1 := Scalar.cmpi .slt v307 c0_i32_151
  let c0_i32_152 : BitVec 32 := 0#32
  let v310 : BitVec 1 := Scalar.cmpi .slt v306 c0_i32_152
  let v311 : BitVec 1 := Scalar.xori v309 v310
  let c0_i32_150 : BitVec 32 := 0#32
  let v308 : BitVec 1 := Scalar.cmpi .ne v307 c0_i32_150
  let v312 : BitVec 1 := Scalar.andi v311 v308
  let v313 : BitVec 32 := Scalar.addi v307 v306
  let v314 : BitVec 32 := Scalar.select v312 v313 v307
  let c0_i32_161 : BitVec 32 := 0#32
  let c0_i32_162 : BitVec 32 := 0#32
  ![v314.toNat, 0, 0]
def k0_off42 (d0 : Dev nD) (k0_t6 : Fin k0_t6_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c1_i32_170 : BitVec 32 := 1#32
  let v346 : BitVec 32 := Scalar.addi v254 c1_i32_170
  let c0_i32_124 : BitVec 32 := 0#32
  let c1_i32_126 : BitVec 32 := 1#32
  let arg17 : BitVec 32 := Scf.iv c0_i32_124 c1_i32_126 k0_t6
  let c0_i32_133 : BitVec 32 := 0#32
  let v276 : BitVec 1 := Scalar.cmpi .sgt arg17 c0_i32_133
  let v277 : BitVec 32 := Scalar.extui v276
  let c0_i32_134 : BitVec 32 := 0#32
  let v278 : BitVec 1 := Scalar.cmpi .slt arg17 c0_i32_134
  let v279 : BitVec 32 := Scalar.extui v278
  let v280 : BitVec 32 := Scalar.subi v277 v279
  let c8_i32_132 : BitVec 32 := 8#32
  let c0_i32_135 : BitVec 32 := 0#32
  let v281 : BitVec 1 := Scalar.cmpi .sgt c8_i32_132 c0_i32_135
  let v282 : BitVec 32 := Scalar.extui v281
  let c0_i32_136 : BitVec 32 := 0#32
  let v283 : BitVec 1 := Scalar.cmpi .slt c8_i32_132 c0_i32_136
  let v284 : BitVec 32 := Scalar.extui v283
  let v285 : BitVec 32 := Scalar.subi v282 v284
  let v286 : BitVec 1 := Scalar.cmpi .ne v280 v285
  let v287 : BitVec 32 := Scalar.remsi arg17 c8_i32_132
  let c0_i32_137 : BitVec 32 := 0#32
  let v288 : BitVec 1 := Scalar.cmpi .ne v287 c0_i32_137
  let v289 : BitVec 1 := Scalar.andi v286 v288
  let v275 : BitVec 32 := Scalar.divsi arg17 c8_i32_132
  let c1_i32_138 : BitVec 32 := 1#32
  let v290 : BitVec 32 := Scalar.subi v275 c1_i32_138
  let v291 : BitVec 32 := Scalar.select v289 v290 v275
  let c29_i32_139 : BitVec 32 := 29#32
  let v292 : BitVec 32 := Scalar.addi v291 c29_i32_139
  let v347 : BitVec 32 := Scalar.subi v346 v292
  let c32_i32_171 : BitVec 32 := 32#32
  let c0_i32_172 : BitVec 32 := 0#32
  let v348 : BitVec 1 := Scalar.cmpi .eq c32_i32_171 c0_i32_172
  let c1_i32_173 : BitVec 32 := 1#32
  let v349 : BitVec 32 := Scalar.select v348 c1_i32_173 c32_i32_171
  let v350 : BitVec 32 := Scalar.remsi v347 v349
  let c0_i32_175 : BitVec 32 := 0#32
  let v352 : BitVec 1 := Scalar.cmpi .slt v350 c0_i32_175
  let c0_i32_176 : BitVec 32 := 0#32
  let v353 : BitVec 1 := Scalar.cmpi .slt v349 c0_i32_176
  let v354 : BitVec 1 := Scalar.xori v352 v353
  let c0_i32_174 : BitVec 32 := 0#32
  let v351 : BitVec 1 := Scalar.cmpi .ne v350 c0_i32_174
  let v355 : BitVec 1 := Scalar.andi v354 v351
  let v356 : BitVec 32 := Scalar.addi v350 v349
  let v357 : BitVec 32 := Scalar.select v355 v356 v350
  let c64_i32_177 : BitVec 32 := 64#32
  let v358 : BitVec 32 := Scalar.muli v357 c64_i32_177
  let c0_i32_179 : BitVec 32 := 0#32
  let c8_i32_140 : BitVec 32 := 8#32
  let c0_i32_141 : BitVec 32 := 0#32
  let v293 : BitVec 1 := Scalar.cmpi .eq c8_i32_140 c0_i32_141
  let c1_i32_142 : BitVec 32 := 1#32
  let v294 : BitVec 32 := Scalar.select v293 c1_i32_142 c8_i32_140
  let v295 : BitVec 32 := Scalar.remsi arg17 v294
  let c0_i32_144 : BitVec 32 := 0#32
  let v297 : BitVec 1 := Scalar.cmpi .slt v295 c0_i32_144
  let c0_i32_145 : BitVec 32 := 0#32
  let v298 : BitVec 1 := Scalar.cmpi .slt v294 c0_i32_145
  let v299 : BitVec 1 := Scalar.xori v297 v298
  let c0_i32_143 : BitVec 32 := 0#32
  let v296 : BitVec 1 := Scalar.cmpi .ne v295 c0_i32_143
  let v300 : BitVec 1 := Scalar.andi v299 v296
  let v301 : BitVec 32 := Scalar.addi v295 v294
  let v302 : BitVec 32 := Scalar.select v300 v301 v295
  let c128_i32_178 : BitVec 32 := 128#32
  let v359 : BitVec 32 := Scalar.muli v302 c128_i32_178
  let v360 : BitVec 32 := Scalar.addi c0_i32_179 v359
  ![v358.toNat, v360.toNat]
@[reducible] def k0_t7_loop : Scf.Loop 32 :=
  let c0_i32_128 : BitVec 32 := 0#32
  let c16_i32_129 : BitVec 32 := 16#32
  let v274 : BitVec 32 := Scalar.addi c0_i32_128 c16_i32_129
  let c1_i32_130 : BitVec 32 := 1#32
  ⟨c0_i32_128, v274, c1_i32_130⟩
def k0_off43 (k0_t7 : Fin k0_t7_loop.trips) : Fin 1 → Nat :=
  let c8_i32_146 : BitVec 32 := 8#32
  let c0_i32_128 : BitVec 32 := 0#32
  let c1_i32_130 : BitVec 32 := 1#32
  let arg17 : BitVec 32 := Scf.iv c0_i32_128 c1_i32_130 k0_t7
  let c0_i32_133 : BitVec 32 := 0#32
  let v276 : BitVec 1 := Scalar.cmpi .sgt arg17 c0_i32_133
  let v277 : BitVec 32 := Scalar.extui v276
  let c0_i32_134 : BitVec 32 := 0#32
  let v278 : BitVec 1 := Scalar.cmpi .slt arg17 c0_i32_134
  let v279 : BitVec 32 := Scalar.extui v278
  let v280 : BitVec 32 := Scalar.subi v277 v279
  let c8_i32_132 : BitVec 32 := 8#32
  let c0_i32_135 : BitVec 32 := 0#32
  let v281 : BitVec 1 := Scalar.cmpi .sgt c8_i32_132 c0_i32_135
  let v282 : BitVec 32 := Scalar.extui v281
  let c0_i32_136 : BitVec 32 := 0#32
  let v283 : BitVec 1 := Scalar.cmpi .slt c8_i32_132 c0_i32_136
  let v284 : BitVec 32 := Scalar.extui v283
  let v285 : BitVec 32 := Scalar.subi v282 v284
  let v286 : BitVec 1 := Scalar.cmpi .ne v280 v285
  let v287 : BitVec 32 := Scalar.remsi arg17 c8_i32_132
  let c0_i32_137 : BitVec 32 := 0#32
  let v288 : BitVec 1 := Scalar.cmpi .ne v287 c0_i32_137
  let v289 : BitVec 1 := Scalar.andi v286 v288
  let v275 : BitVec 32 := Scalar.divsi arg17 c8_i32_132
  let c1_i32_138 : BitVec 32 := 1#32
  let v290 : BitVec 32 := Scalar.subi v275 c1_i32_138
  let v291 : BitVec 32 := Scalar.select v289 v290 v275
  let c29_i32_139 : BitVec 32 := 29#32
  let v292 : BitVec 32 := Scalar.addi v291 c29_i32_139
  let v303 : BitVec 32 := Scalar.muli c8_i32_146 v292
  let c8_i32_140 : BitVec 32 := 8#32
  let c0_i32_141 : BitVec 32 := 0#32
  let v293 : BitVec 1 := Scalar.cmpi .eq c8_i32_140 c0_i32_141
  let c1_i32_142 : BitVec 32 := 1#32
  let v294 : BitVec 32 := Scalar.select v293 c1_i32_142 c8_i32_140
  let v295 : BitVec 32 := Scalar.remsi arg17 v294
  let c0_i32_144 : BitVec 32 := 0#32
  let v297 : BitVec 1 := Scalar.cmpi .slt v295 c0_i32_144
  let c0_i32_145 : BitVec 32 := 0#32
  let v298 : BitVec 1 := Scalar.cmpi .slt v294 c0_i32_145
  let v299 : BitVec 1 := Scalar.xori v297 v298
  let c0_i32_143 : BitVec 32 := 0#32
  let v296 : BitVec 1 := Scalar.cmpi .ne v295 c0_i32_143
  let v300 : BitVec 1 := Scalar.andi v299 v296
  let v301 : BitVec 32 := Scalar.addi v295 v294
  let v302 : BitVec 32 := Scalar.select v300 v301 v295
  let v304 : BitVec 32 := Scalar.addi v303 v302
  let c16_i32_147 : BitVec 32 := 16#32
  let c0_i32_148 : BitVec 32 := 0#32
  let v305 : BitVec 1 := Scalar.cmpi .eq c16_i32_147 c0_i32_148
  let c1_i32_149 : BitVec 32 := 1#32
  let v306 : BitVec 32 := Scalar.select v305 c1_i32_149 c16_i32_147
  let v307 : BitVec 32 := Scalar.remsi v304 v306
  let c0_i32_151 : BitVec 32 := 0#32
  let v309 : BitVec 1 := Scalar.cmpi .slt v307 c0_i32_151
  let c0_i32_152 : BitVec 32 := 0#32
  let v310 : BitVec 1 := Scalar.cmpi .slt v306 c0_i32_152
  let v311 : BitVec 1 := Scalar.xori v309 v310
  let c0_i32_150 : BitVec 32 := 0#32
  let v308 : BitVec 1 := Scalar.cmpi .ne v307 c0_i32_150
  let v312 : BitVec 1 := Scalar.andi v311 v308
  let v313 : BitVec 32 := Scalar.addi v307 v306
  let v314 : BitVec 32 := Scalar.select v312 v313 v307
  ![v314.toNat]
def k0_off44 (d0 : Dev nD) (k0_t7 : Fin k0_t7_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c0_i32_128 : BitVec 32 := 0#32
  let c1_i32_130 : BitVec 32 := 1#32
  let arg17 : BitVec 32 := Scf.iv c0_i32_128 c1_i32_130 k0_t7
  let c0_i32_133 : BitVec 32 := 0#32
  let v276 : BitVec 1 := Scalar.cmpi .sgt arg17 c0_i32_133
  let v277 : BitVec 32 := Scalar.extui v276
  let c0_i32_134 : BitVec 32 := 0#32
  let v278 : BitVec 1 := Scalar.cmpi .slt arg17 c0_i32_134
  let v279 : BitVec 32 := Scalar.extui v278
  let v280 : BitVec 32 := Scalar.subi v277 v279
  let c8_i32_132 : BitVec 32 := 8#32
  let c0_i32_135 : BitVec 32 := 0#32
  let v281 : BitVec 1 := Scalar.cmpi .sgt c8_i32_132 c0_i32_135
  let v282 : BitVec 32 := Scalar.extui v281
  let c0_i32_136 : BitVec 32 := 0#32
  let v283 : BitVec 1 := Scalar.cmpi .slt c8_i32_132 c0_i32_136
  let v284 : BitVec 32 := Scalar.extui v283
  let v285 : BitVec 32 := Scalar.subi v282 v284
  let v286 : BitVec 1 := Scalar.cmpi .ne v280 v285
  let v287 : BitVec 32 := Scalar.remsi arg17 c8_i32_132
  let c0_i32_137 : BitVec 32 := 0#32
  let v288 : BitVec 1 := Scalar.cmpi .ne v287 c0_i32_137
  let v289 : BitVec 1 := Scalar.andi v286 v288
  let v275 : BitVec 32 := Scalar.divsi arg17 c8_i32_132
  let c1_i32_138 : BitVec 32 := 1#32
  let v290 : BitVec 32 := Scalar.subi v275 c1_i32_138
  let v291 : BitVec 32 := Scalar.select v289 v290 v275
  let c29_i32_139 : BitVec 32 := 29#32
  let v292 : BitVec 32 := Scalar.addi v291 c29_i32_139
  let v315 : BitVec 32 := Scalar.addi v254 v292
  let c32_i32_153 : BitVec 32 := 32#32
  let c0_i32_154 : BitVec 32 := 0#32
  let v316 : BitVec 1 := Scalar.cmpi .eq c32_i32_153 c0_i32_154
  let c1_i32_155 : BitVec 32 := 1#32
  let v317 : BitVec 32 := Scalar.select v316 c1_i32_155 c32_i32_153
  let v318 : BitVec 32 := Scalar.remsi v315 v317
  let c0_i32_157 : BitVec 32 := 0#32
  let v320 : BitVec 1 := Scalar.cmpi .slt v318 c0_i32_157
  let c0_i32_158 : BitVec 32 := 0#32
  let v321 : BitVec 1 := Scalar.cmpi .slt v317 c0_i32_158
  let v322 : BitVec 1 := Scalar.xori v320 v321
  let c0_i32_156 : BitVec 32 := 0#32
  let v319 : BitVec 1 := Scalar.cmpi .ne v318 c0_i32_156
  let v323 : BitVec 1 := Scalar.andi v322 v319
  let v324 : BitVec 32 := Scalar.addi v318 v317
  let v325 : BitVec 32 := Scalar.select v323 v324 v318
  let c64_i32 : BitVec 32 := 64#32
  let v326 : BitVec 32 := Scalar.muli v325 c64_i32
  let c1024_i32 : BitVec 32 := 1024#32
  let c8_i32_140 : BitVec 32 := 8#32
  let c0_i32_141 : BitVec 32 := 0#32
  let v293 : BitVec 1 := Scalar.cmpi .eq c8_i32_140 c0_i32_141
  let c1_i32_142 : BitVec 32 := 1#32
  let v294 : BitVec 32 := Scalar.select v293 c1_i32_142 c8_i32_140
  let v295 : BitVec 32 := Scalar.remsi arg17 v294
  let c0_i32_144 : BitVec 32 := 0#32
  let v297 : BitVec 1 := Scalar.cmpi .slt v295 c0_i32_144
  let c0_i32_145 : BitVec 32 := 0#32
  let v298 : BitVec 1 := Scalar.cmpi .slt v294 c0_i32_145
  let v299 : BitVec 1 := Scalar.xori v297 v298
  let c0_i32_143 : BitVec 32 := 0#32
  let v296 : BitVec 1 := Scalar.cmpi .ne v295 c0_i32_143
  let v300 : BitVec 1 := Scalar.andi v299 v296
  let v301 : BitVec 32 := Scalar.addi v295 v294
  let v302 : BitVec 32 := Scalar.select v300 v301 v295
  let c128_i32 : BitVec 32 := 128#32
  let v327 : BitVec 32 := Scalar.muli v302 c128_i32
  let v328 : BitVec 32 := Scalar.addi c1024_i32 v327
  ![v326.toNat, v328.toNat]
def k0_off45 (k0_t7 : Fin k0_t7_loop.trips) : Fin 3 → Nat :=
  let c8_i32_146 : BitVec 32 := 8#32
  let c0_i32_128 : BitVec 32 := 0#32
  let c1_i32_130 : BitVec 32 := 1#32
  let arg17 : BitVec 32 := Scf.iv c0_i32_128 c1_i32_130 k0_t7
  let c0_i32_133 : BitVec 32 := 0#32
  let v276 : BitVec 1 := Scalar.cmpi .sgt arg17 c0_i32_133
  let v277 : BitVec 32 := Scalar.extui v276
  let c0_i32_134 : BitVec 32 := 0#32
  let v278 : BitVec 1 := Scalar.cmpi .slt arg17 c0_i32_134
  let v279 : BitVec 32 := Scalar.extui v278
  let v280 : BitVec 32 := Scalar.subi v277 v279
  let c8_i32_132 : BitVec 32 := 8#32
  let c0_i32_135 : BitVec 32 := 0#32
  let v281 : BitVec 1 := Scalar.cmpi .sgt c8_i32_132 c0_i32_135
  let v282 : BitVec 32 := Scalar.extui v281
  let c0_i32_136 : BitVec 32 := 0#32
  let v283 : BitVec 1 := Scalar.cmpi .slt c8_i32_132 c0_i32_136
  let v284 : BitVec 32 := Scalar.extui v283
  let v285 : BitVec 32 := Scalar.subi v282 v284
  let v286 : BitVec 1 := Scalar.cmpi .ne v280 v285
  let v287 : BitVec 32 := Scalar.remsi arg17 c8_i32_132
  let c0_i32_137 : BitVec 32 := 0#32
  let v288 : BitVec 1 := Scalar.cmpi .ne v287 c0_i32_137
  let v289 : BitVec 1 := Scalar.andi v286 v288
  let v275 : BitVec 32 := Scalar.divsi arg17 c8_i32_132
  let c1_i32_138 : BitVec 32 := 1#32
  let v290 : BitVec 32 := Scalar.subi v275 c1_i32_138
  let v291 : BitVec 32 := Scalar.select v289 v290 v275
  let c29_i32_139 : BitVec 32 := 29#32
  let v292 : BitVec 32 := Scalar.addi v291 c29_i32_139
  let v303 : BitVec 32 := Scalar.muli c8_i32_146 v292
  let c8_i32_140 : BitVec 32 := 8#32
  let c0_i32_141 : BitVec 32 := 0#32
  let v293 : BitVec 1 := Scalar.cmpi .eq c8_i32_140 c0_i32_141
  let c1_i32_142 : BitVec 32 := 1#32
  let v294 : BitVec 32 := Scalar.select v293 c1_i32_142 c8_i32_140
  let v295 : BitVec 32 := Scalar.remsi arg17 v294
  let c0_i32_144 : BitVec 32 := 0#32
  let v297 : BitVec 1 := Scalar.cmpi .slt v295 c0_i32_144
  let c0_i32_145 : BitVec 32 := 0#32
  let v298 : BitVec 1 := Scalar.cmpi .slt v294 c0_i32_145
  let v299 : BitVec 1 := Scalar.xori v297 v298
  let c0_i32_143 : BitVec 32 := 0#32
  let v296 : BitVec 1 := Scalar.cmpi .ne v295 c0_i32_143
  let v300 : BitVec 1 := Scalar.andi v299 v296
  let v301 : BitVec 32 := Scalar.addi v295 v294
  let v302 : BitVec 32 := Scalar.select v300 v301 v295
  let v304 : BitVec 32 := Scalar.addi v303 v302
  let c16_i32_147 : BitVec 32 := 16#32
  let c0_i32_148 : BitVec 32 := 0#32
  let v305 : BitVec 1 := Scalar.cmpi .eq c16_i32_147 c0_i32_148
  let c1_i32_149 : BitVec 32 := 1#32
  let v306 : BitVec 32 := Scalar.select v305 c1_i32_149 c16_i32_147
  let v307 : BitVec 32 := Scalar.remsi v304 v306
  let c0_i32_151 : BitVec 32 := 0#32
  let v309 : BitVec 1 := Scalar.cmpi .slt v307 c0_i32_151
  let c0_i32_152 : BitVec 32 := 0#32
  let v310 : BitVec 1 := Scalar.cmpi .slt v306 c0_i32_152
  let v311 : BitVec 1 := Scalar.xori v309 v310
  let c0_i32_150 : BitVec 32 := 0#32
  let v308 : BitVec 1 := Scalar.cmpi .ne v307 c0_i32_150
  let v312 : BitVec 1 := Scalar.andi v311 v308
  let v313 : BitVec 32 := Scalar.addi v307 v306
  let v314 : BitVec 32 := Scalar.select v312 v313 v307
  let c0_i32_160 : BitVec 32 := 0#32
  let c0_i32_161 : BitVec 32 := 0#32
  ![v314.toNat, 0, 0]
def k0_off46 (d0 : Dev nD) (k0_t7 : Fin k0_t7_loop.trips) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 1 := Scalar.cmpi .eq v2 c0_i32
  let v4 : BitVec 32 := Scalar.extui v3
  let c0_i32_0 : BitVec 32 := 0#32
  let v5 : BitVec 32 := Scalar.muli v4 c0_i32_0
  let v6 : BitVec 32 := Scalar.ori c0_i32_1 v5
  let c3_i32_5 : BitVec 32 := 3#32
  let v11 : BitVec 1 := Scalar.cmpi .eq v2 c3_i32_5
  let v12 : BitVec 32 := Scalar.extui v11
  let c1_i32_6 : BitVec 32 := 1#32
  let v13 : BitVec 32 := Scalar.muli v12 c1_i32_6
  let v14 : BitVec 32 := Scalar.ori v6 v13
  let c4_i32_8 : BitVec 32 := 4#32
  let v19 : BitVec 1 := Scalar.cmpi .eq v2 c4_i32_8
  let v20 : BitVec 32 := Scalar.extui v19
  let c2_i32 : BitVec 32 := 2#32
  let v21 : BitVec 32 := Scalar.muli v20 c2_i32
  let v22 : BitVec 32 := Scalar.ori v14 v21
  let c7_i32_10 : BitVec 32 := 7#32
  let v27 : BitVec 1 := Scalar.cmpi .eq v2 c7_i32_10
  let v28 : BitVec 32 := Scalar.extui v27
  let c3_i32_11 : BitVec 32 := 3#32
  let v29 : BitVec 32 := Scalar.muli v28 c3_i32_11
  let v30 : BitVec 32 := Scalar.ori v22 v29
  let c15_i32_13 : BitVec 32 := 15#32
  let v35 : BitVec 1 := Scalar.cmpi .eq v2 c15_i32_13
  let v36 : BitVec 32 := Scalar.extui v35
  let c4_i32_14 : BitVec 32 := 4#32
  let v37 : BitVec 32 := Scalar.muli v36 c4_i32_14
  let v38 : BitVec 32 := Scalar.ori v30 v37
  let c12_i32_16 : BitVec 32 := 12#32
  let v43 : BitVec 1 := Scalar.cmpi .eq v2 c12_i32_16
  let v44 : BitVec 32 := Scalar.extui v43
  let c5_i32 : BitVec 32 := 5#32
  let v45 : BitVec 32 := Scalar.muli v44 c5_i32
  let v46 : BitVec 32 := Scalar.ori v38 v45
  let c11_i32_18 : BitVec 32 := 11#32
  let v51 : BitVec 1 := Scalar.cmpi .eq v2 c11_i32_18
  let v52 : BitVec 32 := Scalar.extui v51
  let c6_i32 : BitVec 32 := 6#32
  let v53 : BitVec 32 := Scalar.muli v52 c6_i32
  let v54 : BitVec 32 := Scalar.ori v46 v53
  let c8_i32_20 : BitVec 32 := 8#32
  let v59 : BitVec 1 := Scalar.cmpi .eq v2 c8_i32_20
  let v60 : BitVec 32 := Scalar.extui v59
  let c7_i32_21 : BitVec 32 := 7#32
  let v61 : BitVec 32 := Scalar.muli v60 c7_i32_21
  let v62 : BitVec 32 := Scalar.ori v54 v61
  let c16_i32_23 : BitVec 32 := 16#32
  let v67 : BitVec 1 := Scalar.cmpi .eq v2 c16_i32_23
  let v68 : BitVec 32 := Scalar.extui v67
  let c8_i32_24 : BitVec 32 := 8#32
  let v69 : BitVec 32 := Scalar.muli v68 c8_i32_24
  let v70 : BitVec 32 := Scalar.ori v62 v69
  let c19_i32_26 : BitVec 32 := 19#32
  let v75 : BitVec 1 := Scalar.cmpi .eq v2 c19_i32_26
  let v76 : BitVec 32 := Scalar.extui v75
  let c9_i32 : BitVec 32 := 9#32
  let v77 : BitVec 32 := Scalar.muli v76 c9_i32
  let v78 : BitVec 32 := Scalar.ori v70 v77
  let c20_i32_28 : BitVec 32 := 20#32
  let v83 : BitVec 1 := Scalar.cmpi .eq v2 c20_i32_28
  let v84 : BitVec 32 := Scalar.extui v83
  let c10_i32 : BitVec 32 := 10#32
  let v85 : BitVec 32 := Scalar.muli v84 c10_i32
  let v86 : BitVec 32 := Scalar.ori v78 v85
  let c23_i32_30 : BitVec 32 := 23#32
  let v91 : BitVec 1 := Scalar.cmpi .eq v2 c23_i32_30
  let v92 : BitVec 32 := Scalar.extui v91
  let c11_i32_31 : BitVec 32 := 11#32
  let v93 : BitVec 32 := Scalar.muli v92 c11_i32_31
  let v94 : BitVec 32 := Scalar.ori v86 v93
  let c31_i32_33 : BitVec 32 := 31#32
  let v99 : BitVec 1 := Scalar.cmpi .eq v2 c31_i32_33
  let v100 : BitVec 32 := Scalar.extui v99
  let c12_i32_34 : BitVec 32 := 12#32
  let v101 : BitVec 32 := Scalar.muli v100 c12_i32_34
  let v102 : BitVec 32 := Scalar.ori v94 v101
  let c28_i32_36 : BitVec 32 := 28#32
  let v107 : BitVec 1 := Scalar.cmpi .eq v2 c28_i32_36
  let v108 : BitVec 32 := Scalar.extui v107
  let c13_i32 : BitVec 32 := 13#32
  let v109 : BitVec 32 := Scalar.muli v108 c13_i32
  let v110 : BitVec 32 := Scalar.ori v102 v109
  let c27_i32_38 : BitVec 32 := 27#32
  let v115 : BitVec 1 := Scalar.cmpi .eq v2 c27_i32_38
  let v116 : BitVec 32 := Scalar.extui v115
  let c14_i32 : BitVec 32 := 14#32
  let v117 : BitVec 32 := Scalar.muli v116 c14_i32
  let v118 : BitVec 32 := Scalar.ori v110 v117
  let c24_i32_40 : BitVec 32 := 24#32
  let v123 : BitVec 1 := Scalar.cmpi .eq v2 c24_i32_40
  let v124 : BitVec 32 := Scalar.extui v123
  let c15_i32_41 : BitVec 32 := 15#32
  let v125 : BitVec 32 := Scalar.muli v124 c15_i32_41
  let v126 : BitVec 32 := Scalar.ori v118 v125
  let c25_i32_43 : BitVec 32 := 25#32
  let v131 : BitVec 1 := Scalar.cmpi .eq v2 c25_i32_43
  let v132 : BitVec 32 := Scalar.extui v131
  let c16_i32_44 : BitVec 32 := 16#32
  let v133 : BitVec 32 := Scalar.muli v132 c16_i32_44
  let v134 : BitVec 32 := Scalar.ori v126 v133
  let c26_i32_46 : BitVec 32 := 26#32
  let v139 : BitVec 1 := Scalar.cmpi .eq v2 c26_i32_46
  let v140 : BitVec 32 := Scalar.extui v139
  let c17_i32 : BitVec 32 := 17#32
  let v141 : BitVec 32 := Scalar.muli v140 c17_i32
  let v142 : BitVec 32 := Scalar.ori v134 v141
  let c29_i32_48 : BitVec 32 := 29#32
  let v147 : BitVec 1 := Scalar.cmpi .eq v2 c29_i32_48
  let v148 : BitVec 32 := Scalar.extui v147
  let c18_i32 : BitVec 32 := 18#32
  let v149 : BitVec 32 := Scalar.muli v148 c18_i32
  let v150 : BitVec 32 := Scalar.ori v142 v149
  let c30_i32_50 : BitVec 32 := 30#32
  let v155 : BitVec 1 := Scalar.cmpi .eq v2 c30_i32_50
  let v156 : BitVec 32 := Scalar.extui v155
  let c19_i32_51 : BitVec 32 := 19#32
  let v157 : BitVec 32 := Scalar.muli v156 c19_i32_51
  let v158 : BitVec 32 := Scalar.ori v150 v157
  let c22_i32_53 : BitVec 32 := 22#32
  let v163 : BitVec 1 := Scalar.cmpi .eq v2 c22_i32_53
  let v164 : BitVec 32 := Scalar.extui v163
  let c20_i32_54 : BitVec 32 := 20#32
  let v165 : BitVec 32 := Scalar.muli v164 c20_i32_54
  let v166 : BitVec 32 := Scalar.ori v158 v165
  let c21_i32_56 : BitVec 32 := 21#32
  let v171 : BitVec 1 := Scalar.cmpi .eq v2 c21_i32_56
  let v172 : BitVec 32 := Scalar.extui v171
  let c21_i32_57 : BitVec 32 := 21#32
  let v173 : BitVec 32 := Scalar.muli v172 c21_i32_57
  let v174 : BitVec 32 := Scalar.ori v166 v173
  let c18_i32_60 : BitVec 32 := 18#32
  let v179 : BitVec 1 := Scalar.cmpi .eq v2 c18_i32_60
  let v180 : BitVec 32 := Scalar.extui v179
  let c22_i32_61 : BitVec 32 := 22#32
  let v181 : BitVec 32 := Scalar.muli v180 c22_i32_61
  let v182 : BitVec 32 := Scalar.ori v174 v181
  let c17_i32_64 : BitVec 32 := 17#32
  let v187 : BitVec 1 := Scalar.cmpi .eq v2 c17_i32_64
  let v188 : BitVec 32 := Scalar.extui v187
  let c23_i32_65 : BitVec 32 := 23#32
  let v189 : BitVec 32 := Scalar.muli v188 c23_i32_65
  let v190 : BitVec 32 := Scalar.ori v182 v189
  let c9_i32_68 : BitVec 32 := 9#32
  let v195 : BitVec 1 := Scalar.cmpi .eq v2 c9_i32_68
  let v196 : BitVec 32 := Scalar.extui v195
  let c24_i32_69 : BitVec 32 := 24#32
  let v197 : BitVec 32 := Scalar.muli v196 c24_i32_69
  let v198 : BitVec 32 := Scalar.ori v190 v197
  let c10_i32_72 : BitVec 32 := 10#32
  let v203 : BitVec 1 := Scalar.cmpi .eq v2 c10_i32_72
  let v204 : BitVec 32 := Scalar.extui v203
  let c25_i32_73 : BitVec 32 := 25#32
  let v205 : BitVec 32 := Scalar.muli v204 c25_i32_73
  let v206 : BitVec 32 := Scalar.ori v198 v205
  let c13_i32_76 : BitVec 32 := 13#32
  let v211 : BitVec 1 := Scalar.cmpi .eq v2 c13_i32_76
  let v212 : BitVec 32 := Scalar.extui v211
  let c26_i32_77 : BitVec 32 := 26#32
  let v213 : BitVec 32 := Scalar.muli v212 c26_i32_77
  let v214 : BitVec 32 := Scalar.ori v206 v213
  let c14_i32_80 : BitVec 32 := 14#32
  let v219 : BitVec 1 := Scalar.cmpi .eq v2 c14_i32_80
  let v220 : BitVec 32 := Scalar.extui v219
  let c27_i32_81 : BitVec 32 := 27#32
  let v221 : BitVec 32 := Scalar.muli v220 c27_i32_81
  let v222 : BitVec 32 := Scalar.ori v214 v221
  let c6_i32_84 : BitVec 32 := 6#32
  let v227 : BitVec 1 := Scalar.cmpi .eq v2 c6_i32_84
  let v228 : BitVec 32 := Scalar.extui v227
  let c28_i32_85 : BitVec 32 := 28#32
  let v229 : BitVec 32 := Scalar.muli v228 c28_i32_85
  let v230 : BitVec 32 := Scalar.ori v222 v229
  let c5_i32_88 : BitVec 32 := 5#32
  let v235 : BitVec 1 := Scalar.cmpi .eq v2 c5_i32_88
  let v236 : BitVec 32 := Scalar.extui v235
  let c29_i32_89 : BitVec 32 := 29#32
  let v237 : BitVec 32 := Scalar.muli v236 c29_i32_89
  let v238 : BitVec 32 := Scalar.ori v230 v237
  let c2_i32_92 : BitVec 32 := 2#32
  let v243 : BitVec 1 := Scalar.cmpi .eq v2 c2_i32_92
  let v244 : BitVec 32 := Scalar.extui v243
  let c30_i32_93 : BitVec 32 := 30#32
  let v245 : BitVec 32 := Scalar.muli v244 c30_i32_93
  let v246 : BitVec 32 := Scalar.ori v238 v245
  let c1_i32_96 : BitVec 32 := 1#32
  let v251 : BitVec 1 := Scalar.cmpi .eq v2 c1_i32_96
  let v252 : BitVec 32 := Scalar.extui v251
  let c31_i32_97 : BitVec 32 := 31#32
  let v253 : BitVec 32 := Scalar.muli v252 c31_i32_97
  let v254 : BitVec 32 := Scalar.ori v246 v253
  let c1_i32_169 : BitVec 32 := 1#32
  let v346 : BitVec 32 := Scalar.subi v254 c1_i32_169
  let c0_i32_128 : BitVec 32 := 0#32
  let c1_i32_130 : BitVec 32 := 1#32
  let arg17 : BitVec 32 := Scf.iv c0_i32_128 c1_i32_130 k0_t7
  let c0_i32_133 : BitVec 32 := 0#32
  let v276 : BitVec 1 := Scalar.cmpi .sgt arg17 c0_i32_133
  let v277 : BitVec 32 := Scalar.extui v276
  let c0_i32_134 : BitVec 32 := 0#32
  let v278 : BitVec 1 := Scalar.cmpi .slt arg17 c0_i32_134
  let v279 : BitVec 32 := Scalar.extui v278
  let v280 : BitVec 32 := Scalar.subi v277 v279
  let c8_i32_132 : BitVec 32 := 8#32
  let c0_i32_135 : BitVec 32 := 0#32
  let v281 : BitVec 1 := Scalar.cmpi .sgt c8_i32_132 c0_i32_135
  let v282 : BitVec 32 := Scalar.extui v281
  let c0_i32_136 : BitVec 32 := 0#32
  let v283 : BitVec 1 := Scalar.cmpi .slt c8_i32_132 c0_i32_136
  let v284 : BitVec 32 := Scalar.extui v283
  let v285 : BitVec 32 := Scalar.subi v282 v284
  let v286 : BitVec 1 := Scalar.cmpi .ne v280 v285
  let v287 : BitVec 32 := Scalar.remsi arg17 c8_i32_132
  let c0_i32_137 : BitVec 32 := 0#32
  let v288 : BitVec 1 := Scalar.cmpi .ne v287 c0_i32_137
  let v289 : BitVec 1 := Scalar.andi v286 v288
  let v275 : BitVec 32 := Scalar.divsi arg17 c8_i32_132
  let c1_i32_138 : BitVec 32 := 1#32
  let v290 : BitVec 32 := Scalar.subi v275 c1_i32_138
  let v291 : BitVec 32 := Scalar.select v289 v290 v275
  let c29_i32_139 : BitVec 32 := 29#32
  let v292 : BitVec 32 := Scalar.addi v291 c29_i32_139
  let v347 : BitVec 32 := Scalar.addi v346 v292
  let c32_i32_170 : BitVec 32 := 32#32
  let c0_i32_171 : BitVec 32 := 0#32
  let v348 : BitVec 1 := Scalar.cmpi .eq c32_i32_170 c0_i32_171
  let c1_i32_172 : BitVec 32 := 1#32
  let v349 : BitVec 32 := Scalar.select v348 c1_i32_172 c32_i32_170
  let v350 : BitVec 32 := Scalar.remsi v347 v349
  let c0_i32_174 : BitVec 32 := 0#32
  let v352 : BitVec 1 := Scalar.cmpi .slt v350 c0_i32_174
  let c0_i32_175 : BitVec 32 := 0#32
  let v353 : BitVec 1 := Scalar.cmpi .slt v349 c0_i32_175
  let v354 : BitVec 1 := Scalar.xori v352 v353
  let c0_i32_173 : BitVec 32 := 0#32
  let v351 : BitVec 1 := Scalar.cmpi .ne v350 c0_i32_173
  let v355 : BitVec 1 := Scalar.andi v354 v351
  let v356 : BitVec 32 := Scalar.addi v350 v349
  let v357 : BitVec 32 := Scalar.select v355 v356 v350
  let c64_i32_176 : BitVec 32 := 64#32
  let v358 : BitVec 32 := Scalar.muli v357 c64_i32_176
  let c1024_i32_178 : BitVec 32 := 1024#32
  let c8_i32_140 : BitVec 32 := 8#32
  let c0_i32_141 : BitVec 32 := 0#32
  let v293 : BitVec 1 := Scalar.cmpi .eq c8_i32_140 c0_i32_141
  let c1_i32_142 : BitVec 32 := 1#32
  let v294 : BitVec 32 := Scalar.select v293 c1_i32_142 c8_i32_140
  let v295 : BitVec 32 := Scalar.remsi arg17 v294
  let c0_i32_144 : BitVec 32 := 0#32
  let v297 : BitVec 1 := Scalar.cmpi .slt v295 c0_i32_144
  let c0_i32_145 : BitVec 32 := 0#32
  let v298 : BitVec 1 := Scalar.cmpi .slt v294 c0_i32_145
  let v299 : BitVec 1 := Scalar.xori v297 v298
  let c0_i32_143 : BitVec 32 := 0#32
  let v296 : BitVec 1 := Scalar.cmpi .ne v295 c0_i32_143
  let v300 : BitVec 1 := Scalar.andi v299 v296
  let v301 : BitVec 32 := Scalar.addi v295 v294
  let v302 : BitVec 32 := Scalar.select v300 v301 v295
  let c128_i32_177 : BitVec 32 := 128#32
  let v359 : BitVec 32 := Scalar.muli v302 c128_i32_177
  let v360 : BitVec 32 := Scalar.addi c1024_i32_178 v359
  ![v358.toNat, v360.toNat]
abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Ring.lean ====
/-
  The ring of the 32 devices, and what the kernel computes from it, in closed form.

  A device sits at a place `pos` on one ring; the kernel runs two independent rings over it, one clockwise (`false`) and
  one counter-clockwise (`true`). In the direction `d` a device's place is `dpos d`, the device it sends to is `peer d`
  and the device it receives from is `up d`. Chunks are 64 rows of the result; `chS d s c` is the chunk a device `c`
  sends at hop `s`, and it is the chunk its successor receives at that hop.
-/
module

public import proofs.«01_k».proof.KernelIdeal

@[expose] public section

namespace Cert.KernelIdeal.AR

open Cert.KernelIdeal
open Idealize.ShloMosaic

/-- The place of a device on the ring. -/
def pos (c : Dev nD) : ℕ :=
  match c.val with
  | 0 => 0 | 1 => 31 | 2 => 30 | 3 => 1 | 4 => 2 | 5 => 29 | 6 => 28 | 7 => 3
  | 8 => 7 | 9 => 24 | 10 => 25 | 11 => 6 | 12 => 5 | 13 => 26 | 14 => 27 | 15 => 4
  | 16 => 8 | 17 => 23 | 18 => 22 | 19 => 9 | 20 => 10 | 21 => 21 | 22 => 20 | 23 => 11
  | 24 => 15 | 25 => 16 | 26 => 17 | 27 => 14 | 28 => 13 | 29 => 18 | 30 => 19 | _ => 12

/-- The device at a place of the ring. -/
def devAt (p : ℕ) : Dev nD :=
  match p with
  | 0 => 0 | 1 => 3 | 2 => 4 | 3 => 7 | 4 => 15 | 5 => 12 | 6 => 11 | 7 => 8
  | 8 => 16 | 9 => 19 | 10 => 20 | 11 => 23 | 12 => 31 | 13 => 28 | 14 => 27 | 15 => 24
  | 16 => 25 | 17 => 26 | 18 => 29 | 19 => 30 | 20 => 22 | 21 => 21 | 22 => 18 | 23 => 17
  | 24 => 9 | 25 => 10 | 26 => 13 | 27 => 14 | 28 => 6 | 29 => 5 | 30 => 2 | _ => 1

theorem pos_lt : ∀ c : Dev nD, pos c < 32 := by decide +kernel
theorem devAt_pos : ∀ c : Dev nD, devAt (pos c) = c := by decide +kernel
theorem pos_devAt : ∀ p : Fin 32, pos (devAt p) = p := by decide +kernel

/-- The place of a device in a direction. -/
def dpos (d : Bool) (c : Dev nD) : ℕ := if d then (32 - pos c) % 32 else pos c
/-- The device at a place, counted in a direction. -/
def ddev (d : Bool) (p : ℕ) : Dev nD := if d then devAt ((32 - p % 32) % 32) else devAt (p % 32)

/-- The device a device sends to. -/
def peer (d : Bool) (c : Dev nD) : Dev nD := ddev d (dpos d c + 1)
/-- The device a device receives from. -/
def up (d : Bool) (c : Dev nD) : Dev nD := ddev d (dpos d c + 31)

theorem dpos_lt (d : Bool) (c : Dev nD) : dpos d c < 32 := by
  have := pos_lt c
  unfold dpos; split <;> omega

theorem dpos_ddev (d : Bool) (p : ℕ) : dpos d (ddev d p) = p % 32 := by
  unfold dpos ddev
  have h (q : ℕ) (hq : q < 32) : pos (devAt q) = q := pos_devAt ⟨q, hq⟩
  cases d
  · simp only [Bool.false_eq_true, if_false]; exact h _ (Nat.mod_lt _ (by decide))
  · simp only [if_true]; rw [h _ (Nat.mod_lt _ (by decide))]; omega

theorem ddev_dpos (d : Bool) (c : Dev nD) : ddev d (dpos d c) = c := by
  have := pos_lt c
  unfold dpos ddev
  cases d
  · simp only [Bool.false_eq_true, if_false]; rw [Nat.mod_eq_of_lt this, devAt_pos]
  · simp only [if_true]
    rw [show (32 - (32 - pos c) % 32 % 32) % 32 = pos c by omega, devAt_pos]

theorem dpos_inj {d : Bool} {a b : Dev nD} (h : dpos d a = dpos d b) : a = b := by
  rw [← ddev_dpos d a, ← ddev_dpos d b, h]

theorem dpos_peer (d : Bool) (c : Dev nD) : dpos d (peer d c) = (dpos d c + 1) % 32 := dpos_ddev d _
theorem dpos_up (d : Bool) (c : Dev nD) : dpos d (up d c) = (dpos d c + 31) % 32 := dpos_ddev d _

@[simp] theorem up_peer (d : Bool) (c : Dev nD) : up d (peer d c) = c := by
  apply dpos_inj (d := d); rw [dpos_up, dpos_peer]; have := dpos_lt d c; omega
@[simp] theorem peer_up (d : Bool) (c : Dev nD) : peer d (up d c) = c := by
  apply dpos_inj (d := d); rw [dpos_peer, dpos_up]; have := dpos_lt d c; omega

/-- The devices of the two rings the other way round. -/
theorem peer_not : ∀ (d : Bool) (c : Dev nD), peer (!d) c = up d c := by decide +kernel
theorem up_not : ∀ (d : Bool) (c : Dev nD), up (!d) c = peer d c := by decide +kernel
theorem peer_ne : ∀ (d : Bool) (c : Dev nD), peer d c ≠ c := by decide +kernel
theorem up_ne_peer : ∀ (d : Bool) (c : Dev nD), up d c ≠ peer d c := by decide +kernel

/-- A step along the ring is a bijection of the devices. -/
def peerEquiv (d : Bool) : Dev nD ≃ Dev nD := ⟨peer d, up d, up_peer d, peer_up d⟩

/-- The chunk (of 64 rows) device `c` sends at hop `s`. -/
def chS (d : Bool) (s : ℕ) (c : Dev nD) : ℕ := if d then (pos c + s) % 32 else (pos c + 64 - s) % 32

theorem chS_lt (d : Bool) (s : ℕ) (c : Dev nD) : chS d s c < 32 := by
  unfold chS; split <;> exact Nat.mod_lt _ (by decide)

theorem pos_peer : ∀ (d : Bool) (c : Dev nD), pos (peer d c) = if d then (pos c + 31) % 32 else (pos c + 1) % 32 := by
  decide +kernel

theorem chS_peer (d : Bool) {s : ℕ} (hs : s < 64) (c : Dev nD) : chS d (s + 1) (peer d c) = chS d s c := by
  have := pos_lt c
  unfold chS; rw [pos_peer]
  cases d <;> simp only [if_true, if_false, Bool.false_eq_true] <;> omega

theorem chS_up (d : Bool) {s : ℕ} (hs : s < 64) (c : Dev nD) : chS d s (up d c) = chS d (s + 1) c := by
  rw [← chS_peer d hs (up d c), peer_up]

theorem chS_add32 (d : Bool) {s : ℕ} (hs : s ≤ 32) (c : Dev nD) : chS d (s + 32) c = chS d s c := by
  have := pos_lt c
  unfold chS; split <;> omega

/-- Within one turn of the ring, the chunks of different hops are different. -/
theorem chS_inj (d : Bool) {s t : ℕ} (hs : s < 32) (ht : t < 32) (c : Dev nD) (h : chS d s c = chS d t c) : s = t := by
  have := pos_lt c
  unfold chS at h; split at h <;> omega

/-- The first column of the block `j` of the direction's half of the result. -/
def colS (d : Bool) (j : ℕ) : ℕ := if d then 1024 + 128 * j else 128 * j

/-- Where a block of the result starts: its hop `M / 8` and its column block `M % 8`. -/
def blkOff (d : Bool) (M : ℕ) (c : Dev nD) : Fin 2 → ℕ := ![64 * chS d (M / 8) c, colS d (M % 8)]

theorem blkOff_inb (d : Bool) (M : ℕ) (c : Dev nD) : ∀ a, blkOff d M c a + S64x128.size a ≤ S2048x2048.size a := by
  have := chS_lt d (M / 8) c
  intro a
  fin_cases a
  · show 64 * chS d (M / 8) c + 64 ≤ 2048; omega
  · show colS d (M % 8) + 128 ≤ 2048
    unfold colS; split <;> omega

end Cert.KernelIdeal.AR

end
-- ==== Proof.KernelIdeal.Cells.lean ====
/-
  The resources of the proof: the semaphores, the memory blocks, the schedule of the transfers, what each device owes.

  The two rings (`d`) run two phases each (`ph`): a reduce-scatter (`false`) and an all-gather (`true`). In each phase a
  device sends 248 messages (31 hops of 8 column blocks); message `g` uses the semaphores numbered `g % 16`. The
  messages of both phases of one direction are counted together, `iota ph g = 248 ph + g`.
-/
module

public import proofs.«01_k».proof.Proof.KernelIdeal.Ring
public import Idealize.ShloMosaic.Lib.Pipeline.Launch
public import Idealize.ShloMosaic.Lib.Pipeline.Kit
public import Idealize.ShloMosaic.Lib.Release
public import Idealize.ShloMosaic.Lib.Memref
public import Idealize.ShloMosaic.Lib.Tactic

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resource algebra -/

/-- A slot of a receive buffer: its reader, its direction, its number. -/
abbrev Key : Type := Dev nD × Bool × ℕ
abbrev UB : Type := URounds (GSem nD τ sig) ℕ × USlots Key
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := (Emb.inl : Emb _ UB).trans embR
abbrev ES : Emb (USlots Key) (MT nD τ sig ℕ (Elt F) ℕ UU ℕ) := (Emb.inr : Emb _ UB).trans embR

/-! ## Places along the ring -/

/-- The device `n` places further in the direction. -/
def fw (d : Bool) (n : ℕ) (c : Dev nD) : Dev nD := ddev d (dpos d c + n)

theorem ddev_congr (d : Bool) {a b : ℕ} (h : a % 32 = b % 32) : ddev d a = ddev d b := by
  apply dpos_inj (d := d); rw [dpos_ddev, dpos_ddev, h]
theorem fw_one (d : Bool) (c : Dev nD) : fw d 1 c = peer d c := rfl
theorem fw_peer (d : Bool) (n : ℕ) (c : Dev nD) : fw d n (peer d c) = fw d (n + 1) c := by
  unfold fw; apply ddev_congr; rw [dpos_peer]; omega
theorem fw_32 (d : Bool) (c : Dev nD) : fw d 32 c = c := by
  have h := ddev_dpos d c
  unfold fw; rw [← h]; apply ddev_congr; rw [h]; omega

/-- The places of a chunk a device holds, with its own, when it holds the chunk's running sum (`h` hops done): during the
    reduce-scatter those of the devices before it, during the all-gather those still ahead. -/
def PL (h : ℕ) : Finset ℕ := if h ≤ 31 then Finset.Ico (32 - h) 32 else Finset.Ico 1 (63 - h)

/-! ## The semaphores -/

/-- The number of a DMA semaphore array: by phase, direction, and whether it counts receptions. -/
def semK (ph d r : Bool) : ℕ := (if ph then 4 else 0) + (if d then 2 else 0) + (if r then 1 else 0)
theorem semK_lt : ∀ ph d r : Bool, semK ph d r < 8 := by decide

set_option backward.proofsInPublic true in
def dq (ph d r : Bool) (i : ℕ) : DmaSem sig := ⟨3 + 16 * semK ph d r + i % 16, by
  have := semK_lt ph d r; show _ < 131; omega⟩
set_option backward.proofsInPublic true in
def cq (ph d : Bool) : Sem sig := ⟨(if ph then 2 else 0) + (if d then 1 else 0), by
  show _ < 5; cases ph <;> cases d <;> decide⟩
def bq : Sem sig := (4 : Fin 5)

abbrev sndL (ph d : Bool) (i : ℕ) : SemLoc sig := .dma (dq ph d false i)
abbrev rcvL (ph d : Bool) (i : ℕ) : SemLoc sig := .dma (dq ph d true i)
abbrev crdL (ph d : Bool) : SemLoc sig := .reg (cq ph d)
abbrev barL : SemLoc sig := .reg bq

abbrev sndC (ph d : Bool) (c : Dev nD) (i : ℕ) : GSem nD τ sig := ((c : Thread nD τ), sndL ph d i)
abbrev rcvC (ph d : Bool) (c : Dev nD) (i : ℕ) : GSem nD τ sig := ((c : Thread nD τ), rcvL ph d i)
abbrev crdC (ph d : Bool) (c : Dev nD) : GSem nD τ sig := ((c : Thread nD τ), crdL ph d)
abbrev barC (c : Dev nD) : GSem nD τ sig := ((c : Thread nD τ), barL)

theorem dq_mod (ph d r : Bool) (i : ℕ) : dq ph d r (i % 16) = dq ph d r i := by
  unfold dq; apply Fin.ext; show _ = _; simp only [Nat.mod_mod]

/-! ## The memory -/

abbrev xM : Memref sig .tc .vmem S2048x64 .f32 := Memref.whole cc0_stg0_0
abbrev wM : Memref sig .tc .vmem S64x2048 .f32 := Memref.whole cc0_stg1_0
abbrev oM : Memref sig .tc .vmem S2048x2048 .f32 := Memref.whole cc0_stg2_0
/-- The receive buffer of a direction. -/
def comM (d : Bool) : Memref sig .tc .vmem S16x64x128 .f32 := match d with
  | false => Memref.whole cc0_scratch0
  | true => Memref.whole cc0_scratch1

theorem sqz : S1x64x128.Squeezes S64x128 := by decide

theorem slot_inb (i : ℕ) : ∀ a, (![i % 16, 0, 0] : Fin 3 → ℕ) a + S1x64x128.size a ≤ S16x64x128.size a := by
  intro a; fin_cases a
  · show i % 16 + 1 ≤ 16; omega
  · show 0 + 64 ≤ 64; omega
  · show 0 + 128 ≤ 128; omega

abbrev blkR (d : Bool) (B : ℕ) (c : Dev nD) : Rect S2048x2048 := Rect.unit (s := S2048x2048) (blkOff d B c) S64x128.size (blkOff_inb d B c)
/-- A block of the result. -/
abbrev blkM (d : Bool) (B : ℕ) (c : Dev nD) : Memref sig .tc .vmem S64x128 .f32 := oM.slice (blkR d B c) (fun _ => rfl)
abbrev slotR (i : ℕ) : Rect S16x64x128 := Rect.unit (s := S16x64x128) ![i % 16, 0, 0] S1x64x128.size (slot_inb i)
/-- A slot of a receive buffer. -/
abbrev slotM (d : Bool) (i : ℕ) : Memref sig .tc .vmem S64x128 .f32 :=
  ((comM d).slice (slotR i) (fun _ => rfl)).squeeze S64x128 sqz

/-- The credit of one block. -/
abbrev NN : ℕ := (blkM false 0 0).view.dmaCredit
theorem NN_pos : 0 < NN := View.dmaCredit_pos _ (by decide)
theorem blk_credit (d : Bool) (B : ℕ) (c : Dev nD) : (blkM d B c).view.dmaCredit = NN := rfl
theorem slot_credit (d : Bool) (i : ℕ) : (slotM d i).view.dmaCredit = NN := by cases d <;> rfl

/-- The contents of a block. -/
abbrev BV (F : FTy → Type) : Type := S64x128.Idx → Elt F .f32

/-- A block of device `c`'s result with its contents. -/
def blk (d : Bool) (B : ℕ) (c : Dev nD) (X : BV F) : sProp 𝕄 := owns (c : Thread nD τ) (blkM d B c) fullShare X
/-- The place of device `c`'s block `B` on the device `n` further along. -/
def place (d : Bool) (B : ℕ) (c : Dev nD) (n : ℕ) : sProp 𝕄 := iprop(∃ X : BV F, owns (fw d n c : Thread nD τ) (blkM d B c) fullShare X)
/-- A slot of device `c`'s receive buffer with its contents. -/
def slt (d : Bool) (i : ℕ) (c : Dev nD) (X : BV F) : sProp 𝕄 := owns (c : Thread nD τ) (slotM d i) fullShare X

instance (d : Bool) (B : ℕ) (c : Dev nD) (X : BV F) : BI.Storable (upEmb : UEmb _ 𝕄) (blk d B c X) := by unfold blk; infer_instance
instance (d : Bool) (B : ℕ) (c : Dev nD) (n : ℕ) : BI.Storable (upEmb : UEmb _ 𝕄) (place (F := F) d B c n) := by unfold place; infer_instance
instance (d : Bool) (i : ℕ) (c : Dev nD) (X : BV F) : BI.Storable (upEmb : UEmb _ 𝕄) (slt d i c X) := by unfold slt; infer_instance

/-! ## The contents -/

variable (P : Dev nD → (S2048x2048.Idx → Elt F .f32))

/-- Block `B` of device `c`'s own product. -/
def part (d : Bool) (B : ℕ) (c : Dev nD) : BV F := fun i => P c ((blkR d B c).emb i)

/-- The running sum of the block of column `j` after `h` hops. -/
def curH (d : Bool) (j : ℕ) : ℕ → Dev nD → BV F
  | 0, c => part P d j c
  | h + 1, c => if h + 1 ≤ 31 then addf (part P d (8 * (h + 1) + j) c) (curH d j h (up d c)) else curH d j h (up d c)

/-- What a device holds in its block `B` when the block's hop is done. -/
def cur (d : Bool) (B : ℕ) (c : Dev nD) : BV F := curH P d (B % 8) (B / 8) c

/-! ## What the messages carry -/

/-- What a reception at device `c` tells: the semaphore is at its next round and, in the reduce-scatter, the slot is free again. -/
def fact (ph d : Bool) (c : Dev nD) (i : ℕ) : sProp 𝕄 :=
  iprop(reached ER (rcvC ph d c i) (i / 16 + 1) ∗ match ph with
    | true => iprop(emp)
    | false => released ES ((c, d, i % 16) : Key) (i / 16 + 2))
def facts (ph d : Bool) (c : Dev nD) (n : ℕ) : sProp 𝕄 := bigSep (Finset.range n) (fact ph d c)
/-- All slots of device `c`'s receive buffer are free for their first write. -/
def entry (d : Bool) (c : Dev nD) : sProp 𝕄 := bigSep (Finset.range 16) fun i => released ES ((c, d, i) : Key) 1

instance (ph d : Bool) (c : Dev nD) (i : ℕ) : BI.Persistent (fact (F := F) ph d c i) := by unfold fact; cases ph <;> infer_instance
instance (ph d : Bool) (c : Dev nD) (n : ℕ) : BI.Persistent (facts (F := F) ph d c n) := by unfold facts; infer_instance
instance (d : Bool) (c : Dev nD) : BI.Persistent (entry (F := F) d c) := by unfold entry; infer_instance
instance (ph d : Bool) (c : Dev nD) (i : ℕ) : BI.Storable (upEmb : UEmb _ 𝕄) (fact (F := F) ph d c i) := by unfold fact; cases ph <;> infer_instance
instance (ph d : Bool) (c : Dev nD) (n : ℕ) : BI.Storable (upEmb : UEmb _ 𝕄) (facts (F := F) ph d c n) := by unfold facts; infer_instance
instance (d : Bool) (c : Dev nD) : BI.Storable (upEmb : UEmb _ 𝕄) (entry (F := F) d c) := by unfold entry; infer_instance

/-- Message `g` at its receiver `c`. -/
def rcvPay (ph d : Bool) (c : Dev nD) (g : ℕ) : sProp 𝕄 := match ph with
  | false => iprop(slt d g c (cur P d g (up d c)) ∗ bigSep (PL (g / 8 + 1)) (place d (g + 8) c))
  | true => iprop(blk d (g + 256) c (cur P d (g + 256) c) ∗ bigSep (PL (g / 8 + 32)) (place d (g + 256) c))
/-- What its sender `c` gets back. -/
def sndPay (ph d : Bool) (c : Dev nD) (g : ℕ) : sProp 𝕄 := match ph with
  | false => iprop(emp)
  | true => blk d (g + 248) c (cur P d (g + 248) c)
/-- Credit `m` at its receiver `c`. -/
def crdPay (ph d : Bool) (c : Dev nD) (m : ℕ) : sProp 𝕄 := facts ph d (peer d c) (m + 1)
/-- What the entry handshake tells `c`: from its neighbour in direction `d`, that its buffer of that direction is free. -/
def barPay (d : Bool) (c : Dev nD) : sProp 𝕄 := entry d (peer d c)

instance (ph d : Bool) (c : Dev nD) (g : ℕ) : BI.Storable (upEmb : UEmb _ 𝕄) (rcvPay P ph d c g) := by unfold rcvPay; cases ph <;> infer_instance
instance (ph d : Bool) (c : Dev nD) (g : ℕ) : BI.Storable (upEmb : UEmb _ 𝕄) (sndPay P ph d c g) := by unfold sndPay; cases ph <;> infer_instance
instance (ph d : Bool) (c : Dev nD) (g : ℕ) : BI.Storable (upEmb : UEmb _ 𝕄) (crdPay (F := F) ph d c g) := by unfold crdPay; infer_instance
instance (ph d : Bool) (c : Dev nD) (g : ℕ) : BI.Persistent (crdPay (F := F) ph d c g) := by unfold crdPay; infer_instance
instance (d : Bool) (c : Dev nD) : BI.Storable (upEmb : UEmb _ 𝕄) (barPay (F := F) d c) := by unfold barPay; infer_instance
instance (d : Bool) (c : Dev nD) : BI.Persistent (barPay (F := F) d c) := by unfold barPay; infer_instance

/-! ## The schedule -/

/-- Phase, direction and kind of a DMA semaphore, from its number. -/
def qK (q : ℕ) : ℕ := (q - 3) / 16
def qPh (q : ℕ) : Bool := decide (4 ≤ qK q)
def qD (q : ℕ) : Bool := decide (qK q / 2 % 2 = 1)
def qR (q : ℕ) : Bool := decide (qK q % 2 = 1)

theorem q_dec (ph d r : Bool) (i : ℕ) :
    qPh (dq ph d r i).val = ph ∧ qD (dq ph d r i).val = d ∧ qR (dq ph d r i).val = r ∧ ((dq ph d r i).val - 3) % 16 = i % 16 ∧ 3 ≤ (dq ph d r i).val := by
  have h : qK (dq ph d r i).val = semK ph d r := by show (3 + 16 * semK ph d r + i % 16 - 3) / 16 = _; omega
  refine ⟨?_, ?_, ?_, ?_, ?_⟩
  · unfold qPh; rw [h]; cases ph <;> cases d <;> cases r <;> decide
  · unfold qD; rw [h]; cases ph <;> cases d <;> cases r <;> decide
  · unfold qR; rw [h]; cases ph <;> cases d <;> cases r <;> decide
  · show (3 + 16 * semK ph d r + i % 16 - 3) % 16 = _; omega
  · show 3 ≤ 3 + 16 * semK ph d r + i % 16; omega

def dutiesAt (g : GSem nD τ sig) (r : ℕ) : Finset ℕ :=
  if g.1.2 = .tc then
    match g.2 with
    | .dma q => if 3 ≤ q.val ∧ 16 * r + (q.val - 3) % 16 < 248 then {0} else ∅
    | .reg q => if r = 0 then (if q.val = 4 then {0, 1} else Finset.range 232) else ∅
  else ∅

def payAt (g : GSem nD τ sig) (r : ℕ) (m : ℕ) : sProp 𝕄 :=
  match g.2 with
  | .dma q => if qR q.val then rcvPay P (qPh q.val) (qD q.val) g.1.1 (16 * r + (q.val - 3) % 16)
      else sndPay P (qPh q.val) (qD q.val) g.1.1 (16 * r + (q.val - 3) % 16)
  | .reg q => if q.val = 4 then barPay (decide (m = 1)) g.1.1
      else crdPay (decide (2 ≤ q.val)) (decide (q.val % 2 = 1)) g.1.1 m

def sch : Rounds.Schedule (GSem nD τ sig) ℕ 𝕄 where
  duties := dutiesAt
  unitless _ := False
  amount g _ _ := match g.2 with
    | .dma _ => NN
    | .reg _ => 1
  payload := payAt P
  amount_pos g _ _ _ := by
    rcases g with ⟨_, q | q⟩
    · exact Nat.one_pos
    · exact NN_pos

instance sch_storable (g : GSem nD τ sig) (r m : ℕ) : BI.Storable (upEmb : UEmb _ 𝕄) ((sch P).payload g r m) := by
  show BI.Storable upEmb (payAt P g r m)
  unfold payAt
  rcases g with ⟨_, q | q⟩ <;> dsimp only <;> split <;> infer_instance

theorem sch_duties (g : GSem nD τ sig) (r : ℕ) : (sch P).duties g r = dutiesAt g r := rfl

theorem sch_payload (g : GSem nD τ sig) (r m : ℕ) : (sch P).payload g r m = payAt P g r m := rfl

section Sched
variable (ph d : Bool) (c : Dev nD)

theorem duties_dma (r : Bool) {g : ℕ} (hg : g < 248) : (sch P).duties ((c : Thread nD τ), .dma (dq ph d r g)) (g / 16) = {0} := by
  obtain ⟨-, -, -, h4, h5⟩ := q_dec ph d r g
  rw [sch_duties]
  unfold dutiesAt; rw [if_pos rfl]
  dsimp only; rw [if_pos ⟨h5, by rw [h4]; omega⟩]
theorem duties_dma_later (r : Bool) {i R : ℕ} (h : 248 ≤ 16 * R + i % 16) : (sch P).duties ((c : Thread nD τ), .dma (dq ph d r i)) R = ∅ := by
  obtain ⟨-, -, -, h4, h5⟩ := q_dec ph d r i
  rw [sch_duties]
  unfold dutiesAt; rw [if_pos rfl]
  dsimp only; rw [if_neg (by rw [h4]; omega)]
theorem duties_crd : (sch P).duties (crdC ph d c) 0 = Finset.range 232 := by
  rw [sch_duties]
  unfold dutiesAt; rw [if_pos rfl]
  dsimp only; rw [if_pos rfl, if_neg (by cases ph <;> cases d <;> decide)]
theorem duties_bar : (sch P).duties (barC c) 0 = {0, 1} := by
  rw [sch_duties]
  unfold dutiesAt; rw [if_pos rfl]
  dsimp only; rw [if_pos rfl]; exact if_pos rfl
theorem duties_reg_later (q : Sem sig) {R : ℕ} (h : 1 ≤ R) : (sch P).duties ((c : Thread nD τ), .reg q) R = ∅ := by
  rw [sch_duties]
  unfold dutiesAt; rw [if_pos rfl]
  dsimp only; rw [if_neg (by omega)]

theorem pay_rcv (g m : ℕ) : (sch P).payload (rcvC ph d c g) (g / 16) m = rcvPay P ph d c g := by
  obtain ⟨h1, h2, h3, h4, -⟩ := q_dec ph d true g
  rw [sch_payload]
  unfold payAt; dsimp only
  rw [h1, h2, h3, h4, if_pos rfl, show 16 * (g / 16) + g % 16 = g by omega]
theorem pay_snd (g m : ℕ) : (sch P).payload (sndC ph d c g) (g / 16) m = sndPay P ph d c g := by
  obtain ⟨h1, h2, h3, h4, -⟩ := q_dec ph d false g
  rw [sch_payload]
  unfold payAt; dsimp only
  rw [h1, h2, h3, h4, if_neg (by decide), show 16 * (g / 16) + g % 16 = g by omega]
theorem pay_crd (r m : ℕ) : (sch P).payload (crdC ph d c) r m = crdPay ph d c m := by
  rw [sch_payload]
  unfold payAt; dsimp only
  rw [if_neg (by cases ph <;> cases d <;> decide)]
  congr 1 <;> cases ph <;> cases d <;> decide
theorem pay_bar (r m : ℕ) : (sch P).payload (barC c) r m = barPay (decide (m = 1)) c := by
  rw [sch_payload]
  unfold payAt; dsimp only
  exact if_pos rfl

theorem amount_dma (r : Bool) (i R m : ℕ) : (sch P).amount ((c : Thread nD τ), .dma (dq ph d r i)) R m = NN := rfl
theorem amount_reg (q : Sem sig) (R m : ℕ) : (sch P).amount ((c : Thread nD τ), .reg q) R m = 1 := rfl

theorem expect_dma (r : Bool) {g : ℕ} (hg : g < 248) : (sch P).expect ((c : Thread nD τ), .dma (dq ph d r g)) (g / 16) = NN := by
  unfold Schedule.expect Schedule.amountOf; rw [duties_dma P ph d c r hg, Finset.sum_singleton, amount_dma]
theorem expect_crd : (sch P).expect (crdC ph d c) 0 = 232 := by
  unfold Schedule.expect Schedule.amountOf
  rw [duties_crd, Finset.sum_congr rfl fun m _ => amount_reg P c _ 0 m, Finset.sum_const, Finset.card_range, smul_eq_mul]
theorem expect_bar : (sch P).expect (barC c) 0 = 2 := by
  unfold Schedule.expect Schedule.amountOf
  rw [duties_bar, Finset.sum_congr rfl fun m _ => amount_reg P c _ 0 m]; rfl

theorem rest_rcv {g : ℕ} (hg : g < 248) :
    bigSep ((sch P).duties (rcvC ph d c g) (g / 16) \ ∅) (fun m => (sch P).payload (rcvC ph d c g) (g / 16) m) = rcvPay P ph d c g := by
  rw [Finset.sdiff_empty, duties_dma P ph d c true hg, bigSep_singleton, pay_rcv]
theorem rest_snd {g : ℕ} (hg : g < 248) :
    bigSep ((sch P).duties (sndC ph d c g) (g / 16) \ ∅) (fun m => (sch P).payload (sndC ph d c g) (g / 16) m) = sndPay P ph d c g := by
  rw [Finset.sdiff_empty, duties_dma P ph d c false hg, bigSep_singleton, pay_snd]
theorem rest_bar :
    bigSep ((sch P).duties (barC c) 0 \ ∅) (fun m => (sch P).payload (barC c) 0 m) = iprop(barPay false c ∗ barPay true c) := by
  rw [Finset.sdiff_empty, duties_bar, bigSep_insert (by decide), bigSep_singleton, pay_bar, pay_bar]; rfl

end Sched

/-! ## What each device owes; the levels -/

/-- The common count of a message. -/
def iota (ph : Bool) (g : ℕ) : ℕ := (if ph then 248 else 0) + g
/-- A phase's part of a common count. -/
def cl (ph : Bool) (n : ℕ) : ℕ := n - (if ph then 248 else 0)

/-- What a device owes of one direction and phase: its messages from `u` on, its credits from `s` on. -/
def obl (c : Dev nD) (d ph : Bool) (u s : ℕ) : CellTallies nD τ sig ℕ :=
  (∑ g ∈ Finset.Ico u 248, tallyAt (rcvC ph d (peer d c) g) (iota ph g) NN) + ∑ m ∈ Finset.Ico s 232, tallyAt (crdC ph d (up d c)) (iota ph m) 1

/-- What a device owes when it has sent `n d` messages and `s d` credits of each direction. -/
def OW (c : Dev nD) (n s : Bool → ℕ) : CellTallies nD τ sig ℕ :=
  ∑ d : Bool, ∑ ph : Bool, obl c d ph (cl ph (n d)) (cl ph (s d))

def L (g : GSem nD τ sig) : Finset ℕ := if g.1.2 = .tc then Finset.range 496 else ∅
def lv (g : GSem nD τ sig) (i : ℕ) : ℕ := match g.2 with
  | .dma q => if 3 ≤ q.val ∧ qR q.val then 2 * i + 2 else 0
  | .reg q => if q.val = 4 then 1 else 2 * i + 3

theorem L_of_ne (g : GSem nD τ sig) (h : g.1.2 ≠ .tc) : L g = ∅ := if_neg h
theorem L_tc (c : Dev nD) (sm : SemLoc sig) : L ((c : Thread nD τ), sm) = Finset.range 496 := if_pos rfl

theorem lv_rcv (ph d : Bool) (c : Dev nD) (i j : ℕ) : lv (rcvC ph d c i) j = 2 * j + 2 := by
  obtain ⟨-, -, h3, -, h5⟩ := q_dec ph d true i
  unfold lv; dsimp only; rw [h3]; exact if_pos ⟨h5, rfl⟩
theorem lv_snd (ph d : Bool) (c : Dev nD) (i j : ℕ) : lv (sndC ph d c i) j = 0 := by
  obtain ⟨-, -, h3, -, h5⟩ := q_dec ph d false i
  unfold lv; dsimp only; rw [h3]; exact if_neg (fun h => by simp at h)
theorem lv_crd (ph d : Bool) (c : Dev nD) (j : ℕ) : lv (crdC ph d c) j = 2 * j + 3 := by
  unfold lv; dsimp only; exact if_neg (by cases ph <;> cases d <;> decide)
theorem lv_bar (c : Dev nD) (j : ℕ) : lv (barC c) j = 1 := rfl

end Cert.KernelIdeal.AR

end
-- ==== Proof.KernelIdeal.Owe.lean ====
/-
  What a device owes as it goes on, and that its waits are below what it still owes.
-/
module

public import proofs.«01_k».proof.Proof.KernelIdeal.Cells
import Mathlib.Tactic.Abel

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem Ico_cons {a b : ℕ} (h : a < b) : Finset.Ico a b = insert a (Finset.Ico (a + 1) b) := by
  ext x; rw [Finset.mem_insert, Finset.mem_Ico, Finset.mem_Ico]; omega
theorem Ico_not_mem (a b : ℕ) : a ∉ Finset.Ico (a + 1) b := by rw [Finset.mem_Ico]; omega

theorem iota_lt {ph : Bool} {g : ℕ} (hg : g < 248) : iota ph g < 496 := by unfold iota; split <;> omega
theorem cl_iota (ph : Bool) (g : ℕ) : cl ph (iota ph g) = g := by unfold cl iota; omega

theorem obl_msg (c : Dev nD) (d ph : Bool) {u : ℕ} (s : ℕ) (hu : u < 248) :
    obl c d ph u s = obl c d ph (u + 1) s + tallyAt (rcvC ph d (peer d c) u) (iota ph u) NN := by
  unfold obl
  rw [Ico_cons hu, Finset.sum_insert (Ico_not_mem _ _)]; abel
theorem obl_crd (c : Dev nD) (d ph : Bool) (u : ℕ) {s : ℕ} (hs : s < 232) :
    obl c d ph u s = obl c d ph u (s + 1) + tallyAt (crdC ph d (up d c)) (iota ph s) 1 := by
  unfold obl
  rw [Ico_cons hs, Finset.sum_insert (Ico_not_mem _ _)]; abel
theorem obl_late (c : Dev nD) (d ph : Bool) {u u' s s' : ℕ} (hu : u = u' ∨ 248 ≤ u ∧ 248 ≤ u') (hs : s = s' ∨ 232 ≤ s ∧ 232 ≤ s') :
    obl c d ph u s = obl c d ph u' s' := by
  unfold obl
  congr 1
  · rcases hu with rfl | ⟨h, h'⟩
    · rfl
    · rw [Finset.Ico_eq_empty_of_le h, Finset.Ico_eq_empty_of_le h']
  · rcases hs with rfl | ⟨h, h'⟩
    · rfl
    · rw [Finset.Ico_eq_empty_of_le h, Finset.Ico_eq_empty_of_le h']

/-- The two directions' counts. -/
abbrev tw (a b : ℕ) (d : Bool) : ℕ := if d then b else a

/-- Owing by the two phases of one direction. -/
theorem OW_eq (c : Dev nD) (n s : Bool → ℕ) (d : Bool) :
    OW c n s = (obl c d false (cl false (n d)) (cl false (s d)) + obl c d true (cl true (n d)) (cl true (s d)))
      + (obl c (!d) false (cl false (n (!d))) (cl false (s (!d))) + obl c (!d) true (cl true (n (!d))) (cl true (s (!d)))) := by
  unfold OW
  rw [Fintype.sum_bool, Fintype.sum_bool, Fintype.sum_bool]
  cases d <;> simp only [Bool.not_true, Bool.not_false] <;> abel

/-- A message pays its part. -/
theorem OW_msg (c : Dev nD) (d ph : Bool) {g : ℕ} (hg : g < 248) (n n' s : Bool → ℕ) (hn : n d = iota ph g) (hn' : n' d = n d + 1) (ho : n' (!d) = n (!d)) :
    OW c n s = OW c n' s + tallyAt (rcvC ph d (peer d c) g) (iota ph g) NN := by
  rw [OW_eq c n s d, OW_eq c n' s d, ho, hn', hn]
  cases ph
  · rw [show cl false (iota false g) = g from cl_iota _ _, show cl false (iota false g + 1) = g + 1 by unfold cl iota; simp,
      obl_msg c d false _ hg, obl_late c d true (u := cl true (iota false g)) (u' := cl true (iota false g + 1)) (.inl (by unfold cl iota; simp; omega)) (.inl rfl)]
    abel
  · rw [show cl true (iota true g) = g from cl_iota _ _, show cl true (iota true g + 1) = g + 1 by unfold cl iota; simp; omega,
      obl_msg c d true _ hg, obl_late c d false (u := cl false (iota true g)) (u' := cl false (iota true g + 1)) (.inr (by unfold cl iota; simp; omega)) (.inl rfl)]
    abel

/-- A credit pays its part. -/
theorem OW_crd (c : Dev nD) (d ph : Bool) {g : ℕ} (hg : g < 232) (n s s' : Bool → ℕ) (hn : s d = iota ph g) (hn' : s' d = s d + 1) (ho : s' (!d) = s (!d)) :
    OW c n s = OW c n s' + tallyAt (crdC ph d (up d c)) (iota ph g) 1 := by
  rw [OW_eq c n s d, OW_eq c n s' d, ho, hn', hn]
  cases ph
  · rw [show cl false (iota false g) = g from cl_iota _ _, show cl false (iota false g + 1) = g + 1 by unfold cl iota; simp,
      obl_crd c d false _ hg, obl_late c d true (s := cl true (iota false g)) (s' := cl true (iota false g + 1)) (.inl rfl) (.inl (by unfold cl iota; simp; omega))]
    abel
  · rw [show cl true (iota true g) = g from cl_iota _ _, show cl true (iota true g + 1) = g + 1 by unfold cl iota; simp; omega,
      obl_crd c d true _ hg, obl_late c d false (s := cl false (iota true g)) (s' := cl false (iota true g + 1)) (.inl rfl) (.inr (by unfold cl iota; simp; omega))]
    abel

/-- Credits that no one waits for are not sent: the counts may pass over them. -/
theorem OW_skip (c : Dev nD) (n s s' : Bool → ℕ) (h : ∀ d, s d = s' d ∨ (232 ≤ s d ∧ s d ≤ 248 ∧ 232 ≤ s' d ∧ s' d ≤ 248) ∨ (480 ≤ s d ∧ 480 ≤ s' d)) :
    OW c n s = OW c n s' := by
  unfold OW
  refine Finset.sum_congr rfl fun d _ => Finset.sum_congr rfl fun ph _ => ?_
  refine obl_late c d ph (.inl rfl) ?_
  rcases h d with h | h | h
  · rw [h]; exact .inl rfl
  · cases ph <;> unfold cl <;> simp <;> omega
  · cases ph <;> unfold cl <;> simp <;> omega

theorem OW_done (c : Dev nD) (n s : Bool → ℕ) (hn : ∀ d, 496 ≤ n d) (hs : ∀ d, 480 ≤ s d) : OW c n s = 0 := by
  unfold OW
  refine Finset.sum_eq_zero fun d _ => Finset.sum_eq_zero fun ph _ => ?_
  have h1 := hn d; have h2 := hs d
  unfold obl
  rw [Finset.Ico_eq_empty_of_le (by cases ph <;> unfold cl <;> simp <;> omega), Finset.Ico_eq_empty_of_le (by cases ph <;> unfold cl <;> simp <;> omega),
    Finset.sum_empty, Finset.sum_empty, add_zero]

/-- Where a device owes something. -/
theorem OW_pos {c : Dev nD} {n s : Bool → ℕ} {g : GSem nD τ sig} {i : ℕ} (h : 0 < OW c n s g i) :
    ∃ d ph m, (m < 248 ∧ n d ≤ iota ph m ∧ g = rcvC ph d (peer d c) m ∧ i = iota ph m)
      ∨ (m < 232 ∧ s d ≤ iota ph m ∧ g = crdC ph d (up d c) ∧ i = iota ph m) := by
  obtain ⟨d, -, h⟩ := Pipeline.sum_pos_exists h
  obtain ⟨ph, -, h⟩ := Pipeline.sum_pos_exists h
  rcases Pipeline.add_pos_cases h with h | h
  · obtain ⟨m, hm, h⟩ := Pipeline.sum_pos_exists h
    obtain ⟨hg, hi⟩ := Pipeline.tallyAt_pos h
    rw [Finset.mem_Ico] at hm
    refine ⟨d, ph, m, .inl ⟨hm.2, ?_, hg, hi⟩⟩
    have := hm.1; unfold cl at this; unfold iota; omega
  · obtain ⟨m, hm, h⟩ := Pipeline.sum_pos_exists h
    obtain ⟨hg, hi⟩ := Pipeline.tallyAt_pos h
    rw [Finset.mem_Ico] at hm
    refine ⟨d, ph, m, .inr ⟨hm.2, ?_, hg, hi⟩⟩
    have := hm.1; unfold cl at this; unfold iota; omega

/-- The levels, fixed at the launch. -/
@[irreducible] def LV : sProp (MT nD τ sig ℕ (Elt F) ℕ UU ℕ) := levAts L lv
instance : BI.Persistent (LV (F := F)) := by unfold LV; infer_instance

/-- A wait at an index of level `b` is allowed when every message and credit still owed is above. -/
theorem OW_may (c : Dev nD) (n s : Bool → ℕ) (sm : SemLoc sig) (i b : ℕ) (hi : i < 496) (hb : lv ((c : Thread nD τ), sm) i ≤ b)
    (hn : ∀ d, b < 2 * n d + 2) (hs : ∀ d, b < 2 * s d + 3) :
    (LV : sProp 𝕄) ⊢ MayWait (c : Thread nD τ) sm i (OW c n s) := by
  unfold LV
  refine Pipeline.mayWait_of_levAts (by rw [L_tc]; exact Finset.mem_range.mpr hi) fun g j hg => ?_
  obtain ⟨d, ph, m, ⟨hm, hle, rfl, rfl⟩ | ⟨hm, hle, rfl, rfl⟩⟩ := OW_pos hg
  · refine ⟨by rw [L_tc]; exact Finset.mem_range.mpr (iota_lt hm), lt_of_le_of_lt hb ?_⟩
    rw [lv_rcv]; have := hn d; omega
  · refine ⟨by rw [L_tc]; exact Finset.mem_range.mpr (iota_lt (by omega)), lt_of_le_of_lt hb ?_⟩
    rw [lv_crd]; have := hs d; omega

end Cert.KernelIdeal.AR

end
-- ==== Proof.KernelIdeal.Chan.lean ====
/-
  What a device holds of each of its channels, and the rules for the operations on them: a message received, a credit
  sent, a credit awaited, a send awaited, a message sent.
-/
module

public import proofs.«01_k».proof.Proof.KernelIdeal.Owe

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Facts]

local notation "𝕄" => MT nD τ sig ℕ (Elt F) ℕ UU ℕ

abbrev 𝒱₀ : Variants := Variants.none

/-- The weakest precondition of a part of the kernel's body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (P : Dev nD → (S2048x2048.Idx → Elt F .f32))

/-! ## What is known throughout -/

/-- The kinds of a device's semaphores. -/
abbrev SemK : Type := (Bool × Bool × Bool × Fin 16) ⊕ (Bool × Bool) ⊕ Unit
instance : DecidableEq SemK := instDecidableEqSum
def semL : SemK → SemLoc sig
  | .inl x => .dma (dq x.1 x.2.1 x.2.2.1 x.2.2.2.val)
  | .inr (.inl x) => crdL x.1 x.2
  | .inr (.inr _) => barL
abbrev cellK (x : Dev nD × SemK) : GSem nD τ sig := ((x.1 : Thread nD τ), semL x.2)

abbrev kD (ph d r : Bool) (c : Dev nD) (i : ℕ) : Dev nD × SemK := (c, .inl (ph, d, r, ⟨i % 16, Nat.mod_lt _ (by decide)⟩))
abbrev kC (ph d : Bool) (c : Dev nD) : Dev nD × SemK := (c, .inr (.inl (ph, d)))
abbrev kB (c : Dev nD) : Dev nD × SemK := (c, .inr (.inr ()))

theorem cell_kD (ph d r : Bool) (c : Dev nD) (i : ℕ) : cellK (kD ph d r c i) = ((c : Thread nD τ), .dma (dq ph d r i)) := by
  show ((c : Thread nD τ), SemLoc.dma (dq ph d r (i % 16))) = _
  rw [dq_mod]

def keys : Finset Key := Finset.univ ×ˢ Finset.univ ×ˢ Finset.range 16
/-- A slot of a receive buffer, at any contents. -/
def slotS (k : Key) : sProp 𝕄 := iprop(∃ X : BV F, slt k.2.1 k.2.2 k.1 X)
instance (k : Key) : BI.Storable (upEmb : UEmb _ 𝕄) (slotS (F := F) k) := by unfold slotS; infer_instance

abbrev key (d : Bool) (c : Dev nD) (i : ℕ) : Key := (c, d, i % 16)
theorem key_mem (d : Bool) (c : Dev nD) (i : ℕ) : key d c i ∈ keys := by
  unfold keys
  exact Finset.mem_product.mpr ⟨Finset.mem_univ _, Finset.mem_product.mpr ⟨Finset.mem_univ _, Finset.mem_range.mpr (Nat.mod_lt _ (by decide))⟩⟩

theorem slotM_mod (d : Bool) (i : ℕ) : slotM d (i % 16) = slotM d i := by
  have e : (![i % 16 % 16, 0, 0] : Fin 3 → ℕ) = ![i % 16, 0, 0] := by rw [Nat.mod_mod]
  exact congrArg (fun m : Memref sig .tc .vmem S1x64x128 .f32 => m.squeeze S64x128 sqz) (Memref.slice_unit_congr (comM d) e _ _ _ _)
theorem slt_mod (d : Bool) (i : ℕ) (c : Dev nD) (X : BV F) : slt d (i % 16) c X = slt d i c X := by
  unfold slt; rw [slotM_mod]

theorem slt_set_nonempty (d : Bool) (i : ℕ) : (slotM d i).view.set.Nonempty :=
  View.set_nonempty (by decide)

theorem slotS_false (k : Key) : iprop(slotS k ∗ slotS k) ⊢ (False : sProp 𝕄) := by
  have h : slotS k ⊢ (slot ((slotM k.2.1 k.2.2).view.loc (k.1 : Thread nD τ)) (slotM k.2.1 k.2.2).view.set : sProp 𝕄) := by
    unfold slotS slt owns slot
    iintro ⟨%X, %f, -, H⟩; iexists f; iexact H
  exact (BI.sep_mono h h).trans (slot_slot_false (slt_set_nonempty _ _))

section Ctx
variable (κ : Dev nD × SemK → ℕ) (ν : Key → ℕ)

def ctx : sProp 𝕄 :=
  iprop(LV ∗ (bigSep Finset.univ fun x => cellInv ER (sch P) (κ x) (cellK x)) ∗ (bigSep Finset.univ fun x => reached ER (cellK x) 0)
    ∗ bigSep keys fun k => slotInv ES (ν k) k (slotS k))
instance ctx_persistent : BI.Persistent (ctx P κ ν) := by unfold ctx; infer_instance

theorem ctx_lev : ctx P κ ν ⊢ LV := by unfold ctx; iintro ⟨H, -⟩; iexact H
theorem ctx_cell (x : Dev nD × SemK) : ctx P κ ν ⊢ cellInv ER (sch P) (κ x) (cellK x) := by
  unfold ctx
  iintro ⟨-, H, -⟩
  iapply (show (bigSep Finset.univ fun x => cellInv ER (sch P) (κ x) (cellK x)) ⊢ cellInv ER (sch P) (κ x) (cellK x) from bigSep_elim (Finset.mem_univ x)); iexact H
theorem ctx_reached (x : Dev nD × SemK) : ctx P κ ν ⊢ reached ER (cellK x) 0 := by
  unfold ctx
  iintro ⟨-, -, H, -⟩
  iapply (show (bigSep Finset.univ fun x => reached ER (cellK x) 0) ⊢ (reached ER (cellK x) 0 : sProp 𝕄) from bigSep_elim (Finset.mem_univ x)); iexact H
theorem ctx_slot (d : Bool) (c : Dev nD) (i : ℕ) : ctx P κ ν ⊢ slotInv ES (ν (key d c i)) (key d c i) (slotS (key d c i)) := by
  unfold ctx
  iintro ⟨-, -, -, H⟩
  iapply (show (bigSep keys fun k => slotInv ES (ν k) k (slotS (F := F) k)) ⊢ slotInv ES (ν (key d c i)) (key d c i) (slotS (key d c i)) from bigSep_elim (key_mem d c i)); iexact H
theorem ctx_dma (ph d r : Bool) (c : Dev nD) (i : ℕ) : ctx P κ ν ⊢ cellInv ER (sch P) (κ (kD ph d r c i)) ((c : Thread nD τ), .dma (dq ph d r i)) := by
  rw [← cell_kD]; exact ctx_cell P κ ν _

end Ctx

/-! ## Rounds of sixteen -/

/-- How many of the first `a` messages use slot `i`. -/
def rnd (a i : ℕ) : ℕ := (a + 15 - i) / 16
theorem rnd_self (r : ℕ) : rnd r (r % 16) = r / 16 := by unfold rnd; omega
theorem rnd_next (r : ℕ) : rnd (r + 1) (r % 16) = r / 16 + 1 := by unfold rnd; omega
theorem rnd_other (r : ℕ) {i : ℕ} (hi : i < 16) (h : i ≠ r % 16) : rnd (r + 1) i = rnd r i := by unfold rnd; omega

theorem step16 (Φ : ℕ → ℕ → sProp 𝕄) (r : ℕ) :
    (bigSep (Finset.range 16) fun i => Φ i (rnd r i)) = iprop(Φ (r % 16) (r / 16) ∗ bigSep ((Finset.range 16).erase (r % 16)) fun i => Φ i (rnd r i)) := by
  rw [bigSep_erase (Finset.mem_range.mpr (Nat.mod_lt r (by decide))), rnd_self]; rfl
theorem step16' (Φ : ℕ → ℕ → sProp 𝕄) (r : ℕ) :
    (bigSep (Finset.range 16) fun i => Φ i (rnd (r + 1) i)) = iprop(Φ (r % 16) (r / 16 + 1) ∗ bigSep ((Finset.range 16).erase (r % 16)) fun i => Φ i (rnd r i)) := by
  rw [bigSep_erase (Finset.mem_range.mpr (Nat.mod_lt r (by decide))), rnd_next]
  congr 1
  refine bigSep_congr fun i hi => ?_
  rw [rnd_other r (Finset.mem_range.mp (Finset.mem_of_mem_erase hi)) (Finset.ne_of_mem_erase hi)]

theorem Ico_step (Φ : ℕ → sProp 𝕄) {a b : ℕ} (h : a < b) : bigSep (Finset.Ico a b) Φ = iprop(Φ a ∗ bigSep (Finset.Ico (a + 1) b) Φ) := by
  rw [Ico_cons h, bigSep_insert (Ico_not_mem a b)]; rfl
theorem range_step (Φ : ℕ → sProp 𝕄) (a : ℕ) : bigSep (Finset.range (a + 1)) Φ = iprop(Φ a ∗ bigSep (Finset.range a) Φ) := by
  rw [Finset.range_add_one, bigSep_insert Finset.notMem_range_self]; rfl

/-! ## The bundles -/

/-- A device's account. -/
def Owes (c : Dev nD) (O : CellTallies nD τ sig ℕ) : sProp 𝕄 := iprop(∃ W, owes (c : Thread nD τ) O W)

section Bundles
variable (ph d : Bool) (c : Dev nD)

/-- To receive messages `r`, `r + 1`, …. -/
def RcvS (r : ℕ) : sProp 𝕄 :=
  iprop((bigSep (Finset.Ico r 248) fun g => cred (tallyAt (rcvC ph d c g) (iota ph g) NN))
    ∗ bigSep (Finset.range 16) fun i => atPos ER (rcvC ph d c i) (rnd r i) ∅ 0)
/-- To send messages `u`, `u + 1`, …. -/
def TokS (u : ℕ) : sProp 𝕄 :=
  bigSep (Finset.Ico u 248) fun g => iprop(dutyTok ER (rcvC ph d (peer d c) g) (g / 16) 0 ∗ dutyTok ER (sndC ph d c g) (g / 16) 0)
/-- To wait for the sends of messages `w`, …, `u - 1`. -/
def SndS (w u : ℕ) : sProp 𝕄 :=
  iprop((bigSep (Finset.Ico w u) fun g => cred (tallyAt (sndC ph d c g) (iota ph g) NN))
    ∗ bigSep (Finset.range 16) fun i => iprop(atPos ER (sndC ph d c i) (rnd w i) ∅ 0 ∗ reached ER (sndC ph d c i) (rnd w i)))
/-- To send credits `s`, `s + 1`, …. -/
def CpS (s : ℕ) : sProp 𝕄 := bigSep (Finset.Ico s 232) fun m => dutyTok ER (crdC ph d (up d c)) 0 m
/-- To wait for credits `k`, `k + 1`, …. -/
def CwS (k : ℕ) : sProp 𝕄 :=
  iprop((bigSep (Finset.Ico k 232) fun m => cred (tallyAt (crdC ph d c) (iota ph m) 1))
    ∗ ∃ T : Finset ℕ, ⌜T ⊆ Finset.range 232 ∧ k ≤ T.card⌝ ∗ atPos ER (crdC ph d c) 0 T k ∗ bigSep T fun m => crdPay ph d c m)
/-- The rights to write the peer's slots, for messages `u`, `u + 1`, …. -/
def WrS (u : ℕ) : sProp 𝕄 := bigSep (Finset.Ico u 248) fun g => writeTok ES (key d (peer d c) g) (g / 16 + 1)
/-- To release the slots of the own buffer, `r` messages consumed. -/
def RdS (r : ℕ) : sProp 𝕄 := bigSep (Finset.range 16) fun i => readerAt ES ((c, d, i) : Key) (rnd r i + 1)

end Bundles

section Rules
variable (κ : Dev nD × SemK → ℕ) (ν : Key → ℕ) (ph d : Bool) (c : Dev nD)

theorem rcvC_mod (r : ℕ) : rcvC ph d c (r % 16) = rcvC ph d c r := by rw [rcvC, rcvL, dq_mod]
theorem sndC_mod (r : ℕ) : sndC ph d c (r % 16) = sndC ph d c r := by rw [sndC, sndL, dq_mod]

/-- Message `r` is received. -/
theorem wp_recv {r : ℕ} (hr : r < 248) {O : CellTallies nD τ sig ℕ} (hmay : LV (F := F) ⊢ MayWait (c : Thread nD τ) (rcvL ph d r) (iota ph r) O)
    {q : DmaSem sig} (hq : q = dq ph d true r) {sp sp' : Space} {s s' : Shape} {e e' : EltTy} {src : Memref sig .tc sp' s' e'} {dst : Memref sig .tc sp s e}
    {hs : src.view.WordExact} {hd : dst.view.WordExact} (hN : dst.view.dmaCredit = NN) {α : Type} {Q : α → sProp 𝕄}
    {k : PUnit → Prog (TpuEff nD τ sig (Elt F) Λ₀ .tc) α} :
    iprop(ctx P κ ν ∗ RcvS ph d c r ∗ Owes c O)
      ⊢ iprop((RcvS ph d c (r + 1) ∗ Owes c O ∗ reached ER (rcvC ph d c r) (r / 16 + 1) ∗ rcvPay P ph d c r -∗ WP c (k ⟨⟩) Q)
          -∗ WP c (.op (.waitDma2 q src dst hs hd) k) Q) := by
  subst hq
  unfold RcvS Owes
  rw [Ico_step _ hr, step16 (fun i R => atPos ER (rcvC ph d c i) R ∅ 0), step16' (fun i R => atPos ER (rcvC ph d c i) R ∅ 0), rcvC_mod]
  iintro ⟨#HC, ⟨⟨Hc, Hcs⟩, Ha, Has⟩, %W, HO⟩ Hk
  iapply (Rounds.wp_wait_rest_token 𝒱₀ ER (sch P) (c : Thread nD τ) none (κ := κ (kD ph d true c r)) (k' := NN)
      (fun K => by rw [← hN]; exact wpE_waitDma2_eq 𝒱₀ (c : Thread nD τ) none Set.univ K) (Set.mem_univ _) (iota ph r) (O := O) (W := W) (R := r / 16) (m := 0) (T := ∅)
      (by rw [expect_dma P ph d c true hr, Nat.zero_add])) $$ [Hc HO Ha]
  · isplitr; · iapply (ctx_dma P κ ν ph d true c r); iexact HC
    isplitl [Hc]; · iexact Hc
    isplitl [HO]; · iexact HO
    isplitr; · iapply ((ctx_lev P κ ν).trans hmay); iexact HC
    iexact Ha
  iintro ⟨HO, Ha, Hr, Hp⟩
  ihave Hp' := (Entails.of_eq (rest_rcv P ph d c hr)) $$ Hp
  iapply Hk
  isplitl [Hcs Ha Has]
  · isplitl [Hcs]; · iexact Hcs
    isplitl [Ha] <;> iassumption
  isplitl [HO]; · iexists _; iexact HO
  isplitl [Hr] <;> iassumption

/-- The send of message `w` is awaited. -/
theorem wp_sent {w u : ℕ} (hw : w < u) (hu : u ≤ 248) {O : CellTallies nD τ sig ℕ} (hmay : LV (F := F) ⊢ MayWait (c : Thread nD τ) (sndL ph d w) (iota ph w) O)
    {q : DmaSem sig} (hq : q = dq ph d false w) {sp sp' : Space} {s s' : Shape} {e e' : EltTy} {src : Memref sig .tc sp' s' e'} {dst : Memref sig .tc sp s e}
    {hs : src.view.WordExact} {hd : dst.view.WordExact} (hN : dst.view.dmaCredit = NN) {α : Type} {Q : α → sProp 𝕄}
    {k : PUnit → Prog (TpuEff nD τ sig (Elt F) Λ₀ .tc) α} :
    iprop(ctx P κ ν ∗ SndS ph d c w u ∗ Owes c O)
      ⊢ iprop((SndS ph d c (w + 1) u ∗ Owes c O ∗ sndPay P ph d c w -∗ WP c (k ⟨⟩) Q)
          -∗ WP c (.op (.waitDma2 q src dst hs hd) k) Q) := by
  subst hq
  unfold SndS Owes
  rw [Ico_step _ hw, step16 (fun i R => iprop(atPos ER (sndC ph d c i) R ∅ 0 ∗ reached ER (sndC ph d c i) R)),
    step16' (fun i R => iprop(atPos ER (sndC ph d c i) R ∅ 0 ∗ reached ER (sndC ph d c i) R)), sndC_mod]
  iintro ⟨#HC, ⟨⟨Hc, Hcs⟩, ⟨Ha, -⟩, Has⟩, %W, HO⟩ Hk
  iapply (Rounds.wp_wait_rest_token 𝒱₀ ER (sch P) (c : Thread nD τ) none (κ := κ (kD ph d false c w)) (k' := NN)
      (fun K => by rw [← hN]; exact wpE_waitDma2_eq 𝒱₀ (c : Thread nD τ) none Set.univ K) (Set.mem_univ _) (iota ph w) (O := O) (W := W) (R := w / 16) (m := 0) (T := ∅)
      (by rw [expect_dma P ph d c false (by omega), Nat.zero_add])) $$ [Hc HO Ha]
  · isplitr; · iapply (ctx_dma P κ ν ph d false c w); iexact HC
    isplitl [Hc]; · iexact Hc
    isplitl [HO]; · iexact HO
    isplitr; · iapply ((ctx_lev P κ ν).trans hmay); iexact HC
    iexact Ha
  iintro ⟨HO, Ha, Hr, Hp⟩
  ihave Hp' := (Entails.of_eq (rest_snd P ph d c (g := w) (by omega))) $$ Hp
  iapply Hk
  isplitl [Hcs Ha Hr Has]
  · isplitl [Hcs]; · iexact Hcs
    isplitl [Ha Hr] <;> try iassumption
    isplitl [Ha] <;> iassumption
  isplitl [HO]; · iexists _; iexact HO
  iexact Hp'

/-- A credit is sent. -/
theorem wp_credit {m : ℕ} (hm : m < 232) {O₀ : CellTallies nD τ sig ℕ} (O : CellTallies nD τ sig ℕ)
    (hO : O₀ = O + tallyAt (crdC ph d (up d c)) (iota ph m) 1)
    {e : Dev nD} (he : e = up d c) {q : Sem sig} (hq : q = cq ph d) {α : Type} {Q : α → sProp 𝕄}
    {k : PUnit → Prog (TpuEff nD τ sig (Elt F) Λ₀ .tc) α} :
    iprop(ctx P κ ν ∗ CpS ph d c m ∗ Owes c O₀ ∗ facts ph d c (m + 1))
      ⊢ iprop((CpS ph d c (m + 1) ∗ Owes c O -∗ WP c (k ⟨⟩) Q)
          -∗ WP c (.op (.semSignal (e, .tc) q (1#32).toInt) k) Q) := by
  subst hq he
  unfold CpS Owes
  rw [Ico_step _ hm]
  iintro ⟨#HC, ⟨Ht, Hts⟩, ⟨%W, HO⟩, #Hf⟩ Hk
  iapply (show iprop(cellInv ER (sch P) (κ (kC ph d (up d c))) ((up d c : Thread nD τ), .reg (cq ph d)) ∗ owes (c : Thread nD τ) O₀ W
        ∗ dutyTok ER ((up d c : Thread nD τ), .reg (cq ph d)) 0 m ∗ (sch P).payload ((up d c : Thread nD τ), .reg (cq ph d)) 0 m
        ∗ reached ER ((up d c : Thread nD τ), .reg (cq ph d)) 0) ⊢ iprop((owes (c : Thread nD τ) O W -∗ WP c (k ⟨⟩) Q)
          -∗ WP c (.op (.semSignal (up d c, .tc) (cq ph d) (1#32).toInt) k) Q) from
      Rounds.wp_signal 𝒱₀ ER (sch P) (c : Thread nD τ) none (dst := (up d c : Thread nD τ)) (κ := κ (kC ph d (up d c))) (d := m) (k' := 1)
        (by rw [duties_crd]; exact Finset.mem_range.mpr hm) rfl (iota ph m) O hO) $$ [HO Ht]
  · isplitr; · iapply (ctx_cell P κ ν (kC ph d (up d c))); iexact HC
    isplitl [HO]; · iexact HO
    isplitl [Ht]; · iexact Ht
    isplitr
    · rw [pay_crd]; unfold crdPay; rw [peer_up]; iexact Hf
    iapply (ctx_reached P κ ν (kC ph d (up d c))); iexact HC
  iintro HO
  iapply Hk
  isplitl [Hts]; · iexact Hts
  iexists _; iexact HO

theorem facts_mono {n n' : ℕ} (h : n' ≤ n) : facts ph d c n ⊢ (facts ph d c n' : sProp 𝕄) := by
  unfold facts; exact bigSep_subset (Finset.range_mono h)

/-- As many credits as were awaited tell of as many receptions. -/
theorem crd_facts {T : Finset ℕ} {k : ℕ} (hk : k ≤ T.card) : (bigSep T fun m => crdPay ph d c m) ⊢ (facts ph d (peer d c) k : sProp 𝕄) := by
  rcases k with _ | k
  · unfold facts; rw [Finset.range_zero, bigSep_empty]; iintro -; iempintro
  · have h : ∃ m ∈ T, k ≤ m := by
      by_contra hn
      have : T ⊆ Finset.range k := fun m hm => Finset.mem_range.mpr (by by_contra h; exact hn ⟨m, hm, by omega⟩)
      have := Finset.card_le_card this
      rw [Finset.card_range] at this; omega
    obtain ⟨m, hm, hkm⟩ := h
    exact (bigSep_elim hm).trans (by unfold crdPay; exact facts_mono ph d (peer d c) (by omega))

theorem cwS_facts (k : ℕ) : CwS ph d c k ⊢ (iprop(CwS ph d c k ∗ facts ph d (peer d c) k) : sProp 𝕄) := by
  unfold CwS
  iintro ⟨H1, %T, %hT, H2, #H3⟩
  isplitl
  · isplitl [H1]; · iexact H1
    iexists T
    isplitr; · ipureintro; exact hT
    isplitl; · iexact H2
    iexact H3
  · iapply (crd_facts ph d c hT.2); iexact H3

/-- A credit is awaited. -/
theorem wp_credited {m : ℕ} (hm : m < 232) {O : CellTallies nD τ sig ℕ} (hmay : LV (F := F) ⊢ MayWait (c : Thread nD τ) (crdL ph d) (iota ph m) O)
    {q : Sem sig} (hq : q = cq ph d) {α : Type} {Q : α → sProp 𝕄}
    {k : PUnit → Prog (TpuEff nD τ sig (Elt F) Λ₀ .tc) α} :
    iprop(ctx P κ ν ∗ CwS ph d c m ∗ Owes c O)
      ⊢ iprop((CwS ph d c (m + 1) ∗ Owes c O -∗ WP c (k ⟨⟩) Q)
          -∗ WP c (.op (.semWait q (1#32).toInt) k) Q) := by
  subst hq
  unfold CwS Owes
  rw [Ico_step _ hm]
  iintro ⟨#HC, ⟨⟨Hc, Hcs⟩, %T, %hT, Ha, #HT⟩, %W, HO⟩ Hk
  iapply (show iprop(cellInv ER (sch P) (κ (kC ph d c)) (crdC ph d c) ∗ cred (tallyOn (crdC ph d c) (Finsupp.single (iota ph m) 1)) ∗ owes (c : Thread nD τ) O W
        ∗ MayOwe (c : Thread nD τ) {(crdL ph d, iota ph m)} O ∗ atPos ER (crdC ph d c) 0 T m)
      ⊢ iprop((∀ S : Finset ℕ, (⌜T ⊆ S ∧ S ⊆ (sch P).duties (crdC ph d c) 0 ∧ m + 1 + ((sch P).duties (crdC ph d c) 0 \ S).card ≤ (sch P).expect (crdC ph d c) 0⌝
              ∗ owes (c : Thread nD τ) O (W ∪ {(crdL ph d, iota ph m)}) ∗ atPos ER (crdC ph d c) 0 S (m + 1)
              ∗ bigSep (S \ T) (fun d' => (sch P).payload (crdC ph d c) 0 d')) -∗ WP c (k ⟨⟩) Q)
          -∗ WP c (.op (.semWait (cq ph d) (1#32).toInt) k) Q) from
      Rounds.wp_wait 𝒱₀ ER (sch P) (c : Thread nD τ) none (κ := κ (kC ph d c)) (k' := 1)
        (wpE_semWait_eq 𝒱₀ (c : Thread nD τ) none Set.univ) (Set.mem_univ _) {(crdL ph d, iota ph m)}
        (by rw [Util.total_single]) (image_single_subset _ _ _)) $$ [Hc HO Ha]
  · isplitr; · iapply (ctx_cell P κ ν (kC ph d c)); iexact HC
    isplitl [Hc]; · iexact Hc
    isplitl [HO]; · iexact HO
    isplitr; · iapply ((ctx_lev P κ ν).trans hmay); iexact HC
    iexact Ha
  iintro %S ⟨%hS, HO, Ha, Hp0⟩
  ihave #Hp := (Entails.of_eq (bigSep_congr (s := S \ T) fun m' _ => pay_crd P ph d c 0 m')) $$ Hp0
  iapply Hk
  isplitr [HO]
  · isplitl [Hcs]; · iexact Hcs
    iexists S
    isplitr
    · ipureintro
      obtain ⟨h1, h2, h3⟩ := hS
      rw [duties_crd] at h2 h3
      rw [expect_crd, Finset.card_sdiff_of_subset h2, Finset.card_range] at h3
      have h4 := Finset.card_le_card h2
      rw [Finset.card_range] at h4
      exact ⟨h2, by omega⟩
    isplitl [Ha]; · iexact Ha
    iapply (Entails.of_eq (show iprop((bigSep T fun m => crdPay ph d c m) ∗ bigSep (S \ T) fun m => crdPay ph d c m) = (bigSep S fun m => crdPay ph d c m : sProp 𝕄) by
      rw [← Finset.union_sdiff_of_subset hS.1, bigSep_union Finset.disjoint_sdiff, Finset.union_sdiff_of_subset hS.1]; rfl))
    isplitr; · iexact HT
    iexact Hp
  iexists _; iexact HO

end Rules

end Cert.KernelIdeal.AR

end
-- ==== Proof.KernelIdeal.Send.lean ====
/-
  The two kinds of sends: of a running sum into the peer's receive buffer, with the places of its block that the sender
  holds, and of a finished block into its place on the peer.
-/
module

public import proofs.«01_k».proof.Proof.KernelIdeal.Chan

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Facts]

local notation "𝕄" => MT nD τ sig ℕ (Elt F) ℕ UU ℕ

variable (P : Dev nD → (S2048x2048.Idx → Elt F .f32))

/-! ## A block at the next device -/

theorem blkOff_peer (d : Bool) {B : ℕ} (hB : B < 504) (c : Dev nD) : blkOff d (B + 8) (peer d c) = blkOff d B c := by
  unfold blkOff
  rw [show (B + 8) / 8 = B / 8 + 1 by omega, show (B + 8) % 8 = B % 8 by omega, chS_peer d (by omega)]

theorem blkM_congr {d : Bool} {B B' : ℕ} {c c' : Dev nD} (h : blkOff d B c = blkOff d B' c') : blkM d B c = blkM d B' c' :=
  Memref.slice_unit_congr oM h _ _ _ _
theorem blkM_peer (d : Bool) {B : ℕ} (hB : B < 504) (c : Dev nD) : blkM d (B + 8) (peer d c) = blkM d B c :=
  blkM_congr (blkOff_peer d hB c)

theorem place_peer (d : Bool) {B : ℕ} (hB : B < 504) (c : Dev nD) (n : ℕ) :
    place (F := F) d (B + 8) (peer d c) n = place d B c (n + 1) := by
  unfold place; rw [blkM_peer d hB, fw_peer]

theorem place_one (d : Bool) {B : ℕ} (hB : B < 504) (c : Dev nD) :
    place (F := F) d B c 1 = iprop(∃ X : BV F, owns (peer d c : Thread nD τ) (blkM d B c) fullShare X) := by
  unfold place; rw [fw_one]

theorem blk_peer (d : Bool) {B : ℕ} (hB : B < 504) (c : Dev nD) (X : BV F) :
    blk d (B + 8) (peer d c) X = owns (peer d c : Thread nD τ) (blkM d B c) fullShare X := by
  unfold blk; rw [blkM_peer d hB]

theorem Ico_shift (Φ : ℕ → sProp 𝕄) (a b : ℕ) : bigSep (Finset.Ico (a + 1) (b + 1)) Φ = bigSep (Finset.Ico a b) fun n => Φ (n + 1) := by
  have e : Finset.Ico (a + 1) (b + 1) = (Finset.Ico a b).map ⟨(· + 1), add_left_injective 1⟩ := by
    ext x; simp only [Finset.mem_Ico, Finset.mem_map, Function.Embedding.coeFn_mk]
    exact ⟨fun h => ⟨x - 1, by omega, by omega⟩, by rintro ⟨y, hy, rfl⟩; omega⟩
  rw [e, BI.bigSep_map]; rfl

theorem Ico_last (Φ : ℕ → sProp 𝕄) {a b : ℕ} (h : a ≤ b) : bigSep (Finset.Ico a (b + 1)) Φ = iprop(Φ b ∗ bigSep (Finset.Ico a b) Φ) := by
  have e : Finset.Ico a (b + 1) = insert b (Finset.Ico a b) := by
    ext x; simp only [Finset.mem_Ico, Finset.mem_insert]; omega
  rw [e, bigSep_insert (by simp)]; rfl

/-- A sent sum takes along the places of its block, with the sender's own. -/
theorem places_rs (d : Bool) {g : ℕ} (hg : g < 248) (c : Dev nD) (X : BV F) :
    iprop((bigSep (PL (g / 8)) (place d g c)) ∗ owns (c : Thread nD τ) (blkM d g c) fullShare X)
      ⊢ (bigSep (PL (g / 8 + 1)) (place d (g + 8) (peer d c)) : sProp 𝕄) := by
  have e : (bigSep (PL (g / 8 + 1)) (place d (g + 8) (peer d c)) : sProp 𝕄)
      = iprop(place d g c 32 ∗ bigSep (PL (g / 8)) (place d g c)) := by
    unfold PL
    rw [if_pos (by omega), if_pos (by omega), show 32 = 31 + 1 from rfl, Ico_last _ (by omega), place_peer d (by omega),
      show 31 + 1 - g / 8 = (31 + 1 - (g / 8 + 1)) + 1 by omega, Ico_shift]
    congr 1
    exact bigSep_congr fun n _ => place_peer d (by omega) c n
  rw [e]
  iintro ⟨H1, H2⟩
  isplitl [H2]
  · unfold place; rw [fw_32]; iexists X; iexact H2
  · iexact H1

/-- A sent finished block uses up the place on the peer. -/
theorem places_ag (d : Bool) {g B : ℕ} (hg : g < 248) (hB : B = g + 248) (c : Dev nD) :
    (bigSep (PL (g / 8 + 31)) (place d B c) : sProp 𝕄)
      = iprop(place d B c 1 ∗ bigSep (PL (g / 8 + 32)) (place d (g + 256) (peer d c))) := by
  subst hB
  have h1 : PL (g / 8 + 31) = Finset.Ico 1 (32 - g / 8) := by
    unfold PL; split
    · rw [show g / 8 = 0 by omega]
    · congr 1; omega
  have h2 : PL (g / 8 + 32) = Finset.Ico 1 (31 - g / 8) := by
    unfold PL; rw [if_neg (by omega)]; congr 1; omega
  rw [h1, h2, Ico_step _ (by omega), show 32 - g / 8 = (31 - g / 8) + 1 by omega, Ico_shift]
  congr 1
  exact bigSep_congr fun n _ => (place_peer d (B := g + 248) (by omega) c n).symm

/-! ## The running sums -/

theorem cur_first (d : Bool) {B : ℕ} (hB : B < 8) (c : Dev nD) : cur P d B c = part P d B c := by
  unfold cur; rw [show B / 8 = 0 by omega, show B % 8 = B by omega]; rfl
theorem cur_add (d : Bool) {A : ℕ} (hA : A < 248) (c : Dev nD) : cur P d (A + 8) c = addf (part P d (A + 8) c) (cur P d A (up d c)) := by
  unfold cur
  rw [show (A + 8) / 8 = A / 8 + 1 by omega, show (A + 8) % 8 = A % 8 by omega, curH, if_pos (by omega),
    show 8 * (A / 8 + 1) + A % 8 = A + 8 by omega]
theorem cur_peer (d : Bool) {B : ℕ} (hB : 248 ≤ B) (c : Dev nD) : cur P d (B + 8) (peer d c) = cur P d B c := by
  unfold cur
  rw [show (B + 8) / 8 = B / 8 + 1 by omega, show (B + 8) % 8 = B % 8 by omega, curH, if_neg (by omega), up_peer]

/-! ## The sends -/

section Rules
variable (κ : Dev nD × SemK → ℕ) (ν : Key → ℕ) (d : Bool) (c : Dev nD)

theorem ctx_reached_dma (ph r : Bool) (c : Dev nD) (i : ℕ) : ctx P κ ν ⊢ reached ER ((c : Thread nD τ), .dma (dq ph d r i)) 0 := by
  rw [← cell_kD]; exact ctx_reached P κ ν _

theorem facts_get (ph : Bool) {n i : ℕ} (h : i < n) : facts ph d c n ⊢ (fact ph d c i : sProp 𝕄) := by
  unfold facts; exact bigSep_elim (Finset.mem_range.mpr h)

/-- The receiver's semaphore has reached the message's round. -/
theorem rcv_ready (ph : Bool) {g : ℕ} : iprop(ctx P κ ν ∗ facts ph d (peer d c) (g - 15)) ⊢ reached ER (rcvC ph d (peer d c) g) (g / 16) := by
  by_cases h : g < 16
  · rw [show g / 16 = 0 by omega]
    exact (show iprop(ctx P κ ν ∗ facts ph d (peer d c) (g - 15)) ⊢ ctx P κ ν by iintro ⟨H, -⟩; iexact H).trans (ctx_reached_dma P κ ν d ph true (peer d c) g)
  · have e : fact ph d (peer d c) (g - 16) ⊢ (reached ER (rcvC ph d (peer d c) g) (g / 16) : sProp 𝕄) := by
      unfold fact
      rw [← rcvC_mod, show (g - 16) % 16 = g % 16 by omega, rcvC_mod, show (g - 16) / 16 + 1 = g / 16 by omega]
      iintro ⟨H, -⟩; iexact H
    iintro ⟨-, H⟩
    iapply ((facts_get d (peer d c) ph (show g - 16 < g - 15 by omega)).trans e); iexact H

/-- The receiver's slot is free for the message. -/
theorem slot_ready {g : ℕ} : iprop(entry d (peer d c) ∗ facts false d (peer d c) (g - 15)) ⊢ (released ES (key d (peer d c) g) (g / 16 + 1) : sProp 𝕄) := by
  by_cases h : g < 16
  · rw [show g / 16 = 0 by omega]
    have e : entry d (peer d c) ⊢ (released ES (key d (peer d c) g) (0 + 1) : sProp 𝕄) := by
      unfold entry; exact bigSep_elim (Finset.mem_range.mpr (Nat.mod_lt _ (by decide)))
    iintro ⟨H, -⟩; iapply e; iexact H
  · have e : fact false d (peer d c) (g - 16) ⊢ (released ES (key d (peer d c) g) (g / 16 + 1) : sProp 𝕄) := by
      unfold fact key
      rw [show (g - 16) % 16 = g % 16 by omega, show (g - 16) / 16 + 2 = g / 16 + 1 by omega]
      iintro ⟨-, H⟩; iexact H
    iintro ⟨-, H⟩
    iapply ((facts_get d (peer d c) false (show g - 16 < g - 15 by omega)).trans e); iexact H

theorem pick16 (Φ : ℕ → sProp 𝕄) (g : ℕ) : bigSep (Finset.range 16) Φ = iprop(Φ (g % 16) ∗ bigSep ((Finset.range 16).erase (g % 16)) Φ) := by
  rw [bigSep_erase (Finset.mem_range.mpr (Nat.mod_lt g (by decide)))]; rfl

theorem sndS_reached (ph : Bool) {w g : ℕ} (h : w ≤ g) (h' : g ≤ w + 15) :
    SndS ph d c w g ⊢ (iprop(SndS ph d c w g ∗ reached ER (sndC ph d c g) (g / 16)) : sProp 𝕄) := by
  have e : rnd w (g % 16) = g / 16 := by unfold rnd; omega
  unfold SndS
  rw [pick16 _ g, e, sndC_mod]
  iintro ⟨H1, ⟨H2, #H3⟩, H4⟩
  isplitl
  · isplitl [H1]; · iexact H1
    isplitl [H2]
    · isplitl [H2]; · iexact H2
      iexact H3
    · iexact H4
  · iexact H3

theorem sndS_push (ph : Bool) {w g : ℕ} (h : w ≤ g) :
    iprop(SndS ph d c w g ∗ cred (tallyAt (sndC ph d c g) (iota ph g) NN)) ⊢ (SndS ph d c w (g + 1) : sProp 𝕄) := by
  unfold SndS
  rw [Ico_last _ h]
  iintro ⟨⟨H1, H2⟩, H3⟩
  isplitr [H2]
  · isplitl [H3]; · iexact H3
    iexact H1
  · iexact H2

theorem mem_duty (ph r : Bool) (c : Dev nD) {g : ℕ} (hg : g < 248) : 0 ∈ (sch P).duties ((c : Thread nD τ), .dma (dq ph d r g)) (g / 16) := by
  rw [duties_dma P ph d c r hg]; exact Finset.mem_singleton_self _

theorem landed_rs {g : ℕ} (hg : g < 248) {X : BV F} (fs : Buf (Elt F) ((blkM d g c).view.loc (c : Thread nD τ))) (hfs : (blkM d g c).view.read (Elt F) fs = X)
    (hX : X = cur P d g c) (fd : Buf (Elt F) ((slotM d g).view.loc (peer d c : Thread nD τ))) :
    iprop(((((slotM d g).view.loc (peer d c : Thread nD τ)) ↦[(slotM d g).view.set]{fullShare} ((slotM d g).view.write (Elt F) fd ((blkM d g c).view.read (Elt F) fs) Finset.univ))
        ∗ bigSep (PL (g / 8)) (place d g c))
      ∗ (((blkM d g c).view.loc (c : Thread nD τ)) ↦[(blkM d g c).view.set]{fullShare} fs)) ⊢ rcvPay P false d (peer d c) g := by
  unfold rcvPay
  dsimp only
  iintro ⟨⟨H1, H2⟩, H3⟩
  isplitl [H1]
  · unfold slt owns
    iexists ((slotM d g).view.write (Elt F) fd ((blkM d g c).view.read (Elt F) fs) Finset.univ)
    isplitr
    · ipureintro; rw [View.read_write_univ, hfs, hX, up_peer]
    iexact H1
  · iapply (places_rs d hg c X)
    isplitl [H2]; · iexact H2
    unfold owns
    iexists fs
    isplitr; · ipureintro; exact hfs
    iexact H3

theorem slotS_pts (c : Dev nD) (g : ℕ) : slotS (key d c g)
    ⊢ (iprop(∃ fd : Buf (Elt F) ((slotM d g).view.loc (c : Thread nD τ)), ((slotM d g).view.loc (c : Thread nD τ)) ↦[(slotM d g).view.set]{fullShare} fd) : sProp 𝕄) := by
  unfold slotS
  dsimp only
  iintro ⟨%Y, H⟩
  ihave H := (Entails.of_eq (slt_mod d g c Y)) $$ H
  unfold slt owns
  icases H with ⟨%fd, -, H⟩
  iexists fd; iexact H

/-- Message `g` of the reduce-scatter is sent. -/
theorem wp_sendRS {g w : ℕ} (hg : g < 248) (hw : w ≤ g) (hw' : g ≤ w + 15) {O₀ : CellTallies nD τ sig ℕ} (O : CellTallies nD τ sig ℕ)
    (hO : O₀ = O + tallyAt (rcvC false d (peer d c) g) (iota false g) NN)
    {n : Dev nD} (hn : n = peer d c) {src dst : Memref sig .tc .vmem S64x128 .f32} (hsrc : src = blkM d g c) (hdst : dst = slotM d g)
    {qS qR : DmaSem sig} (hqS : qS = dq false d false g) (hqR : qR = dq false d true g)
    {hsc : (dst : Memref sig (Dev.tc n : Thread nD τ).2.kind .vmem S64x128 .f32).view.ref.isScScratch = false}
    {h1 : src.view.WordExact} {h2 : dst.view.WordExact}
    {h3 : DmaTarget.Typed .vmem (.dma qR) (.remote (Dev.tc n : Thread nD τ) (dst : Memref sig .tc .vmem S64x128 .f32) (.dma qS) hsc)}
    {α : Type} {Q : α → sProp 𝕄} {k : PUnit → Prog (TpuEff nD τ sig (Elt F) Λ₀ .tc) α} :
    iprop(ctx P κ ν ∗ entry d (peer d c) ∗ facts false d (peer d c) (g - 15) ∗ blk d g c (cur P d g c) ∗ bigSep (PL (g / 8)) (place d g c)
        ∗ TokS false d c g ∗ SndS false d c w g ∗ WrS d c g ∗ Owes c O₀)
      ⊢ iprop((TokS false d c (g + 1) ∗ SndS false d c w (g + 1) ∗ WrS d c (g + 1) ∗ Owes c O -∗ WP c (k ⟨⟩) Q)
          -∗ WP c (.op (.enqueueDma src (.remote (Dev.tc n : Thread nD τ) dst (.dma qS) hsc) (.dma qR) h1 h2 h3) k) Q) := by
  subst hn hsrc hdst hqS hqR
  unfold TokS WrS Owes blk owns
  rw [Ico_step _ hg, Ico_step _ hg]
  iintro ⟨#HC, #He, #Hf, Hb, HP, ⟨⟨Ht1, Ht2⟩, Hts⟩, HS, ⟨Hw, Hws⟩, ⟨%W, HO⟩⟩ Hk
  ihave #Hr := (rcv_ready P κ ν d c false (g := g)) $$ []
  · isplitr; · iexact HC
    iexact Hf
  ihave #Hsl := (slot_ready d c (g := g)) $$ []
  · isplitr; · iexact He
    iexact Hf
  ihave HS' := (sndS_reached d c false hw hw') $$ HS
  icases HS' with ⟨HS, #Hrs⟩
  imod (slot_take ES (k := key d (peer d c) g) (ι := ν (key d (peer d c) g)) (S := slotS (key d (peer d c) g)) (Set.mem_univ _) (g / 16 + 1)) $$ [Hw] with Hslot
  · isplitr; · iapply (ctx_slot P κ ν d (peer d c) g); iexact HC
    isplitr; · iexact Hsl
    iexact Hw
  ihave Hslot := (slotS_pts d (peer d c) g) $$ Hslot
  icases Hslot with ⟨%fd, Hd⟩
  icases Hb with ⟨%fs, %hfs, Hs⟩
  iapply (Rounds.wp_send_landing_pointsTo_with 𝒱₀ ER (sch P) (c : Thread nD τ) none (κ₁ := κ (kD false d false c g)) (κ₂ := κ (kD false d true (peer d c) g))
      (r₁ := g / 16) (r₂ := g / 16) (d₁ := 0) (d₂ := 0) (fd := fd) (F := bigSep (PL (g / 8)) (place d g c))
      (mem_duty P d false false c hg) (mem_duty P d false true (peer d c) hg)
      (iota false g) (iota false g) NN (slot_credit d g) rfl rfl O hO (W := W)
      (by rw [pay_snd]; exact BI.Entails.refl _)
      (by rw [pay_rcv]; exact landed_rs P d c hg fs hfs rfl fd)) $$ [Hs Hd HP HO Ht1 Ht2]
  · isplitr; · iapply (ctx_dma P κ ν false d false c g); iexact HC
    isplitr; · iapply (ctx_dma P κ ν false d true (peer d c) g); iexact HC
    isplitl [Hs]; · iexact Hs
    isplitl [Hd HP]
    · isplitl [Hd]; · iexact Hd
      iexact HP
    isplitl [HO]; · iexact HO
    isplitl [Ht2]; · iexact Ht2
    isplitr; · iexact Hrs
    isplitl [Ht1]; · iexact Ht1
    iexact Hr
  iintro ⟨Hc, HO⟩
  iapply Hk
  isplitl [Hts]; · iexact Hts
  isplitl [HS Hc]
  · iapply (sndS_push d c false hw)
    isplitl [HS]; · iexact HS
    iexact Hc
  isplitl [Hws]; · iexact Hws
  iexists _; iexact HO

theorem sent_ag {g B : ℕ} (hB : B = g + 248) (fs : Buf (Elt F) ((blkM d B c).view.loc (c : Thread nD τ)))
    (hfs : (blkM d B c).view.read (Elt F) fs = cur P d B c) :
    (((blkM d B c).view.loc (c : Thread nD τ)) ↦[(blkM d B c).view.set]{fullShare} fs) ⊢ sndPay P true d c g := by
  subst hB
  unfold sndPay blk owns; dsimp only
  iintro H; iexists fs
  isplitr
  · ipureintro; exact hfs
  iexact H

theorem landed_ag {g B : ℕ} (hg : g < 248) (hB : B = g + 248) (fs : Buf (Elt F) ((blkM d B c).view.loc (c : Thread nD τ)))
    (hfs : (blkM d B c).view.read (Elt F) fs = cur P d B c) (fd : Buf (Elt F) ((blkM d B c).view.loc (peer d c : Thread nD τ))) :
    iprop((((blkM d B c).view.loc (peer d c : Thread nD τ)) ↦[(blkM d B c).view.set]{fullShare} ((blkM d B c).view.write (Elt F) fd ((blkM d B c).view.read (Elt F) fs) Finset.univ))
        ∗ bigSep (PL (g / 8 + 32)) (place d (g + 256) (peer d c))) ⊢ rcvPay P true d (peer d c) g := by
  unfold rcvPay
  dsimp only
  iintro ⟨H1, H2⟩
  isplitl [H1]
  · rw [show g + 256 = B + 8 by omega, blk_peer d (by omega), cur_peer P d (by omega)]
    unfold owns
    iexists ((blkM d B c).view.write (Elt F) fd ((blkM d B c).view.read (Elt F) fs) Finset.univ)
    isplitr
    · ipureintro; rw [View.read_write_univ, hfs]
    iexact H1
  · iexact H2

/-- Message `g` of the all-gather is sent. -/
theorem wp_sendAG {g B w : ℕ} (hg : g < 248) (hB : B = g + 248) (hw : w ≤ g) (hw' : g ≤ w + 15) {O₀ : CellTallies nD τ sig ℕ} (O : CellTallies nD τ sig ℕ)
    (hO : O₀ = O + tallyAt (rcvC true d (peer d c) g) (iota true g) NN)
    {n : Dev nD} (hn : n = peer d c) {src dst : Memref sig .tc .vmem S64x128 .f32} (hsrc : src = blkM d B c) (hdst : dst = blkM d B c)
    {qS qR : DmaSem sig} (hqS : qS = dq true d false g) (hqR : qR = dq true d true g)
    {hsc : (dst : Memref sig (Dev.tc n : Thread nD τ).2.kind .vmem S64x128 .f32).view.ref.isScScratch = false}
    {h1 : src.view.WordExact} {h2 : dst.view.WordExact}
    {h3 : DmaTarget.Typed .vmem (.dma qR) (.remote (Dev.tc n : Thread nD τ) (dst : Memref sig .tc .vmem S64x128 .f32) (.dma qS) hsc)}
    {α : Type} {Q : α → sProp 𝕄} {k : PUnit → Prog (TpuEff nD τ sig (Elt F) Λ₀ .tc) α} :
    iprop(ctx P κ ν ∗ facts true d (peer d c) (g - 15) ∗ blk d B c (cur P d B c) ∗ bigSep (PL (g / 8 + 31)) (place d B c)
        ∗ TokS true d c g ∗ SndS true d c w g ∗ Owes c O₀)
      ⊢ iprop((TokS true d c (g + 1) ∗ SndS true d c w (g + 1) ∗ Owes c O -∗ WP c (k ⟨⟩) Q)
          -∗ WP c (.op (.enqueueDma src (.remote (Dev.tc n : Thread nD τ) dst (.dma qS) hsc) (.dma qR) h1 h2 h3) k) Q) := by
  subst hn hdst hqS hqR
  subst hsrc
  unfold TokS Owes blk
  rw [Ico_step _ hg, places_ag d hg hB c, place_one d (by omega)]
  unfold owns
  iintro ⟨#HC, #Hf, Hb, ⟨⟨%Y, Hd⟩, HP⟩, ⟨⟨Ht1, Ht2⟩, Hts⟩, HS, ⟨%W, HO⟩⟩ Hk
  ihave #Hr := (rcv_ready P κ ν d c true (g := g)) $$ []
  · isplitr; · iexact HC
    iexact Hf
  ihave HS' := (sndS_reached d c true hw hw') $$ HS
  icases HS' with ⟨HS, #Hrs⟩
  icases Hd with ⟨%fd, -, Hd⟩
  icases Hb with ⟨%fs, %hfs, Hs⟩
  iapply (Rounds.wp_send_pointsTo_with 𝒱₀ ER (sch P) (c : Thread nD τ) none (κ₁ := κ (kD true d false c g)) (κ₂ := κ (kD true d true (peer d c) g))
      (r₁ := g / 16) (r₂ := g / 16) (d₁ := 0) (d₂ := 0) (fd := fd) (F := bigSep (PL (g / 8 + 32)) (place d (g + 256) (peer d c)))
      (mem_duty P d true false c hg) (mem_duty P d true true (peer d c) hg)
      (iota true g) (iota true g) NN (blk_credit d B c) rfl rfl O hO (W := W)
      (by rw [pay_snd]; exact sent_ag P d c hB fs hfs)
      (by rw [pay_rcv]; exact landed_ag P d c hg hB fs hfs fd)) $$ [Hs Hd HP HO Ht1 Ht2]
  · isplitr; · iapply (ctx_dma P κ ν true d false c g); iexact HC
    isplitr; · iapply (ctx_dma P κ ν true d true (peer d c) g); iexact HC
    isplitl [Hs]; · iexact Hs
    isplitl [Hd HP]
    · isplitl [Hd]; · iexact Hd
      iexact HP
    isplitl [HO]; · iexact HO
    isplitl [Ht2]; · iexact Ht2
    isplitr; · iexact Hrs
    isplitl [Ht1]; · iexact Ht1
    iexact Hr
  iintro ⟨Hc, HO⟩
  iapply Hk
  isplitl [Hts]; · iexact Hts
  isplitl [HS Hc]
  · iapply (sndS_push d c true hw)
    isplitl [HS]; · iexact HS
    iexact Hc
  iexists _; iexact HO

end Rules

end Cert.KernelIdeal.AR

end
-- ==== Proof.KernelIdeal.Step.lean ====
/-
  The steps of one direction: what a device holds between two messages, and the rules that take it from one to the next.
-/
module

public import proofs.«01_k».proof.Proof.KernelIdeal.Send

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Facts]

local notation "𝕄" => MT nD τ sig ℕ (Elt F) ℕ UU ℕ

variable (P : Dev nD → (S2048x2048.Idx → Elt F .f32))

/-! ## The program's semaphores and views -/

theorem row16 {off : Fin 1 → ℕ} {i : ℕ} (hi : i < 16) (hoff : off = ![i]) (inb : ∀ a, off a + S1.size a ≤ S16.size a) (sq : S1.Squeezes S_) (j : S_.Idx) :
    (S16.rowMajor ((Rect.unit (s := S16) off S1.size inb).emb (Shape.reshapeEquiv sq.numel_eq j))).val = i := by
  subst hoff
  have e := Shape.rowMajor_val_one (d := S16.size) ((Rect.unit (s := S16) ![i] S1.size inb).emb (Shape.reshapeEquiv sq.numel_eq j))
  refine e.trans ?_
  show (![i] : Fin 1 → ℕ) 0 + 1 * ((Shape.reshapeEquiv sq.numel_eq j : S1.Idx) 0).val = i
  have h : ((Shape.reshapeEquiv sq.numel_eq j : S1.Idx) 0).val < 1 := ((Shape.reshapeEquiv sq.numel_eq j : S1.Idx) 0).isLt
  show i + 1 * ((Shape.reshapeEquiv sq.numel_eq j : S1.Idx) 0).val = i
  omega

theorem sem_dq (ph d r : Bool) {g : ℕ} {a : DmaSems sig S16} {h : 3 + 16 * semK ph d r + S16.numel ≤ 131}
    (ha : a = SemArray.consecutive (3 + 16 * semK ph d r) S16 h) {off : Fin 1 → ℕ} (hoff : off = ![g % 16])
    {inb : ∀ a, off a + S1.size a ≤ S16.size a} {sq : S1.Squeezes S_} :
    ((a.slice (Rect.unit (s := S16) off S1.size inb)).squeeze S_ sq).sem = dq ph d r g := by
  subst ha
  apply Fin.ext
  show 3 + 16 * semK ph d r + (S16.rowMajor _).val = 3 + 16 * semK ph d r + g % 16
  congr 1
  exact row16 (Nat.mod_lt _ (by decide)) hoff inb sq _

theorem view_blk (d : Bool) {B : ℕ} {c : Dev nD} {off : Fin 2 → ℕ} (hoff : off = blkOff d B c)
    {inb : ∀ a, off a + S64x128.size a ≤ S2048x2048.size a} {h : ∀ a, (Rect.unit (s := S2048x2048) off S64x128.size inb).stride a = 1} :
    oM.slice (Rect.unit (s := S2048x2048) off S64x128.size inb) h = blkM d B c := by
  subst hoff; rfl
theorem view_slot (d : Bool) {g : ℕ} {m : Memref sig .tc .vmem S16x64x128 .f32} (hm : m = comM d) {off : Fin 3 → ℕ} (hoff : off = ![g % 16, 0, 0])
    {inb : ∀ a, off a + S1x64x128.size a ≤ S16x64x128.size a} {h : ∀ a, (Rect.unit (s := S16x64x128) off S1x64x128.size inb).stride a = 1}
    {sq : S1x64x128.Squeezes S64x128} :
    (m.slice (Rect.unit (s := S16x64x128) off S1x64x128.size inb) h).squeeze S64x128 sq = slotM d g := by
  subst hoff hm; rfl

/-! ## Loads and stores -/

section Mem
variable (d : Bool) (c : Dev nD)

theorem wp_load_blk {B : ℕ} {X : BV F} {off : Fin 2 → ℕ} (hoff : off = blkOff d B c) {inb : ∀ a, off a + S64x128.size a ≤ S2048x2048.size a}
    {hl : oM.view.LoadsAt (Rect.unit (s := S2048x2048) off S64x128.size inb).toLoadRect} {α : Type} {Q : α → sProp 𝕄}
    {k : (S64x128.Idx → Elt F .f32) → Prog (TpuEff nD τ sig (Elt F) Λ₀ .tc) α} :
    blk d B c X ⊢ iprop((blk d B c X -∗ WP c (k X) Q)
      -∗ WP c (.op (.load oM (Rect.unit (s := S2048x2048) off S64x128.size inb).toLoadRect hl) k) Q) := by
  subst hoff
  unfold blk owns
  iintro ⟨%f, %hf, H⟩ Hk
  iapply (wp_load_rect 𝒱₀ (c : Thread nD τ) none Set.univ (m := oM) (r := blkR d B c) (S := (blkM d B c).view.set) (q := fullShare) (f := f) (hl := hl) (k := k) (Finset.Subset.refl _)) $$ [H]
  · iexact H
  iintro H
  have e : (oM.access (blkR d B c)).read (Elt F) f = X := hf
  rw [e]
  iapply Hk
  iexists f
  isplitr
  · ipureintro; exact hf
  iexact H

theorem wp_store_blk {B : ℕ} {X W : BV F} {off : Fin 2 → ℕ} (hoff : off = blkOff d B c) {inb : ∀ a, off a + S64x128.size a ≤ S2048x2048.size a}
    {hx : (oM.access (Rect.unit (s := S2048x2048) off S64x128.size inb)).Stores Finset.univ} {hm}
    {α : Type} {Q : α → sProp 𝕄} {k : PUnit → Prog (TpuEff nD τ sig (Elt F) Λ₀ .tc) α} :
    blk d B c X ⊢ iprop((blk d B c W -∗ WP c (k ⟨⟩) Q)
      -∗ WP c (.op (.store oM (Rect.unit (s := S2048x2048) off S64x128.size inb) W Finset.univ hx hm) k) Q) := by
  subst hoff
  unfold blk owns
  iintro ⟨%f, %hf, H⟩ Hk
  iapply (wp_store 𝒱₀ (c : Thread nD τ) none Set.univ (m := oM) (r := blkR d B c) (w := W) (Mk := Finset.univ) (S := (blkM d B c).view.set) (f := f) (hx := hx) (hm := hm) (k := k)
    (by rw [View.setOn_univ])) $$ [H]
  · iexact H
  iintro H
  iapply Hk
  iexists ((oM.access (blkR d B c)).write (Elt F) f W Finset.univ)
  isplitr
  · ipureintro; exact View.read_write_univ _ _
  iexact H

theorem wp_load_slt {g : ℕ} {X : BV F} {m : Memref sig .tc .vmem S16x64x128 .f32} (hm : m = comM d) {off : Fin 3 → ℕ} (hoff : off = ![g % 16, 0, 0])
    {inb : ∀ a, off a + S1x64x128.size a ≤ S16x64x128.size a}
    {hl : m.view.LoadsAt (Rect.unit (s := S16x64x128) off S1x64x128.size inb).toLoadRect} {α : Type} {Q : α → sProp 𝕄}
    {k : (S1x64x128.Idx → Elt F .f32) → Prog (TpuEff nD τ sig (Elt F) Λ₀ .tc) α} :
    slt d g c X ⊢ iprop((∀ Y : S1x64x128.Idx → Elt F .f32, ⌜∀ h : S1x64x128.ShapeCasts S64x128, shapeCast S64x128 Y h = X⌝ -∗ slt d g c X -∗ WP c (k Y) Q)
      -∗ WP c (.op (.load m (Rect.unit (s := S16x64x128) off S1x64x128.size inb).toLoadRect hl) k) Q) := by
  subst hoff hm
  unfold slt owns
  iintro ⟨%f, %hf, H⟩ Hk
  iapply (wp_load_rect 𝒱₀ (c : Thread nD τ) none Set.univ (m := comM d) (r := slotR g) (S := (slotM d g).view.set) (q := fullShare) (f := f) (hl := hl) (k := k)
    (Finset.Subset.antisymm_iff.mp (View.set_reshape ((comM d).access (slotR g)) sqz.numel_eq).symm).1) $$ [H]
  · iexact H
  iintro H
  ispecialize Hk $$ %(((comM d).access (slotR g)).read (Elt F) f)
  iapply Hk
  · ipureintro; intro h; exact hf
  iexists f
  isplitr
  · ipureintro; exact hf
  iexact H

end Mem

end Cert.KernelIdeal.AR

end
-- ==== Proof.KernelIdeal.Phase.lean ====
/-
  The two phases of one direction: the bundles a device holds between two messages and how each operation changes them.
-/
module

public import proofs.«01_k».proof.Proof.KernelIdeal.Step

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Facts]

local notation "𝕄" => MT nD τ sig ℕ (Elt F) ℕ UU ℕ

variable (P : Dev nD → (S2048x2048.Idx → Elt F .f32))

section Phase
variable (κ : Dev nD × SemK → ℕ) (ν : Key → ℕ) (d : Bool) (c : Dev nD)

/-! ## The reduce-scatter -/

/-- Before the reception of message `A`: the blocks still to be summed, the receptions, the slots. -/
def RSm (A : ℕ) : sProp 𝕄 :=
  iprop((bigSep (Finset.Ico (A + 8) 256) fun B => blk d B c (part P d B c)) ∗ RcvS false d c A ∗ RdS d c A ∗ facts false d c A)
/-- The same with message `A` received and its slot not yet released. -/
def RSr (A : ℕ) : sProp 𝕄 :=
  iprop((bigSep (Finset.Ico (A + 1 + 8) 256) fun B => blk d B c (part P d B c)) ∗ RcvS false d c (A + 1) ∗ RdS d c A ∗ facts false d c A
    ∗ reached ER (rcvC false d c A) (A / 16 + 1))
/-- To send: `w` credits and sends awaited, `u` messages sent. -/
def RSi (w u : ℕ) : sProp 𝕄 :=
  iprop(entry d (peer d c) ∗ CwS false d c w ∗ TokS false d c u ∗ SndS false d c w u ∗ WrS d c u)
/-- The same in the all-gather. -/
def AGi (w u : ℕ) : sProp 𝕄 := iprop(CwS true d c w ∗ TokS true d c u ∗ SndS true d c w u)
/-- The sum a device holds of its block `B`, with the places it holds of it. -/
def Hold (B : ℕ) : sProp 𝕄 := iprop(blk d B c (cur P d B c) ∗ bigSep (PL (B / 8)) (place d B c))

theorem rs_recv {A : ℕ} (hA : A < 248) {O : CellTallies nD τ sig ℕ} (hmay : LV (F := F) ⊢ MayWait (c : Thread nD τ) (rcvL false d A) (iota false A) O)
    {q : DmaSem sig} (hq : q = dq false d true A) {sp sp' : Space} {s s' : Shape} {e e' : EltTy} {src : Memref sig .tc sp' s' e'} {dst : Memref sig .tc sp s e}
    {hs : src.view.WordExact} {hd : dst.view.WordExact} (hN : dst.view.dmaCredit = NN) {α : Type} {Q : α → sProp 𝕄}
    {k : PUnit → Prog (TpuEff nD τ sig (Elt F) Λ₀ .tc) α} :
    iprop(ctx P κ ν ∗ RSm P d c A ∗ Owes c O)
      ⊢ iprop((blk d (A + 8) c (part P d (A + 8) c) ∗ slt d A c (cur P d A (up d c)) ∗ bigSep (PL ((A + 8) / 8)) (place d (A + 8) c) ∗ RSr P d c A ∗ Owes c O -∗ WP c (k ⟨⟩) Q)
          -∗ WP c (.op (.waitDma2 q src dst hs hd) k) Q) := by
  unfold RSm RSr
  rw [Ico_step _ (show A + 8 < 256 by omega), show A + 8 + 1 = A + 1 + 8 by omega, show (A + 8) / 8 = A / 8 + 1 by omega]
  iintro ⟨#HC, ⟨⟨Hb, Hbs⟩, HR, Hd, #Hf⟩, HO⟩ Hk
  iapply (wp_recv P κ ν false d c hA hmay hq (src := src) (hs := hs) (hd := hd) hN) $$ [HR HO]
  · isplitr; · iexact HC
    isplitl [HR]; · iexact HR
    iexact HO
  unfold rcvPay
  dsimp only
  iintro ⟨HR, HO, #Hr, Hs, HP⟩
  iapply Hk
  isplitl [Hb]; · iexact Hb
  isplitl [Hs]; · iexact Hs
  isplitl [HP]; · iexact HP
  isplitr [HO]
  · isplitl [Hbs]; · iexact Hbs
    isplitl [HR]; · iexact HR
    isplitl [Hd]; · iexact Hd
    isplitr; · iexact Hf
    iexact Hr
  · iexact HO

/-- The slot of a consumed message is released. -/
theorem rs_release {A : ℕ} (hA : A < 248) (X : BV F) :
    iprop(ctx P κ ν ∗ slt d A c X ∗ RSr P d c A) ⊢ (iprop(|={(Set.univ : Set ℕ)}=> RSm P d c (A + 1)) : sProp 𝕄) := by
  unfold RSm RSr RdS
  rw [step16 (fun i R => readerAt ES ((c, d, i) : Key) (R + 1)), step16' (fun i R => readerAt ES ((c, d, i) : Key) (R + 1))]
  iintro ⟨#HC, Hs, Hbs, HR, ⟨Hd, Hds⟩, #Hf, #Hr⟩
  imod (slot_release ES (k := key d c A) (ι := ν (key d c A)) (S := slotS (key d c A)) (Set.mem_univ _) (slotS_false _) (A / 16 + 1)) $$ [Hs Hd] with ⟨Hd, #Hrel⟩
  · isplitr; · iapply (ctx_slot P κ ν d c A); iexact HC
    isplitl [Hd]; · iexact Hd
    unfold slotS
    dsimp only
    iexists X
    iapply (Entails.of_eq (slt_mod d A c X).symm); iexact Hs
  imodintro
  isplitl [Hbs]; · iexact Hbs
  isplitl [HR]; · iexact HR
  isplitl [Hd Hds]
  · isplitl [Hd]; · iexact Hd
    iexact Hds
  · unfold facts
    rw [range_step]
    isplitr
    · unfold fact
      dsimp only
      isplitr; · iexact Hr
      iexact Hrel
    · iexact Hf

theorem RSm_facts (A : ℕ) : RSm P d c A ⊢ (iprop(RSm P d c A ∗ facts false d c A) : sProp 𝕄) := by
  unfold RSm
  iintro ⟨H1, H2, H3, #H4⟩
  isplitl
  · isplitl [H1]; · iexact H1
    isplitl [H2]; · iexact H2
    isplitl [H3]; · iexact H3
    iexact H4
  · iexact H4

theorem cpS_late (ph : Bool) {A B : ℕ} (hA : 232 ≤ A) (hB : 232 ≤ B) : (CpS ph d c A : sProp 𝕄) = CpS ph d c B := by
  unfold CpS; rw [Finset.Ico_eq_empty_of_le hA, Finset.Ico_eq_empty_of_le hB]

theorem rs_issue {u : ℕ} (hu : u < 248) {O₀ : CellTallies nD τ sig ℕ} (O : CellTallies nD τ sig ℕ)
    (hO : O₀ = O + tallyAt (rcvC false d (peer d c) u) (iota false u) NN)
    {n : Dev nD} (hn : n = peer d c) {src dst : Memref sig .tc .vmem S64x128 .f32} (hsrc : src = blkM d u c) (hdst : dst = slotM d u)
    {qS qR : DmaSem sig} (hqS : qS = dq false d false u) (hqR : qR = dq false d true u)
    {hsc : (dst : Memref sig (Dev.tc n : Thread nD τ).2.kind .vmem S64x128 .f32).view.ref.isScScratch = false}
    {h1 : src.view.WordExact} {h2 : dst.view.WordExact}
    {h3 : DmaTarget.Typed .vmem (.dma qR) (.remote (Dev.tc n : Thread nD τ) (dst : Memref sig .tc .vmem S64x128 .f32) (.dma qS) hsc)}
    {α : Type} {Q : α → sProp 𝕄} {k : PUnit → Prog (TpuEff nD τ sig (Elt F) Λ₀ .tc) α} :
    iprop(ctx P κ ν ∗ Hold P d c u ∗ RSi d c (u - 15) u ∗ Owes c O₀)
      ⊢ iprop((RSi d c (u - 15) (u + 1) ∗ Owes c O -∗ WP c (k ⟨⟩) Q)
          -∗ WP c (.op (.enqueueDma src (.remote (Dev.tc n : Thread nD τ) dst (.dma qS) hsc) (.dma qR) h1 h2 h3) k) Q) := by
  unfold RSi Hold
  iintro ⟨#HC, ⟨Hb, HP⟩, ⟨#He, Hcw, Ht, Hs, Hw⟩, HO⟩ Hk
  ihave Hcw := (cwS_facts false d c (u - 15)) $$ Hcw
  icases Hcw with ⟨Hcw, #Hf⟩
  iapply (wp_sendRS P κ ν d c hu (w := u - 15) (by omega) (by omega) O hO hn hsrc hdst hqS hqR (hsc := hsc) (h1 := h1) (h2 := h2) (h3 := h3)) $$ [Hb HP Ht Hs Hw HO]
  · isplitr; · iexact HC
    isplitr; · iexact He
    isplitr; · iexact Hf
    isplitl [Hb]; · iexact Hb
    isplitl [HP]; · iexact HP
    isplitl [Ht]; · iexact Ht
    isplitl [Hs]; · iexact Hs
    isplitl [Hw]; · iexact Hw
    iexact HO
  iintro ⟨Ht, Hs, Hw, HO⟩
  iapply Hk
  isplitr [HO]
  · isplitr; · iexact He
    isplitl [Hcw]; · iexact Hcw
    isplitl [Ht]; · iexact Ht
    isplitl [Hs]; · iexact Hs
    iexact Hw
  · iexact HO

theorem ag_issue {u B : ℕ} (hu : u < 248) (hB : B = u + 248) {O₀ : CellTallies nD τ sig ℕ} (O : CellTallies nD τ sig ℕ)
    (hO : O₀ = O + tallyAt (rcvC true d (peer d c) u) (iota true u) NN)
    {n : Dev nD} (hn : n = peer d c) {src dst : Memref sig .tc .vmem S64x128 .f32} (hsrc : src = blkM d B c) (hdst : dst = blkM d B c)
    {qS qR : DmaSem sig} (hqS : qS = dq true d false u) (hqR : qR = dq true d true u)
    {hsc : (dst : Memref sig (Dev.tc n : Thread nD τ).2.kind .vmem S64x128 .f32).view.ref.isScScratch = false}
    {h1 : src.view.WordExact} {h2 : dst.view.WordExact}
    {h3 : DmaTarget.Typed .vmem (.dma qR) (.remote (Dev.tc n : Thread nD τ) (dst : Memref sig .tc .vmem S64x128 .f32) (.dma qS) hsc)}
    {α : Type} {Q : α → sProp 𝕄} {k : PUnit → Prog (TpuEff nD τ sig (Elt F) Λ₀ .tc) α} :
    iprop(ctx P κ ν ∗ Hold P d c B ∗ AGi d c (u - 15) u ∗ Owes c O₀)
      ⊢ iprop((AGi d c (u - 15) (u + 1) ∗ Owes c O -∗ WP c (k ⟨⟩) Q)
          -∗ WP c (.op (.enqueueDma src (.remote (Dev.tc n : Thread nD τ) dst (.dma qS) hsc) (.dma qR) h1 h2 h3) k) Q) := by
  unfold AGi Hold
  rw [show B / 8 = u / 8 + 31 by omega]
  iintro ⟨#HC, ⟨Hb, HP⟩, ⟨Hcw, Ht, Hs⟩, HO⟩ Hk
  ihave Hcw := (cwS_facts true d c (u - 15)) $$ Hcw
  icases Hcw with ⟨Hcw, #Hf⟩
  iapply (wp_sendAG P κ ν d c hu hB (w := u - 15) (by omega) (by omega) O hO hn hsrc hdst hqS hqR (hsc := hsc) (h1 := h1) (h2 := h2) (h3 := h3)) $$ [Hb HP Ht Hs HO]
  · isplitr; · iexact HC
    isplitr; · iexact Hf
    isplitl [Hb]; · iexact Hb
    isplitl [HP]; · iexact HP
    isplitl [Ht]; · iexact Ht
    isplitl [Hs]; · iexact Hs
    iexact HO
  iintro ⟨Ht, Hs, HO⟩
  iapply Hk
  isplitr [HO]
  · isplitl [Hcw]; · iexact Hcw
    isplitl [Ht]; · iexact Ht
    iexact Hs
  · iexact HO

/-! ## The all-gather -/

/-- To receive from message `g` on. -/
def AGm (g : ℕ) : sProp 𝕄 := iprop(RcvS true d c g ∗ facts true d c g)
/-- The finished blocks whose sends were awaited. -/
def Fin1 (w : ℕ) : sProp 𝕄 := bigSep (Finset.range w) fun v => blk d (v + 248) c (cur P d (v + 248) c)
/-- The finished blocks that are not sent on. -/
def Fin2 (g : ℕ) : sProp 𝕄 := bigSep (Finset.Ico 240 g) fun v => blk d (v + 256) c (cur P d (v + 256) c)

theorem ag_recv {g : ℕ} (hg : g < 248) {O : CellTallies nD τ sig ℕ} (hmay : LV (F := F) ⊢ MayWait (c : Thread nD τ) (rcvL true d g) (iota true g) O)
    {q : DmaSem sig} (hq : q = dq true d true g) {sp sp' : Space} {s s' : Shape} {e e' : EltTy} {src : Memref sig .tc sp' s' e'} {dst : Memref sig .tc sp s e}
    {hs : src.view.WordExact} {hd : dst.view.WordExact} (hN : dst.view.dmaCredit = NN) {α : Type} {Q : α → sProp 𝕄}
    {k : PUnit → Prog (TpuEff nD τ sig (Elt F) Λ₀ .tc) α} :
    iprop(ctx P κ ν ∗ AGm d c g ∗ Owes c O)
      ⊢ iprop((AGm d c (g + 1) ∗ Hold P d c (g + 256) ∗ Owes c O -∗ WP c (k ⟨⟩) Q)
          -∗ WP c (.op (.waitDma2 q src dst hs hd) k) Q) := by
  unfold AGm Hold
  rw [show (g + 256) / 8 = g / 8 + 32 by omega]
  iintro ⟨#HC, ⟨HR, #Hf⟩, HO⟩ Hk
  iapply (wp_recv P κ ν true d c hg hmay hq (src := src) (hs := hs) (hd := hd) hN) $$ [HR HO]
  · isplitr; · iexact HC
    isplitl [HR]; · iexact HR
    iexact HO
  unfold rcvPay
  dsimp only
  iintro ⟨HR, HO, #Hr, Hb, HP⟩
  iapply Hk
  isplitl [HR]
  · isplitl [HR]; · iexact HR
    unfold facts
    rw [range_step]
    isplitr
    · unfold fact
      dsimp only
      isplitr; · iexact Hr
      iempintro
    · iexact Hf
  isplitl [Hb HP]
  · isplitl [Hb]; · iexact Hb
    iexact HP
  · iexact HO

theorem AGm_facts (g : ℕ) : AGm d c g ⊢ (iprop(AGm d c g ∗ facts true d c g) : sProp 𝕄) := by
  unfold AGm
  iintro ⟨H1, #H4⟩
  isplitl
  · isplitl [H1]; · iexact H1
    iexact H4
  · iexact H4

theorem fin1_step (w : ℕ) : Fin1 P d c (w + 1) = iprop(sndPay P true d c w ∗ Fin1 P d c w) := by
  unfold Fin1; rw [range_step]; rfl
theorem fin2_step {g : ℕ} (hg : 240 ≤ g) : Fin2 P d c (g + 1) = iprop(blk d (g + 256) c (cur P d (g + 256) c) ∗ Fin2 P d c g) := by
  unfold Fin2; rw [Ico_last _ hg]
theorem fin2_early {g g' : ℕ} (hg : g ≤ 240) (hg' : g' ≤ 240) : (Fin2 P d c g : sProp 𝕄) = Fin2 P d c g' := by
  unfold Fin2; rw [Finset.Ico_eq_empty_of_le hg, Finset.Ico_eq_empty_of_le hg']

end Phase

end Cert.KernelIdeal.AR

end
-- ==== Proof.KernelIdeal.Tiles.lean ====
/-
The result split into its blocks and put together again, and the slots of the receive buffers.
-/
module

public import proofs.«01_k».proof.Proof.KernelIdeal.Phase

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Facts]

local notation "𝕄" => MT nD τ sig ℕ (Elt F) ℕ UU ℕ

variable (P : Dev nD → (S2048x2048.Idx → Elt F .f32))

/-- Contents given on each of disjoint rectangles are those of one buffer. -/
theorem glue {s : Shape} {V : Type} [Nonempty V] {T : Type} (r : T → Rect s) (hd : ∀ t t', t ≠ t' → Disjoint (r t).set (r t').set)
    (Y : ∀ t, (r t).shape.Idx → V) : ∃ X : s.Idx → V, ∀ t j, X ((r t).emb j) = Y t j := by
  classical
  refine ⟨fun i => if h : ∃ p : (t : T) × (r t).shape.Idx, (r p.1).emb p.2 = i then Y h.choose.1 h.choose.2 else Classical.arbitrary V, fun t j => ?_⟩
  have h : ∃ p : (t : T) × (r t).shape.Idx, (r p.1).emb p.2 = (r t).emb j := ⟨⟨t, j⟩, rfl⟩
  show (if h : ∃ p : (t : T) × (r t).shape.Idx, (r p.1).emb p.2 = (r t).emb j then Y h.choose.1 h.choose.2 else Classical.arbitrary V) = _
  rw [dif_pos h]
  have hs := h.choose_spec
  generalize h.choose = p at hs
  obtain ⟨t', j'⟩ := p
  dsimp only at hs ⊢
  have mem (t : T) (j : (r t).shape.Idx) : (r t).emb j ∈ (r t).set := by
    rw [← Rect.map_emb_univ]; exact Finset.mem_map_of_mem _ (Finset.mem_univ j)
  by_cases e : t' = t
  · subst e; rw [(r t').emb.injective hs]
  · exact absurd (hs ▸ mem t' j') (fun h' => Finset.disjoint_left.mp (hd t' t e) h' (mem t j))

/-! ## The result's blocks -/

/-- The blocks of the result, counted from block `b`. -/
abbrev blkT (b : ℕ) (c : Dev nD) (t : Bool × Fin 256) : Rect S2048x2048 := blkR t.1 (b + t.2.val) c

theorem chS_near (d : Bool) {s t : ℕ} (hs : s < 64) (ht : t < 64) (h1 : s < t + 32) (h2 : t < s + 32) (c : Dev nD) (h : chS d s c = chS d t c) : s = t := by
  have := pos_lt c
  unfold chS at h; split at h <;> omega

theorem blkT_disj {b : ℕ} (hb : b ≤ 248) (h8 : b % 8 = 0) (c : Dev nD) (t t' : Bool × Fin 256) (h : t ≠ t') : Disjoint (blkT b c t).set (blkT b c t').set := by
  rw [Finset.disjoint_left]
  intro i h1 h2
  rw [Rect.mem_set_unit] at h1 h2
  have r1 := h1 0
  have r2 := h2 0
  have c1 := h1 1
  have c2 := h2 1
  obtain ⟨d, n, hn⟩ := t
  obtain ⟨d', n', hn'⟩ := t'
  change 64 * chS d ((b + n) / 8) c ≤ (i 0).val ∧ (i 0).val < 64 * chS d ((b + n) / 8) c + 64 at r1
  change 64 * chS d' ((b + n') / 8) c ≤ (i 0).val ∧ (i 0).val < 64 * chS d' ((b + n') / 8) c + 64 at r2
  change colS d ((b + n) % 8) ≤ (i 1).val ∧ (i 1).val < colS d ((b + n) % 8) + 128 at c1
  change colS d' ((b + n') % 8) ≤ (i 1).val ∧ (i 1).val < colS d' ((b + n') % 8) + 128 at c2
  have e : d = d' := by
    unfold colS at c1 c2
    cases d <;> cases d' <;> simp only [if_true, if_false, Bool.false_eq_true] at c1 c2 <;> first | rfl | omega
  subst e
  have ec : (b + n) % 8 = (b + n') % 8 := by
    unfold colS at c1 c2; split at c1 <;> split at c2 <;> omega
  have er := chS_near d (s := (b + n) / 8) (t := (b + n') / 8) (by omega) (by omega) (by omega) (by omega) c (by omega)
  exact h (Prod.ext rfl (Fin.ext (show n = n' by omega)))

theorem blkT_cov {b : ℕ} (h : b = 0 ∨ b = 248) (c : Dev nD) : Finset.univ.biUnion (fun t => (blkT b c t).set) = Finset.univ := by
  ext i
  simp only [Finset.mem_biUnion, Finset.mem_univ, true_and, iff_true]
  have hr : (i 0).val < 2048 := (i 0).isLt
  have hc : (i 1).val < 2048 := (i 1).isLt
  have hp := pos_lt c
  generalize er : (i 0).val = r at hr
  generalize ec : (i 1).val = q at hc
  have key (d : Bool) (s j : ℕ) (hs : b / 8 ≤ s) (hs' : s < b / 8 + 32) (hj : j < 8) (h1 : chS d s c = r / 64) (h2 : colS d j ≤ q ∧ q < colS d j + 128) :
      ∃ t : Bool × Fin 256, i ∈ (blkT b c t).set := by
    refine ⟨(d, ⟨8 * s + j - b, by omega⟩), ?_⟩
    rw [Rect.mem_set_unit]
    have e1 : (b + (8 * s + j - b)) / 8 = s := by omega
    have e2 : (b + (8 * s + j - b)) % 8 = j := by omega
    intro a
    fin_cases a
    · show 64 * chS d ((b + (8 * s + j - b)) / 8) c ≤ (i 0).val ∧ (i 0).val < 64 * chS d ((b + (8 * s + j - b)) / 8) c + 64
      rw [e1, h1, er]; omega
    · show colS d ((b + (8 * s + j - b)) % 8) ≤ (i 1).val ∧ (i 1).val < colS d ((b + (8 * s + j - b)) % 8) + 128
      rw [e2, ec]; exact h2
  have hop (d : Bool) : ∃ s, b / 8 ≤ s ∧ s < b / 8 + 32 ∧ chS d s c = r / 64 := by
    unfold chS
    cases d <;> simp only [if_true, if_false, Bool.false_eq_true]
    · rcases h with rfl | rfl
      · exact ⟨(pos c + 32 - r / 64) % 32, by omega, by omega, by omega⟩
      · by_cases h0 : (pos c + 32 - r / 64) % 32 = 31
        · exact ⟨31, by omega, by omega, by omega⟩
        · exact ⟨(pos c + 32 - r / 64) % 32 + 32, by omega, by omega, by omega⟩
    · rcases h with rfl | rfl
      · exact ⟨(r / 64 + 32 - pos c) % 32, by omega, by omega, by omega⟩
      · by_cases h0 : (r / 64 + 32 - pos c) % 32 = 31
        · exact ⟨31, by omega, by omega, by omega⟩
        · exact ⟨(r / 64 + 32 - pos c) % 32 + 32, by omega, by omega, by omega⟩
  by_cases hq : q < 1024
  · obtain ⟨s, h1, h2, h3⟩ := hop false
    exact key false s (q / 128) h1 h2 (by omega) h3 (by unfold colS; simp only [if_false, Bool.false_eq_true]; omega)
  · obtain ⟨s, h1, h2, h3⟩ := hop true
    exact key true s ((q - 1024) / 128) h1 h2 (by omega) h3 (by unfold colS; simp only [if_true]; omega)

theorem range_map (n : ℕ) : Finset.range n = Finset.univ.map (Fin.valEmbedding (n := n)) := by
  ext x
  simp only [Finset.mem_range, Finset.mem_map, Finset.mem_univ, true_and]
  exact ⟨fun h => ⟨⟨x, h⟩, rfl⟩, fun ⟨i, h⟩ => h ▸ i.isLt⟩
theorem bool_fin (Φ : Bool → ℕ → sProp 𝕄) (n : ℕ) :
    (bigSep Finset.univ fun t : Bool × Fin n => Φ t.1 t.2.val) = iprop((bigSep (Finset.range n) (Φ false)) ∗ bigSep (Finset.range n) (Φ true)) := by
  have h (d : Bool) : (bigSep Finset.univ fun i : Fin n => Φ d i.val) = bigSep (Finset.range n) (Φ d) := by
    rw [range_map, BI.bigSep_map]; rfl
  rw [bigSep_univ_prod]
  rw [show (Finset.univ : Finset Bool) = {false, true} by decide, bigSep_insert (by decide), bigSep_singleton, h, h]; rfl

/-- The product's blocks. -/
theorem out_split (c : Dev nD) : owns (c : Thread nD τ) oM fullShare (P c) ⊢
    (iprop((bigSep (Finset.range 256) fun B => blk false B c (part P false B c)) ∗ bigSep (Finset.range 256) fun B => blk true B c (part P true B c)) : sProp 𝕄) := by
  rw [← bool_fin (fun d B => blk d B c (part P d B c)) 256]
  refine (owns_rects (c : Thread nD τ) oM fullShare (blkT 0 c) (fun _ _ => rfl) (blkT_disj (by omega) rfl c) (blkT_cov (Or.inl rfl) c) (P c)).trans (Entails.of_eq ?_)
  refine bigSep_congr fun t _ => ?_
  obtain ⟨d, n, hn⟩ := t
  show owns (c : Thread nD τ) (blkM d (0 + n) c) fullShare (part P d (0 + n) c) = blk d n c (part P d n c)
  rw [Nat.zero_add]; rfl

theorem res_ex [Nonempty (Elt F .f32)] (c : Dev nD) : ∃ X : S2048x2048.Idx → Elt F .f32, ∀ t j, X ((blkT 248 c t).emb j) = cur P t.1 (248 + t.2.val) c j :=
  glue (blkT 248 c) (blkT_disj (by omega) rfl c) fun t => cur P t.1 (248 + t.2.val) c
/-- The result device `c` ends with: in each block its last running sum. -/
def res [Nonempty (Elt F .f32)] (c : Dev nD) : S2048x2048.Idx → Elt F .f32 := (res_ex P c).choose
theorem res_blk [Nonempty (Elt F .f32)] (c : Dev nD) (t : Bool × Fin 256) (j : S64x128.Idx) : res P c ((blkT 248 c t).emb j) = cur P t.1 (248 + t.2.val) c j :=
  (res_ex P c).choose_spec t j

theorem out_join [∀ e, Nonempty (Elt F e)] (c : Dev nD) :
    iprop((Fin1 P false c 248 ∗ Fin2 P false c 248) ∗ Fin1 P true c 248 ∗ Fin2 P true c 248) ⊢ (owns (c : Thread nD τ) oM fullShare (res P c) : sProp 𝕄) := by
  have h (d : Bool) : (iprop(Fin1 P d c 248 ∗ Fin2 P d c 248) : sProp 𝕄) = bigSep (Finset.range 256) fun v => blk d (248 + v) c (cur P d (248 + v) c) := by
    have e : Finset.range 256 = Finset.range 248 ∪ Finset.Ico 248 256 := by
      ext x; simp only [Finset.mem_range, Finset.mem_union, Finset.mem_Ico]; omega
    have e2 : Finset.Ico 248 256 = (Finset.Ico 240 248).map (addRightEmbedding 8) := by
      ext x
      simp only [Finset.mem_Ico, Finset.mem_map]
      exact ⟨fun h => ⟨x - 8, by omega, show x - 8 + 8 = x by omega⟩, fun ⟨a, h, e⟩ => by have e' : a + 8 = x := e; omega⟩
    rw [e, bigSep_union (Finset.disjoint_left.mpr fun x h1 h2 => by simp only [Finset.mem_range, Finset.mem_Ico] at h1 h2; omega), e2, BI.bigSep_map]
    unfold Fin1 Fin2
    refine congrArg₂ (fun a b : sProp 𝕄 => iprop(a ∗ b)) (bigSep_congr fun v _ => by rw [Nat.add_comm]) (bigSep_congr fun v _ => ?_)
    show blk d (v + 256) c _ = blk d (248 + (v + 8)) c (cur P d (248 + (v + 8)) c)
    rw [show 248 + (v + 8) = v + 256 by omega]
  rw [h, h, ← bool_fin (fun d v => blk d (248 + v) c (cur P d (248 + v) c)) 256]
  refine (Entails.of_eq (bigSep_congr fun t _ => ?_)).trans
    (owns_of_rects (c : Thread nD τ) oM fullShare (blkT 248 c) (fun _ _ => rfl) (blkT_disj (by omega) rfl c) (blkT_cov (Or.inr rfl) c) (res P c))
  unfold blk
  congr 1
  funext j
  exact (res_blk P c t j).symm

/-! ## The slots of a receive buffer -/

abbrev slotT (t : Fin 16) : Rect S16x64x128 := slotR t.val

theorem slotT_disj (t t' : Fin 16) (h : t ≠ t') : Disjoint (slotT t).set (slotT t').set := by
  refine Rect.unit_disjoint 0 ?_
  have : t.val ≠ t'.val := fun e => h (Fin.ext e)
  show t.val % 16 + 1 ≤ t'.val % 16 ∨ t'.val % 16 + 1 ≤ t.val % 16
  omega
theorem slotT_cov : Finset.univ.biUnion (fun t => (slotT t).set) = Finset.univ := by
  ext i
  simp only [Finset.mem_biUnion, Finset.mem_univ, true_and, iff_true]
  have h0 : (i 0).val < 16 := (i 0).isLt
  refine ⟨⟨(i 0).val, h0⟩, ?_⟩
  rw [Rect.mem_set_unit]
  intro a
  fin_cases a
  · show (i 0).val % 16 ≤ (i 0).val ∧ (i 0).val < (i 0).val % 16 + 1; omega
  · show 0 ≤ (i 1).val ∧ (i 1).val < 0 + 64; exact ⟨Nat.zero_le _, by have := (i 1).isLt; simpa using this⟩
  · show 0 ≤ (i 2).val ∧ (i 2).val < 0 + 128; exact ⟨Nat.zero_le _, by have := (i 2).isLt; simpa using this⟩

theorem slot_set (d : Bool) (i : ℕ) : (slotM d i).view.set = ((comM d).slice (slotR i) (fun _ => rfl)).view.set :=
  View.set_reshape ((comM d).access (slotR i)) sqz.numel_eq

/-- A slot at some contents, with and without its leading axis of one. -/
theorem slot_ex (d : Bool) (i : ℕ) (c : Dev nD) :
    (iprop(∃ X, owns (c : Thread nD τ) ((comM d).slice (slotR i) (fun _ => rfl)) fullShare X) : sProp 𝕄) = iprop(∃ X : BV F, slt d i c X) := by
  have e := slot_set d i
  have h1 : (iprop(∃ X, owns (c : Thread nD τ) ((comM d).slice (slotR i) (fun _ => rfl)) fullShare X) : sProp 𝕄) ⊢ iprop(∃ X : BV F, slt d i c X) := by
    unfold slt owns
    rw [e]
    iintro ⟨%X, %f, -, H⟩
    iexists (slotM d i).view.read (Elt F) f, f
    isplitr; · ipureintro; rfl
    iexact H
  have h2 : (iprop(∃ X : BV F, slt d i c X) : sProp 𝕄) ⊢ iprop(∃ X, owns (c : Thread nD τ) ((comM d).slice (slotR i) (fun _ => rfl)) fullShare X) := by
    unfold slt owns
    rw [e]
    iintro ⟨%X, %f, -, H⟩
    iexists ((comM d).slice (slotR i) (fun _ => rfl)).view.read (Elt F) f, f
    isplitr; · ipureintro; rfl
    iexact H
  exact BI.equiv_iff.mp ⟨h1, h2⟩

theorem fin16 (Φ : ℕ → sProp 𝕄) : (bigSep Finset.univ fun i : Fin 16 => Φ i.val) = bigSep (Finset.range 16) Φ := by
  rw [range_map, BI.bigSep_map]; rfl

theorem com_split (d : Bool) (c : Dev nD) (X : S16x64x128.Idx → Elt F .f32) :
    owns (c : Thread nD τ) (comM d) fullShare X ⊢ (bigSep (Finset.range 16) fun i => slotS (c, d, i) : sProp 𝕄) := by
  rw [← fin16 (fun i => slotS (c, d, i))]
  refine (owns_rects (c : Thread nD τ) (comM d) fullShare slotT (fun _ _ => rfl) slotT_disj slotT_cov X).trans (BI.bigSep_mono fun t _ => ?_)
  unfold slotS
  dsimp only
  rw [← slot_ex]
  exact Laws.exists_intro (Φ := fun X => owns (c : Thread nD τ) ((comM d).slice (slotR t.val) (fun _ => rfl)) fullShare X) _

theorem com_join [∀ e, Nonempty (Elt F e)] (d : Bool) (c : Dev nD) :
    (bigSep (Finset.range 16) fun i => slotS (c, d, i)) ⊢ (iprop(∃ X, owns (c : Thread nD τ) (comM d) fullShare X) : sProp 𝕄) := by
  rw [← fin16 (fun i => slotS (c, d, i))]
  have h1 : (bigSep Finset.univ fun t : Fin 16 => slotS (c, d, t.val)) ⊢
      (iprop(∃ Y : Fin 16 → S1x64x128.Idx → Elt F .f32, bigSep Finset.univ fun t : Fin 16 => owns (c : Thread nD τ) ((comM d).slice (slotT t) (fun _ => rfl)) fullShare (Y t)) : sProp 𝕄) :=
    (Entails.of_eq (bigSep_congr fun t _ => (slot_ex d t.val c).symm)).trans (BI.bigSep_exists_pi _ _)
  refine h1.trans ?_
  iintro ⟨%Y, H⟩
  obtain ⟨X, hX⟩ := glue slotT slotT_disj Y
  iexists X
  iapply (owns_of_rects (c : Thread nD τ) (comM d) fullShare slotT (fun _ _ => rfl) slotT_disj slotT_cov X)
  iapply (Entails.of_eq (bigSep_congr fun t _ => congrArg (owns (c : Thread nD τ) ((comM d).slice (slotT t) (fun _ => rfl)) fullShare) (funext fun j => (hX t j).symm)))
  iexact H

end Cert.KernelIdeal.AR

end
-- ==== Proof.KernelIdeal.Turn.lean ====
/-
  One message's turn: the credit, the waits and the send, as the program writes them, with their conditions.
-/
module

public import proofs.«01_k».proof.Proof.KernelIdeal.Phase

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Facts]

local notation "𝕄" => MT nD τ sig ℕ (Elt F) ℕ UU ℕ

variable (P : Dev nD → (S2048x2048.Idx → Elt F .f32))

section Turn
variable (κ : Dev nD × SemK → ℕ) (ν : Key → ℕ) (ph d : Bool) (c : Dev nD)

/-- A part of a program, followed by the rest. -/
theorem seq {α β : Type} {m : Prog (TpuEff nD τ sig (Elt F) Λ₀ .tc) α} {k : α → Prog (TpuEff nD τ sig (Elt F) Λ₀ .tc) β} {R : α → sProp 𝕄} {Q : β → sProp 𝕄}
    {A : sProp 𝕄} (h : A ⊢ WP c m R) : A ⊢ iprop((∀ a, R a -∗ WP c (k a) Q) -∗ WP c (m >>= k) Q) := by
  rw [show WP c (m >>= k) Q = WP c m (fun a => WP c (k a) Q) from wp_bind _ _ _ _ _ _]
  exact h.trans (wp_wand _ _ _)

theorem may_recv {g : ℕ} (hg : g < 248) {n s : Bool → ℕ} (hn : ∀ e, iota ph g < n e) (hs : ∀ e, iota ph g ≤ s e) :
    LV (F := F) ⊢ MayWait (c : Thread nD τ) (rcvL ph d g) (iota ph g) (OW c n s) :=
  OW_may c n s _ _ (2 * iota ph g + 2) (iota_lt hg) (le_of_eq (lv_rcv ph d c g _)) (fun e => by have := hn e; omega) (fun e => by have := hs e; omega)
theorem may_sent {g : ℕ} (hg : g < 248) {n s : Bool → ℕ} :
    LV (F := F) ⊢ MayWait (c : Thread nD τ) (sndL ph d g) (iota ph g) (OW c n s) :=
  OW_may c n s _ _ 0 (iota_lt hg) (le_of_eq (lv_snd ph d c g _)) (fun e => by omega) (fun e => by omega)
theorem may_credited {g : ℕ} (hg : g < 248) {n s : Bool → ℕ} (hn : ∀ e, iota ph g + 1 < n e) (hs : ∀ e, iota ph g < s e) :
    LV (F := F) ⊢ MayWait (c : Thread nD τ) (crdL ph d) (iota ph g) (OW c n s) :=
  OW_may c n s _ _ (2 * iota ph g + 3) (iota_lt hg) (le_of_eq (lv_crd ph d c _)) (fun e => by have := hn e; omega) (fun e => by have := hs e; omega)

/-- After a reception a credit is sent, if the receiver's neighbour will wait for it. -/
theorem credit_if {A : ℕ} (hA : A < 248) {p : Prop} [Decidable p] (hp : p ↔ A < 232) {n s : Bool → ℕ} (s' : Bool → ℕ)
    (hs : s d = iota ph A) (hs' : s' d = s d + 1) (ho : s' (!d) = s (!d)) {e : p → Dev nD} (he : ∀ h, e h = up d c) {q : Sem sig} (hq : q = cq ph d)
    {α : Type} {Q : α → sProp 𝕄} {K : Prog (TpuEff nD τ sig (Elt F) Λ₀ .tc) α} :
    iprop(ctx P κ ν ∗ CpS ph d c A ∗ facts ph d c (A + 1) ∗ Owes c (OW c n s))
      ⊢ iprop((CpS ph d c (A + 1) ∗ Owes c (OW c n s') -∗ WP c K Q)
        -∗ WP c (if h : p then .op (.semSignal (e h, .tc) q (1#32).toInt) (fun _ => K) else K) Q) := by
  by_cases h : p
  · rw [dif_pos h]
    iintro ⟨#HC, Hcp, Hf, HO⟩ Hk
    iapply (wp_credit P κ ν ph d c (hp.mp h) (OW c n s') (OW_crd c d ph (hp.mp h) n s s' hs hs' ho) (he h) hq (k := fun _ => K)) $$ [Hcp Hf HO]
    · isplitr; · iexact HC
      isplitl [Hcp]; · iexact Hcp
      isplitl [HO]; · iexact HO
      iexact Hf
    iexact Hk
  · rw [dif_neg h]
    have h' : 232 ≤ A := by rw [hp] at h; omega
    have eO : OW c n s = OW c n s' := by
      refine OW_skip c n s s' fun e => ?_
      by_cases he : e = d
      · subst he
        rw [hs', hs]; unfold iota
        cases ph
        · right; left; simp only [Bool.false_eq_true, if_false]; omega
        · right; right; simp only [if_true]; omega
      · left
        have : e = !d := by cases e <;> cases d <;> simp_all
        rw [this, ho]
    rw [eO, cpS_late d c ph h' (show 232 ≤ A + 1 by omega)]
    iintro ⟨#HC, Hcp, Hf, HO⟩ Hk
    iapply Hk
    isplitl [Hcp]; · iexact Hcp
    iexact HO

/-- Before message `u` is sent, the credit and the send of message `u - 16` are awaited. -/
theorem waits_if {u : ℕ} (hu : u < 248) {p : Prop} [Decidable p] (hp : p ↔ 16 ≤ u) {n s : Bool → ℕ}
    (hn : ∀ e, iota ph u ≤ n e) (hs : ∀ e, iota ph u ≤ s e + 8) {q : Sem sig} (hq : q = cq ph d) {q2 : p → DmaSem sig} (hq2 : ∀ h, q2 h = dq ph d false u)
    {sp sp' : Space} {s₁ s₂ : Shape} {e e' : EltTy} {src : p → Memref sig .tc sp' s₂ e'} {dst : p → Memref sig .tc sp s₁ e}
    {w1 : ∀ h, (src h).view.WordExact} {w2 : ∀ h, (dst h).view.WordExact} (hN : ∀ h, (dst h).view.dmaCredit = NN)
    {α : Type} {Q : α → sProp 𝕄} {K : Prog (TpuEff nD τ sig (Elt F) Λ₀ .tc) α} :
    iprop(ctx P κ ν ∗ CwS ph d c (u - 16) ∗ SndS ph d c (u - 16) u ∗ Owes c (OW c n s))
      ⊢ iprop((CwS ph d c (u - 15) ∗ SndS ph d c (u - 15) u ∗ Owes c (OW c n s) ∗ bigSep (Finset.Ico (u - 16) (u - 15)) (sndPay P ph d c) -∗ WP c K Q)
        -∗ WP c (if h : p then .op (.semWait q (1#32).toInt) (fun _ => .op (.waitDma2 (q2 h) (src h) (dst h) (w1 h) (w2 h)) (fun _ => K)) else K) Q) := by
  by_cases h : p
  · rw [dif_pos h]
    have h' := hp.mp h
    have e1 : iota ph (u - 16) + 16 = iota ph u := by unfold iota; omega
    rw [show u - 15 = u - 16 + 1 by omega]
    rw [Ico_last _ (le_refl _), Finset.Ico_self, bigSep_empty]
    iintro ⟨#HC, Hcw, Hs, HO⟩ Hk
    iapply (wp_credited P κ ν ph d c (m := u - 16) (by omega) (O := OW c n s) (may_credited ph d c (n := n) (s := s) (by omega) (fun e => by have := hn e; omega) (fun e => by have := hs e; omega)) hq) $$ [Hcw HO]
    · isplitr; · iexact HC
      isplitl [Hcw]; · iexact Hcw
      iexact HO
    iintro ⟨Hcw, HO⟩
    iapply (wp_sent P κ ν ph d c (w := u - 16) (u := u) (by omega) (by omega) (O := OW c n s) (may_sent ph d c (n := n) (s := s) (by omega))
      ((hq2 h).trans (by rw [← dq_mod, show u % 16 = (u - 16) % 16 by omega, dq_mod])) (src := src h) (hs := w1 h) (hd := w2 h) (hN h)) $$ [Hs HO]
    · isplitr; · iexact HC
      isplitl [Hs]; · iexact Hs
      iexact HO
    iintro ⟨Hs, HO, Hp⟩
    iapply Hk
    isplitl [Hcw]; · iexact Hcw
    isplitl [Hs]; · iexact Hs
    isplitl [HO]; · iexact HO
    isplitl [Hp]; · iexact Hp
    iempintro
  · rw [dif_neg h]
    have h' : u < 16 := by rw [hp] at h; omega
    rw [show u - 16 = 0 by omega, show u - 15 = 0 by omega, Finset.Ico_self, bigSep_empty]
    iintro ⟨#HC, Hcw, Hs, HO⟩ Hk
    iapply Hk
    isplitl [Hcw]; · iexact Hcw
    isplitl [Hs]; · iexact Hs
    isplitl [HO]; · iexact HO
    iempintro

/-- What a device holds to send, its first `u` sums (and finished blocks) sent. -/
def RSs (u : ℕ) : sProp 𝕄 := iprop(RSi d c (min (u - 16) 232) (min u 248) ∗ AGi d c 0 (u - 248))

theorem RSs_rs {u : ℕ} (hu : u < 248) : (RSs d c u : sProp 𝕄) = iprop(RSi d c (u - 16) u ∗ AGi d c 0 0) := by
  unfold RSs; rw [Nat.min_eq_left (by omega), Nat.min_eq_left (by omega), show u - 248 = 0 by omega]
theorem RSs_rs' {u : ℕ} (hu : u < 248) : (RSs d c (u + 1) : sProp 𝕄) = iprop(RSi d c (u - 15) (u + 1) ∗ AGi d c 0 0) := by
  unfold RSs; rw [Nat.min_eq_left (by omega), Nat.min_eq_left (by omega), show u + 1 - 248 = 0 by omega, show u + 1 - 16 = u - 15 by omega]
theorem RSs_ag {u : ℕ} (hu : 248 ≤ u) : (RSs d c u : sProp 𝕄) = iprop(RSi d c 232 248 ∗ AGi d c 0 (u - 248)) := by
  unfold RSs; rw [Nat.min_eq_right (by omega), Nat.min_eq_right (by omega)]

/-- The sum of block `u` is sent on: as a sum, or finished. -/
theorem rs_next {u : ℕ} (hu : u < 256) {p p' : Prop} [Decidable p] [Decidable p'] (hp : p ↔ u < 248) (hp' : p' ↔ ¬ u < 248) {n : Bool → ℕ} (n' : Bool → ℕ) {s : Bool → ℕ}
    (hn : n d = u) (hn' : n' d = n d + 1) (ho : n' (!d) = n (!d))
    {m : p → Prog (TpuEff nD τ sig (Elt F) Λ₀ .tc) PUnit}
    (hm : ∀ h, iprop(ctx P κ ν ∗ RSi d c (u - 16) u ∗ Owes c (OW c n s)) ⊢ WP c (m h) (fun _ => iprop(RSi d c (u - 15) u ∗ Owes c (OW c n s))))
    {e : p → Dev nD} (he : ∀ h, e h = peer d c) {src dst : p → Memref sig .tc .vmem S64x128 .f32} (hsrc : ∀ h, src h = blkM d u c) (hdst : ∀ h, dst h = slotM d u)
    {qS qR : p → DmaSem sig} (hqS : ∀ h, qS h = dq false d false u) (hqR : ∀ h, qR h = dq false d true u)
    {hsc : ∀ h, (dst h : Memref sig (Dev.tc (e h) : Thread nD τ).2.kind .vmem S64x128 .f32).view.ref.isScScratch = false}
    {h1 : ∀ h, (src h).view.WordExact} {h2 : ∀ h, (dst h).view.WordExact}
    {h3 : ∀ h, DmaTarget.Typed .vmem (.dma (qR h)) (.remote (Dev.tc (e h) : Thread nD τ) (dst h : Memref sig .tc .vmem S64x128 .f32) (.dma (qS h)) (hsc h))}
    {e' : p' → Dev nD} (he' : ∀ h, e' h = peer d c) {src' dst' : p' → Memref sig .tc .vmem S64x128 .f32} (hsrc' : ∀ h, src' h = blkM d u c) (hdst' : ∀ h, dst' h = blkM d u c)
    {qS' qR' : p' → DmaSem sig} (hqS' : ∀ h, qS' h = dq true d false (u - 248)) (hqR' : ∀ h, qR' h = dq true d true (u - 248))
    {hsc' : ∀ h, (dst' h : Memref sig (Dev.tc (e' h) : Thread nD τ).2.kind .vmem S64x128 .f32).view.ref.isScScratch = false}
    {h1' : ∀ h, (src' h).view.WordExact} {h2' : ∀ h, (dst' h).view.WordExact}
    {h3' : ∀ h, DmaTarget.Typed .vmem (.dma (qR' h)) (.remote (Dev.tc (e' h) : Thread nD τ) (dst' h : Memref sig .tc .vmem S64x128 .f32) (.dma (qS' h)) (hsc' h))}
    {α : Type} {Q : α → sProp 𝕄} {K : Prog (TpuEff nD τ sig (Elt F) Λ₀ .tc) α} :
    iprop(ctx P κ ν ∗ Hold P d c u ∗ RSs d c u ∗ Owes c (OW c n s))
      ⊢ iprop((RSs d c (u + 1) ∗ Owes c (OW c n' s) -∗ WP c K Q)
        -∗ WP c (if h : p then (m h >>= fun _ => .op (.enqueueDma (src h) (.remote (Dev.tc (e h) : Thread nD τ) (dst h) (.dma (qS h)) (hsc h)) (.dma (qR h)) (h1 h) (h2 h) (h3 h))
              (fun _ => if h' : p' then .op (.enqueueDma (src' h') (.remote (Dev.tc (e' h') : Thread nD τ) (dst' h') (.dma (qS' h')) (hsc' h')) (.dma (qR' h')) (h1' h') (h2' h') (h3' h'))
                (fun _ => K) else K))
            else if h' : p' then .op (.enqueueDma (src' h') (.remote (Dev.tc (e' h') : Thread nD τ) (dst' h') (.dma (qS' h')) (hsc' h')) (.dma (qR' h')) (h1' h') (h2' h') (h3' h'))
                (fun _ => K) else K) Q) := by
  by_cases h : p
  · have hlt := hp.mp h
    rw [dif_pos h, dif_neg (fun h' => hp'.mp h' hlt), RSs_rs d c hlt, RSs_rs' d c hlt]
    iintro ⟨#HC, HB, ⟨HR, HA⟩, HO⟩ Hk
    iapply (seq c (hm h)) $$ [HR HO]
    · isplitr; · iexact HC
      isplitl [HR]; · iexact HR
      iexact HO
    iintro %_ ⟨HR, HO⟩
    iapply (rs_issue P κ ν d c hlt (OW c n' s) (OW_msg c d false hlt n n' s (hn.trans (by unfold iota; simp)) hn' ho) (he h) (hsrc h) (hdst h) (hqS h) (hqR h)
      (hsc := hsc h) (h1 := h1 h) (h2 := h2 h) (h3 := h3 h)) $$ [HB HR HO]
    · isplitr; · iexact HC
      isplitl [HB]; · iexact HB
      isplitl [HR]; · iexact HR
      iexact HO
    iintro ⟨HR, HO⟩
    iapply Hk
    isplitr [HO]
    · isplitl [HR]; · iexact HR
      iexact HA
    · iexact HO
  · have hge : ¬ u < 248 := fun h' => h (hp.mpr h')
    have hlt : u - 248 < 248 := by omega
    rw [dif_neg h, dif_pos (hp'.mpr hge), RSs_ag d c (by omega), RSs_ag d c (show 248 ≤ u + 1 by omega), show u + 1 - 248 = u - 248 + 1 by omega]
    iintro ⟨#HC, HB, ⟨HR, HA⟩, HO⟩ Hk
    have hi := ag_issue P κ ν d c hlt (B := u) (by omega) (OW c n' s) (OW_msg c d true hlt n n' s (hn.trans (by unfold iota; simp only [if_true]; omega)) hn' ho)
      (he' (hp'.mpr hge)) (hsrc' (hp'.mpr hge)) (hdst' (hp'.mpr hge)) (hqS' (hp'.mpr hge)) (hqR' (hp'.mpr hge))
      (hsc := hsc' (hp'.mpr hge)) (h1 := h1' (hp'.mpr hge)) (h2 := h2' (hp'.mpr hge)) (h3 := h3' (hp'.mpr hge)) (Q := Q) (k := fun _ => K)
    rw [show u - 248 - 15 = 0 by omega] at hi
    iapply hi $$ [HB HA HO]
    · isplitr; · iexact HC
      isplitl [HB]; · iexact HB
      isplitl [HA]; · iexact HA
      iexact HO
    iintro ⟨HA, HO⟩
    iapply Hk
    isplitr [HO]
    · isplitl [HR]; · iexact HR
      iexact HA
    · iexact HO

/-- The same in the all-gather, with the finished blocks it holds. -/
def AGs (u : ℕ) : sProp 𝕄 := iprop(AGi d c (min (u - 16) 232) (min u 248) ∗ Fin1 P d c (min (u - 16) 232) ∗ Fin2 P d c (u - 8))

theorem AGs_lt {u : ℕ} (hu : u < 248) : (AGs P d c u : sProp 𝕄) = iprop(AGi d c (u - 16) u ∗ Fin1 P d c (u - 16) ∗ Fin2 P d c 0) := by
  unfold AGs; rw [Nat.min_eq_left (by omega), Nat.min_eq_left (by omega), fin2_early P d c (show u - 8 ≤ 240 by omega) (Nat.zero_le _)]
theorem AGs_lt' {u : ℕ} (hu : u < 248) : (AGs P d c (u + 1) : sProp 𝕄) = iprop(AGi d c (u - 15) (u + 1) ∗ Fin1 P d c (u - 15) ∗ Fin2 P d c 0) := by
  unfold AGs; rw [Nat.min_eq_left (by omega), Nat.min_eq_left (by omega), show u + 1 - 16 = u - 15 by omega, fin2_early P d c (show u + 1 - 8 ≤ 240 by omega) (Nat.zero_le _)]
theorem AGs_ge {u : ℕ} (hu : 248 ≤ u) : (AGs P d c u : sProp 𝕄) = iprop(AGi d c 232 248 ∗ Fin1 P d c 232 ∗ Fin2 P d c (u - 8)) := by
  unfold AGs; rw [Nat.min_eq_right (by omega), Nat.min_eq_right (by omega)]

theorem fin1_back (u : ℕ) : iprop((bigSep (Finset.Ico (u - 16) (u - 15)) (sndPay P true d c)) ∗ Fin1 P d c (u - 16)) ⊢ (Fin1 P d c (u - 15) : sProp 𝕄) := by
  by_cases h : 16 ≤ u
  · rw [show u - 15 = u - 16 + 1 by omega, fin1_step, Ico_last _ (le_refl _), Finset.Ico_self, bigSep_empty]
    iintro ⟨⟨H1, -⟩, H2⟩
    isplitl [H1]; · iexact H1
    iexact H2
  · rw [show u - 16 = u - 15 by omega]
    iintro ⟨-, H⟩; iexact H

/-- A received finished block is sent on, or kept. -/
theorem ag_next {u : ℕ} (hu : u < 256) (hu8 : 8 ≤ u) {p : Prop} [Decidable p] (hp : p ↔ u < 248) {n : Bool → ℕ} (n' : Bool → ℕ) {s : Bool → ℕ}
    (hn : n d = 248 + min u 248) (hn' : n' d = 248 + min (u + 1) 248) (ho : n' (!d) = n (!d))
    {m : p → Prog (TpuEff nD τ sig (Elt F) Λ₀ .tc) PUnit}
    (hm : ∀ h, iprop(ctx P κ ν ∗ AGi d c (u - 16) u ∗ Fin1 P d c (u - 16) ∗ Owes c (OW c n s))
      ⊢ WP c (m h) (fun _ => iprop(AGi d c (u - 15) u ∗ Fin1 P d c (u - 15) ∗ Owes c (OW c n s))))
    {e : p → Dev nD} (he : ∀ h, e h = peer d c) {src dst : p → Memref sig .tc .vmem S64x128 .f32} (hsrc : ∀ h, src h = blkM d (u + 248) c) (hdst : ∀ h, dst h = blkM d (u + 248) c)
    {qS qR : p → DmaSem sig} (hqS : ∀ h, qS h = dq true d false u) (hqR : ∀ h, qR h = dq true d true u)
    {hsc : ∀ h, (dst h : Memref sig (Dev.tc (e h) : Thread nD τ).2.kind .vmem S64x128 .f32).view.ref.isScScratch = false}
    {h1 : ∀ h, (src h).view.WordExact} {h2 : ∀ h, (dst h).view.WordExact}
    {h3 : ∀ h, DmaTarget.Typed .vmem (.dma (qR h)) (.remote (Dev.tc (e h) : Thread nD τ) (dst h : Memref sig .tc .vmem S64x128 .f32) (.dma (qS h)) (hsc h))}
    {α : Type} {Q : α → sProp 𝕄} {K : Prog (TpuEff nD τ sig (Elt F) Λ₀ .tc) α} :
    iprop(ctx P κ ν ∗ Hold P d c (u + 248) ∗ AGs P d c u ∗ Owes c (OW c n s))
      ⊢ iprop((AGs P d c (u + 1) ∗ Owes c (OW c n' s) -∗ WP c K Q)
        -∗ WP c (if h : p then (m h >>= fun _ => .op (.enqueueDma (src h) (.remote (Dev.tc (e h) : Thread nD τ) (dst h) (.dma (qS h)) (hsc h)) (.dma (qR h)) (h1 h) (h2 h) (h3 h))
              (fun _ => K)) else K) Q) := by
  by_cases h : p
  · have hlt := hp.mp h
    rw [dif_pos h, AGs_lt P d c hlt, AGs_lt' P d c hlt]
    iintro ⟨#HC, HB, ⟨HR, HF, HG⟩, HO⟩ Hk
    iapply (seq c (hm h)) $$ [HR HF HO]
    · isplitr; · iexact HC
      isplitl [HR]; · iexact HR
      isplitl [HF]; · iexact HF
      iexact HO
    iintro %_ ⟨HR, HF, HO⟩
    iapply (ag_issue P κ ν d c hlt (B := u + 248) rfl (OW c n' s) (OW_msg c d true hlt n n' s (hn.trans (by unfold iota; simp only [if_true]; omega)) (by rw [hn', hn]; omega) ho)
      (he h) (hsrc h) (hdst h) (hqS h) (hqR h)
      (hsc := hsc h) (h1 := h1 h) (h2 := h2 h) (h3 := h3 h)) $$ [HB HR HO]
    · isplitr; · iexact HC
      isplitl [HB]; · iexact HB
      isplitl [HR]; · iexact HR
      iexact HO
    iintro ⟨HR, HO⟩
    iapply Hk
    isplitr [HO]
    · isplitl [HR]; · iexact HR
      isplitl [HF]; · iexact HF
      iexact HG
    · iexact HO
  · have hge : ¬ u < 248 := fun h' => h (hp.mpr h')
    have en : OW c n s = OW c n' s := by
      congr 1; funext e
      by_cases he : e = d
      · subst he; rw [hn, hn']; omega
      · have : e = !d := by cases e <;> cases d <;> simp_all
        rw [this, ho]
    rw [dif_neg h, AGs_ge P d c (by omega), AGs_ge P d c (show 248 ≤ u + 1 by omega), en, show u + 1 - 8 = u - 8 + 1 by omega, fin2_step P d c (by omega),
      show u - 8 + 256 = u + 248 by omega]
    unfold Hold
    iintro ⟨#HC, ⟨HB, -⟩, ⟨HR, HF, HG⟩, HO⟩ Hk
    iapply Hk
    isplitr [HO]
    · isplitl [HR]; · iexact HR
      isplitl [HF]; · iexact HF
      isplitl [HB]; · iexact HB
      iexact HG
    · iexact HO

end Turn

end Cert.KernelIdeal.AR

end
-- ==== Proof.KernelIdeal.Offsets.lean ====
/-
  The offsets, devices and conditions the kernel computes, in closed form: each by computation over the devices and the
  trips of its loops.
-/
module

public import proofs.«01_k».proof.Proof.KernelIdeal.Ring

@[expose] public section

set_option maxRecDepth 65536

namespace Cert.KernelIdeal.AR

open Cert.KernelIdeal
open Idealize.ShloMosaic

theorem dev1_eq : ∀ c : Dev nD, (k0_dev1 c) = (up false c).val := by decide +kernel
theorem dev2_eq : ∀ c : Dev nD, (k0_dev2 c) = (up true c).val := by decide +kernel
theorem dev3_eq : ∀ c : Dev nD, (k0_dev3 c) = (peer false c).val := by decide +kernel
theorem dev4_eq : ∀ c : Dev nD, (k0_dev4 c) = (peer true c).val := by decide +kernel
theorem dev5_eq : ∀ c : Dev nD, (k0_dev5 c) = (up false c).val := by decide +kernel
theorem dev6_eq : ∀ c : Dev nD, (k0_dev6 c) = (peer false c).val := by decide +kernel
theorem dev7_eq : ∀ c : Dev nD, (k0_dev7 c) = (peer false c).val := by decide +kernel
theorem dev8_eq : ∀ c : Dev nD, (k0_dev8 c) = (up true c).val := by decide +kernel
theorem dev9_eq : ∀ c : Dev nD, (k0_dev9 c) = (peer true c).val := by decide +kernel
theorem dev10_eq : ∀ c : Dev nD, (k0_dev10 c) = (peer true c).val := by decide +kernel
theorem dev11_eq : ∀ c : Dev nD, (k0_dev11 c) = (up false c).val := by decide +kernel
theorem dev12_eq : ∀ c : Dev nD, (k0_dev12 c) = (peer false c).val := by decide +kernel
theorem dev13_eq : ∀ c : Dev nD, (k0_dev13 c) = (up true c).val := by decide +kernel
theorem dev14_eq : ∀ c : Dev nD, (k0_dev14 c) = (peer true c).val := by decide +kernel

theorem off1_eq : ∀ t : Fin k0_t1_loop.trips, k0_off1 t = ![t.val % 16] := by decide +kernel
theorem off2_eq : ∀ t : Fin k0_t1_loop.trips, k0_off2 t = ![t.val % 16, 0, 0] := by decide +kernel
theorem off3_eq : ∀ (c : Dev nD) (t : Fin k0_t1_loop.trips), k0_off3 c t = blkOff false t.val c := by decide +kernel
theorem off4_eq : ∀ (c : Dev nD) (t : Fin k0_t1_loop.trips), k0_off4 c t = blkOff true t.val c := by decide +kernel

/-! The reduce-scatter's trips. -/
theorem off5_eq : ∀ (s : Fin k0_t2_loop.trips) (j : Fin k0_t3_loop.trips), k0_off5 s j = ![(8 * s.val + j.val) % 16] := by decide +kernel
theorem off8_eq : ∀ (c : Dev nD) (s : Fin k0_t2_loop.trips) (j : Fin k0_t3_loop.trips), k0_off8 c s j = blkOff false (8 * s.val + j.val + 8) c := by
  decide +kernel
theorem off9_eq : ∀ (s : Fin k0_t2_loop.trips) (j : Fin k0_t3_loop.trips), k0_off9 s j = ![(8 * s.val + j.val) % 16, 0, 0] := by decide +kernel
theorem cond1_iff : ∀ (s : Fin k0_t2_loop.trips) (j : Fin k0_t3_loop.trips), k0_cond1 s j = 1#1 ↔ 8 * s.val + j.val < 232 := by decide +kernel
theorem cond2_iff : ∀ (s : Fin k0_t2_loop.trips) (j : Fin k0_t3_loop.trips), k0_cond2 s = 1#1 ↔ 8 * s.val + j.val + 8 < 248 := by decide +kernel
theorem cond3_iff : ∀ (s : Fin k0_t2_loop.trips) (j : Fin k0_t3_loop.trips), k0_cond3 s j = 1#1 ↔ 16 ≤ 8 * s.val + j.val + 8 := by decide +kernel
theorem cond4_iff : ∀ (s : Fin k0_t2_loop.trips) (j : Fin k0_t3_loop.trips), k0_cond4 s = 1#1 ↔ ¬ 8 * s.val + j.val + 8 < 248 := by decide +kernel
theorem cond5_iff : ∀ (s : Fin k0_t2_loop.trips) (j : Fin k0_t3_loop.trips), k0_cond5 s j = 1#1 ↔ 8 * s.val + j.val < 232 := by decide +kernel
theorem cond6_iff : ∀ (s : Fin k0_t2_loop.trips) (j : Fin k0_t3_loop.trips), k0_cond6 s = 1#1 ↔ 8 * s.val + j.val + 8 < 248 := by decide +kernel
theorem cond7_iff : ∀ (s : Fin k0_t2_loop.trips) (j : Fin k0_t3_loop.trips), k0_cond7 s j = 1#1 ↔ 16 ≤ 8 * s.val + j.val + 8 := by decide +kernel
theorem cond8_iff : ∀ (s : Fin k0_t2_loop.trips) (j : Fin k0_t3_loop.trips), k0_cond8 s = 1#1 ↔ ¬ 8 * s.val + j.val + 8 < 248 := by decide +kernel
theorem off10_eq : ∀ (s : Fin k0_t2_loop.trips) (j : Fin k0_t3_loop.trips), k0_off10 s j = ![(8 * s.val + j.val + 8) % 16] := by decide +kernel
theorem off13_eq : ∀ (s : Fin k0_t2_loop.trips) (j : Fin k0_t3_loop.trips), k0_off13 s j = ![(8 * s.val + j.val + 8) % 16] := by decide +kernel
theorem off14_eq : ∀ (s : Fin k0_t2_loop.trips) (j : Fin k0_t3_loop.trips), k0_off14 s j = ![(8 * s.val + j.val + 8) % 16, 0, 0] := by decide +kernel
theorem off15_eq : ∀ (c : Dev nD) (s : Fin k0_t2_loop.trips) (j : Fin k0_t3_loop.trips), k0_off15 c s j = blkOff false (8 * s.val + j.val + 8) c := by
  decide +kernel
theorem off16_eq : ∀ (j : Fin k0_t3_loop.trips), k0_off16 j = ![j.val % 16] := by decide +kernel
theorem off17_eq : ∀ (c : Dev nD) (j : Fin k0_t3_loop.trips), k0_off17 c j = blkOff false (248 + j.val) c := by decide +kernel
theorem off19_eq : ∀ (c : Dev nD) (s : Fin k0_t2_loop.trips) (j : Fin k0_t3_loop.trips), k0_off19 c s j = blkOff true (8 * s.val + j.val + 8) c := by
  decide +kernel
theorem off20_eq : ∀ (s : Fin k0_t2_loop.trips) (j : Fin k0_t3_loop.trips), k0_off20 s j = ![(8 * s.val + j.val + 8) % 16] := by decide +kernel
theorem off23_eq : ∀ (s : Fin k0_t2_loop.trips) (j : Fin k0_t3_loop.trips), k0_off23 s j = ![(8 * s.val + j.val + 8) % 16] := by decide +kernel
theorem off24_eq : ∀ (s : Fin k0_t2_loop.trips) (j : Fin k0_t3_loop.trips), k0_off24 s j = ![(8 * s.val + j.val + 8) % 16, 0, 0] := by decide +kernel
theorem off25_eq : ∀ (c : Dev nD) (s : Fin k0_t2_loop.trips) (j : Fin k0_t3_loop.trips), k0_off25 c s j = blkOff true (8 * s.val + j.val + 8) c := by
  decide +kernel
theorem off26_eq : ∀ (j : Fin k0_t3_loop.trips), k0_off26 j = ![j.val % 16] := by decide +kernel
theorem off27_eq : ∀ (c : Dev nD) (j : Fin k0_t3_loop.trips), k0_off27 c j = blkOff true (248 + j.val) c := by decide +kernel

/-! The all-gather's trips. -/
theorem off28_eq : ∀ (t : Fin k0_t4_loop.trips) (j : Fin k0_t5_loop.trips), k0_off28 t j = ![(8 * t.val + j.val) % 16] := by decide +kernel
theorem cond9_iff : ∀ (t : Fin k0_t4_loop.trips) (j : Fin k0_t5_loop.trips), k0_cond9 t j = 1#1 ↔ 8 * t.val + j.val < 232 := by decide +kernel
theorem cond10_iff : ∀ (t : Fin k0_t4_loop.trips) (j : Fin k0_t5_loop.trips), k0_cond10 t = 1#1 ↔ 8 * t.val + j.val + 8 < 248 := by decide +kernel
theorem cond11_iff : ∀ (t : Fin k0_t4_loop.trips) (j : Fin k0_t5_loop.trips), k0_cond11 t j = 1#1 ↔ 16 ≤ 8 * t.val + j.val + 8 := by decide +kernel
theorem cond12_iff : ∀ (t : Fin k0_t4_loop.trips) (j : Fin k0_t5_loop.trips), k0_cond12 t j = 1#1 ↔ 8 * t.val + j.val < 232 := by decide +kernel
theorem cond13_iff : ∀ (t : Fin k0_t4_loop.trips) (j : Fin k0_t5_loop.trips), k0_cond13 t = 1#1 ↔ 8 * t.val + j.val + 8 < 248 := by decide +kernel
theorem cond14_iff : ∀ (t : Fin k0_t4_loop.trips) (j : Fin k0_t5_loop.trips), k0_cond14 t j = 1#1 ↔ 16 ≤ 8 * t.val + j.val + 8 := by decide +kernel
theorem off30_eq : ∀ (t : Fin k0_t4_loop.trips) (j : Fin k0_t5_loop.trips), k0_off30 t j = ![(8 * t.val + j.val + 8) % 16] := by decide +kernel
theorem off32_eq : ∀ (t : Fin k0_t4_loop.trips) (j : Fin k0_t5_loop.trips), k0_off32 t j = ![(8 * t.val + j.val + 8) % 16] := by decide +kernel
theorem off33_eq : ∀ (c : Dev nD) (t : Fin k0_t4_loop.trips) (j : Fin k0_t5_loop.trips), 8 * t.val + j.val + 8 < 248 → k0_off33 c t j = blkOff false (8 * t.val + j.val + 256) c := by
  decide +kernel
theorem off35_eq : ∀ (t : Fin k0_t4_loop.trips) (j : Fin k0_t5_loop.trips), k0_off35 t j = ![(8 * t.val + j.val + 8) % 16] := by decide +kernel
theorem off37_eq : ∀ (t : Fin k0_t4_loop.trips) (j : Fin k0_t5_loop.trips), k0_off37 t j = ![(8 * t.val + j.val + 8) % 16] := by decide +kernel
theorem off38_eq : ∀ (c : Dev nD) (t : Fin k0_t4_loop.trips) (j : Fin k0_t5_loop.trips), 8 * t.val + j.val + 8 < 248 → k0_off38 c t j = blkOff true (8 * t.val + j.val + 256) c := by
  decide +kernel

/-! The last waits' trips. -/
theorem off39_eq : ∀ (k : Fin k0_t6_loop.trips), k0_off39 k = ![(232 + k.val) % 16] := by decide +kernel
theorem off43_eq : ∀ (k : Fin k0_t7_loop.trips), k0_off43 k = ![(232 + k.val) % 16] := by decide +kernel

end Cert.KernelIdeal.AR

end
-- ==== Proof.KernelIdeal.Rs.lean ====
/-
  The first loop of the kernel: each direction sends its first eight blocks.
-/
module

public import proofs.«01_k».proof.Proof.KernelIdeal.Turn
public import proofs.«01_k».proof.Proof.KernelIdeal.Offsets
public import proofs.«01_k».proof.Proof.Gen.KernelIdeal.Skeleton
public import Idealize.ShloMosaic.Lib.Pipeline.Value

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Facts]

local notation "𝕄" => MT nD τ sig ℕ (Elt F) ℕ UU ℕ

variable (P : Dev nD → (S2048x2048.Idx → Elt F .f32))

section Parts
variable (κ : Dev nD × SemK → ℕ) (ν : Key → ℕ) (d : Bool) (c : Dev nD)

theorem done {α : Type} {x : α} {R : sProp 𝕄} : R ⊢ WP c (.ret x) (fun _ => R) := by
  exact (fupd_intro (E := Set.univ)).trans (Entails.of_eq (wp_ret _ _ _ x (fun _ => R)).symm)

theorem rs_waits {u : ℕ} (hu : u < 248) {p : Prop} [Decidable p] (hp : p ↔ 16 ≤ u) {n s : Bool → ℕ}
    (hn : ∀ e, u ≤ n e) (hs : ∀ e, u ≤ s e + 8) {q : Sem sig} (hq : q = cq false d) {q2 : p → DmaSem sig} (hq2 : ∀ h, q2 h = dq false d false u)
    {sp sp' : Space} {s₁ s₂ : Shape} {e e' : EltTy} {src : p → Memref sig .tc sp' s₂ e'} {dst : p → Memref sig .tc sp s₁ e}
    {w1 : ∀ h, (src h).view.WordExact} {w2 : ∀ h, (dst h).view.WordExact} (hN : ∀ h, (dst h).view.dmaCredit = NN) {α : Type} {x : α} :
    iprop(ctx P κ ν ∗ RSi d c (u - 16) u ∗ Owes c (OW c n s))
      ⊢ WP c (if h : p then .op (.semWait q (1#32).toInt) (fun _ => .op (.waitDma2 (q2 h) (src h) (dst h) (w1 h) (w2 h)) (fun _ => .ret x)) else .ret x)
          (fun _ => iprop(RSi d c (u - 15) u ∗ Owes c (OW c n s))) := by
  unfold RSi
  iintro ⟨#HC, ⟨#He, Hcw, Ht, Hs, Hw⟩, HO⟩
  have e0 : iota false u = u := by unfold iota; simp
  iapply (waits_if P κ ν false d c hu hp (n := n) (s := s) (fun e => by rw [e0]; exact hn e) (fun e => by rw [e0]; exact hs e) hq hq2 (w1 := w1) (w2 := w2) hN) $$ [Hcw Hs HO]
  · isplitr; · iexact HC
    isplitl [Hcw]; · iexact Hcw
    isplitl [Hs]; · iexact Hs
    iexact HO
  iintro ⟨Hcw, Hs, HO, -⟩
  iapply (done c)
  isplitr [HO]
  · isplitr; · iexact He
    isplitl [Hcw]; · iexact Hcw
    isplitl [Ht]; · iexact Ht
    isplitl [Hs]; · iexact Hs
    iexact Hw
  · iexact HO

theorem ag_waits {u : ℕ} (hu : u < 248) {p : Prop} [Decidable p] (hp : p ↔ 16 ≤ u) {n s : Bool → ℕ}
    (hn : ∀ e, 248 + u ≤ n e) (hs : ∀ e, 248 + u ≤ s e + 8) {q : Sem sig} (hq : q = cq true d) {q2 : p → DmaSem sig} (hq2 : ∀ h, q2 h = dq true d false u)
    {sp sp' : Space} {s₁ s₂ : Shape} {e e' : EltTy} {src : p → Memref sig .tc sp' s₂ e'} {dst : p → Memref sig .tc sp s₁ e}
    {w1 : ∀ h, (src h).view.WordExact} {w2 : ∀ h, (dst h).view.WordExact} (hN : ∀ h, (dst h).view.dmaCredit = NN) {α : Type} {x : α} :
    iprop(ctx P κ ν ∗ AGi d c (u - 16) u ∗ Fin1 P d c (u - 16) ∗ Owes c (OW c n s))
      ⊢ WP c (if h : p then .op (.semWait q (1#32).toInt) (fun _ => .op (.waitDma2 (q2 h) (src h) (dst h) (w1 h) (w2 h)) (fun _ => .ret x)) else .ret x)
          (fun _ => iprop(AGi d c (u - 15) u ∗ Fin1 P d c (u - 15) ∗ Owes c (OW c n s))) := by
  unfold AGi
  iintro ⟨#HC, ⟨Hcw, Ht, Hs⟩, HF, HO⟩
  have e0 : iota true u = 248 + u := by unfold iota; simp
  iapply (waits_if P κ ν true d c hu hp (n := n) (s := s) (fun e => by rw [e0]; exact hn e) (fun e => by rw [e0]; exact hs e) hq hq2 (w1 := w1) (w2 := w2) hN) $$ [Hcw Hs HO]
  · isplitr; · iexact HC
    isplitl [Hcw]; · iexact Hcw
    isplitl [Hs]; · iexact Hs
    iexact HO
  iintro ⟨Hcw, Hs, HO, Hp⟩
  iapply (done c)
  isplitl [Hcw Ht Hs]
  · isplitl [Hcw]; · iexact Hcw
    isplitl [Ht]; · iexact Ht
    iexact Hs
  isplitl [HF Hp]
  · iapply (fin1_back P d c u)
    isplitl [Hp]; · iexact Hp
    iexact HF
  · iexact HO

/-- The block summed, its slot is released, and the credit sent. -/
theorem rs_credit_if {A : ℕ} (hA : A < 248) {p : Prop} [Decidable p] (hp : p ↔ A < 232) {n s : Bool → ℕ} (s' : Bool → ℕ)
    (hs : s d = A) (hs' : s' d = s d + 1) (ho : s' (!d) = s (!d)) {e : p → Dev nD} (he : ∀ h, e h = up d c) {q : Sem sig} (hq : q = cq false d)
    {W X : BV F} (hW : W = cur P d (A + 8) c)
    {α : Type} {Q : α → sProp 𝕄} {K : Prog (TpuEff nD τ sig (Elt F) Λ₀ .tc) α} :
    iprop(ctx P κ ν ∗ blk d (A + 8) c W ∗ slt d A c X ∗ bigSep (PL ((A + 8) / 8)) (place d (A + 8) c) ∗ RSr P d c A ∗ CpS false d c A ∗ Owes c (OW c n s))
      ⊢ iprop((Hold P d c (A + 8) ∗ RSm P d c (A + 1) ∗ CpS false d c (A + 1) ∗ Owes c (OW c n s') -∗ WP c K Q)
        -∗ WP c (if h : p then .op (.semSignal (e h, .tc) q (1#32).toInt) (fun _ => K) else K) Q) := by
  subst hW
  iintro ⟨#HC, Hb, Hs, HP, HR, Hcp, HO⟩ Hk
  imod (rs_release P κ ν d c hA X) $$ [Hs HR] with HR
  · isplitr; · iexact HC
    isplitl [Hs]; · iexact Hs
    iexact HR
  ihave HR := (RSm_facts P d c (A + 1)) $$ HR
  icases HR with ⟨HR, #Hf⟩
  iapply (credit_if P κ ν false d c hA hp s' (n := n) (s := s) (hs.trans (by unfold iota; simp)) hs' ho he hq) $$ [Hcp HO]
  · isplitr; · iexact HC
    isplitl [Hcp]; · iexact Hcp
    isplitr; · iexact Hf
    iexact HO
  iintro ⟨Hcp, HO⟩
  iapply Hk
  isplitl [Hb HP]
  · unfold Hold
    isplitl [Hb]; · iexact Hb
    iexact HP
  isplitl [HR]; · iexact HR
  isplitl [Hcp]; · iexact Hcp
  iexact HO

theorem PL_zero : PL 0 = ∅ := by unfold PL; rw [if_pos (by omega)]; exact Finset.Ico_self 32

/-- The first eight messages carry the device's own blocks. -/
theorem rs_first {u : ℕ} (hu : u < 8) {n : Bool → ℕ} (n' : Bool → ℕ) {s : Bool → ℕ} (hn : n d = u) (hn' : n' d = n d + 1) (ho : n' (!d) = n (!d))
    {e : Dev nD} (he : e = peer d c) {src dst : Memref sig .tc .vmem S64x128 .f32} (hsrc : src = blkM d u c) (hdst : dst = slotM d u)
    {qS qR : DmaSem sig} (hqS : qS = dq false d false u) (hqR : qR = dq false d true u)
    {hsc : (dst : Memref sig (Dev.tc e : Thread nD τ).2.kind .vmem S64x128 .f32).view.ref.isScScratch = false}
    {h1 : src.view.WordExact} {h2 : dst.view.WordExact}
    {h3 : DmaTarget.Typed .vmem (.dma qR) (.remote (Dev.tc e : Thread nD τ) (dst : Memref sig .tc .vmem S64x128 .f32) (.dma qS) hsc)}
    {α : Type} {Q : α → sProp 𝕄} {k : PUnit → Prog (TpuEff nD τ sig (Elt F) Λ₀ .tc) α} :
    iprop(ctx P κ ν ∗ (bigSep (Finset.Ico u 256) fun B => blk d B c (part P d B c)) ∗ RSs d c u ∗ Owes c (OW c n s))
      ⊢ iprop(((bigSep (Finset.Ico (u + 1) 256) fun B => blk d B c (part P d B c)) ∗ RSs d c (u + 1) ∗ Owes c (OW c n' s) -∗ WP c (k ⟨⟩) Q)
          -∗ WP c (.op (.enqueueDma src (.remote (Dev.tc e : Thread nD τ) dst (.dma qS) hsc) (.dma qR) h1 h2 h3) k) Q) := by
  rw [Ico_step _ (show u < 256 by omega), RSs_rs d c (show u < 248 by omega), RSs_rs' d c (show u < 248 by omega), show u - 16 = u - 15 by omega]
  iintro ⟨#HC, ⟨Hb, Hbs⟩, ⟨HR, HA⟩, HO⟩ Hk
  iapply (rs_issue P κ ν d c (u := u) (by omega) (OW c n' s) (OW_msg c d false (by omega) n n' s (hn.trans (by unfold iota; simp)) hn' ho) he hsrc hdst hqS hqR
    (hsc := hsc) (h1 := h1) (h2 := h2) (h3 := h3)) $$ [Hb HR HO]
  · isplitr; · iexact HC
    isplitl [Hb]
    · unfold Hold
      rw [cur_first P d hu, show u / 8 = 0 by omega, PL_zero, bigSep_empty]
      isplitl [Hb]; · iexact Hb
      iempintro
    isplitl [HR]; · iexact HR
    iexact HO
  iintro ⟨HR, HO⟩
  iapply Hk
  isplitl [Hbs]; · iexact Hbs
  isplitr [HO]
  · isplitl [HR]; · iexact HR
    iexact HA
  · iexact HO

/-! ## The sums -/

theorem pay2_eq {A : ℕ} (hA : A < 248) {Y : S1x64x128.Idx → Elt F .f32} (hY : ∀ h : S1x64x128.ShapeCasts S64x128, shapeCast S64x128 Y h = cur P d A (up d c)) :
    Gen.k0_pay2 (part P d (A + 8) c) Y = cur P d (A + 8) c := by
  unfold Gen.k0_pay2; dsimp only
  rw [shapeCast_self, hY, cur_add P d hA]
theorem pay1_eq {A : ℕ} (hA : A < 248) {Y : S1x64x128.Idx → Elt F .f32} (hY : ∀ h : S1x64x128.ShapeCasts S64x128, shapeCast S64x128 Y h = cur P d A (up d c)) :
    Gen.k0_pay1 (Gen.k0_pay3 (part P d (A + 8) c)) Y = cur P d (A + 8) c := by
  unfold Gen.k0_pay1 Gen.k0_pay3; dsimp only
  rw [shapeCast_self, hY, cur_add P d hA]

end Parts

/-! ## The reduce-scatter's loops -/

section Loops
variable (κ : Dev nD × SemK → ℕ) (ν : Key → ℕ) (c : Dev nD) (v1 v2 v3 a b x y : BitVec 32)

theorem part1_wp (t : Fin k0_t1_loop.trips) :
    iprop(ctx P κ ν ∗ (bigSep (Finset.Ico t.val 256) fun B => blk false B c (part P false B c)) ∗ RSs false c t.val ∗ Owes c (OW c (tw t.val t.val) (tw 0 0)))
      ⊢ WP c (k0_part1 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 x y t)
        (fun _ => iprop((bigSep (Finset.Ico (t.val + 1) 256) fun B => blk false B c (part P false B c)) ∗ RSs false c (t.val + 1) ∗ Owes c (OW c (tw (t.val + 1) t.val) (tw 0 0)))) := by
  rw [Gen.k0_part1_eq_skeleton]; unfold Gen.k0_part1_skel
  simp only [Prog.lift, Prog.bind_op, Prog.bind_ret, Prog.pure_eq_ret]
  have ht : t.val < 8 := t.isLt
  iintro ⟨#HC, Hb, HR, HO⟩
  iapply (rs_first P κ ν false c ht (n := tw t.val t.val) (tw (t.val + 1) t.val) (s := tw 0 0) rfl rfl rfl (Fin.ext (dev3_eq c)) (view_blk false (off3_eq c t)) (view_slot false rfl (off2_eq t))
    (sem_dq false false false rfl (off1_eq t)) (sem_dq false false true rfl (off1_eq t))) $$ [Hb HR HO]
  · isplitr; · iexact HC
    isplitl [Hb]; · iexact Hb
    isplitl [HR]; · iexact HR
    iexact HO
  iintro H
  iapply (done c); iexact H

/-- Before the first messages of column `u` are sent. -/
def T1 (u : ℕ) : sProp 𝕄 :=
  iprop(((bigSep (Finset.Ico u 256) fun B => blk false B c (part P false B c)) ∗ RSs false c u)
    ∗ ((bigSep (Finset.Ico u 256) fun B => blk true B c (part P true B c)) ∗ RSs true c u) ∗ Owes c (OW c (tw u u) (tw 0 0)))

theorem t1_wp (t : Fin k0_t1_loop.trips) (u : Unit) :
    iprop(ctx P κ ν ∗ T1 P c t.val) ⊢ WP c (Gen.k0_t1_body (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 t u) (fun _ => iprop(ctx P κ ν ∗ T1 P c (t.val + 1))) := by
  unfold Gen.k0_t1_body T1
  simp only [Prog.lift, Prog.bind_op, Prog.bind_ret, Prog.pure_eq_ret]
  have ht : t.val < 8 := t.isLt
  iintro ⟨#HC, ⟨Hb, HR⟩, ⟨Hb', HR'⟩, HO⟩
  iapply (seq c (part1_wp P κ ν c v1 v2 0#32 1#32 t)) $$ [Hb HR HO]
  · isplitr; · iexact HC
    isplitl [Hb]; · iexact Hb
    isplitl [HR]; · iexact HR
    iexact HO
  iintro %r ⟨Hb, HR, HO⟩
  obtain ⟨r1, r2, r3⟩ := r
  iapply (rs_first P κ ν true c ht (n := tw (t.val + 1) t.val) (tw (t.val + 1) (t.val + 1)) (s := tw 0 0) rfl rfl rfl (Fin.ext (dev4_eq c)) (view_blk true (off4_eq c t)) (view_slot true rfl (off2_eq t))
    (sem_dq false true false rfl (off1_eq t)) (sem_dq false true true rfl (off1_eq t))) $$ [Hb' HR' HO]
  · isplitr; · iexact HC
    isplitl [Hb']; · iexact Hb'
    isplitl [HR']; · iexact HR'
    iexact HO
  iintro ⟨Hb', HR', HO⟩
  iapply (done c)
  isplitr; · iexact HC
  isplitl [Hb HR]
  · isplitl [Hb]; · iexact Hb
    iexact HR
  isplitl [Hb' HR']
  · isplitl [Hb']; · iexact Hb'
    iexact HR'
  iexact HO

end Loops

end Cert.KernelIdeal.AR

end
-- ==== Proof.KernelIdeal.Sum.lean ====
/-
  A trip of the reduce-scatter: each direction receives a block, adds its own, and sends the sum on.
-/
module

public import proofs.«01_k».proof.Proof.KernelIdeal.Rs

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Facts]

local notation "𝕄" => MT nD τ sig ℕ (Elt F) ℕ UU ℕ

variable (P : Dev nD → (S2048x2048.Idx → Elt F .f32))

theorem credit_NN (m : Memref sig .tc .vmem S64x128 .f32) : m.view.dmaCredit = NN := rfl
theorem tw_lt {m a b : ℕ} (ha : m < a) (hb : m < b) : ∀ e, m < tw a b e := fun e => by cases e; exact ha; exact hb
theorem tw_le {m a b : ℕ} (ha : m ≤ a) (hb : m ≤ b) : ∀ e, m ≤ tw a b e := fun e => by cases e; exact ha; exact hb
theorem tw_le8 {m a b : ℕ} (ha : m ≤ a + 8) (hb : m ≤ b + 8) : ∀ e, m ≤ tw a b e + 8 := fun e => by cases e; exact ha; exact hb

theorem u_late (i : Fin k0_t2_loop.trips) (j : Fin k0_t3_loop.trips) (h : ¬ 8 * i.val + j.val + 8 < 248) : 248 + j.val = 8 * i.val + j.val + 8 := by
  have hi : i.val < 31 := i.isLt
  have hj : j.val < 8 := j.isLt
  omega
theorem j_late (i : Fin k0_t2_loop.trips) (j : Fin k0_t3_loop.trips) (h : ¬ 8 * i.val + j.val + 8 < 248) : j.val = 8 * i.val + j.val + 8 - 248 := by
  have := u_late i j h
  omega
theorem done' (c : Dev nD) {α : Type} {x : α} {R : α → sProp 𝕄} : R x ⊢ WP c (.ret x) R :=
  (fupd_intro (E := Set.univ)).trans (Entails.of_eq (wp_ret _ _ _ x R).symm)

/-- One direction's part of the reduce-scatter's invariant before message `A` is received. -/
def RS0 (d : Bool) (c : Dev nD) (A : ℕ) : sProp 𝕄 := iprop(RSm P d c A ∗ CpS false d c A ∗ RSs d c (A + 8))

section Loops
variable (κ : Dev nD × SemK → ℕ) (ν : Key → ℕ) (c : Dev nD) (v1 v2 v3 a b x y z : BitVec 32)
variable (i : Fin k0_t2_loop.trips) (j : Fin k0_t3_loop.trips)

theorem i_lt : i.val < 31 := i.isLt
theorem j_lt : j.val < 8 := j.isLt

theorem part2_wp (h : k0_cond2 i = 1#1) {n s : Bool → ℕ} (hn : ∀ e, 8 * i.val + j.val + 8 ≤ n e) (hs : ∀ e, 8 * i.val + j.val + 8 ≤ s e + 8) :
    iprop(ctx P κ ν ∗ RSi false c (8 * i.val + j.val + 8 - 16) (8 * i.val + j.val + 8) ∗ Owes c (OW c n s))
      ⊢ WP c (k0_part2 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 i a j b h) (fun _ => iprop(RSi false c (8 * i.val + j.val + 8 - 15) (8 * i.val + j.val + 8) ∗ Owes c (OW c n s))) := by
  rw [Gen.k0_part2_eq_skeleton]; unfold Gen.k0_part2_skel
  simp only [semSignalWord, semWaitWord, Prog.lift, Prog.bind_op, Prog.bind_ret, Prog.pure_eq_ret]
  exact rs_waits P κ ν false c ((cond2_iff i j).mp h) (cond3_iff i j) hn hs rfl (fun _ => sem_dq false false false rfl (off10_eq i j)) (fun _ => credit_NN _)

theorem part3_wp (h : k0_cond6 i = 1#1) {n s : Bool → ℕ} (hn : ∀ e, 8 * i.val + j.val + 8 ≤ n e) (hs : ∀ e, 8 * i.val + j.val + 8 ≤ s e + 8) :
    iprop(ctx P κ ν ∗ RSi true c (8 * i.val + j.val + 8 - 16) (8 * i.val + j.val + 8) ∗ Owes c (OW c n s))
      ⊢ WP c (k0_part3 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 i a j b h) (fun _ => iprop(RSi true c (8 * i.val + j.val + 8 - 15) (8 * i.val + j.val + 8) ∗ Owes c (OW c n s))) := by
  rw [Gen.k0_part3_eq_skeleton]; unfold Gen.k0_part3_skel
  simp only [semSignalWord, semWaitWord, Prog.lift, Prog.bind_op, Prog.bind_ret, Prog.pure_eq_ret]
  exact rs_waits P κ ν true c ((cond6_iff i j).mp h) (cond7_iff i j) hn hs rfl (fun _ => sem_dq false true false rfl (off20_eq i j)) (fun _ => credit_NN _)

/-- What is held once message `A` has come: the block it is for, its slot, the passing places. -/
def Got (d : Bool) (c : Dev nD) (A : ℕ) : sProp 𝕄 :=
  iprop(blk d (A + 8) c (part P d (A + 8) c) ∗ slt d A c (cur P d A (up d c)) ∗ bigSep (PL ((A + 8) / 8)) (place d (A + 8) c) ∗ RSr P d c A)

theorem part4_wp {n s : Bool → ℕ} (hn : ∀ e, 8 * i.val + j.val < n e) (hs : ∀ e, 8 * i.val + j.val ≤ s e) :
    iprop(ctx P κ ν ∗ RSm P false c (8 * i.val + j.val) ∗ Owes c (OW c n s))
      ⊢ WP c (k0_part4 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 i a x y j) (fun _ => iprop(Got P false c (8 * i.val + j.val) ∗ Owes c (OW c n s))) := by
  rw [Gen.k0_part4_eq_skeleton]; unfold Gen.k0_part4_skel
  simp only [semSignalWord, semWaitWord, Prog.lift, Prog.bind_op, Prog.bind_ret, Prog.pure_eq_ret]
  have hi := i_lt i; have hj := j_lt j
  have e0 : iota false (8 * i.val + j.val) = 8 * i.val + j.val := by unfold iota; simp
  iintro ⟨#HC, HR, HO⟩
  iapply (rs_recv P κ ν false c (A := 8 * i.val + j.val) (by omega)
    (may_recv false false c (by omega) (n := n) (s := s) (fun e => by rw [e0]; exact hn e) (fun e => by rw [e0]; exact hs e)) (sem_dq false false true rfl (off5_eq i j)) (credit_NN _)) $$ [HR HO]
  · isplitr; · iexact HC
    isplitl [HR]; · iexact HR
    iexact HO
  unfold Got
  iintro ⟨Hb, Hs, Hp, HR, HO⟩
  iapply (done c)
  isplitr [HO]
  · isplitl [Hb]; · iexact Hb
    isplitl [Hs]; · iexact Hs
    isplitl [Hp]; · iexact Hp
    iexact HR
  iexact HO

theorem part5_wp {n s : Bool → ℕ} (s' : Bool → ℕ) (hs : s false = 8 * i.val + j.val) (hs' : s' false = s false + 1) (ho : s' true = s true) :
    iprop(ctx P κ ν ∗ Got P false c (8 * i.val + j.val) ∗ CpS false false c (8 * i.val + j.val) ∗ Owes c (OW c n s))
      ⊢ WP c (k0_part5 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 i j x y z a)
          (fun _ => iprop(Hold P false c (8 * i.val + j.val + 8) ∗ RSm P false c (8 * i.val + j.val + 1) ∗ CpS false false c (8 * i.val + j.val + 1) ∗ Owes c (OW c n s'))) := by
  rw [Gen.k0_part5_eq_skeleton]; unfold Gen.k0_part5_skel Got
  simp only [semSignalWord, semWaitWord, Prog.lift, Prog.bind_op, Prog.bind_ret, Prog.pure_eq_ret]
  have hi := i_lt i; have hj := j_lt j
  iintro ⟨#HC, ⟨Hb, Hs, Hp, HR⟩, Hcp, HO⟩
  iapply (wp_load_blk false c (off8_eq c i j)) $$ [$Hb]
  iintro Hb
  iapply (wp_load_slt false c rfl (off9_eq i j)) $$ [$Hs]
  iintro %Y %hY Hs
  iapply (wp_load_blk false c (off8_eq c i j)) $$ [$Hb]
  iintro Hb
  iapply (wp_store_blk false c (off8_eq c i j)) $$ [$Hb]
  iintro Hb
  iapply (rs_credit_if P κ ν false c (A := 8 * i.val + j.val) (by omega) (cond1_iff i j) s' (n := n) (s := s) hs hs' ho (fun _ => Fin.ext (dev5_eq c)) rfl
    (pay2_eq P false c (by omega) hY)) $$ [Hb Hs Hp HR Hcp HO]
  · isplitr; · iexact HC
    isplitl [Hb]; · iexact Hb
    isplitl [Hs]; · iexact Hs
    isplitl [Hp]; · iexact Hp
    isplitl [HR]; · iexact HR
    isplitl [Hcp]; · iexact Hcp
    iexact HO
  iintro H
  iapply (done c); iexact H

theorem part6_wp {n s : Bool → ℕ} (n' : Bool → ℕ) (hn : n false = 8 * i.val + j.val + 8) (hn' : n' false = n false + 1) (ho : n' true = n true)
    (hna : ∀ e, 8 * i.val + j.val + 8 ≤ n e) (hsa : ∀ e, 8 * i.val + j.val + 8 ≤ s e + 8) :
    iprop(ctx P κ ν ∗ Hold P false c (8 * i.val + j.val + 8) ∗ RSs false c (8 * i.val + j.val + 8) ∗ Owes c (OW c n s))
      ⊢ WP c (k0_part6 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 i a j b x)
          (fun _ => iprop(RSs false c (8 * i.val + j.val + 8 + 1) ∗ Owes c (OW c n' s))) := by
  rw [Gen.k0_part6_eq_skeleton]; unfold Gen.k0_part6_skel
  simp only [semSignalWord, semWaitWord, Prog.lift, Prog.bind_op, Prog.bind_ret, Prog.pure_eq_ret]
  have hi := i_lt i; have hj := j_lt j
  iintro ⟨#HC, Hb, HR, HO⟩
  iapply (rs_next P κ ν false c (u := 8 * i.val + j.val + 8) (by omega) (cond2_iff i j) (cond4_iff i j) (n := n) n' (s := s) hn hn' ho
    (fun h => part2_wp P κ ν c v1 v2 a b i j h hna hsa)
    (fun _ => Fin.ext (dev6_eq c)) (fun _ => view_blk false (off15_eq c i j)) (fun _ => view_slot false rfl (off14_eq i j))
    (fun _ => sem_dq false false false rfl (off13_eq i j)) (fun _ => sem_dq false false true rfl (off13_eq i j))
    (fun _ => Fin.ext (dev7_eq c)) (fun h => view_blk false ((off17_eq c j).trans (by rw [u_late i j ((cond4_iff i j).mp h)])))
    (fun h => view_blk false ((off17_eq c j).trans (by rw [u_late i j ((cond4_iff i j).mp h)])))
    (fun h => sem_dq true false false rfl ((off16_eq j).trans (congrArg (fun k => ![k % 16]) (j_late i j ((cond4_iff i j).mp h)))))
    (fun h => sem_dq true false true rfl ((off16_eq j).trans (congrArg (fun k => ![k % 16]) (j_late i j ((cond4_iff i j).mp h)))))) $$ [Hb HR HO]
  · isplitr; · iexact HC
    isplitl [Hb]; · iexact Hb
    isplitl [HR]; · iexact HR
    iexact HO
  iintro H
  iapply (done c); iexact H

theorem part7_wp {n s : Bool → ℕ} (hn : ∀ e, 8 * i.val + j.val < n e) (hs : ∀ e, 8 * i.val + j.val ≤ s e) :
    iprop(ctx P κ ν ∗ RSm P true c (8 * i.val + j.val) ∗ Owes c (OW c n s))
      ⊢ WP c (k0_part7 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 i a j b x)
        (fun r => iprop(⌜r.2.2 = Gen.k0_pay3 (part P true (8 * i.val + j.val + 8) c)⌝ ∗ Got P true c (8 * i.val + j.val) ∗ Owes c (OW c n s))) := by
  rw [Gen.k0_part7_eq_skeleton]; unfold Gen.k0_part7_skel
  simp only [semSignalWord, semWaitWord, Prog.lift, Prog.bind_op, Prog.bind_ret, Prog.pure_eq_ret]
  have hi := i_lt i; have hj := j_lt j
  have e0 : iota false (8 * i.val + j.val) = 8 * i.val + j.val := by unfold iota; simp
  iintro ⟨#HC, HR, HO⟩
  iapply (rs_recv P κ ν true c (A := 8 * i.val + j.val) (by omega)
    (may_recv false true c (by omega) (n := n) (s := s) (fun e => by rw [e0]; exact hn e) (fun e => by rw [e0]; exact hs e)) (sem_dq false true true rfl (off5_eq i j)) (credit_NN _)) $$ [HR HO]
  · isplitr; · iexact HC
    isplitl [HR]; · iexact HR
    iexact HO
  unfold Got
  iintro ⟨Hb, Hs, Hp, HR, HO⟩
  iapply (wp_load_blk true c (off19_eq c i j)) $$ [$Hb]
  iintro Hb
  iapply (done' c)
  isplitr; · ipureintro; rfl
  isplitr [HO]
  · isplitl [Hb]; · iexact Hb
    isplitl [Hs]; · iexact Hs
    isplitl [Hp]; · iexact Hp
    iexact HR
  iexact HO

/-- The reduce-scatter before message `A` of each direction is received. -/
def T3 (A : ℕ) : sProp 𝕄 := iprop(RS0 P false c A ∗ RS0 P true c A ∗ Owes c (OW c (tw (A + 8) (A + 8)) (tw A A)))

theorem t3_wp (u : Unit) :
    iprop(ctx P κ ν ∗ T3 P c (8 * i.val + j.val))
      ⊢ WP c (Gen.k0_t3_body (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 v3 i a j u) (fun _ => iprop(ctx P κ ν ∗ T3 P c (8 * i.val + (j.val + 1)))) := by
  unfold Gen.k0_t3_body T3 RS0
  simp only [semSignalWord, semWaitWord, Prog.lift, Prog.bind_op, Prog.bind_ret, Prog.pure_eq_ret]
  have hi := i_lt i; have hj := j_lt j
  generalize hA : 8 * i.val + j.val = A
  iintro ⟨#HC, ⟨HR, Hcp, HS⟩, ⟨HR', Hcp', HS'⟩, HO⟩
  subst hA
  iapply (seq c (part4_wp P κ ν c v1 v2 a 0#32 1#32 i j (n := tw (8 * i.val + j.val + 8) (8 * i.val + j.val + 8)) (s := tw (8 * i.val + j.val) (8 * i.val + j.val))
    (tw_lt (by omega) (by omega)) (tw_le (by omega) (by omega)))) $$ [HR HO]
  · isplitr; · iexact HC
    isplitl [HR]; · iexact HR
    iexact HO
  iintro %r ⟨HG, HO⟩
  obtain ⟨r1, r2, r3, r4⟩ := r
  iapply (seq c (part5_wp P κ ν c v3 r4 r1 r2 r3 i j (n := tw (8 * i.val + j.val + 8) (8 * i.val + j.val + 8)) (s := tw (8 * i.val + j.val) (8 * i.val + j.val))
    (tw (8 * i.val + j.val + 1) (8 * i.val + j.val)) rfl rfl rfl)) $$ [HG Hcp HO]
  · isplitr; · iexact HC
    isplitl [HG]; · iexact HG
    isplitl [Hcp]; · iexact Hcp
    iexact HO
  iintro %r5 ⟨HH, HR, Hcp, HO⟩
  iapply (seq c (part6_wp P κ ν c v1 v2 a r1 r5 i j (n := tw (8 * i.val + j.val + 8) (8 * i.val + j.val + 8)) (s := tw (8 * i.val + j.val + 1) (8 * i.val + j.val))
    (tw (8 * i.val + j.val + 8 + 1) (8 * i.val + j.val + 8)) rfl rfl rfl (tw_le (by omega) (by omega)) (tw_le8 (by omega) (by omega)))) $$ [HH HS HO]
  · isplitr; · iexact HC
    isplitl [HH]; · iexact HH
    isplitl [HS]; · iexact HS
    iexact HO
  iintro %r6 ⟨HS, HO⟩
  iapply (seq c (part7_wp P κ ν c v1 v3 a r1 r6 i j (n := tw (8 * i.val + j.val + 8 + 1) (8 * i.val + j.val + 8)) (s := tw (8 * i.val + j.val + 1) (8 * i.val + j.val))
    (tw_lt (by omega) (by omega)) (tw_le (by omega) (by omega)))) $$ [HR' HO]
  · isplitr; · iexact HC
    isplitl [HR']; · iexact HR'
    iexact HO
  iintro %r7 ⟨%h7, HG, HO⟩
  obtain ⟨r7, r8, r9⟩ := r7
  unfold Got
  icases HG with ⟨Hb, Hs, Hp, HR'⟩
  iapply (wp_load_slt true c rfl (off9_eq i j)) $$ [$Hs]
  iintro %Y %hY Hs
  iapply (wp_load_blk true c (off19_eq c i j)) $$ [$Hb]
  iintro Hb
  iapply (wp_store_blk true c (off19_eq c i j)) $$ [$Hb]
  iintro Hb
  iapply (rs_credit_if P κ ν true c (A := 8 * i.val + j.val) (by omega) (cond5_iff i j) (tw (8 * i.val + j.val + 1) (8 * i.val + j.val + 1))
    (n := tw (8 * i.val + j.val + 8 + 1) (8 * i.val + j.val + 8)) (s := tw (8 * i.val + j.val + 1) (8 * i.val + j.val)) rfl rfl rfl (fun _ => Fin.ext (dev8_eq c)) rfl
    (X := cur P true (8 * i.val + j.val) (up true c)) ((congrArg (fun w => Gen.k0_pay1 w Y) h7).trans (pay1_eq P true c (by omega) hY))) $$ [Hb Hs Hp HR' Hcp' HO]
  · isplitr; · iexact HC
    isplitl [Hb]; · iexact Hb
    isplitl [Hs]; · iexact Hs
    isplitl [Hp]; · iexact Hp
    isplitl [HR']; · iexact HR'
    isplitl [Hcp']; · iexact Hcp'
    iexact HO
  iintro ⟨HH, HR', Hcp', HO⟩
  iapply (rs_next P κ ν true c (u := 8 * i.val + j.val + 8) (by omega) (cond6_iff i j) (cond8_iff i j) (n := tw (8 * i.val + j.val + 8 + 1) (8 * i.val + j.val + 8))
    (tw (8 * i.val + j.val + 8 + 1) (8 * i.val + j.val + 8 + 1)) (s := tw (8 * i.val + j.val + 1) (8 * i.val + j.val + 1)) rfl rfl rfl
    (fun h => part3_wp P κ ν c v1 v3 a r1 i j h (tw_le (by omega) (by omega)) (tw_le8 (by omega) (by omega)))
    (fun _ => Fin.ext (dev9_eq c)) (fun _ => view_blk true (off25_eq c i j)) (fun _ => view_slot true rfl (off24_eq i j))
    (fun _ => sem_dq false true false rfl (off23_eq i j)) (fun _ => sem_dq false true true rfl (off23_eq i j))
    (fun _ => Fin.ext (dev10_eq c)) (fun h => view_blk true ((off27_eq c j).trans (by rw [u_late i j ((cond8_iff i j).mp h)])))
    (fun h => view_blk true ((off27_eq c j).trans (by rw [u_late i j ((cond8_iff i j).mp h)])))
    (fun h => sem_dq true true false rfl ((off26_eq j).trans (congrArg (fun k => ![k % 16]) (j_late i j ((cond8_iff i j).mp h)))))
    (fun h => sem_dq true true true rfl ((off26_eq j).trans (congrArg (fun k => ![k % 16]) (j_late i j ((cond8_iff i j).mp h)))))) $$ [HH HS' HO]
  · isplitr; · iexact HC
    isplitl [HH]; · iexact HH
    isplitl [HS']; · iexact HS'
    iexact HO
  iintro ⟨HS', HO⟩
  rw [show 8 * i.val + (j.val + 1) = 8 * i.val + j.val + 1 by omega, show 8 * i.val + j.val + 1 + 8 = 8 * i.val + j.val + 8 + 1 by omega]
  iapply (done c)
  isplitr; · iexact HC
  isplitl [HR Hcp HS]
  · isplitl [HR]; · iexact HR
    isplitl [Hcp]; · iexact Hcp
    iexact HS
  isplitl [HR' Hcp' HS']
  · isplitl [HR']; · iexact HR'
    isplitl [Hcp']; · iexact Hcp'
    iexact HS'
  iexact HO

end Loops

end Cert.KernelIdeal.AR

end
-- ==== Proof.KernelIdeal.Gather.lean ====
/-
  A trip of the all-gather, the loops over the trips, and the last waits.
-/
module

public import proofs.«01_k».proof.Proof.KernelIdeal.Sum

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Facts]

local notation "𝕄" => MT nD τ sig ℕ (Elt F) ℕ UU ℕ

variable (P : Dev nD → (S2048x2048.Idx → Elt F .f32))

/-- One direction's part of the all-gather's invariant before block `g` is received. -/
def AG0 (d : Bool) (c : Dev nD) (g : ℕ) : sProp 𝕄 := iprop(AGm d c g ∗ CpS true d c g ∗ AGs P d c (g + 8))

section Loops
variable (κ : Dev nD × SemK → ℕ) (ν : Key → ℕ) (c : Dev nD) (v1 v2 v3 a b x y z : BitVec 32)
variable (i : Fin k0_t4_loop.trips) (j : Fin k0_t5_loop.trips)

theorem i_lt' : i.val < 31 := i.isLt
theorem j_lt' : j.val < 8 := j.isLt
theorem iota_true (g : ℕ) : iota true g = 248 + g := by unfold iota; simp

theorem part8_wp (h : k0_cond10 i = 1#1) {n s : Bool → ℕ} (hn : ∀ e, 248 + (8 * i.val + j.val + 8) ≤ n e) (hs : ∀ e, 248 + (8 * i.val + j.val + 8) ≤ s e + 8) :
    iprop(ctx P κ ν ∗ AGi false c (8 * i.val + j.val + 8 - 16) (8 * i.val + j.val + 8) ∗ Fin1 P false c (8 * i.val + j.val + 8 - 16) ∗ Owes c (OW c n s))
      ⊢ WP c (k0_part8 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 i a j b h) (fun _ => iprop(AGi false c (8 * i.val + j.val + 8 - 15) (8 * i.val + j.val + 8) ∗ Fin1 P false c (8 * i.val + j.val + 8 - 15) ∗ Owes c (OW c n s))) := by
  rw [Gen.k0_part8_eq_skeleton]; unfold Gen.k0_part8_skel
  simp only [semSignalWord, semWaitWord, Prog.lift, Prog.bind_op, Prog.bind_ret, Prog.pure_eq_ret]
  exact ag_waits P κ ν false c ((cond10_iff i j).mp h) (cond11_iff i j) hn hs rfl (fun _ => sem_dq true false false rfl (off30_eq i j)) (fun _ => credit_NN _)

theorem part9_wp (h : k0_cond13 i = 1#1) {n s : Bool → ℕ} (hn : ∀ e, 248 + (8 * i.val + j.val + 8) ≤ n e) (hs : ∀ e, 248 + (8 * i.val + j.val + 8) ≤ s e + 8) :
    iprop(ctx P κ ν ∗ AGi true c (8 * i.val + j.val + 8 - 16) (8 * i.val + j.val + 8) ∗ Fin1 P true c (8 * i.val + j.val + 8 - 16) ∗ Owes c (OW c n s))
      ⊢ WP c (k0_part9 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 i a j b h) (fun _ => iprop(AGi true c (8 * i.val + j.val + 8 - 15) (8 * i.val + j.val + 8) ∗ Fin1 P true c (8 * i.val + j.val + 8 - 15) ∗ Owes c (OW c n s))) := by
  rw [Gen.k0_part9_eq_skeleton]; unfold Gen.k0_part9_skel
  simp only [semSignalWord, semWaitWord, Prog.lift, Prog.bind_op, Prog.bind_ret, Prog.pure_eq_ret]
  exact ag_waits P κ ν true c ((cond13_iff i j).mp h) (cond14_iff i j) hn hs rfl (fun _ => sem_dq true true false rfl (off35_eq i j)) (fun _ => credit_NN _)

theorem part10_wp {n s : Bool → ℕ} (hn : ∀ e, 248 + (8 * i.val + j.val) < n e) (hs : ∀ e, 248 + (8 * i.val + j.val) ≤ s e) :
    iprop(ctx P κ ν ∗ AGm false c (8 * i.val + j.val) ∗ Owes c (OW c n s))
      ⊢ WP c (k0_part10 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 i a x y j) (fun _ => iprop(AGm false c (8 * i.val + j.val + 1) ∗ Hold P false c (8 * i.val + j.val + 256) ∗ Owes c (OW c n s))) := by
  rw [Gen.k0_part10_eq_skeleton]; unfold Gen.k0_part10_skel
  simp only [semSignalWord, semWaitWord, Prog.lift, Prog.bind_op, Prog.bind_ret, Prog.pure_eq_ret]
  have hi := i_lt' i; have hj := j_lt' j
  iintro ⟨#HC, HR, HO⟩
  iapply (ag_recv P κ ν false c (g := 8 * i.val + j.val) (by omega)
    (may_recv true false c (by omega) (n := n) (s := s) (fun e => by rw [iota_true]; exact hn e) (fun e => by rw [iota_true]; exact hs e)) (sem_dq true false true rfl (off28_eq i j)) (credit_NN _)) $$ [HR HO]
  · isplitr; · iexact HC
    isplitl [HR]; · iexact HR
    iexact HO
  iintro H
  iapply (done c); iexact H

theorem part11_wp {n s : Bool → ℕ} (n' s' : Bool → ℕ) (hs : s false = 248 + (8 * i.val + j.val)) (hs' : s' false = s false + 1) (ho : s' true = s true)
    (hn : n false = 248 + min (8 * i.val + j.val + 8) 248) (hn' : n' false = 248 + min (8 * i.val + j.val + 8 + 1) 248) (ho' : n' true = n true)
    (hna : 8 * i.val + j.val + 8 < 248 → ∀ e, 248 + (8 * i.val + j.val + 8) ≤ n e) (hsa : ∀ e, 248 + (8 * i.val + j.val + 8) ≤ s' e + 8) :
    iprop(ctx P κ ν ∗ (AGm false c (8 * i.val + j.val + 1) ∗ Hold P false c (8 * i.val + j.val + 256)) ∗ CpS true false c (8 * i.val + j.val) ∗ AGs P false c (8 * i.val + j.val + 8) ∗ Owes c (OW c n s))
      ⊢ WP c (k0_part11 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 v3 i a j b x) (fun _ => iprop((AGm false c (8 * i.val + j.val + 1) ∗ CpS true false c (8 * i.val + j.val + 1) ∗ AGs P false c (8 * i.val + j.val + 8 + 1)) ∗ Owes c (OW c n' s'))) := by
  rw [Gen.k0_part11_eq_skeleton]; unfold Gen.k0_part11_skel
  simp only [semSignalWord, semWaitWord, Prog.lift, Prog.bind_op, Prog.bind_ret, Prog.pure_eq_ret]
  have hi := i_lt' i; have hj := j_lt' j
  iintro ⟨#HC, ⟨HR, HH⟩, Hcp, HS, HO⟩
  ihave HR := (AGm_facts false c (8 * i.val + j.val + 1)) $$ HR
  icases HR with ⟨HR, #Hf⟩
  iapply (credit_if P κ ν true false c (A := 8 * i.val + j.val) (by omega) (cond9_iff i j) s' (n := n) (s := s) (hs.trans (iota_true _).symm) hs' ho (fun _ => Fin.ext (dev11_eq c)) rfl) $$ [Hcp HO]
  · isplitr; · iexact HC
    isplitl [Hcp]; · iexact Hcp
    isplitr; · iexact Hf
    iexact HO
  iintro ⟨Hcp, HO⟩
  iapply (ag_next P κ ν false c (u := 8 * i.val + j.val + 8) (by omega) (by omega) (cond10_iff i j) (n := n) n' (s := s') hn hn' ho'
    (fun h => part8_wp P κ ν c v1 v2 a b i j h (hna ((cond10_iff i j).mp h)) hsa)
    (fun _ => Fin.ext (dev12_eq c)) (fun h => view_blk false (off33_eq c i j ((cond10_iff i j).mp h))) (fun h => view_blk false (off33_eq c i j ((cond10_iff i j).mp h)))
    (fun _ => sem_dq true false false rfl (off32_eq i j)) (fun _ => sem_dq true false true rfl (off32_eq i j))) $$ [HH HS HO]
  · isplitr; · iexact HC
    isplitl [HH]; · iexact HH
    isplitl [HS]; · iexact HS
    iexact HO
  iintro ⟨HS, HO⟩
  iapply (done c)
  isplitr [HO]
  · isplitl [HR]; · iexact HR
    isplitl [Hcp]; · iexact Hcp
    iexact HS
  iexact HO

/-- The all-gather before block `g` of each direction is received. -/
def T5 (g : ℕ) : sProp 𝕄 := iprop(AG0 P false c g ∗ AG0 P true c g ∗ Owes c (OW c (tw (248 + min (g + 8) 248) (248 + min (g + 8) 248)) (tw (248 + g) (248 + g))))

theorem t5_wp (u : Unit) :
    iprop(ctx P κ ν ∗ T5 P c (8 * i.val + j.val))
      ⊢ WP c (Gen.k0_t5_body (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 v3 i a j u) (fun _ => iprop(ctx P κ ν ∗ T5 P c (8 * i.val + (j.val + 1)))) := by
  unfold Gen.k0_t5_body T5 AG0
  simp only [semSignalWord, semWaitWord, Prog.lift, Prog.bind_op, Prog.bind_ret, Prog.pure_eq_ret]
  have hi := i_lt' i; have hj := j_lt' j
  iintro ⟨#HC, ⟨HR, Hcp, HS⟩, ⟨HR', Hcp', HS'⟩, HO⟩
  iapply (seq c (part10_wp P κ ν c v1 v2 a 0#32 1#32 i j (n := tw (248 + min (8 * i.val + j.val + 8) 248) (248 + min (8 * i.val + j.val + 8) 248)) (s := tw (248 + (8 * i.val + j.val)) (248 + (8 * i.val + j.val)))
    (tw_lt (by omega) (by omega)) (tw_le (by omega) (by omega)))) $$ [HR HO]
  · isplitr; · iexact HC
    isplitl [HR]; · iexact HR
    iexact HO
  iintro %r ⟨HR, HH, HO⟩
  obtain ⟨r1, r2⟩ := r
  iapply (seq c (part11_wp P κ ν c v1 v2 v3 a r1 r2 i j (n := tw (248 + min (8 * i.val + j.val + 8) 248) (248 + min (8 * i.val + j.val + 8) 248)) (s := tw (248 + (8 * i.val + j.val)) (248 + (8 * i.val + j.val))) (tw (248 + min (8 * i.val + j.val + 8 + 1) 248) (248 + min (8 * i.val + j.val + 8) 248)) (tw (248 + (8 * i.val + j.val) + 1) (248 + (8 * i.val + j.val))) rfl rfl rfl rfl rfl rfl
    (fun _ => tw_le (by omega) (by omega)) (tw_le8 (by omega) (by omega)))) $$ [HR HH Hcp HS HO]
  · isplitr; · iexact HC
    isplitl [HR HH]
    · isplitl [HR]; · iexact HR
      iexact HH
    isplitl [Hcp]; · iexact Hcp
    isplitl [HS]; · iexact HS
    iexact HO
  iintro %r3 ⟨⟨HR, Hcp, HS⟩, HO⟩
  obtain ⟨r3, r4⟩ := r3
  iapply (ag_recv P κ ν true c (g := 8 * i.val + j.val) (by omega)
    (may_recv true true c (by omega) (n := tw (248 + min (8 * i.val + j.val + 8 + 1) 248) (248 + min (8 * i.val + j.val + 8) 248)) (s := tw (248 + (8 * i.val + j.val) + 1) (248 + (8 * i.val + j.val))) (by rw [iota_true]; exact tw_lt (by omega) (by omega)) (by rw [iota_true]; exact tw_le (by omega) (by omega)))
    (sem_dq true true true rfl (off28_eq i j)) (credit_NN _)) $$ [HR' HO]
  · isplitr; · iexact HC
    isplitl [HR']; · iexact HR'
    iexact HO
  iintro ⟨HR', HH, HO⟩
  ihave HR' := (AGm_facts true c (8 * i.val + j.val + 1)) $$ HR'
  icases HR' with ⟨HR', #Hf⟩
  iapply (credit_if P κ ν true true c (A := 8 * i.val + j.val) (by omega) (cond12_iff i j) (tw (248 + (8 * i.val + j.val) + 1) (248 + (8 * i.val + j.val) + 1)) (n := tw (248 + min (8 * i.val + j.val + 8 + 1) 248) (248 + min (8 * i.val + j.val + 8) 248)) (s := tw (248 + (8 * i.val + j.val) + 1) (248 + (8 * i.val + j.val))) (iota_true _).symm rfl rfl (fun _ => Fin.ext (dev13_eq c)) rfl) $$ [Hcp' HO]
  · isplitr; · iexact HC
    isplitl [Hcp']; · iexact Hcp'
    isplitr; · iexact Hf
    iexact HO
  iintro ⟨Hcp', HO⟩
  iapply (ag_next P κ ν true c (u := 8 * i.val + j.val + 8) (by omega) (by omega) (cond13_iff i j) (n := tw (248 + min (8 * i.val + j.val + 8 + 1) 248) (248 + min (8 * i.val + j.val + 8) 248)) (tw (248 + min (8 * i.val + j.val + 8 + 1) 248) (248 + min (8 * i.val + j.val + 8 + 1) 248)) (s := tw (248 + (8 * i.val + j.val) + 1) (248 + (8 * i.val + j.val) + 1)) rfl rfl rfl
    (fun h => part9_wp P κ ν c v1 v3 a r1 i j h (by have := (cond13_iff i j).mp h; exact tw_le (by omega) (by omega)) (tw_le8 (by omega) (by omega)))
    (fun _ => Fin.ext (dev14_eq c)) (fun h => view_blk true (off38_eq c i j ((cond13_iff i j).mp h))) (fun h => view_blk true (off38_eq c i j ((cond13_iff i j).mp h)))
    (fun _ => sem_dq true true false rfl (off37_eq i j)) (fun _ => sem_dq true true true rfl (off37_eq i j))) $$ [HH HS' HO]
  · isplitr; · iexact HC
    isplitl [HH]; · iexact HH
    isplitl [HS']; · iexact HS'
    iexact HO
  iintro ⟨HS', HO⟩
  rw [show 8 * i.val + (j.val + 1) = 8 * i.val + j.val + 1 by omega, show 8 * i.val + j.val + 1 + 8 = 8 * i.val + j.val + 8 + 1 by omega, ← Nat.add_assoc 248 (8 * i.val + j.val) 1]
  iapply (done c)
  isplitr; · iexact HC
  isplitl [HR Hcp HS]
  · isplitl [HR]; · iexact HR
    isplitl [Hcp]; · iexact Hcp
    iexact HS
  isplitl [HR' Hcp' HS']
  · isplitl [HR']; · iexact HR'
    isplitl [Hcp']; · iexact Hcp'
    iexact HS'
  iexact HO

/-- A counted loop, by an invariant over its trips. -/
theorem loop {lp : Scf.Loop 32} {ok : Scf.OK lp.lb lp.ub lp.st} {body : Fin lp.trips → Unit → Prog (TpuEff nD τ sig (Elt F) Λ₀ .tc) Unit} (I : ℕ → sProp 𝕄)
    (h : ∀ k u, I k.val ⊢ WP c (body k u) (fun _ => I (k.val + 1))) {α : Type} {kk : Unit → Prog (TpuEff nD τ sig (Elt F) Λ₀ .tc) α} {Q : α → sProp 𝕄} :
    I 0 ⊢ iprop((I lp.trips -∗ WP c (kk ⟨⟩) Q) -∗ WP c (Scf.Loop.for lp ok ⟨⟩ body >>= kk) Q) := by
  iintro HI Hk
  iapply (Scf.wp_for_bind frame (wpE defs₀ 𝒱₀ (c : Thread nD τ) none) Set.univ lp.lb lp.ub lp.st ok ⟨⟩ body (fun k _ => I k) h) $$ HI
  iintro %acc HI
  iapply Hk
  iexact HI

end Loops

section Nest
variable (κ : Dev nD × SemK → ℕ) (ν : Key → ℕ) (c : Dev nD) (v1 v2 v3 : BitVec 32)

theorem t2_wp (i : Fin k0_t2_loop.trips) (u : Unit) :
    iprop(ctx P κ ν ∗ T3 P c (8 * i.val)) ⊢ WP c (Gen.k0_t2_body (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 v3 i u) (fun _ => iprop(ctx P κ ν ∗ T3 P c (8 * (i.val + 1)))) := by
  unfold Gen.k0_t2_body
  iintro H
  iapply (loop c (fun k => iprop(ctx P κ ν ∗ T3 P c (8 * i.val + k))) (fun j u => t3_wp P κ ν c v1 v2 v3 _ i j u)) $$ H
  iintro H
  iapply (done c); iexact H

theorem t4_wp (i : Fin k0_t4_loop.trips) (u : Unit) :
    iprop(ctx P κ ν ∗ T5 P c (8 * i.val)) ⊢ WP c (Gen.k0_t4_body (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 v2 v3 i u) (fun _ => iprop(ctx P κ ν ∗ T5 P c (8 * (i.val + 1)))) := by
  unfold Gen.k0_t4_body
  iintro H
  iapply (loop c (fun k => iprop(ctx P κ ν ∗ T5 P c (8 * i.val + k))) (fun j u => t5_wp P κ ν c v1 v2 v3 _ i j u)) $$ H
  iintro H
  iapply (done c); iexact H

/-! ## The last waits -/

/-- One direction's last sends, before the waits of trip `k`. -/
def Dr (d : Bool) (k : ℕ) : sProp 𝕄 := iprop(SndS false d c (232 + k) 248 ∗ SndS true d c (232 + k) 248 ∗ Fin1 P d c (232 + k))

theorem part12_wp (k : Fin k0_t6_loop.trips) (x y : BitVec 32) : iprop(emp) ⊢ WP c (k0_part12 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 x y k) (fun _ => iprop(emp)) := by
  rw [Gen.k0_part12_eq_skeleton]; unfold Gen.k0_part12_skel
  simp only [semSignalWord, semWaitWord, Prog.lift, Prog.bind_op, Prog.bind_ret, Prog.pure_eq_ret]
  exact done c
theorem part14_wp (k : Fin k0_t7_loop.trips) (x y : BitVec 32) : iprop(emp) ⊢ WP c (k0_part14 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 x y k) (fun _ => iprop(emp)) := by
  rw [Gen.k0_part14_eq_skeleton]; unfold Gen.k0_part14_skel
  simp only [semSignalWord, semWaitWord, Prog.lift, Prog.bind_op, Prog.bind_ret, Prog.pure_eq_ret]
  exact done c

theorem part13_wp (k : Fin k0_t6_loop.trips) (x y z w : BitVec 32) (b : BitVec 1) {n s : Bool → ℕ} :
    iprop(ctx P κ ν ∗ SndS false false c (232 + k.val) 248 ∗ Owes c (OW c n s))
      ⊢ WP c (k0_part13 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 k x y z w b) (fun _ => iprop(SndS false false c (232 + k.val + 1) 248 ∗ Owes c (OW c n s))) := by
  rw [Gen.k0_part13_eq_skeleton]; unfold Gen.k0_part13_skel
  simp only [semSignalWord, semWaitWord, Prog.lift, Prog.bind_op, Prog.bind_ret, Prog.pure_eq_ret]
  have hk : k.val < 16 := k.isLt
  iintro ⟨#HC, HS, HO⟩
  iapply (wp_sent P κ ν false false c (w := 232 + k.val) (u := 248) (by omega) le_rfl (may_sent false false c (by omega) (n := n) (s := s)) (sem_dq false false false rfl (off39_eq k)) (credit_NN _)) $$ [HS HO]
  · isplitr; · iexact HC
    isplitl [HS]; · iexact HS
    iexact HO
  iintro ⟨HS, HO, -⟩
  iapply (done c)
  isplitl [HS]; · iexact HS
  iexact HO

theorem part15_wp (k : Fin k0_t7_loop.trips) (x y z w : BitVec 32) (b : BitVec 1) {n s : Bool → ℕ} :
    iprop(ctx P κ ν ∗ SndS false true c (232 + k.val) 248 ∗ Owes c (OW c n s))
      ⊢ WP c (k0_part15 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 k x y z w b) (fun _ => iprop(SndS false true c (232 + k.val + 1) 248 ∗ Owes c (OW c n s))) := by
  rw [Gen.k0_part15_eq_skeleton]; unfold Gen.k0_part15_skel
  simp only [semSignalWord, semWaitWord, Prog.lift, Prog.bind_op, Prog.bind_ret, Prog.pure_eq_ret]
  have hk : k.val < 16 := k.isLt
  iintro ⟨#HC, HS, HO⟩
  iapply (wp_sent P κ ν false true c (w := 232 + k.val) (u := 248) (by omega) le_rfl (may_sent false true c (by omega) (n := n) (s := s)) (sem_dq false true false rfl (off43_eq k)) (credit_NN _)) $$ [HS HO]
  · isplitr; · iexact HC
    isplitl [HS]; · iexact HS
    iexact HO
  iintro ⟨HS, HO, -⟩
  iapply (done c)
  isplitl [HS]; · iexact HS
  iexact HO

theorem t6_wp (n s : Bool → ℕ) (k : Fin k0_t6_loop.trips) (u : Unit) :
    iprop(ctx P κ ν ∗ Dr P c false k.val ∗ Owes c (OW c n s)) ⊢ WP c (Gen.k0_t6_body (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 k u) (fun _ => iprop(ctx P κ ν ∗ Dr P c false (k.val + 1) ∗ Owes c (OW c n s))) := by
  unfold Gen.k0_t6_body Dr
  simp only [semSignalWord, semWaitWord, Prog.lift, Prog.bind_op, Prog.bind_ret, Prog.pure_eq_ret]
  have hk : k.val < 16 := k.isLt
  iintro ⟨#HC, ⟨HS, HS', HF⟩, HO⟩
  iapply (seq c (part12_wp c k 0#32 1#32)) $$ []
  · iempintro
  iintro %r -
  obtain ⟨r1, r2, r3, r4, r5⟩ := r
  iapply (seq c (part13_wp P κ ν c v1 k r1 r2 r3 r4 r5 (n := n) (s := s))) $$ [HS HO]
  · isplitr; · iexact HC
    isplitl [HS]; · iexact HS
    iexact HO
  iintro %q ⟨HS, HO⟩
  obtain ⟨q1, q2, q3, q4⟩ := q
  iapply (wp_sent P κ ν true false c (w := 232 + k.val) (u := 248) (by omega) le_rfl (may_sent true false c (by omega) (n := n) (s := s)) (sem_dq true false false rfl (off39_eq k)) (credit_NN _)) $$ [HS' HO]
  · isplitr; · iexact HC
    isplitl [HS']; · iexact HS'
    iexact HO
  iintro ⟨HS', HO, Hp⟩
  rw [show 232 + (k.val + 1) = 232 + k.val + 1 by omega, fin1_step]
  iapply (done c)
  isplitr; · iexact HC
  isplitr [HO]
  · isplitl [HS]; · iexact HS
    isplitl [HS']; · iexact HS'
    isplitl [Hp]; · iexact Hp
    iexact HF
  iexact HO

theorem t7_wp (n s : Bool → ℕ) (k : Fin k0_t7_loop.trips) (u : Unit) :
    iprop(ctx P κ ν ∗ Dr P c true k.val ∗ Owes c (OW c n s)) ⊢ WP c (Gen.k0_t7_body (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v1 k u) (fun _ => iprop(ctx P κ ν ∗ Dr P c true (k.val + 1) ∗ Owes c (OW c n s))) := by
  unfold Gen.k0_t7_body Dr
  simp only [semSignalWord, semWaitWord, Prog.lift, Prog.bind_op, Prog.bind_ret, Prog.pure_eq_ret]
  have hk : k.val < 16 := k.isLt
  iintro ⟨#HC, ⟨HS, HS', HF⟩, HO⟩
  iapply (seq c (part14_wp c k 0#32 1#32)) $$ []
  · iempintro
  iintro %r -
  obtain ⟨r1, r2, r3, r4, r5⟩ := r
  iapply (seq c (part15_wp P κ ν c v1 k r1 r2 r3 r4 r5 (n := n) (s := s))) $$ [HS HO]
  · isplitr; · iexact HC
    isplitl [HS]; · iexact HS
    iexact HO
  iintro %q ⟨HS, HO⟩
  obtain ⟨q1, q2, q3, q4⟩ := q
  iapply (wp_sent P κ ν true true c (w := 232 + k.val) (u := 248) (by omega) le_rfl (may_sent true true c (by omega) (n := n) (s := s)) (sem_dq true true false rfl (off43_eq k)) (credit_NN _)) $$ [HS' HO]
  · isplitr; · iexact HC
    isplitl [HS']; · iexact HS'
    iexact HO
  iintro ⟨HS', HO, Hp⟩
  rw [show 232 + (k.val + 1) = 232 + k.val + 1 by omega, fin1_step]
  iapply (done c)
  isplitr; · iexact HC
  isplitr [HO]
  · isplitl [HS]; · iexact HS
    isplitl [HS']; · iexact HS'
    isplitl [Hp]; · iexact Hp
    iexact HF
  iexact HO

end Nest

end Cert.KernelIdeal.AR

end
-- ==== Proof.KernelIdeal.Enter.lean ====
/-
What a device does before and after the loops: the entry handshake, the slots and the semaphores given back.
-/
module

public import proofs.«01_k».proof.Proof.KernelIdeal.Tiles
public import proofs.«01_k».proof.Proof.KernelIdeal.Gather

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Facts]

local notation "𝕄" => MT nD τ sig ℕ (Elt F) ℕ UU ℕ

variable (P : Dev nD → (S2048x2048.Idx → Elt F .f32))

theorem fst {A B : sProp 𝕄} : iprop(A ∗ B) ⊢ A := by
  iintro ⟨H, -⟩; iexact H

/-- A step taken once for each of finitely many, from what is known throughout. -/
theorem each {I : Type} [DecidableEq I] (s : Finset I) (C : sProp 𝕄) [BI.Persistent C] (Φ Ψ : I → sProp 𝕄)
    (h : ∀ i ∈ s, iprop(C ∗ Φ i) ⊢ iprop(|={(Set.univ : Set ℕ)}=> Ψ i)) : iprop(C ∗ bigSep s Φ) ⊢ (iprop(|={(Set.univ : Set ℕ)}=> bigSep s Ψ) : sProp 𝕄) := by
  induction s using Finset.induction_on with
  | empty =>
    rw [bigSep_empty, bigSep_empty]
    iintro ⟨-, H⟩; imodintro; iexact H
  | insert a s ha ih =>
    rw [bigSep_insert ha, bigSep_insert ha]
    have h1 := h a (Finset.mem_insert_self a s)
    have h2 := ih fun i hi => h i (Finset.mem_insert_of_mem hi)
    refine (show iprop(C ∗ Φ a ∗ bigSep s Φ) ⊢ (iprop(|={(Set.univ : Set ℕ)}=> (Ψ a ∗ bigSep s Ψ)) : sProp 𝕄) from ?_)
    iintro ⟨#HC, Ha, Hs⟩
    imod h1 $$ [Ha] with Ha
    · isplitr; · iexact HC
      iexact Ha
    imod h2 $$ [Hs] with Hs
    · isplitr; · iexact HC
      iexact Hs
    imodintro
    isplitl [Ha] <;> iassumption

section Enter
variable (κ : Dev nD × SemK → ℕ) (ν : Key → ℕ) (d : Bool) (c : Dev nD)

/-! ## The slots, before and after -/

theorem slots_free :
    iprop(ctx P κ ν ∗ bigSep (Finset.range 16) fun i => iprop(slotS (c, d, i) ∗ readerAt ES ((c, d, i) : Key) 0))
      ⊢ (iprop(|={(Set.univ : Set ℕ)}=> (RdS d c 0 ∗ entry d c)) : sProp 𝕄) := by
  refine (each (Finset.range 16) (ctx P κ ν) _ (fun i => iprop(readerAt ES ((c, d, i) : Key) (rnd 0 i + 1) ∗ released ES ((c, d, i) : Key) 1)) fun i hi => ?_).trans
    (fupd_mono (Entails.of_eq ?_))
  · have hi' := Finset.mem_range.mp hi
    have hk := ctx_slot P κ ν d c i
    have e : key d c i = (c, d, i) := by unfold key; rw [Nat.mod_eq_of_lt hi']
    rw [e] at hk
    rw [show rnd 0 i = 0 by unfold rnd; omega]
    iintro ⟨#HC, Hs, Hr⟩
    iapply (slot_release ES (k := ((c, d, i) : Key)) (ι := ν (c, d, i)) (S := slotS (c, d, i)) (Set.mem_univ _) (slotS_false _) 0)
    isplitr; · iapply hk; iexact HC
    isplitl [Hr] <;> iassumption
  · unfold RdS entry
    exact BI.bigSep_sep' _ _ _

theorem slots_back :
    iprop((ctx P κ ν ∗ facts false d c 248) ∗ bigSep (Finset.range 16) fun i => writeTok ES ((c, d, i) : Key) (rnd 248 i + 1))
      ⊢ (iprop(|={(Set.univ : Set ℕ)}=> bigSep (Finset.range 16) fun i => slotS (c, d, i)) : sProp 𝕄) := by
  refine each (Finset.range 16) iprop(ctx P κ ν ∗ facts false d c 248) _ (fun i => slotS (c, d, i)) fun i hi => ?_
  have hi' := Finset.mem_range.mp hi
  have hk := ctx_slot P κ ν d c i
  have e : key d c i = (c, d, i) := by unfold key; rw [Nat.mod_eq_of_lt hi']
  rw [e] at hk
  have hg : 16 * (rnd 248 i - 1) + i < 248 := by unfold rnd; omega
  have hf : facts false d c 248 ⊢ (released ES ((c, d, i) : Key) (rnd 248 i + 1) : sProp 𝕄) := by
    unfold facts
    refine (show (bigSep (Finset.range 248) (fact false d c)) ⊢ (fact false d c (16 * (rnd 248 i - 1) + i) : sProp 𝕄) from bigSep_elim (Finset.mem_range.mpr hg)).trans ?_
    unfold fact
    rw [show (16 * (rnd 248 i - 1) + i) % 16 = i by omega, show (16 * (rnd 248 i - 1) + i) / 16 + 2 = rnd 248 i + 1 by unfold rnd; omega]
    dsimp only
    iintro ⟨-, H⟩; iexact H
  iintro ⟨⟨#HC, #Hf⟩, Hw⟩
  iapply (slot_take ES (k := ((c, d, i) : Key)) (ι := ν (c, d, i)) (S := slotS (c, d, i)) (Set.mem_univ _) (rnd 248 i + 1))
  isplitr; · iapply hk; iexact HC
  isplitr; · iapply hf; iexact Hf
  iexact Hw

/-! ## The semaphores, after -/

/-- One phase's semaphores at zero. -/
def Zp (ph : Bool) : sProp 𝕄 :=
  iprop((bigSep (Finset.range 16) fun i => semVal (rcvC ph d c i) 0) ∗ (bigSep (Finset.range 16) fun i => semVal (sndC ph d c i) 0) ∗ semVal (crdC ph d c) 0)

theorem close_dma (ph r : Bool) :
    iprop(ctx P κ ν ∗ bigSep (Finset.range 16) fun i => atPos ER ((c : Thread nD τ), .dma (dq ph d r i)) (rnd 248 i) ∅ 0)
      ⊢ (iprop(|={(Set.univ : Set ℕ)}=> bigSep (Finset.range 16) fun i => semVal ((c : Thread nD τ), .dma (dq ph d r i)) 0) : sProp 𝕄) := by
  refine each (Finset.range 16) (ctx P κ ν) _ _ fun i hi => ?_
  have hi' := Finset.mem_range.mp hi
  iintro ⟨#HC, Ha⟩
  iapply (Rounds.cell_close ER (sch P) (Set.mem_univ (κ (kD ph d r c i))) (fun h => h) (R := rnd 248 i)
    (fun R hR => duties_dma_later P ph d c r (i := i) (R := R) (by unfold rnd at hR; omega)))
  isplitr; · iapply (ctx_dma P κ ν ph d r c i); iexact HC
  iexact Ha

theorem close_crd (ph : Bool) : iprop(ctx P κ ν ∗ CwS ph d c 232) ⊢ (iprop(|={(Set.univ : Set ℕ)}=> semVal (crdC ph d c) 0) : sProp 𝕄) := by
  unfold CwS
  iintro ⟨#HC, -, %T, %hT, Ha, -⟩
  have e : T = Finset.range 232 := Finset.eq_of_subset_of_card_le hT.1 (by rw [Finset.card_range]; exact hT.2)
  subst e
  imod (Rounds.fupd_skip ER (sch P) (g := crdC ph d c) (κ := κ (kC ph d c)) (R := 0) (m := 232) (T := Finset.range 232) (by rw [duties_crd]) (by rw [expect_crd]) (Set.mem_univ _)) $$ [Ha] with ⟨Ha, -⟩
  · isplitr; · iapply (ctx_cell P κ ν (kC ph d c)); iexact HC
    iexact Ha
  iapply (Rounds.cell_close ER (sch P) (g := crdC ph d c) (Set.mem_univ (κ (kC ph d c))) (fun h => h) (R := 0 + 1) (fun R hR => duties_reg_later P c (cq ph d) (R := R) hR))
  isplitr; · iapply (ctx_cell P κ ν (kC ph d c)); iexact HC
  iexact Ha

theorem close_bar : iprop(ctx P κ ν ∗ atPos ER (barC c) 1 ∅ 0) ⊢ (iprop(|={(Set.univ : Set ℕ)}=> semVal (barC c) 0) : sProp 𝕄) := by
  iintro ⟨#HC, Ha⟩
  iapply (Rounds.cell_close ER (sch P) (g := barC c) (Set.mem_univ (κ (kB c))) (fun h => h) (R := 1) (fun R hR => duties_reg_later P c bq (R := R) hR))
  isplitr; · iapply (ctx_cell P κ ν (kB c)); iexact HC
  iexact Ha

theorem close_ph (ph : Bool) :
    iprop(ctx P κ ν ∗ RcvS ph d c 248 ∗ SndS ph d c 248 248 ∗ CwS ph d c 232) ⊢ (iprop(|={(Set.univ : Set ℕ)}=> Zp d c ph) : sProp 𝕄) := by
  have e : (bigSep (Finset.range 16) fun i => iprop(atPos ER (sndC ph d c i) (rnd 248 i) ∅ 0 ∗ reached ER (sndC ph d c i) (rnd 248 i)))
      ⊢ (bigSep (Finset.range 16) fun i => atPos ER (sndC ph d c i) (rnd 248 i) ∅ 0 : sProp 𝕄) :=
    BI.bigSep_mono fun i _ => fst
  unfold RcvS SndS Zp
  iintro ⟨#HC, ⟨-, Hr⟩, ⟨-, Hs⟩, Hc⟩
  imod (close_dma P κ ν d c ph true) $$ [Hr] with Hr
  · isplitr; · iexact HC
    iexact Hr
  imod (close_dma P κ ν d c ph false) $$ [Hs] with Hs
  · isplitr; · iexact HC
    iapply e; iexact Hs
  imod (close_crd P κ ν d c ph) $$ [Hc] with Hc
  · isplitr; · iexact HC
    iexact Hc
  imodintro
  isplitl [Hr]; · iexact Hr
  isplitl [Hs]; · iexact Hs
  iexact Hc

end Enter

/-! ## The entry -/

theorem part16_wp (c : Dev nD) : iprop(emp) ⊢ WP c (k0_part16 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13) (fun r => iprop(⌜r.1 = c⌝)) := by
  rw [Gen.k0_part16_eq_skeleton]; unfold Gen.k0_part16_skel
  simp only [Prog.lift, Prog.bind_op, Prog.bind_ret, Prog.pure_eq_ret, wp_deviceId]
  iintro -
  iapply (done' c)
  ipureintro; rfl
theorem part17_wp (c : Dev nD) (x1 x2 x3 x4 x5 : BitVec 32) : iprop(emp) ⊢ WP c (k0_part17 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 x1 x2 x3 x4 x5) (fun _ => iprop(emp)) := by
  rw [Gen.k0_part17_eq_skeleton]; unfold Gen.k0_part17_skel
  simp only [Prog.pure_eq_ret]
  exact done c
theorem part18_wp (c : Dev nD) (x1 x2 x3 x4 x5 : BitVec 32) : iprop(emp) ⊢ WP c (k0_part18 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 x1 x2 x3 x4 x5) (fun _ => iprop(emp)) := by
  rw [Gen.k0_part18_eq_skeleton]; unfold Gen.k0_part18_skel
  simp only [Prog.pure_eq_ret]
  exact done c
theorem part19_wp (c : Dev nD) (x1 x2 x3 x4 x5 : BitVec 32) : iprop(emp) ⊢ WP c (k0_part19 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 x1 x2 x3 x4 x5) (fun _ => iprop(emp)) := by
  rw [Gen.k0_part19_eq_skeleton]; unfold Gen.k0_part19_skel
  simp only [Prog.pure_eq_ret]
  exact done c
theorem part20_wp (c : Dev nD) (x1 x2 x3 x4 x5 : BitVec 32) : iprop(emp) ⊢ WP c (k0_part20 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 x1 x2 x3 x4 x5) (fun _ => iprop(emp)) := by
  rw [Gen.k0_part20_eq_skeleton]; unfold Gen.k0_part20_skel
  simp only [Prog.pure_eq_ret]
  exact done c
theorem part21_wp (c : Dev nD) (x1 x2 x3 x4 x5 : BitVec 32) : iprop(emp) ⊢ WP c (k0_part21 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 x1 x2 x3 x4 x5) (fun _ => iprop(emp)) := by
  rw [Gen.k0_part21_eq_skeleton]; unfold Gen.k0_part21_skel
  simp only [Prog.pure_eq_ret]
  exact done c

section Bar
variable (κ : Dev nD × SemK → ℕ) (ν : Key → ℕ) (c : Dev nD)

/-- What a device owes at the start: its messages, its credits, its part of the entry handshake. -/
def O₀ : CellTallies nD τ sig ℕ := OW c (tw 0 0) (tw 0 0) + tallyAt (barC (up true c)) 0 1 + tallyAt (barC (up false c)) 0 1

/-- Its part of the entry handshake. -/
def Gb : sProp 𝕄 :=
  iprop(atPos ER (barC c) 0 ∅ 0 ∗ cred (tallyAt (barC c) 0 2) ∗ dutyTok ER (barC (up false c)) 0 0 ∗ dutyTok ER (barC (up true c)) 0 1)

theorem wp_hello {d : Bool} {m : ℕ} (hm : m = if d then 1 else 0) (O : CellTallies nD τ sig ℕ) {e : Dev nD} (he : e = up d c) {q : Sem sig} (hq : q = bq)
    {α : Type} {Q : α → sProp 𝕄} {k : PUnit → Prog (TpuEff nD τ sig (Elt F) Λ₀ .tc) α} :
    iprop(ctx P κ ν ∗ dutyTok ER (barC (up d c)) 0 m ∗ Owes c (O + tallyAt (barC (up d c)) 0 1) ∗ entry d c)
      ⊢ iprop((Owes c O -∗ WP c (k ⟨⟩) Q) -∗ WP c (.op (.semSignal (e, .tc) q (1#32).toInt) k) Q) := by
  subst hq he
  unfold Owes
  iintro ⟨#HC, Ht, ⟨%W, HO⟩, #He⟩ Hk
  iapply (show iprop(cellInv ER (sch P) (κ (kB (up d c))) ((up d c : Thread nD τ), .reg bq) ∗ owes (c : Thread nD τ) (O + tallyAt (barC (up d c)) 0 1) W
        ∗ dutyTok ER ((up d c : Thread nD τ), .reg bq) 0 m ∗ (sch P).payload ((up d c : Thread nD τ), .reg bq) 0 m
        ∗ reached ER ((up d c : Thread nD τ), .reg bq) 0) ⊢ iprop((owes (c : Thread nD τ) O W -∗ WP c (k ⟨⟩) Q)
          -∗ WP c (.op (.semSignal (up d c, .tc) bq (1#32).toInt) k) Q) from
      Rounds.wp_signal 𝒱₀ ER (sch P) (c : Thread nD τ) none (dst := (up d c : Thread nD τ)) (κ := κ (kB (up d c))) (d := m) (k' := 1)
        (by rw [duties_bar, hm]; cases d <;> decide) rfl 0 O rfl) $$ [HO Ht]
  · isplitr; · iapply (ctx_cell P κ ν (kB (up d c))); iexact HC
    isplitl [HO]; · iexact HO
    isplitl [Ht]; · iexact Ht
    isplitr
    · rw [pay_bar, show decide (m = 1) = d by rw [hm]; cases d <;> decide]; unfold barPay; rw [peer_up]; iexact He
    iapply (ctx_reached P κ ν (kB (up d c))); iexact HC
  iintro HO
  iapply Hk
  iexists _; iexact HO

theorem hz2 : (![0, 0] : Fin 2 → ℕ) = fun _ => 0 := by decide

theorem part22_wp (v2 v230 v232 v234 v236 : BitVec 32) (x : S2048x64.Idx → Elt F .f32) (w : S64x2048.Idx → Elt F .f32) :
    iprop(ctx P κ ν ∗ Gb c ∗ entry false c ∗ entry true c ∗ owns (c : Thread nD τ) xM fullShare x ∗ owns (c : Thread nD τ) wM fullShare w ∗ Owes c (O₀ c))
      ⊢ WP c (k0_part22 (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13 c v2 v230 v232 v234 v236)
        (fun r => iprop(⌜r.2.2.2 = Gen.k0_pay4 x w⌝ ∗ atPos ER (barC c) 1 ∅ 0 ∗ entry false (peer false c) ∗ entry true (peer true c)
          ∗ owns (c : Thread nD τ) xM fullShare x ∗ owns (c : Thread nD τ) wM fullShare w ∗ Owes c (OW c (tw 0 0) (tw 0 0)))) := by
  rw [Gen.k0_part22_eq_skeleton]; unfold Gen.k0_part22_skel O₀ Gb
  rw [owns_whole, owns_whole]
  simp only [semSignalWord, semWaitWord, Prog.lift, Prog.bind_op, Prog.bind_ret, Prog.pure_eq_ret]
  iintro ⟨#HC, ⟨Hat, Hc, Ht0, Ht1⟩, #He0, #He1, Hx, Hw, HO⟩
  iapply (wp_hello P κ ν c (d := false) (m := 0) rfl _ (Fin.ext (dev1_eq c)) rfl) $$ [Ht0 HO]
  · isplitr; · iexact HC
    isplitl [Ht0]; · iexact Ht0
    isplitl [HO]; · iexact HO
    iexact He0
  iintro HO
  iapply (wp_hello P κ ν c (d := true) (m := 1) rfl _ (Fin.ext (dev2_eq c)) rfl) $$ [Ht1 HO]
  · isplitr; · iexact HC
    isplitl [Ht1]; · iexact Ht1
    isplitl [HO]; · iexact HO
    iexact He1
  iintro HO
  unfold Owes
  icases HO with ⟨%W, HO⟩
  iapply (Rounds.wp_wait_rest_token 𝒱₀ ER (sch P) (c : Thread nD τ) none (κ := κ (kB c)) (sm := barL)
      (wpE_semWait_eq 𝒱₀ (c : Thread nD τ) none Set.univ) (Set.mem_univ _) 0 (O := OW c (tw 0 0) (tw 0 0)) (W := W) (R := 0) (m := 0) (T := ∅)
      (by rw [expect_bar]; decide)) $$ [Hc HO Hat]
  · isplitr; · iapply (ctx_cell P κ ν (kB c)); iexact HC
    isplitl [Hc]; · iexact Hc
    isplitl [HO]; · iexact HO
    isplitr
    · iapply ((ctx_lev P κ ν).trans (OW_may c (tw 0 0) (tw 0 0) barL 0 1 (by omega) (le_of_eq (lv_bar c 0)) (fun d => by omega) (fun d => by omega)))
      iexact HC
    iexact Hat
  iintro ⟨HO, Hat, -, Hpay⟩
  ihave Hp := (Entails.of_eq (rest_bar P c)) $$ Hpay
  unfold barPay
  icases Hp with ⟨#Hp0, #Hp1⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [show (xM : Memref sig .tc .vmem S2048x64 .f32).view.readAt (Elt F) _ x = x from Memref.readAt_unit_zero (Elt F) cc0_stg0_0 hz2 _ x,
    show (wM : Memref sig .tc .vmem S64x2048 .f32).view.readAt (Elt F) _ w = w from Memref.readAt_unit_zero (Elt F) cc0_stg1_0 hz2 _ w]
  iapply (done' c)
  isplitr; · ipureintro; rfl
  isplitl [Hat]; · iexact Hat
  isplitr; · iexact Hp0
  isplitr; · iexact Hp1
  isplitl [Hx]; · iexact Hx
  isplitl [Hw]; · iexact Hw
  iexists _; iexact HO

end Bar

end Cert.KernelIdeal.AR

end
-- ==== Proof.KernelIdeal.Body.lean ====
/-
The kernel's whole body on one device.
-/
module

public import proofs.«01_k».proof.Proof.KernelIdeal.Enter

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Facts]

local notation "𝕄" => MT nD τ sig ℕ (Elt F) ℕ UU ℕ

variable (P : Dev nD → (S2048x2048.Idx → Elt F .f32))

section Body
variable (κ : Dev nD × SemK → ℕ) (ν : Key → ℕ) (d : Bool) (c : Dev nD)

/-- What a device starts one phase of one direction with. -/
def Gp (ph : Bool) : sProp 𝕄 := iprop(RcvS ph d c 0 ∗ TokS ph d c 0 ∗ SndS ph d c 0 0 ∗ CpS ph d c 0 ∗ CwS ph d c 0)
/-- The rights to take the own slots back. -/
def Spare : sProp 𝕄 := bigSep (Finset.range 16) fun i => writeTok ES ((c, d, i) : Key) (rnd 248 i + 1)
/-- What a device starts one direction with. -/
def Gd : sProp 𝕄 :=
  iprop(Gp d c false ∗ Gp d c true ∗ WrS d c 0 ∗ (bigSep (Finset.range 16) fun i => readerAt ES ((c, d, i) : Key) 0) ∗ Spare d c)

/-! ## From one loop to the next -/

/-- Held aside during the first loop. -/
def Mid1 : sProp 𝕄 := iprop(RcvS false d c 0 ∗ RdS d c 0 ∗ CpS false d c 0 ∗ RcvS true d c 0 ∗ CpS true d c 0)
/-- Held aside during the reduce-scatter. -/
def Mid2 : sProp 𝕄 := iprop(RcvS true d c 0 ∗ CpS true d c 0)
/-- Held aside during the all-gather. -/
def Mid3 : sProp 𝕄 := iprop(RcvS false d c 248 ∗ facts false d c 248 ∗ CwS false d c 232 ∗ SndS false d c 232 248)
/-- Held aside during the last waits. -/
def Mid4 : sProp 𝕄 := iprop(RcvS false d c 248 ∗ facts false d c 248 ∗ CwS false d c 232 ∗ RcvS true d c 248 ∗ CwS true d c 232 ∗ Fin2 P d c 248)

theorem facts_zero (ph : Bool) : (facts ph d c 0 : sProp 𝕄) = iprop(emp) := by unfold facts; rw [Finset.range_zero, bigSep_empty]; rfl

theorem dir_start :
    iprop(Gp d c false ∗ Gp d c true ∗ WrS d c 0 ∗ RdS d c 0 ∗ entry d (peer d c) ∗ bigSep (Finset.range 256) fun B => blk d B c (part P d B c))
      ⊢ (iprop(((bigSep (Finset.Ico 0 256) fun B => blk d B c (part P d B c)) ∗ RSs d c 0) ∗ Mid1 d c) : sProp 𝕄) := by
  rw [RSs_rs d c (u := 0) (by omega), Nat.Ico_zero_eq_range, Nat.zero_sub]
  unfold Gp RSi AGi Mid1
  iintro ⟨⟨R, T, S, Cp, Cw⟩, ⟨R', T', S', Cp', Cw'⟩, W, Rd, #He, B⟩
  isplitl [T S Cw T' S' Cw' W B]
  · isplitl [B]; · iexact B
    isplitl [T S Cw W]
    · isplitr; · iexact He
      isplitl [Cw]; · iexact Cw
      isplitl [T]; · iexact T
      isplitl [S]; · iexact S
      iexact W
    · isplitl [Cw']; · iexact Cw'
      isplitl [T']; · iexact T'
      iexact S'
  · isplitl [R]; · iexact R
    isplitl [Rd]; · iexact Rd
    isplitl [Cp]; · iexact Cp
    isplitl [R']; · iexact R'
    iexact Cp'

theorem dir_rs :
    iprop(((bigSep (Finset.Ico 8 256) fun B => blk d B c (part P d B c)) ∗ RSs d c 8) ∗ Mid1 d c) ⊢ (iprop(RS0 P d c (8 * 0) ∗ Mid2 d c) : sProp 𝕄) := by
  unfold RS0 RSm Mid1 Mid2
  rw [Nat.mul_zero, facts_zero, Nat.zero_add]
  iintro ⟨⟨B, S⟩, R, Rd, Cp, R', Cp'⟩
  isplitl [B S R Rd Cp]
  · isplitl [B R Rd]
    · isplitl [B]; · iexact B
      isplitl [R]; · iexact R
      isplitl [Rd]; · iexact Rd
      iempintro
    isplitl [Cp]; · iexact Cp
    iexact S
  · isplitl [R']; · iexact R'
    iexact Cp'

theorem dir_ag : iprop(RS0 P d c 248 ∗ Mid2 d c) ⊢ (iprop(AG0 P d c (8 * 0) ∗ Mid3 d c) : sProp 𝕄) := by
  unfold RS0 RSm AG0 AGm Mid2 Mid3
  rw [Nat.mul_zero, facts_zero, Nat.zero_add, RSs_ag d c (u := 248 + 8) (by omega), AGs_lt P d c (u := 8) (by omega)]
  rw [show 248 + 8 - 248 = 8 from rfl, show 8 - 16 = 0 from rfl]
  unfold RSi Fin1 Fin2
  rw [Finset.range_zero, bigSep_empty, Finset.Ico_eq_empty_of_le (show 0 ≤ 240 by omega), bigSep_empty]
  iintro ⟨⟨⟨-, R, -, #Hf⟩, -, ⟨-, Cw, -, S, -⟩, A⟩, R', Cp'⟩
  isplitl [A R' Cp']
  · isplitl [R']
    · isplitl [R']; · iexact R'
      iempintro
    isplitl [Cp']; · iexact Cp'
    isplitl [A]; · iexact A
    isplitr
    · iempintro
    · iempintro
  · isplitl [R]; · iexact R
    isplitr; · iexact Hf
    isplitl [Cw]; · iexact Cw
    iexact S

theorem dir_dr : iprop(AG0 P d c 248 ∗ Mid3 d c) ⊢ (iprop(Dr P c d 0 ∗ Mid4 P d c) : sProp 𝕄) := by
  unfold AG0 AGm Mid3 Mid4 Dr
  rw [AGs_ge P d c (u := 248 + 8) (by omega), show 248 + 8 - 8 = 248 from rfl]
  unfold AGi
  iintro ⟨⟨⟨R', -⟩, -, ⟨Cw', -, S'⟩, F1, F2⟩, R, #Hf, Cw, S⟩
  isplitl [S S' F1]
  · isplitl [S]; · iexact S
    isplitl [S']; · iexact S'
    iexact F1
  · isplitl [R]; · iexact R
    isplitr; · iexact Hf
    isplitl [Cw]; · iexact Cw
    isplitl [R']; · iexact R'
    isplitl [Cw']; · iexact Cw'
    iexact F2

theorem dir_end : iprop(ctx P κ ν ∗ Dr P c d 16 ∗ Mid4 P d c ∗ Spare d c)
    ⊢ (iprop(|={(Set.univ : Set ℕ)}=> ((Zp d c false ∗ Zp d c true) ∗ (bigSep (Finset.range 16) fun i => slotS (c, d, i)) ∗ Fin1 P d c 248 ∗ Fin2 P d c 248)) : sProp 𝕄) := by
  unfold Dr Mid4 Spare
  rw [show 232 + 16 = 248 from rfl]
  iintro ⟨#HC, ⟨S, S', F1⟩, ⟨R, #Hf, Cw, R', Cw', F2⟩, W⟩
  imod (close_ph P κ ν d c false) $$ [R S Cw] with Z
  · isplitr; · iexact HC
    isplitl [R]; · iexact R
    isplitl [S]; · iexact S
    iexact Cw
  imod (close_ph P κ ν d c true) $$ [R' S' Cw'] with Z'
  · isplitr; · iexact HC
    isplitl [R']; · iexact R'
    isplitl [S']; · iexact S'
    iexact Cw'
  imod (slots_back P κ ν d c) $$ [W] with Hs
  · isplitr
    · isplitr; · iexact HC
      iexact Hf
    iexact W
  imodintro
  isplitl [Z Z']
  · isplitl [Z] <;> iassumption
  isplitl [Hs]; · iexact Hs
  isplitl [F1] <;> iassumption

/-! ## The whole body -/

/-- All of a device's semaphores at zero. -/
def Zall : sProp 𝕄 := iprop((Zp false c false ∗ Zp false c true) ∗ (Zp true c false ∗ Zp true c true) ∗ semVal (barC c) 0)

theorem dir_free (X : S16x64x128.Idx → Elt F .f32) :
    iprop(ctx P κ ν ∗ owns (c : Thread nD τ) (comM d) fullShare X ∗ bigSep (Finset.range 16) fun i => readerAt ES ((c, d, i) : Key) 0)
      ⊢ (iprop(|={(Set.univ : Set ℕ)}=> (RdS d c 0 ∗ entry d c)) : sProp 𝕄) := by
  have h := slots_free P κ ν d c
  rw [BI.bigSep_sep'] at h
  iintro ⟨#HC, HX, Hr⟩
  ihave Hs := (com_split d c X) $$ HX
  iapply h
  isplitr; · iexact HC
  isplitl [Hs]; · iexact Hs
  iexact Hr

omit ν κ in
theorem wp_store_all {o W : S2048x2048.Idx → Elt F .f32} {inb : ∀ a, (![0, 0] : Fin 2 → ℕ) a + S2048x2048.size a ≤ S2048x2048.size a}
    {hx : (oM.access (Rect.unit (s := S2048x2048) ![0, 0] S2048x2048.size inb)).Stores Finset.univ} {hm}
    {α : Type} {Q : α → sProp 𝕄} {k : PUnit → Prog (TpuEff nD τ sig (Elt F) Λ₀ .tc) α} :
    owns (c : Thread nD τ) oM fullShare o ⊢ iprop((owns (c : Thread nD τ) oM fullShare W -∗ WP c (k ⟨⟩) Q)
      -∗ WP c (.op (.store oM (Rect.unit (s := S2048x2048) ![0, 0] S2048x2048.size inb) W Finset.univ hx hm) k) Q) := by
  rw [owns_whole, owns_whole]
  iintro Ho Hk
  iapply (wp_store 𝒱₀ (c : Thread nD τ) none Set.univ (m := oM) (r := Rect.unit (s := S2048x2048) ![0, 0] S2048x2048.size inb) (w := W) (Mk := Finset.univ)
    (S := Finset.univ) (f := o) (hx := hx) (hm := hm) (k := k) (Finset.subset_univ _)) $$ Ho
  iintro Ho
  iapply Hk
  rw [show (oM.access (Rect.unit (s := S2048x2048) ![0, 0] S2048x2048.size inb)).write (Elt F) o W Finset.univ = W from
    Memref.write_access_unit_zero_univ (Elt F) cc0_stg2_0 hz2 inb o W]
  iexact Ho

theorem body_wp [∀ e, Nonempty (Elt F e)] (x : S2048x64.Idx → Elt F .f32) (w : S64x2048.Idx → Elt F .f32) (hP : Gen.k0_pay4 x w = P c)
    (o : S2048x2048.Idx → Elt F .f32) (X₀ X₁ : S16x64x128.Idx → Elt F .f32) :
    iprop(ctx P κ ν ∗ (Gd false c ∗ Gd true c ∗ Gb c) ∗ (owns (c : Thread nD τ) (comM false) fullShare X₀ ∗ owns (c : Thread nD τ) (comM true) fullShare X₁)
        ∗ owns (c : Thread nD τ) xM fullShare x ∗ owns (c : Thread nD τ) wM fullShare w ∗ owns (c : Thread nD τ) oM fullShare o ∗ Owes c (O₀ c))
      ⊢ WP c (cc0_body (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13) (fun _ => iprop(Zall c ∗ ((∃ X, owns (c : Thread nD τ) (comM false) fullShare X) ∗ ∃ X, owns (c : Thread nD τ) (comM true) fullShare X)
        ∗ owns (c : Thread nD τ) xM fullShare x ∗ owns (c : Thread nD τ) wM fullShare w ∗ owns (c : Thread nD τ) oM fullShare (res P c) ∗ Owes c 0)) := by
  rw [Gen.cc0_body_eq_skeleton]; unfold Gen.cc0_body_skel Gd
  simp only [Prog.lift, Prog.bind_op, Prog.bind_ret, Prog.pure_eq_ret]
  iintro ⟨#HC, ⟨⟨P0, Q0, W0, R0, S0⟩, ⟨P1, Q1, W1, R1, S1⟩, Gb⟩, ⟨C0, C1⟩, Hx, Hw, Ho, HO⟩
  iapply (fupd_wp frame (wpE defs₀ 𝒱₀ (c : Thread nD τ) none) Set.univ)
  imod (dir_free P κ ν false c X₀) $$ [C0 R0] with ⟨D0, #E0⟩
  · isplitr; · iexact HC
    isplitl [C0]; · iexact C0
    iexact R0
  imod (dir_free P κ ν true c X₁) $$ [C1 R1] with ⟨D1, #E1⟩
  · isplitr; · iexact HC
    isplitl [C1]; · iexact C1
    iexact R1
  imodintro
  iapply (seq c (part16_wp c)) $$ []
  · iempintro
  iintro %r16 %hr
  obtain ⟨d0, v2, a16, b16, c16, e16⟩ := r16
  obtain rfl : d0 = c := hr
  iapply (seq d0 (part17_wp d0 _ _ _ _ _)) $$ []
  · iempintro
  iintro %r17 -
  obtain ⟨a17, b17, c17, e17⟩ := r17
  iapply (seq d0 (part18_wp d0 _ _ _ _ _)) $$ []
  · iempintro
  iintro %r18 -
  obtain ⟨a18, b18, c18, e18⟩ := r18
  iapply (seq d0 (part19_wp d0 _ _ _ _ _)) $$ []
  · iempintro
  iintro %r19 -
  obtain ⟨a19, b19, c19, e19⟩ := r19
  iapply (seq d0 (part20_wp d0 _ _ _ _ _)) $$ []
  · iempintro
  iintro %r20 -
  obtain ⟨a20, b20, c20, e20⟩ := r20
  iapply (seq d0 (part21_wp d0 _ _ _ _ _)) $$ []
  · iempintro
  iintro %r21 -
  obtain ⟨a21, b21, c21, e21⟩ := r21
  iapply (seq d0 (part22_wp P κ ν d0 _ _ _ _ _ x w)) $$ [Gb Hx Hw HO]
  · isplitr; · iexact HC
    isplitl [Gb]; · iexact Gb
    isplitr; · iexact E0
    isplitr; · iexact E1
    isplitl [Hx]; · iexact Hx
    isplitl [Hw]; · iexact Hw
    iexact HO
  iintro %r22 ⟨%hv, Hat, #E0', #E1', Hx, Hw, HO⟩
  obtain ⟨a22, b22, c22, v268⟩ := r22
  obtain rfl : v268 = P d0 := hv.trans hP
  ihave Ho := (Entails.of_eq (owns_whole (d0 : Thread nD τ) cc0_stg2_0 fullShare o)) $$ Ho
  iapply (wp_load 𝒱₀ (d0 : Thread nD τ) none Set.univ (m := oM) (Finset.subset_univ _)) $$ Ho; iintro Ho
  ihave Ho := (Entails.of_eq (owns_whole (d0 : Thread nD τ) cc0_stg2_0 fullShare o).symm) $$ Ho
  iapply (wp_store_all d0) $$ Ho; iintro Ho
  ihave Hb := (out_split P d0) $$ Ho
  icases Hb with ⟨B0, B1⟩
  ihave H0 := (dir_start P false d0) $$ [P0 Q0 W0 D0 B0]
  · isplitl [P0]; · iexact P0
    isplitl [Q0]; · iexact Q0
    isplitl [W0]; · iexact W0
    isplitl [D0]; · iexact D0
    isplitr; · iexact E0'
    iexact B0
  icases H0 with ⟨H0, M0⟩
  ihave H1 := (dir_start P true d0) $$ [P1 Q1 W1 D1 B1]
  · isplitl [P1]; · iexact P1
    isplitl [Q1]; · iexact Q1
    isplitl [W1]; · iexact W1
    isplitl [D1]; · iexact D1
    isplitr; · iexact E1'
    iexact B1
  icases H1 with ⟨H1, M1⟩
  iapply (loop d0 (fun k => iprop(ctx P κ ν ∗ T1 P d0 k)) (fun k u => t1_wp P κ ν d0 a22 b22 k u)) $$ [H0 H1 HO]
  · isplitr; · iexact HC
    unfold T1
    isplitl [H0]; · iexact H0
    isplitl [H1]; · iexact H1
    iexact HO
  rw [show k0_t1_loop.trips = 8 by decide]
  unfold T1
  iintro ⟨-, H0, H1, HO⟩
  ihave H0 := (dir_rs P false d0) $$ [H0 M0]
  · isplitl [H0] <;> iassumption
  icases H0 with ⟨H0, M0⟩
  ihave H1 := (dir_rs P true d0) $$ [H1 M1]
  · isplitl [H1] <;> iassumption
  icases H1 with ⟨H1, M1⟩
  iapply (loop d0 (fun k => iprop(ctx P κ ν ∗ T3 P d0 (8 * k))) (fun k u => t2_wp P κ ν d0 a22 b22 c22 k u)) $$ [H0 H1 HO]
  · isplitr; · iexact HC
    unfold T3
    isplitl [H0]; · iexact H0
    isplitl [H1]; · iexact H1
    iexact HO
  rw [show k0_t2_loop.trips = 31 by decide, show 8 * 31 = 248 from rfl]
  unfold T3
  iintro ⟨-, H0, H1, HO⟩
  ihave H0 := (dir_ag P false d0) $$ [H0 M0]
  · isplitl [H0] <;> iassumption
  icases H0 with ⟨H0, M0⟩
  ihave H1 := (dir_ag P true d0) $$ [H1 M1]
  · isplitl [H1] <;> iassumption
  icases H1 with ⟨H1, M1⟩
  iapply (loop d0 (fun k => iprop(ctx P κ ν ∗ T5 P d0 (8 * k))) (fun k u => t4_wp P κ ν d0 a22 b22 c22 k u)) $$ [H0 H1 HO]
  · isplitr; · iexact HC
    unfold T5
    isplitl [H0]; · iexact H0
    isplitl [H1]; · iexact H1
    iexact HO
  rw [show k0_t4_loop.trips = 31 by decide, show 8 * 31 = 248 from rfl]
  unfold T5
  iintro ⟨-, H0, H1, HO⟩
  ihave H0 := (dir_dr P false d0) $$ [H0 M0]
  · isplitl [H0] <;> iassumption
  icases H0 with ⟨H0, M0⟩
  ihave H1 := (dir_dr P true d0) $$ [H1 M1]
  · isplitl [H1] <;> iassumption
  icases H1 with ⟨H1, M1⟩
  iapply (loop d0 (fun k => iprop(ctx P κ ν ∗ Dr P d0 false k ∗ Owes d0 (OW d0 (tw (248 + min (248 + 8) 248) (248 + min (248 + 8) 248)) (tw (248 + 248) (248 + 248)))))
    (fun k u => t6_wp P κ ν d0 a22 _ _ k u)) $$ [H0 HO]
  · isplitr; · iexact HC
    isplitl [H0]; · iexact H0
    iexact HO
  rw [show k0_t6_loop.trips = 16 by decide]
  iintro ⟨-, H0, HO⟩
  iapply (loop d0 (fun k => iprop(ctx P κ ν ∗ Dr P d0 true k ∗ Owes d0 (OW d0 (tw (248 + min (248 + 8) 248) (248 + min (248 + 8) 248)) (tw (248 + 248) (248 + 248)))))
    (fun k u => t7_wp P κ ν d0 a22 _ _ k u)) $$ [H1 HO]
  · isplitr; · iexact HC
    isplitl [H1]; · iexact H1
    iexact HO
  rw [show k0_t7_loop.trips = 16 by decide, OW_done d0 _ _ (fun d => by cases d <;> decide) (fun d => by cases d <;> decide)]
  iintro ⟨-, H1, HO⟩
  iapply (fupd_wp frame (wpE defs₀ 𝒱₀ (d0 : Thread nD τ) none) Set.univ)
  imod (dir_end P κ ν false d0) $$ [H0 M0 S0] with ⟨Z0, Hs0, F0⟩
  · isplitr; · iexact HC
    isplitl [H0]; · iexact H0
    isplitl [M0]; · iexact M0
    iexact S0
  imod (dir_end P κ ν true d0) $$ [H1 M1 S1] with ⟨Z1, Hs1, F1⟩
  · isplitr; · iexact HC
    isplitl [H1]; · iexact H1
    isplitl [M1]; · iexact M1
    iexact S1
  imod (close_bar P κ ν d0) $$ [Hat] with Zb
  · isplitr; · iexact HC
    iexact Hat
  ihave Ho := (out_join P d0) $$ [F0 F1]
  · isplitl [F0] <;> iassumption
  ihave Hs0 := (com_join false d0) $$ Hs0
  ihave Hs1 := (com_join true d0) $$ Hs1
  imodintro
  iapply (done' d0)
  unfold Zall
  isplitl [Z0 Z1 Zb]
  · isplitl [Z0]; · iexact Z0
    isplitl [Z1] <;> iassumption
  isplitl [Hs0 Hs1]
  · isplitl [Hs0] <;> iassumption
  isplitl [Hx]; · iexact Hx
  isplitl [Hw]; · iexact Hw
  isplitl [Ho]; · iexact Ho
  iexact HO

end Body

end Cert.KernelIdeal.AR

end
-- ==== Proof.KernelIdeal.Share.lean ====
/-
The cells, the duties and the slots of all devices, dealt out along the rings.
-/
module

public import proofs.«01_k».proof.Proof.KernelIdeal.Body
public import Idealize.ShloMosaic.Lib.SparseCore.Launch

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Facts]

local notation "𝕄" => MT nD τ sig ℕ (Elt F) ℕ UU ℕ

variable (P : Dev nD → (S2048x2048.Idx → Elt F .f32))

/-! ## Sorting by direction and phase -/

theorem bool2 (Φ : Bool → sProp 𝕄) : bigSep Finset.univ Φ = iprop(Φ false ∗ Φ true) := by
  rw [show (Finset.univ : Finset Bool) = {false, true} by decide, bigSep_insert (by decide), bigSep_singleton]; rfl
theorem finRange (n : ℕ) (Φ : ℕ → sProp 𝕄) : (bigSep Finset.univ fun i : Fin n => Φ i.val) = bigSep (Finset.range n) Φ := by
  rw [range_map, BI.bigSep_map]; rfl

/-- Things of one phase and direction: at the receptions, at the sends, at the credits. -/
def tri (A : Bool → Bool → Bool → sProp 𝕄) (B : Bool → Bool → sProp 𝕄) (ph d : Bool) : sProp 𝕄 := iprop(A ph d true ∗ A ph d false ∗ B ph d)

theorem regroup₁ (a b c d e f g h i j k l : sProp 𝕄) : iprop((((a ∗ b) ∗ c ∗ d) ∗ (e ∗ f) ∗ g ∗ h) ∗ (i ∗ j) ∗ k ∗ l) ⊢ (iprop(((b ∗ a ∗ i) ∗ f ∗ e ∗ k) ∗ (d ∗ c ∗ j) ∗ h ∗ g ∗ l) : sProp 𝕄) := by
  iintro ⟨⟨⟨⟨a, b⟩, c, d⟩, ⟨e, f⟩, g, h⟩, ⟨i, j⟩, k, l⟩
  isplitl [a b e f i k]
  · isplitl [a b i]
    · isplitl [b]; · iexact b
      isplitl [a] <;> iassumption
    · isplitl [f]; · iexact f
      isplitl [e] <;> iassumption
  · isplitl [c d j]
    · isplitl [d]; · iexact d
      isplitl [c] <;> iassumption
    · isplitl [h]; · iexact h
      isplitl [g] <;> iassumption

theorem regroup₂ (a b c d e f g h i j k l : sProp 𝕄) : iprop(((b ∗ a ∗ i) ∗ f ∗ e ∗ k) ∗ (d ∗ c ∗ j) ∗ h ∗ g ∗ l) ⊢ (iprop((((a ∗ b) ∗ c ∗ d) ∗ (e ∗ f) ∗ g ∗ h) ∗ (i ∗ j) ∗ k ∗ l) : sProp 𝕄) := by
  iintro ⟨⟨⟨b, a, i⟩, f, e, k⟩, ⟨d, c, j⟩, h, g, l⟩
  isplitl [a b c d e f g h]
  · isplitl [a b c d]
    · isplitl [a b]
      · isplitl [a] <;> iassumption
      · isplitl [c] <;> iassumption
    · isplitl [e f]
      · isplitl [e] <;> iassumption
      · isplitl [g] <;> iassumption
  · isplitl [i j]
    · isplitl [i] <;> iassumption
    · isplitl [k] <;> iassumption

theorem assoc₁ (A B C : sProp 𝕄) : iprop(A ∗ B ∗ C) ⊢ (iprop((A ∗ B) ∗ C) : sProp 𝕄) := by
  iintro ⟨a, b, c⟩
  isplitl [a b]
  · isplitl [a] <;> iassumption
  iexact c
theorem assoc₂ (A B C : sProp 𝕄) : iprop((A ∗ B) ∗ C) ⊢ (iprop(A ∗ B ∗ C) : sProp 𝕄) := by
  iintro ⟨⟨a, b⟩, c⟩
  isplitl [a]; · iexact a
  isplitl [b] <;> iassumption
theorem assoc (A B C : sProp 𝕄) : iprop(A ∗ B ∗ C) = iprop((A ∗ B) ∗ C) := Entails.antisymm (assoc₁ A B C) (assoc₂ A B C)

theorem sort8 (A : Bool → Bool → Bool → sProp 𝕄) (B : Bool → Bool → sProp 𝕄) :
    iprop((bigSep Finset.univ fun ph => bigSep Finset.univ fun d => bigSep Finset.univ fun r => A ph d r) ∗ bigSep Finset.univ fun ph => bigSep Finset.univ fun d => B ph d)
      = iprop((tri A B false false ∗ tri A B true false) ∗ (tri A B false true ∗ tri A B true true)) := by
  simp only [bool2]
  unfold tri
  exact Entails.antisymm (regroup₁ _ _ _ _ _ _ _ _ _ _ _ _) (regroup₂ _ _ _ _ _ _ _ _ _ _ _ _)

/-! ## The cells -/

/-- A device's own semaphores. -/
abbrev OwnK : Type := (Bool × Bool × Bool × Fin 16) ⊕ (Bool × Bool)
def osem (k : OwnK) : SemLoc sig := match k with
  | .inl x => semL (.inl x)
  | .inr x => semL (.inr (.inl x))

/-- The same at every semaphore of a phase and direction. -/
def sems (Φ : GSem nD τ sig → sProp 𝕄) (c : Dev nD) : Bool → Bool → sProp 𝕄 :=
  tri (fun ph d r => bigSep (Finset.range 16) fun i => Φ ((c : Thread nD τ), .dma (dq ph d r i))) (fun ph d => Φ (crdC ph d c))

theorem own_split (Φ : GSem nD τ sig → sProp 𝕄) (c : Dev nD) :
    (bigSep Finset.univ fun k : OwnK => Φ ((c : Thread nD τ), osem k))
      = iprop((sems Φ c false false ∗ sems Φ c true false) ∗ (sems Φ c false true ∗ sems Φ c true true)) := by
  unfold sems
  rw [← sort8, BI.bigSep_univ_sum, bigSep_univ_prod, bigSep_univ_prod]
  have h (ph d r : Bool) : (bigSep Finset.univ fun i : Fin 16 => Φ ((c : Thread nD τ), osem (.inl (ph, d, r, i))))
      = bigSep (Finset.range 16) fun i => Φ ((c : Thread nD τ), .dma (dq ph d r i)) := finRange 16 fun i => Φ ((c : Thread nD τ), .dma (dq ph d r i))
  have h' (ph : Bool) : (bigSep Finset.univ fun x : Bool × Bool × Fin 16 => Φ ((c : Thread nD τ), osem (.inl (ph, x))))
      = bigSep Finset.univ fun d => bigSep Finset.univ fun r => bigSep (Finset.range 16) fun i => Φ ((c : Thread nD τ), .dma (dq ph d r i)) := by
    rw [bigSep_univ_prod]
    refine bigSep_congr fun d _ => ?_
    rw [bigSep_univ_prod]
    exact bigSep_congr fun r _ => h ph d r
  rw [bigSep_congr (s := Finset.univ) fun ph _ => h' ph]
  rfl

theorem all_split (Φ : GSem nD τ sig → sProp 𝕄) (c : Dev nD) :
    (bigSep Finset.univ fun k : SemK => Φ (cellK (c, k))) = iprop((bigSep Finset.univ fun k : OwnK => Φ ((c : Thread nD τ), osem k)) ∗ Φ (barC c)) := by
  rw [BI.bigSep_univ_sum, BI.bigSep_univ_sum (fun k : OwnK => Φ ((c : Thread nD τ), osem k)), BI.bigSep_univ_sum]
  rw [show (bigSep Finset.univ fun b : Unit => Φ (cellK (c, .inr (.inr b)))) = Φ (barC c) from by
    rw [show (Finset.univ : Finset Unit) = {()} from rfl, bigSep_singleton]; rfl]
  exact assoc _ _ _

theorem cq_inj : ∀ ph d ph' d' : Bool, cq ph d = cq ph' d' → ph = ph' ∧ d = d' := by decide
theorem cq_ne : ∀ ph d : Bool, cq ph d ≠ bq := by decide

theorem dq_eq {ph d r ph' d' r' : Bool} {i i' : ℕ} (h : dq ph d r i = dq ph' d' r' i') : ph = ph' ∧ d = d' ∧ r = r' ∧ i % 16 = i' % 16 := by
  obtain ⟨a1, a2, a3, a4, -⟩ := q_dec ph d r i
  obtain ⟨b1, b2, b3, b4, -⟩ := q_dec ph' d' r' i'
  rw [h] at a1 a2 a3 a4
  exact ⟨a1.symm.trans b1, a2.symm.trans b2, a3.symm.trans b3, a4.symm.trans b4⟩

theorem semL_inj : Function.Injective semL := by
  rintro (⟨ph, d, r, i⟩ | ⟨ph, d⟩ | ⟨⟩) (⟨ph', d', r', i'⟩ | ⟨ph', d'⟩ | ⟨⟩) h
  · obtain ⟨rfl, rfl, rfl, h4⟩ := dq_eq (SemLoc.dma.inj h)
    rw [Nat.mod_eq_of_lt i.isLt, Nat.mod_eq_of_lt i'.isLt] at h4
    rw [Fin.ext h4]
  · cases h
  · cases h
  · cases h
  · obtain ⟨rfl, rfl⟩ := cq_inj _ _ _ _ (SemLoc.reg.inj h); rfl
  · exact absurd (SemLoc.reg.inj h) (cq_ne _ _)
  · cases h
  · exact absurd (SemLoc.reg.inj h).symm (cq_ne _ _)
  · rfl

theorem cellK_inj : Function.Injective cellK := by
  rintro ⟨c, k⟩ ⟨c', k'⟩ h
  have h1 : c = c' := congrArg (fun g : GSem nD τ sig => g.1.1) h
  exact Prod.ext h1 (semL_inj (congrArg Prod.snd h))

def allCells : Finset (GSem nD τ sig) := Finset.univ.map ⟨cellK, cellK_inj⟩
theorem over_cells (Φ : GSem nD τ sig → sProp 𝕄) : bigSep allCells Φ = bigSep Finset.univ fun c : Dev nD => bigSep Finset.univ fun k : SemK => Φ (cellK (c, k)) := by
  unfold allCells; rw [BI.bigSep_map, bigSep_univ_prod]; rfl

/-! ## The duties -/

/-- The duties at a device's cells: a transfer's two, a credit's, the two of the entry handshake. -/
abbrev TokK : Type := (Bool × Bool × Bool × Fin 248) ⊕ (Bool × Bool × Fin 232) ⊕ Bool
def tokOf (x : Dev nD × TokK) : GSem nD τ sig × ℕ × ℕ := match x.2 with
  | .inl y => (((x.1 : Thread nD τ), .dma (dq y.1 y.2.1 y.2.2.1 y.2.2.2.val)), y.2.2.2.val / 16, 0)
  | .inr (.inl y) => (crdC y.1 y.2.1 x.1, 0, y.2.2.val)
  | .inr (.inr b) => (barC x.1, 0, if b then 1 else 0)

theorem tokOf_inj : Function.Injective tokOf := by
  rintro ⟨c, k⟩ ⟨c', k'⟩ h
  have h1 : c = c' := by
    have h := congrArg (fun x : GSem nD τ sig × ℕ × ℕ => x.1.1.1) h
    rcases k with k | k | k <;> rcases k' with k' | k' | k' <;> exact h
  subst h1
  rcases k with ⟨ph, d, r, i⟩ | ⟨ph, d, m⟩ | b <;> rcases k' with ⟨ph', d', r', i'⟩ | ⟨ph', d', m'⟩ | b'
  · have h2 : SemLoc.dma (dq ph d r i.val) = SemLoc.dma (dq ph' d' r' i'.val) := congrArg (fun x : GSem nD τ sig × ℕ × ℕ => x.1.2) h
    have h3 : i.val / 16 = i'.val / 16 := congrArg (fun x : GSem nD τ sig × ℕ × ℕ => x.2.1) h
    obtain ⟨rfl, rfl, rfl, h4⟩ := dq_eq (SemLoc.dma.inj h2)
    rw [show i = i' from Fin.ext (by omega)]
  · exact absurd (show SemLoc.dma _ = SemLoc.reg _ from congrArg (fun x : GSem nD τ sig × ℕ × ℕ => x.1.2) h) (fun h => by cases h)
  · exact absurd (show SemLoc.dma _ = SemLoc.reg _ from congrArg (fun x : GSem nD τ sig × ℕ × ℕ => x.1.2) h) (fun h => by cases h)
  · exact absurd (show SemLoc.reg _ = SemLoc.dma _ from congrArg (fun x : GSem nD τ sig × ℕ × ℕ => x.1.2) h) (fun h => by cases h)
  · have h2 : SemLoc.reg (cq ph d) = SemLoc.reg (cq ph' d') := congrArg (fun x : GSem nD τ sig × ℕ × ℕ => x.1.2) h
    have h3 : m.val = m'.val := congrArg (fun x : GSem nD τ sig × ℕ × ℕ => x.2.2) h
    obtain ⟨rfl, rfl⟩ := cq_inj _ _ _ _ (SemLoc.reg.inj h2)
    rw [show m = m' from Fin.ext h3]
  · exact absurd (SemLoc.reg.inj (show SemLoc.reg (cq ph d) = SemLoc.reg bq from congrArg (fun x : GSem nD τ sig × ℕ × ℕ => x.1.2) h)) (cq_ne _ _)
  · exact absurd (show SemLoc.reg _ = SemLoc.dma _ from congrArg (fun x : GSem nD τ sig × ℕ × ℕ => x.1.2) h) (fun h => by cases h)
  · exact absurd (SemLoc.reg.inj (show SemLoc.reg bq = SemLoc.reg (cq ph' d') from congrArg (fun x : GSem nD τ sig × ℕ × ℕ => x.1.2) h)).symm (cq_ne _ _)
  · have h3 : (if b then 1 else 0 : ℕ) = if b' then 1 else 0 := congrArg (fun x : GSem nD τ sig × ℕ × ℕ => x.2.2) h
    cases b <;> cases b' <;> first | rfl | exact absurd h3 (by decide)

def allToks : Finset (GSem nD τ sig × ℕ × ℕ) := Finset.univ.map ⟨tokOf, tokOf_inj⟩

/-- The duties at a device's cells of one phase and direction. -/
def toks (c : Dev nD) : Bool → Bool → sProp 𝕄 :=
  tri (fun ph d r => bigSep (Finset.range 248) fun g => dutyTok ER ((c : Thread nD τ), .dma (dq ph d r g)) (g / 16) 0)
    (fun ph d => bigSep (Finset.range 232) fun m => dutyTok ER (crdC ph d c) 0 m)

theorem over_toks : (bigSep allToks fun x => (dutyTok ER x.1 x.2.1 x.2.2 : sProp 𝕄)) = bigSep Finset.univ fun c : Dev nD =>
    iprop(((toks c false false ∗ toks c true false) ∗ (toks c false true ∗ toks c true true)) ∗ dutyTok ER (barC c) 0 0 ∗ dutyTok ER (barC c) 0 1) := by
  unfold allToks; rw [BI.bigSep_map, bigSep_univ_prod]
  refine bigSep_congr fun c _ => ?_
  unfold toks
  rw [← sort8, BI.bigSep_univ_sum, BI.bigSep_univ_sum, bool2, bigSep_univ_prod, bigSep_univ_prod]
  have h (ph : Bool) : (bigSep Finset.univ fun x : Bool × Bool × Fin 248 => (dutyTok ER (tokOf (c, .inl (ph, x))).1 (tokOf (c, .inl (ph, x))).2.1 (tokOf (c, .inl (ph, x))).2.2 : sProp 𝕄))
      = bigSep Finset.univ fun d => bigSep Finset.univ fun r => bigSep (Finset.range 248) fun g => dutyTok ER ((c : Thread nD τ), .dma (dq ph d r g)) (g / 16) 0 := by
    rw [bigSep_univ_prod]
    refine bigSep_congr fun d _ => ?_
    rw [bigSep_univ_prod]
    exact bigSep_congr fun r _ => finRange 248 fun g => dutyTok ER ((c : Thread nD τ), .dma (dq ph d r g)) (g / 16) 0
  have h' (ph : Bool) : (bigSep Finset.univ fun x : Bool × Fin 232 => (dutyTok ER (tokOf (c, .inr (.inl (ph, x)))).1 (tokOf (c, .inr (.inl (ph, x)))).2.1 (tokOf (c, .inr (.inl (ph, x)))).2.2 : sProp 𝕄))
      = bigSep Finset.univ fun d => bigSep (Finset.range 232) fun m => dutyTok ER (crdC ph d c) 0 m := by
    rw [bigSep_univ_prod]
    exact bigSep_congr fun d _ => finRange 232 fun m => dutyTok ER (crdC ph d c) 0 m
  have e1 := bigSep_congr (s := Finset.univ) fun ph _ => h ph
  have e2 := bigSep_congr (s := Finset.univ) fun ph _ => h' ph
  refine Eq.trans ?_ (assoc _ _ _)
  exact congrArg₂ (fun A B : sProp 𝕄 => iprop(A ∗ B)) e1 (congrArg₂ (fun A B : sProp 𝕄 => iprop(A ∗ B)) e2 rfl)

/-- Duties are paid at the neighbours' cells. -/
theorem toks_share (ph d : Bool) : (bigSep Finset.univ fun c : Dev nD => toks c ph d) ⊢ (bigSep Finset.univ fun c => iprop(TokS ph d c 0 ∗ CpS ph d c 0) : sProp 𝕄) := by
  unfold toks tri TokS CpS
  rw [Nat.Ico_zero_eq_range, Nat.Ico_zero_eq_range]
  simp only [BI.bigSep_sep']
  rw [bigSep_univ_equiv (peerEquiv d) (fun c : Dev nD => bigSep (Finset.range 248) fun g => (dutyTok ER ((c : Thread nD τ), .dma (dq ph d true g)) (g / 16) 0 : sProp 𝕄)),
    bigSep_univ_equiv (peerEquiv d).symm (fun c : Dev nD => bigSep (Finset.range 232) fun m => (dutyTok ER (crdC ph d c) 0 m : sProp 𝕄))]
  iintro ⟨A, B, C⟩
  isplitl [A B]
  · isplitl [A]; · iexact A
    iexact B
  iexact C

theorem bar_share : (bigSep Finset.univ fun c : Dev nD => iprop(dutyTok ER (barC c) 0 0 ∗ dutyTok ER (barC c) 0 1))
    ⊢ (bigSep Finset.univ fun c => iprop(dutyTok ER (barC (up false c)) 0 0 ∗ dutyTok ER (barC (up true c)) 0 1) : sProp 𝕄) := by
  simp only [BI.bigSep_sep']
  rw [bigSep_univ_equiv (peerEquiv false).symm (fun c : Dev nD => (dutyTok ER (barC c) 0 0 : sProp 𝕄)),
    bigSep_univ_equiv (peerEquiv true).symm (fun c : Dev nD => (dutyTok ER (barC c) 0 1 : sProp 𝕄))]
  exact Entails.of_eq rfl

/-! ## The slots -/

def rt : ℕ ↪ ℕ × ℕ := ⟨fun n => (n % 16, n / 16), fun a b h => by
  have h1 : a % 16 = b % 16 := congrArg Prod.fst h
  have h2 : a / 16 = b / 16 := congrArg Prod.snd h
  omega⟩
def spareAt : ℕ ↪ ℕ := ⟨fun i => if i < 16 then 16 * rnd 248 i + i else 264 + i, fun a b h => by
  dsimp only at h; unfold rnd at h; split at h <;> split at h <;> omega⟩

theorem write_toks (d : Bool) (c : Dev nD) :
    (bigSep (Finset.range 16 ×ˢ Finset.range 17) fun x => (writeTok ES ((c, d, x.1) : Key) (x.2 + 1) : sProp 𝕄))
      ⊢ (iprop((bigSep (Finset.range 248) fun g => writeTok ES (key d c g) (g / 16 + 1)) ∗ Spare d c) : sProp 𝕄) := by
  have h1 : (Finset.range 264).map rt ⊆ Finset.range 16 ×ˢ Finset.range 17 := by
    intro x hx
    obtain ⟨n, hn, rfl⟩ := Finset.mem_map.mp hx
    have := Finset.mem_range.mp hn
    exact Finset.mem_product.mpr ⟨Finset.mem_range.mpr (Nat.mod_lt _ (by decide)), Finset.mem_range.mpr (by show n / 16 < 17; omega)⟩
  have h2 : Finset.range 264 = Finset.range 248 ∪ (Finset.range 16).map spareAt := by decide
  have h3 : Disjoint (Finset.range 248) ((Finset.range 16).map spareAt) := by decide
  refine (bigSep_subset h1).trans ?_
  rw [BI.bigSep_map, h2, BI.bigSep_union h3, BI.bigSep_map]
  refine Entails.of_eq (congrArg₂ (fun A B : sProp 𝕄 => iprop(A ∗ B)) rfl (bigSep_congr fun i hi => ?_))
  have hi' := Finset.mem_range.mp hi
  have e : spareAt i = 16 * rnd 248 i + i := if_pos hi'
  show writeTok ES ((c, d, spareAt i % 16) : Key) (spareAt i / 16 + 1) = _
  rw [e, show (16 * rnd 248 i + i) % 16 = i by omega, show (16 * rnd 248 i + i) / 16 = rnd 248 i by omega]

theorem over_keys (Φ : Key → sProp 𝕄) : bigSep keys Φ = bigSep Finset.univ fun c => iprop((bigSep (Finset.range 16) fun i => Φ (c, false, i)) ∗ bigSep (Finset.range 16) fun i => Φ (c, true, i)) := by
  unfold keys
  rw [SparseCore.bigSep_product]
  refine bigSep_congr fun c _ => ?_
  rw [SparseCore.bigSep_product, bool2]

/-- What a device starts with of the slots of one direction. -/
def SlD (d : Bool) (c : Dev nD) : sProp 𝕄 := iprop(WrS d c 0 ∗ Spare d c ∗ bigSep (Finset.range 16) fun i => readerAt ES ((c, d, i) : Key) 0)

theorem slots_share :
    iprop((bigSep keys fun k => readerAt ES k 0) ∗ bigSep (keys ×ˢ Finset.range 17) fun x => writeTok ES x.1 (x.2 + 1))
      ⊢ (bigSep Finset.univ fun c : Dev nD => iprop(SlD false c ∗ SlD true c) : sProp 𝕄) := by
  rw [SparseCore.bigSep_product, over_keys, over_keys]
  have h (d : Bool) : (bigSep Finset.univ fun c : Dev nD => bigSep (Finset.range 16) fun i => bigSep (Finset.range 17) fun t => (writeTok ES ((c, d, i) : Key) (t + 1) : sProp 𝕄))
      ⊢ iprop((bigSep Finset.univ fun c : Dev nD => WrS d c 0) ∗ bigSep Finset.univ fun c : Dev nD => Spare d c) := by
    refine (BI.bigSep_mono fun c _ => (Entails.of_eq (SparseCore.bigSep_product _ _ (fun x : ℕ × ℕ => (writeTok ES ((c, d, x.1) : Key) (x.2 + 1) : sProp 𝕄))).symm).trans (write_toks d c)).trans ?_
    rw [BI.bigSep_sep']
    refine Entails.of_eq (congrArg₂ (fun A B : sProp 𝕄 => iprop(A ∗ B)) ?_ rfl)
    rw [bigSep_univ_equiv (peerEquiv d)]
    refine bigSep_congr fun c _ => ?_
    unfold WrS; rw [Nat.Ico_zero_eq_range]; rfl
  unfold SlD
  simp only [BI.bigSep_sep']
  iintro ⟨⟨R0, R1⟩, W0, W1⟩
  ihave W0 := (h false) $$ W0
  ihave W1 := (h true) $$ W1
  icases W0 with ⟨W0, S0⟩
  icases W1 with ⟨W1, S1⟩
  isplitl [R0 W0 S0]
  · isplitl [W0]; · iexact W0
    isplitl [S0]; · iexact S0
    iexact R0
  · isplitl [W1]; · iexact W1
    isplitl [S1]; · iexact S1
    iexact R1

end Cert.KernelIdeal.AR

end
-- ==== Proof.KernelIdeal.Fund.lean ====
/-
The launch's resources: what every device starts with, and what it leaves.
-/
module

public import proofs.«01_k».proof.Proof.KernelIdeal.Share

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Facts]

local notation "𝕄" => MT nD τ sig ℕ (Elt F) ℕ UU ℕ

variable (P : Dev nD → (S2048x2048.Idx → Elt F .f32))

abbrev at0 (g : GSem nD τ sig) : sProp 𝕄 := atPos ER g 0 ∅ 0

/-- What a device holds of one phase and direction before the launch's credits are added. -/
def Tc (ph d : Bool) (c : Dev nD) : sProp 𝕄 := iprop(TokS ph d c 0 ∗ CpS ph d c 0)
def LinD (d : Bool) (c : Dev nD) : sProp 𝕄 := iprop((sems at0 c false d ∗ sems at0 c true d) ∗ (Tc false d c ∗ Tc true d c) ∗ SlD d c)
def LinB (c : Dev nD) : sProp 𝕄 := iprop(dutyTok ER (barC (up false c)) 0 0 ∗ dutyTok ER (barC (up true c)) 0 1)
def Lin (c : Dev nD) : sProp 𝕄 := iprop(LinD false c ∗ LinD true c ∗ at0 (barC c) ∗ LinB c)

def SlotInvs : sProp 𝕄 := iprop(∃ ν : Key → ℕ, bigSep keys fun k => slotInv ES (ν k) k (slotS k))
instance : BI.Persistent (SlotInvs (F := F)) := by unfold SlotInvs; infer_instance

/-- What the launch deals to a device. -/
def G (c : Dev nD) : sProp 𝕄 :=
  iprop(SlotInvs ∗ (bigSep Finset.univ fun k : SemK => roundState ER (sch P) (cellK (c, k)) 0)
    ∗ (bigSep Finset.univ fun k : SemK => reached ER (cellK (c, k)) 0) ∗ Lin c)
/-- What a device has once the invariants stand. -/
def G' (c : Dev nD) : sProp 𝕄 :=
  iprop(∃ κ : Dev nD × SemK → ℕ, ((bigSep Finset.univ fun x => cellInv ER (sch P) (κ x) (cellK x)) ∗ (bigSep Finset.univ fun x => reached ER (cellK x) 0)) ∗ SlotInvs ∗ Lin c)

theorem at_split : (bigSep Finset.univ fun c : Dev nD => bigSep Finset.univ fun k : SemK => (at0 (cellK (c, k)) : sProp 𝕄))
    = bigSep Finset.univ fun c : Dev nD => iprop(((sems at0 c false false ∗ sems at0 c true false) ∗ (sems at0 c false true ∗ sems at0 c true true)) ∗ at0 (barC c)) :=
  bigSep_congr fun c _ => by rw [all_split, own_split]

theorem tc_share (ph d : Bool) : (bigSep Finset.univ fun c => toks c ph d) ⊢ (bigSep Finset.univ (Tc ph d) : sProp 𝕄) := toks_share ph d

theorem linb_share : (iprop((bigSep Finset.univ fun c => dutyTok ER (barC c) 0 0) ∗ bigSep Finset.univ fun c => dutyTok ER (barC c) 0 1) : sProp 𝕄) ⊢ bigSep Finset.univ LinB := by
  have h := bar_share (F := F)
  rw [BI.bigSep_sep'] at h
  exact h

theorem fund : iprop(BI.own (ER (initOf allCells allToks)) ∗ BI.own (ES (initSlots keys 17))) ⊢ (iprop(|={(Set.univ : Set ℕ)}=> bigSep Finset.univ (G P)) : sProp 𝕄) := by
  iintro ⟨HX, HY⟩
  imod (Rounds.fund ER (sch P) allCells allToks) $$ HX with ⟨Hst, Hr, Hat, Htok⟩
  imod (slots_init ES keys 17 slotS) $$ HY with ⟨%ν, -, #Hinv, Hrd, Hwt⟩
  imodintro
  ihave Hst := (Entails.of_eq (over_cells fun g => roundState ER (sch P) g 0)) $$ Hst
  ihave Hr := (Entails.of_eq (over_cells fun g => reached ER g 0)) $$ Hr
  ihave Hat := (Entails.of_eq ((over_cells at0).trans at_split)) $$ Hat
  ihave Htok := (Entails.of_eq over_toks) $$ Htok
  ihave Hsl := slots_share $$ [Hrd Hwt]
  · isplitl [Hrd] <;> iassumption
  simp only [BI.bigSep_sep']
  icases Hat with ⟨⟨⟨A0, A1⟩, A2, A3⟩, Ab⟩
  icases Htok with ⟨⟨⟨T0, T1⟩, T2, T3⟩, Tb⟩
  icases Hsl with ⟨S0, S1⟩
  ihave T0 := (tc_share false false) $$ T0
  ihave T1 := (tc_share true false) $$ T1
  ihave T2 := (tc_share false true) $$ T2
  ihave T3 := (tc_share true true) $$ T3
  ihave Tb := (linb_share (F := F)) $$ Tb
  unfold G Lin LinD
  simp only [BI.bigSep_sep']
  isplitr
  · iapply (BI.bigSep_of_persistent Finset.univ SlotInvs)
    unfold SlotInvs
    iexists ν; iexact Hinv
  isplitl [Hst]; · iexact Hst
  isplitl [Hr]; · iexact Hr
  isplitl [A0 A1 T0 T1 S0]
  · isplitl [A0 A1]
    · isplitl [A0] <;> iassumption
    isplitl [T0 T1]
    · isplitl [T0]; · iexact T0
      iexact T1
    iexact S0
  isplitl [A2 A3 T2 T3 S1]
  · isplitl [A2 A3]
    · isplitl [A2] <;> iassumption
    isplitl [T2 T3]
    · isplitl [T2]; · iexact T2
      iexact T3
    iexact S1
  isplitl [Ab]; · iexact Ab
  iexact Tb

/-! ## The invariants -/

theorem unscoped_eq (c : Dev nD) : (unscopedSems0 c : sProp 𝕄) = semVal (barC c) 0 := by
  unfold unscopedSems0; rw [bigSep_eq_bigSepL_of_eq [SemLoc.reg bq] (by decide +kernel) (by decide +kernel)]; rfl

theorem sems_eq (c : Dev nD) : iprop(Pipeline.ownSems0 (Ix := ℕ) (Name := ℕ) (U := UU) (Lvl := ℕ) (Val := Elt F) (τ := τ) osem c ∗ unscopedSems0 c)
    = (bigSep Finset.univ fun k : SemK => semVal (cellK (c, k)) 0 : sProp 𝕄) := by
  rw [unscoped_eq, all_split (fun g => semVal g 0)]; rfl

theorem invs_of (c : Dev nD) :
    iprop((bigSep Finset.univ fun k : SemK => semVal (cellK (c, k)) 0) ∗ bigSep Finset.univ fun k : SemK => roundState ER (sch P) (cellK (c, k)) 0)
      ⊢ (iprop(|={(Set.univ : Set ℕ)}=> bigSep Finset.univ fun k : SemK => iprop(∃ κ : ℕ, cellInv ER (sch P) κ (cellK (c, k)))) : sProp 𝕄) := by
  rw [← BI.bigSep_sep']
  exact (BI.bigSep_mono fun k _ => (Rounds.body_intro ER (sch P) (cellK (c, k))).trans inv_alloc).trans (bigSep_fupd _ _)

/-- What a device has when its own cells' invariants stand. -/
def Mid (c : Dev nD) : sProp 𝕄 :=
  iprop((bigSep Finset.univ fun k : SemK => iprop(∃ κ : ℕ, cellInv ER (sch P) κ (cellK (c, k)))) ∗ (bigSep Finset.univ fun k : SemK => reached ER (cellK (c, k)) 0) ∗ SlotInvs ∗ Lin c)

theorem core (c : Dev nD) :
    iprop(Pipeline.ownSems0 (Ix := ℕ) (Name := ℕ) (U := UU) (Lvl := ℕ) (Val := Elt F) (τ := τ) osem c ∗ unscopedSems0 c ∗ G P c)
      ⊢ (iprop(|={(Set.univ : Set ℕ)}=> Mid P c) : sProp 𝕄) := by
  unfold G Mid
  iintro ⟨Ho, Hu, #HI, Hst, Hr, HL⟩
  ihave Hv := (Entails.of_eq (sems_eq (F := F) c)) $$ [Ho Hu]
  · isplitl [Ho] <;> iassumption
  imod (invs_of P c) $$ [Hv Hst] with Hinv
  · isplitl [Hv] <;> iassumption
  imodintro
  isplitl [Hinv]; · iexact Hinv
  isplitl [Hr]; · iexact Hr
  isplitr; · iexact HI
  iexact HL

theorem gather : bigSep Finset.univ (Mid P) ⊢ (iprop(|={(Set.univ : Set ℕ)}=> bigSep Finset.univ (G' P)) : sProp 𝕄) := by
  unfold Mid
  rw [BI.bigSep_sep', BI.bigSep_sep', ← bigSep_univ_prod (fun x : Dev nD × SemK => iprop(∃ κ : ℕ, cellInv ER (sch P) κ (cellK x))),
    ← bigSep_univ_prod (fun x : Dev nD × SemK => (reached ER (cellK x) 0 : sProp 𝕄))]
  iintro ⟨HI, #HR, HL⟩
  ihave HK := (BI.bigSep_exists_pi Finset.univ (fun (x : Dev nD × SemK) (κ : ℕ) => (cellInv ER (sch P) κ (cellK x) : sProp 𝕄))) $$ HI
  icases HK with ⟨%κ, #HI⟩
  iapply (each Finset.univ iprop((bigSep Finset.univ fun x => cellInv ER (sch P) (κ x) (cellK x)) ∗ (bigSep Finset.univ fun x => reached ER (cellK x) 0))
    (fun c => iprop(SlotInvs ∗ Lin c)) (G' P) (fun c _ => by
      unfold G'
      iintro ⟨#HC, HL⟩
      imodintro
      iexists κ
      isplitr; · iexact HC
      iexact HL))
  isplitr
  · isplitr; · iexact HI
    iexact HR
  iexact HL

theorem cores : (bigSep Finset.univ fun c => iprop(Pipeline.ownSems0 (Ix := ℕ) (Name := ℕ) (U := UU) (Lvl := ℕ) (Val := Elt F) (τ := τ) osem c ∗ unscopedSems0 c ∗ G P c))
    ⊢ (iprop(|={(Set.univ : Set ℕ)}=> bigSep Finset.univ (Mid P)) : sProp 𝕄) :=
  (BI.bigSep_mono fun c _ => core P c).trans (bigSep_fupd Finset.univ (Mid P))

theorem glob : (bigSep Finset.univ fun c => iprop(Pipeline.ownSems0 (Ix := ℕ) (Name := ℕ) (U := UU) (Lvl := ℕ) (Val := Elt F) (τ := τ) osem c ∗ unscopedSems0 c ∗ G P c))
    ⊢ (iprop(|={(Set.univ : Set ℕ)}=> bigSep Finset.univ (G' P)) : sProp 𝕄) := by
  iintro H
  imod (cores P) $$ H with H
  iapply (gather P); iexact H

/-! ## The launch's credits -/

/-- The credits of the messages and credits a device receives in one phase and direction. -/
def crs (c : Dev nD) (ph d : Bool) : sProp 𝕄 :=
  iprop((bigSep (Finset.Ico 0 248) fun g => cred (tallyAt (rcvC ph d c g) (iota ph g) NN)) ∗ bigSep (Finset.Ico 0 232) fun m => cred (tallyAt (crdC ph d c) (iota ph m) 1))

theorem O₀_eq : O₀ = fun c : Dev nD => (∑ d : Bool, ∑ ph : Bool, obl c d ph 0 0) + tallyAt (barC (up true c)) 0 1 + tallyAt (barC (up false c)) 0 1 := by
  funext c
  have h (ph d : Bool) : cl ph (tw 0 0 d) = 0 := by cases ph <;> cases d <;> rfl
  unfold O₀ OW
  simp only [h]

theorem crs_of (c : Dev nD) (ph d : Bool) : Pipeline.launchCred (fun c => obl c d ph 0 0) c ⊢ (crs c ph d : sProp 𝕄) := by
  unfold obl crs
  rw [Pipeline.launchCred_add, Pipeline.launchCred_sum, Pipeline.launchCred_sum]
  exact BI.sep_mono (BI.bigSep_mono fun g _ => Pipeline.launchCred_tallyAt (rcvL ph d g) (peer d) (up d) (peer_up d) (up_peer d) _ _ c)
    (BI.bigSep_mono fun m _ => Pipeline.launchCred_tallyAt (crdL ph d) (up d) (peer d) (up_peer d) (peer_up d) _ _ c)

theorem bar_of (c : Dev nD) (d : Bool) : Pipeline.launchCred (fun c => tallyAt (barC (up d c)) 0 1) c ⊢ (cred (tallyAt (barC c) 0 1) : sProp 𝕄) :=
  Pipeline.launchCred_tallyAt barL (up d) (peer d) (up_peer d) (peer_up d) _ _ c

theorem creds (c : Dev nD) : Pipeline.launchCred O₀ c
    ⊢ (iprop(((crs c false false ∗ crs c true false) ∗ (crs c false true ∗ crs c true true)) ∗ cred (tallyAt (barC c) 0 2)) : sProp 𝕄) := by
  rw [O₀_eq, Pipeline.launchCred_add, Pipeline.launchCred_add, Pipeline.launchCred_sum, bool2, Pipeline.launchCred_sum, Pipeline.launchCred_sum, bool2, bool2]
  iintro ⟨⟨⟨⟨A, B⟩, C, D⟩, E⟩, H⟩
  ihave A := (crs_of c false false) $$ A
  ihave B := (crs_of c true false) $$ B
  ihave C := (crs_of c false true) $$ C
  ihave D := (crs_of c true true) $$ D
  ihave E := (bar_of c true) $$ E
  ihave H := (bar_of c false) $$ H
  isplitl [A B C D]
  · isplitl [A B]
    · isplitl [A] <;> iassumption
    · isplitl [C] <;> iassumption
  rw [← tallyAt_add (barC c) 0 1 1]
  iapply (cred_add _ _).2
  isplitl [E] <;> iassumption

/-! ## What the body starts from -/

/-- What a device's body starts from, its memory apart. -/
def start (c : Dev nD) : sProp 𝕄 := iprop(∃ κ ν, ctx P κ ν ∗ Gd false c ∗ Gd true c ∗ Gb c)

theorem rnd_zero (i : ℕ) : rnd 0 i = 0 := by unfold rnd; omega

theorem gp_of (κ : Dev nD × SemK → ℕ) (ν : Key → ℕ) (c : Dev nD) (ph d : Bool) :
    iprop(ctx P κ ν ∗ sems at0 c ph d ∗ Tc ph d c ∗ crs c ph d) ⊢ (Gp d c ph : sProp 𝕄) := by
  unfold sems tri Tc crs Gp RcvS SndS CwS
  simp only [rnd_zero, Finset.Ico_self, bigSep_empty]
  rw [BI.bigSep_sep']
  iintro ⟨#HC, ⟨A1, A2, A3⟩, ⟨T, Cp⟩, C1, C2⟩
  isplitl [C1 A1]
  · isplitl [C1] <;> iassumption
  isplitl [T]; · iexact T
  isplitl [A2]
  · isplitr; · iempintro
    isplitl [A2]; · iexact A2
    iapply ((BI.bigSep_of_persistent (Finset.range 16) (ctx P κ ν)).trans (BI.bigSep_mono fun i _ => (ctx_reached P κ ν (kD ph d false c i)).trans (Entails.of_eq (by rw [cell_kD]))))
    iexact HC
  isplitl [Cp]; · iexact Cp
  isplitl [C2]; · iexact C2
  iexists ∅
  isplitr; · ipureintro; exact ⟨Finset.empty_subset _, Nat.zero_le _⟩
  isplitl [A3]; · iexact A3
  rw [bigSep_empty]; iempintro

theorem gd_of (κ : Dev nD × SemK → ℕ) (ν : Key → ℕ) (c : Dev nD) (d : Bool) :
    iprop(ctx P κ ν ∗ LinD d c ∗ crs c false d ∗ crs c true d) ⊢ (Gd d c : sProp 𝕄) := by
  unfold LinD SlD Gd
  iintro ⟨#HC, ⟨⟨A0, A1⟩, ⟨T0, T1⟩, W, S, R⟩, C0, C1⟩
  isplitl [A0 T0 C0]
  · iapply (gp_of P κ ν c false d)
    isplitr; · iexact HC
    isplitl [A0]; · iexact A0
    isplitl [T0] <;> iassumption
  isplitl [A1 T1 C1]
  · iapply (gp_of P κ ν c true d)
    isplitr; · iexact HC
    isplitl [A1]; · iexact A1
    isplitl [T1] <;> iassumption
  isplitl [W]; · iexact W
  isplitl [R]; · iexact R
  iexact S

theorem start_of (c : Dev nD) : iprop(levAts L lv ∗ Pipeline.launchCred O₀ c ∗ G' P c) ⊢ (start P c : sProp 𝕄) := by
  unfold G' start SlotInvs Lin LinB
  iintro ⟨#HV, Hc, ⟨%κ, ⟨#HI, #HR⟩, ⟨%ν, #HS⟩, L0, L1, A, T0, T1⟩⟩
  ihave Hc := (creds c) $$ Hc
  icases Hc with ⟨⟨⟨C0, C1⟩, C2, C3⟩, Cb⟩
  ihave #HC := (show iprop(levAts L lv ∗ (bigSep Finset.univ fun x => cellInv ER (sch P) (κ x) (cellK x)) ∗ (bigSep Finset.univ fun x => reached ER (cellK x) 0)
    ∗ bigSep keys fun k => slotInv ES (ν k) k (slotS k)) ⊢ ctx P κ ν from Entails.of_eq (by unfold ctx LV; rfl)) $$ []
  · isplitr; · iexact HV
    isplitr; · iexact HI
    isplitr; · iexact HR
    iexact HS
  iexists κ; iexists ν
  isplitr; · iexact HC
  isplitl [L0 C0 C1]
  · iapply (gd_of P κ ν c false)
    isplitr; · iexact HC
    isplitl [L0]; · iexact L0
    isplitl [C0] <;> iassumption
  isplitl [L1 C2 C3]
  · iapply (gd_of P κ ν c true)
    isplitr; · iexact HC
    isplitl [L1]; · iexact L1
    isplitl [C2] <;> iassumption
  unfold Gb
  isplitl [A]; · iexact A
  isplitl [Cb]; · iexact Cb
  isplitl [T0] <;> iassumption

/-- The semaphores at the end. -/
theorem sems_back (c : Dev nD) : Zall c
    ⊢ (iprop(unscopedSems0 c ∗ Pipeline.ownSems0 (Ix := ℕ) (Name := ℕ) (U := UU) (Lvl := ℕ) (Val := Elt F) (τ := τ) osem c) : sProp 𝕄) := by
  rw [unscoped_eq]
  unfold Zall
  iintro ⟨A, B, C⟩
  isplitl [C]; · iexact C
  iapply (show iprop((sems (fun g => semVal g 0) c false false ∗ sems (fun g => semVal g 0) c true false) ∗ (sems (fun g => semVal g 0) c false true ∗ sems (fun g => semVal g 0) c true true))
      ⊢ (Pipeline.ownSems0 (Ix := ℕ) (Name := ℕ) (U := UU) (Lvl := ℕ) (Val := Elt F) (τ := τ) osem c : sProp 𝕄)
    from Entails.of_eq (own_split (fun g => (semVal g 0 : sProp 𝕄)) c).symm)
  isplitl [A]; · iexact A
  iexact B

/-- The waits for the staging copies. -/
theorem stage_may (c : Dev nD) (q : DmaSem sig) (hq : q.val < 3) (O : CellTallies nD τ sig ℕ) (hO : O = O₀ c ∨ O = 0) :
    (levAts L lv : sProp 𝕄) ⊢ MayWait (c : Thread nD τ) (.dma q) 0 O := by
  have h0 : lv ((c : Thread nD τ), SemLoc.dma q) 0 = 0 := by
    unfold lv; dsimp only; exact if_neg (fun h => by omega)
  refine Pipeline.mayWait_of_levAts (by rw [L_tc]; exact Finset.mem_range.mpr (by omega)) fun g j hg => ?_
  rcases hO with rfl | rfl
  · have hbar (d : Bool) (h : 0 < (tallyAt (barC (up d c)) 0 1 : CellTallies nD τ sig ℕ) g j) : j ∈ L g ∧ lv ((c : Thread nD τ), SemLoc.dma q) 0 < lv g j := by
      obtain ⟨rfl, rfl⟩ := Pipeline.tallyAt_pos h
      refine ⟨by rw [L_tc]; exact Finset.mem_range.mpr (by omega), ?_⟩
      rw [h0, lv_bar]; exact Nat.one_pos
    unfold O₀ at hg
    rcases Pipeline.add_pos_cases hg with hg | hg
    · rcases Pipeline.add_pos_cases hg with hg | hg
      · obtain ⟨d, ph, m, ⟨hm, hle, rfl, rfl⟩ | ⟨hm, hle, rfl, rfl⟩⟩ := OW_pos hg
        · refine ⟨by rw [L_tc]; exact Finset.mem_range.mpr (iota_lt hm), ?_⟩
          rw [h0, lv_rcv]; omega
        · refine ⟨by rw [L_tc]; exact Finset.mem_range.mpr (iota_lt (by omega)), ?_⟩
          rw [h0, lv_crd]; omega
      · exact hbar true hg
    · exact hbar false hg
  · exact absurd hg (Nat.lt_irrefl 0)

end Cert.KernelIdeal.AR

end
-- ==== Proof.KernelIdeal.Launch.lean ====
/-
The launch: from zero counters the whole mesh runs to its end.
-/
module

public import proofs.«01_k».proof.Proof.KernelIdeal.Fund
public import proofs.«01_k».proof.Proof.Gen.KernelIdeal.Launch
public import proofs.«01_k».proof.Proof.Gen.KernelIdeal.Points
public import Idealize.ShloMosaic.Lib.Pipeline.CollectiveSegs

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Facts]

local notation "𝕄" => MT nD τ sig ℕ (Elt F) ℕ UU ℕ

variable (P : Dev nD → (S2048x2048.Idx → Elt F .f32))

variable [∀ e, Nonempty (Elt F e)]
variable (m : (ℓ : Loc nD τ sig) → Buf (Elt F) ℓ) (ρ : Dev nD → PrngReg)

/-- The run's start. -/
abbrev st₀ : MemSt nD τ sig (Elt F) := ⟨m, fun _ => 0, ρ⟩

/-- A device's operands. -/
def xAt (c : Dev nD) := (win0_0.blk (0 : Fin 1)).view.read (Elt F) (m ((c : Thread nD τ).loc main_arg0))
def wAt (c : Dev nD) := (win0_1.blk (0 : Fin 1)).view.read (Elt F) (m ((c : Thread nD τ).loc main_arg1))

/-- A device's product of its own operands. -/
def prodAt (c : Dev nD) : S2048x2048.Idx → Elt F .f32 := Gen.k0_pay4 (xAt m c) (wAt m c)

def scr (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

def Φ₀ (c : Dev nD) : sProp 𝕄 := iprop(start (prodAt m) c ∗ scr c)
def Φ₁ (c : Dev nD) : sProp 𝕄 := iprop(Zall c ∗ scr c)

def dats (_ : Fin 1) (c : Dev nD) : Pipeline.Dat τ (Elt F) ℕ ℕ UU ℕ cfg0 c where
  A w := (st₀ m ρ).mem ((cfg0.win w).arr.view.loc (c : Thread nD τ))
  after w _ := match w with
    | ⟨0, _⟩ => xAt m c
    | ⟨1, _⟩ => wAt m c
    | ⟨2, _⟩ => res (prodAt m) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (c : Thread nD τ) (Memref.whole b) fullShare X : sProp 𝕄) = stg c b X := by
  unfold owns; simp only [Memref.view_whole, View.read_whole, View.set_whole]

theorem scr_owns (c : Dev nD) : (scr c : sProp 𝕄)
    = iprop((∃ X, owns c (comM false) fullShare X) ∗ ∃ X, owns c (comM true) fullShare X) := by
  have h (b : Ref sig .tc) : (iprop(∃ X, owns (c : Thread nD τ) (Memref.whole b) fullShare X) : sProp 𝕄)
      = iprop(∃ f : Buf (Elt F) ((c : Thread nD τ).loc b), ((c : Thread nD τ).loc b) ↦{fullShare} f) := by
    simp only [owns_whole]
  exact congrArg₂ (fun A B : sProp 𝕄 => iprop(A ∗ B)) (h cc0_scratch0).symm (h cc0_scratch1).symm

def bodyPre (c : Dev nD) : sProp 𝕄 :=
  iprop(Φ₀ m c ∗ (dats m ρ 0 c).owesAt 0 Gen.t0_0.castSucc
    ∗ (∃ d, stg c cc0_stg0_0 ((dats m ρ 0 c).before (0 : Fin 3) Gen.t0_0 d))
    ∗ (∃ d, stg c cc0_stg1_0 ((dats m ρ 0 c).before (1 : Fin 3) Gen.t0_0 d))
    ∗ (∃ d, stg c cc0_stg2_0 ((dats m ρ 0 c).before (2 : Fin 3) Gen.t0_0 d)))

def bodyPost (c : Dev nD) : sProp 𝕄 :=
  iprop(Φ₁ c ∗ (dats m ρ 0 c).owesAt 0 Gen.t0_0.succ ∗ stg c cc0_stg0_0 (xAt m c) ∗ stg c cc0_stg1_0 (wAt m c) ∗ stg c cc0_stg2_0 (res (prodAt m) c))

theorem body_run (c : Dev nD) : bodyPre m ρ c ⊢ WP c (cc0_body (F := F) xM (Memref.isWhole_whole _) wM (Memref.isWhole_whole _) oM (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 cc0_scratch8 cc0_scratch9 cc0_scratch10 cc0_scratch11 cc0_scratch12 cc0_scratch13) (fun _ => bodyPost m ρ c) := by
  unfold bodyPre Φ₀ start
  rw [scr_owns]
  iintro ⟨⟨⟨%κ, %ν, #HC, HG0, HG1, HB⟩, ⟨%X0, Hs0⟩, ⟨%X1, Hs1⟩⟩, Ho, ⟨%d0, %g0, %hg0, Hx⟩, ⟨%d1, %g1, %hg1, Hw⟩, ⟨%d2, %g2, %hg2, Hout⟩⟩
  have hx : g0 = xAt m c := by rw [hg0]; unfold Pipeline.Dat.before; rw [if_pos (Gen.fetch0_0 Gen.t0_0)]; rfl
  have hw : g1 = wAt m c := by rw [hg1]; unfold Pipeline.Dat.before; rw [if_pos (Gen.fetch0_1 Gen.t0_0)]; rfl
  subst hx
  subst hw
  unfold Pipeline.Dat.owesAt Pipeline.owesWithin
  icases Ho with ⟨%W, %hW, HO⟩
  iapply (wp_wand frame (wpE defs₀ 𝒱₀ (c : Thread nD τ) none) Set.univ) $$ [HG0 HG1 HB Hs0 Hs1 HO Hx Hw Hout]
  · iapply (body_wp (prodAt m) κ ν c (xAt m c) (wAt m c) rfl g2 X0 X1)
    isplitr; · iexact HC
    isplitl [HG0 HG1 HB]
    · isplitl [HG0]; · iexact HG0
      isplitl [HG1] <;> iassumption
    isplitl [Hs0 Hs1]
    · isplitl [Hs0] <;> iassumption
    isplitl [Hx]
    · iapply (Entails.of_eq (owns_stg c cc0_stg0_0 (xAt m c)).symm); iexists _
      isplitr; · ipureintro; rfl
      iexact Hx
    isplitl [Hw]
    · iapply (Entails.of_eq (owns_stg c cc0_stg1_0 (wAt m c)).symm); iexists _
      isplitr; · ipureintro; rfl
      iexact Hw
    isplitl [Hout]
    · iapply (Entails.of_eq (owns_stg c cc0_stg2_0 g2).symm); iexists _
      isplitr; · ipureintro; rfl
      iexact Hout
    unfold Owes
    iexists W
    iexact HO
  iintro %u ⟨HZ, Hscr, Hx, Hw, Hout, HO⟩
  unfold bodyPost Φ₁ Pipeline.Dat.owesAt Pipeline.owesWithin
  ihave Hx := (Entails.of_eq (owns_stg c cc0_stg0_0 (xAt m c))) $$ Hx
  ihave Hw := (Entails.of_eq (owns_stg c cc0_stg1_0 (wAt m c))) $$ Hw
  ihave Hout := (Entails.of_eq (owns_stg c cc0_stg2_0 (res (prodAt m) c))) $$ Hout
  ihave Hscr := (Entails.of_eq (scr_owns (F := F) c).symm) $$ Hscr
  unfold Owes
  icases HO with ⟨%W', HO⟩
  isplitl [HZ Hscr]
  · isplitl [HZ] <;> iassumption
  isplitl [HO]
  · iexists W'
    isplitr; · ipureintro; exact fun _ _ => Or.inl trivial
    iexact HO
  isplitl [Hx]; · iexact Hx
  isplitl [Hw]; · iexact Hw
  iexact Hout

set_option maxRecDepth 8000 in
theorem body_obligation (c : Dev nD) : Pipeline.BodyObligation (dats m ρ 0 c) (defs₀ (F := F)) 𝒱₀ 0 Set.univ := fun t => by
  rw [Gen.fin_N0 t]
  rw [Gen.bigSep_W0, Gen.bigSep_W0]
  simp only [owns_stg]
  exact body_run m ρ c

/-! ## The launch -/

theorem own_sem_facts : Pipeline.OwnSemFacts (@cfg0 Gen.facts).spec osem := by decide +kernel
theorem ownSemFacts : Pipeline.OwnSemFacts cfg0.spec osem := own_sem_facts

theorem stage_sems : ∀ (w : Fin 3) (s : Fin ((@cfg0 Gen.facts).win w).nbuf), (((@cfg0 Gen.facts).win w).sem s).val < 3 := by decide +kernel

theorem share_eq (c : Dev nD) (w : Fin cfg0.W) : (dats m ρ 0 c).share w = fullShare := by unfold Pipeline.Dat.share; split <;> rfl

/-- The launch's ghost state. -/
def u₀ : UU := (initOf (Pipeline.cells cfgs Gen.cellOf_inj) (Pipeline.launchToks cfgs Gen.cellOf_inj), (initOf allCells allToks, initSlots keys 17))

theorem fund_all : ownU u₀ ⊢ (iprop(|={(Set.univ : Set ℕ)}=> (BI.own (EP (initOf (Pipeline.cells cfgs Gen.cellOf_inj) (Pipeline.launchToks cfgs Gen.cellOf_inj))) ∗ bigSep Finset.univ (G (prodAt m)))) : sProp 𝕄) := by
  unfold u₀
  iintro Hu
  ihave H := (ownU_pair _ _) $$ Hu
  icases H with ⟨HP, HX⟩
  ihave H := (own_pair_emb embR _ _) $$ HX
  imod (fund (prodAt m)) $$ H with HG
  imodintro
  isplitl [HP] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (prodAt m) c)
      ⊢ (iprop(|={(Set.univ : Set ℕ)}=> (start (prodAt m) c ∗ emp)) : sProp 𝕄) := by
  iintro ⟨-, Hlev, Hcr, -, HG⟩
  imodintro
  isplitl
  · iapply (start_of (prodAt m) c)
    isplitl [Hlev]; · iexact Hlev
    isplitl [Hcr] <;> iassumption
  · iempintro

theorem phi0_intro (c : Dev nD) :
    iprop(start (prodAt m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, Gen.scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, Gen.scopedRest0_eq]
  unfold Φ₁ scr
  iintro ⟨HZ, Hr⟩
  ihave HZ := (sems_back c) $$ HZ
  icases HZ with ⟨Hu, Ho⟩
  isplitl [Hu]; · iexact Hu
  isplitl [Ho] <;> iassumption

theorem waits (c : Dev nD) : (levAts L lv : sProp 𝕄) ⊢ Pipeline.cellsWaits cfgs (dats m ρ) 0 0 c :=
  Pipeline.cellsWaits_intro cfgs (dats m ρ) 0 0 c fun w s t =>
    stage_may c _ (stage_sems w s) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

set_option maxRecDepth 8000 in
/-- Every run of the launch from zero counters ends, with every counter at zero and the arrays as computed. -/
theorem run_main : θ_run defs (onTc (τ := τ) (main (F := F))) (st₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 Gen.cellOf_inj (0 : Fin 1)
    Gen.winFacts0.to₀ ownSemFacts (Pipeline.PreFacts.none _) EP defs₀ 𝒱₀ m ρ main
    (hmain := fun _ => rfl)
    (hbody := body_obligation m ρ) (hne := fun w => by fin_cases w <;> exact Nat.succ_pos _) (harr := Gen.arr_whole0) (hstage := Gen.stage_whole0) (hshare := share_eq m ρ)
    (hdistinct := Gen.winFacts0.arr_inj)
    (O₀ := O₀) (howed₀ := fun _ => rfl) (howedN := fun _ => rfl)
    (L := L) (lv := lv) (hL := L_of_ne) (hwaits := waits m ρ)
    (G := G (prodAt m)) (G' := G' (prodAt m)) (u₀ := u₀)
    (hu₀ := fund_all m)
    (hglob := glob (prodAt m))
    (hA := fun _ _ => rfl) (hpf := fun _ k => k.elim0)
    (X := start (prodAt m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = m (win0_0.arr.view.loc (c : Thread nD τ)) := (dats m ρ 0 c).arrAt_in (0 : Fin 3) rfl _
theorem final_w (c : Dev nD) : finalA m ρ c (1 : Fin 3) = m (win0_1.arr.view.loc (c : Thread nD τ)) := (dats m ρ 0 c).arrAt_in (1 : Fin 3) rfl _

end Cert.KernelIdeal.AR

end
-- ==== Proof.KernelIdeal.Values.lean ====
/-
The values: at the ideal floats every device ends with the whole product.
-/
module

public import proofs.«01_k».proof.Proof.KernelIdeal.Launch
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.KernelIdeal.AR

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.ValueIdx Idealize.ShloMosaic.StackMember

variable {F : FTy → Type} [FloatOps F] [Facts]

local notation "𝕄" => MT nD τ sig ℕ (Elt F) ℕ UU ℕ

variable (P : Dev nD → (S2048x2048.Idx → Elt F .f32))

section Sum

variable (Q : Dev nD → (S2048x2048.Idx → Elt Ideal .f32))

theorem blk_up (d : Bool) {h j : ℕ} (hh : h < 64) (hj : j < 8) (c : Dev nD) (k : S64x128.Idx) :
    ((blkR d (8 * h + j) (up d c)).emb k : S2048x2048.Idx) = (blkR d (8 * (h + 1) + j) c).emb k := by
  have e : blkOff d (8 * h + j) (up d c) = blkOff d (8 * (h + 1) + j) c := by
    unfold blkOff
    rw [show (8 * h + j) / 8 = h by omega, show (8 * (h + 1) + j) / 8 = h + 1 by omega, chS_up d hh,
      show (8 * h + j) % 8 = j by omega, show (8 * (h + 1) + j) % 8 = j by omega]
  funext a
  apply Fin.ext
  rw [Rect.emb_apply, Rect.emb_apply, Rect.off_unit, Rect.off_unit, e]
  rfl

/-- A running sum up to the last hop of the reduction: the devices' parts on the way. -/
theorem cur_sum (d : Bool) {j : ℕ} (hj : j < 8) : ∀ h, h ≤ 31 → ∀ (c : Dev nD) (k : S64x128.Idx),
    curH Q d j h c k = ∑ t ∈ Finset.range (h + 1), (Q ((up d)^[t] c) ((blkR d (8 * h + j) c).emb k) : EReal)
  | 0, _, c, k => by
    rw [Finset.sum_range_one]
    show Q c ((blkR d j c).emb k) = Q c ((blkR d (8 * 0 + j) c).emb k)
    rw [show 8 * 0 + j = j by omega]
  | h + 1, hh, c, k => by
    have ih := cur_sum d hj h (by omega) (up d c) k
    rw [curH, if_pos hh]
    show (Q c ((blkR d (8 * (h + 1) + j) c).emb k) : EReal) + curH Q d j h (up d c) k = _
    rw [ih, Finset.sum_range_succ' _ (h + 1), add_comm]
    refine congrArg₂ (fun a b : EReal => a + b) (Finset.sum_congr rfl fun t _ => ?_) rfl
    rw [Function.iterate_succ_apply, blk_up d (by omega) hj]

theorem dpos_iter (d : Bool) (t : ℕ) (c : Dev nD) : dpos d ((up d)^[t] c) = (dpos d c + 31 * t) % 32 := by
  induction t generalizing c with
  | zero => have := dpos_lt d c; rw [Function.iterate_zero_apply]; omega
  | succ t ih => rw [Function.iterate_succ_apply, ih, dpos_up]; omega

/-- Thirty-two steps up the ring meet every device once. -/
theorem ring_sum (d : Bool) (c : Dev nD) (f : Dev nD → EReal) : ∑ t ∈ Finset.range 32, f ((up d)^[t] c) = ∑ e : Dev nD, f e := by
  refine Finset.sum_bij (fun t _ => (up d)^[t] c) (fun t _ => Finset.mem_univ _) (fun t ht t' ht' h => ?_) (fun e _ => ?_) (fun t _ => rfl)
  · have := congrArg (dpos d) h
    rw [dpos_iter, dpos_iter] at this
    rw [Finset.mem_range] at ht ht'
    omega
  · have h1 := dpos_lt d c
    have h2 := dpos_lt d e
    refine ⟨(dpos d c + 32 - dpos d e) % 32, Finset.mem_range.mpr (Nat.mod_lt _ (by decide)), dpos_inj (d := d) ?_⟩
    rw [dpos_iter]; omega

/-- A running sum past the reduction is the sum over all devices. -/
theorem cur_all (d : Bool) {j : ℕ} (hj : j < 8) : ∀ n, n < 32 → ∀ (c : Dev nD) (k : S64x128.Idx),
    curH Q d j (31 + n) c k = ∑ e : Dev nD, (Q e ((blkR d (8 * (31 + n) + j) c).emb k) : EReal)
  | 0, _, c, k => by
    rw [Nat.add_zero, cur_sum Q d hj 31 (le_refl _)]
    exact ring_sum d c fun e => Q e ((blkR d (8 * 31 + j) c).emb k)
  | n + 1, hn, c, k => by
    have ih := cur_all d hj n (by omega) (up d c) k
    rw [show 31 + (n + 1) = (31 + n) + 1 by omega, curH, if_neg (by omega), ih]
    exact Finset.sum_congr rfl fun e _ => by rw [blk_up d (by omega) hj]

/-- The result on every device: in each place the sum over the devices. -/
theorem res_sum [Nonempty (Elt Ideal .f32)] (c : Dev nD) (i : S2048x2048.Idx) : res Q c i = ∑ e : Dev nD, (Q e i : EReal) := by
  have hi : i ∈ Finset.univ.biUnion (fun t => (blkT 248 c t).set) := by rw [blkT_cov (Or.inr rfl) c]; exact Finset.mem_univ i
  obtain ⟨t, -, ht⟩ := Finset.mem_biUnion.mp hi
  rw [← Rect.map_emb_univ] at ht
  obtain ⟨k, -, rfl⟩ := Finset.mem_map.mp ht
  rw [res_blk]
  obtain ⟨d, v, hv⟩ := t
  show curH Q d ((248 + v) % 8) ((248 + v) / 8) c k = _
  have e : (248 + v) / 8 = 31 + v / 8 := by omega
  rw [e, cur_all Q d (Nat.mod_lt _ (by decide)) (v / 8) (by omega) c k, show 8 * (31 + v / 8) + (248 + v) % 8 = 248 + v by omega]

end Sum

/-! ## The product -/

/-- A device's product, entry by entry. -/
theorem pay_apply (x : Vec Ideal S2048x64 .f32) (w : Vec Ideal S64x2048 .f32) (r q : Fin 2048) :
    Gen.k0_pay4 x w (ix2 r q) = ∑ k : Fin 64, (x (ix2 r k) * w (ix2 k q) : EReal) := by
  unfold Gen.k0_pay4
  rw [shapeCast_self, shapeCast_self]
  show FloatOps.matmul (F := Ideal) (φ₁ := .f32) (φ₂ := .f32) (DotDims.plain 2048 64 2048) none (x : FVec Ideal ⟨2, ![2048, 64]⟩ .f32) (w : FVec Ideal ⟨2, ![64, 2048]⟩ .f32) (constant S2048x2048 .f32 0x00000000#32) (ix2 r q) = _
  rw [Ideal.matmul_plain_apply]
  show Ideal.ofBits .f32 0x00000000#32 + _ = _
  rw [Ideal.ofBits_zero_f32, zero_add]

/-- The sum over the devices of the products of the cut operands is the product of the whole ones. -/
theorem cut_sum (f : Fin 2048 → EReal) :
    ∑ e : Fin 32, ∑ k : Fin 64, f ⟨e.val * 64 + k.val, by omega⟩ = ∑ K : Fin 2048, f K := by
  rw [← Fintype.sum_prod_type' (f := fun (e : Fin 32) (k : Fin 64) => f ⟨e.val * 64 + k.val, by omega⟩), ← (finProdFinEquiv (m := 32) (n := 64)).sum_comp]
  refine Finset.sum_congr rfl fun x _ => congrArg f (Fin.ext ?_)
  show x.1.val * 64 + x.2.val = x.2.val + 64 * x.1.val
  omega

variable (m : (ℓ : Loc nD τ sig) → Buf (Elt Ideal) ℓ) (ρ : Dev nD → PrngReg)

theorem x_whole (c : Dev nD) : xAt m c = m ((c : Thread nD τ).loc main_arg0) :=
  Memref.read_access_unit_zero (Elt Ideal) main_arg0 (funext fun a => by fin_cases a <;> decide) (fun a => by fin_cases a <;> decide) _
theorem w_whole (c : Dev nD) : wAt m c = m ((c : Thread nD τ).loc main_arg1) :=
  Memref.read_access_unit_zero (Elt Ideal) main_arg1 (funext fun a => by fin_cases a <;> decide) (fun a => by fin_cases a <;> decide) _

/-- What every device ends with, from operands that are blocks of whole arrays. -/
theorem res_dot [∀ e, Nonempty (Elt Ideal e)] (X W : S2048x2048.Idx → Elt Ideal .f32)
    (hx : ∀ c : Dev nD, m ((c : Thread nD τ).loc main_arg0) = Layout.block ⟨2, ![2048, 64]⟩ ⟨2, ![2048, 2048]⟩ 1 32 c X)
    (hw : ∀ c : Dev nD, m ((c : Thread nD τ).loc main_arg1) = Layout.block ⟨2, ![64, 2048]⟩ ⟨2, ![2048, 2048]⟩ 0 32 c W) (c : Dev nD) :
    res (prodAt m) c = Host.dotGeneral (F := Ideal) (φ₁ := .f32) (φ₂ := .f32) (DotDims.plain 2048 2048 2048) none (X : FVec Ideal ⟨2, ![2048, 2048]⟩ .f32) (W : FVec Ideal ⟨2, ![2048, 2048]⟩ .f32) := by
  funext i
  obtain ⟨r, q, rfl⟩ : ∃ r q : Fin 2048, i = ix2 r q := ⟨i 0, i 1, eq_ix2 i⟩
  refine (res_sum _ c _).trans (Eq.trans ?_ (dotGeneral_plain_apply none (X : FVec Ideal ⟨2, ![2048, 2048]⟩ .f32) (W : FVec Ideal ⟨2, ![2048, 2048]⟩ .f32) r q).symm)
  rw [← cut_sum fun K => X (ix2 r K) * W (ix2 K q)]
  refine Finset.sum_congr rfl fun e _ => ?_
  unfold prodAt
  rw [pay_apply, x_whole, w_whole, hx e, hw e]
  refine Finset.sum_congr rfl fun k _ => congrArg₂ (fun a b : EReal => a * b) (congrArg X ?_) (congrArg W ?_) <;>
    · funext a
      apply Fin.ext
      fin_cases a <;> rfl

/-- The result array after the run. -/
theorem final_o [∀ e, Nonempty (Elt Ideal e)] (c : Dev nD) : finalA m ρ c (2 : Fin 3) = res (prodAt m) c := by
  have h : (win0_2.blk (0 : Fin 1)).view.read (Elt Ideal) (finalA m ρ c (2 : Fin 3)) = res (prodAt m) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from Gen.flush0_2 _, if_pos rfl]
    exact View.read_write_univ _ _
  exact (Memref.read_access_unit_zero (Elt Ideal) main_v1 (funext fun a => by fin_cases a <;> decide) (fun a => by fin_cases a <;> decide) _).symm.trans h

end Cert.KernelIdeal.AR

end
-- ==== Proof.lean ====
/-
  The certificate's claims, put together.

  The kernel's frame is one run of the launch (`AR.run_main`), read at the two float instances: the operands' arrays end
  as they were and every semaphore counter is back at zero. The algebraic claim reads the same run at the result's array,
  which holds in every place the sum over the devices of their products (`AR.res_dot`): the whole product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Launch
public import proofs.«01_k».proof.Proof.KernelIdeal.Values

@[expose] public section

namespace Cert.Proof

open Idealize.ShloMosaic Idealize.SL.Sem

theorem bits_full : ∀ e, Nonempty (Elt Bits e) := fun e => by cases e <;> exact ⟨(0 : BitVec _)⟩
theorem reals_full : ∀ e, Nonempty (Elt Ideal e) := fun e => by
  cases e <;> first | exact ⟨(0 : BitVec _)⟩ | exact ⟨(0 : EReal)⟩

/-- The kernel's frame, bit for bit. -/
theorem frame_p : Cert.quiescent_Kernel (hKernel := Cert.Kernel.Gen.facts) := by
  intro m ρ _
  haveI := bits_full
  exact (θ_run Cert.Kernel.defs _ _).mono (fun r h => ⟨fun c =>
    ⟨(h.1 c (0 : Fin 3)).trans (Cert.Kernel.AR.final_x m ρ c), (h.1 c (1 : Fin 3)).trans (Cert.Kernel.AR.final_w m ρ c)⟩, h.2⟩)
    (Cert.Kernel.AR.run_main (F := Bits) m ρ)

/-- The kernel's frame over the reals. -/
theorem frame_pi : Cert.quiescent_KernelIdeal (hKernelIdeal := Cert.KernelIdeal.Gen.facts) := by
  intro m ρ _
  haveI := reals_full
  exact (θ_run Cert.KernelIdeal.defs _ _).mono (fun r h => ⟨fun c =>
    ⟨(h.1 c (0 : Fin 3)).trans (Cert.KernelIdeal.AR.final_x m ρ c), (h.1 c (1 : Fin 3)).trans (Cert.KernelIdeal.AR.final_w m ρ c)⟩, h.2⟩)
    (Cert.KernelIdeal.AR.run_main (F := Ideal) m ρ)

/-- The reference's frame: its one operation writes its result, and it has no semaphore. -/
theorem frame_ri : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Over the reals every device ends with the whole product, which is what the reference computes. -/
theorem algebraic : Cert.algebraic_KernelIdeal_ReferenceIdeal (hKernelIdeal := Cert.KernelIdeal.Gen.facts)
    (hReferenceIdeal := Cert.ReferenceIdeal.Gen.facts) := by
  intro m ρ m' ρ' _ hin
  haveI := reals_full
  refine ⟨Host.dotGeneral (F := Ideal) (φ₁ := .f32) (φ₂ := .f32) (DotDims.plain 2048 2048 2048) none (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun r h c =>
      ⟨(h.1 c (2 : Fin 3)).trans ((Cert.KernelIdeal.AR.final_o m ρ c).trans
          (Cert.KernelIdeal.AR.res_dot m _ _ (fun c => (hin c).1) (fun c => (hin c).2) c)),
        (h.1 c (0 : Fin 3)).trans (Cert.KernelIdeal.AR.final_x m ρ c), (h.1 c (1 : Fin 3)).trans (Cert.KernelIdeal.AR.final_w m ρ c)⟩)
      (Cert.KernelIdeal.AR.run_main (F := Ideal) m ρ)
  · exact (θ_run Cert.ReferenceIdeal.defs _ _).mono (fun _ h => h 0) (Cert.ReferenceIdeal.Value.run (F := Ideal) m' ρ')

/-- The claims together. -/
theorem claim : Cert.Claim :=
  ⟨Cert.Kernel.Gen.facts, Cert.KernelIdeal.Gen.facts, Cert.ReferenceIdeal.Gen.facts, frame_p, frame_pi, frame_ri, trivial, algebraic⟩

end Cert.Proof

end
